-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v56)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v56) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v153) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v28_0)) (v1 : (c : Dev Cert.ProjIdeal.nD) → Buf (Elt Ideal) ((c.tc : Thread Cert.ProjIdeal.nD Cert.ProjIdeal.τ).loc Cert.ProjIdeal.main_v28_1)) (v2 : (c : Dev Cert.ProjIdeal.nD) → Buf (Elt Ideal) ((c.tc : Thread Cert.ProjIdeal.nD Cert.ProjIdeal.τ).loc Cert.ProjIdeal.main_v28_2)) (v3 : (c : Dev Cert.ProjIdeal.nD) → Buf (Elt Ideal) ((c.tc : Thread Cert.ProjIdeal.nD Cert.ProjIdeal.τ).loc Cert.ProjIdeal.main_v28_3)) (v4 : (c : Dev Cert.ProjIdeal.nD) → Buf (Elt Ideal) ((c.tc : Thread Cert.ProjIdeal.nD Cert.ProjIdeal.τ).loc Cert.ProjIdeal.main_v28_4)) (v5 : (c : Dev Cert.ProjIdeal.nD) → Buf (Elt Ideal) ((c.tc : Thread Cert.ProjIdeal.nD Cert.ProjIdeal.τ).loc Cert.ProjIdeal.main_v28_5)) (v6 : (c : Dev Cert.ProjIdeal.nD) → Buf (Elt Ideal) ((c.tc : Thread Cert.ProjIdeal.nD Cert.ProjIdeal.τ).loc Cert.ProjIdeal.main_v28_6)) (v7 : (c : Dev Cert.ProjIdeal.nD) → Buf (Elt Ideal) ((c.tc : Thread Cert.ProjIdeal.nD Cert.ProjIdeal.τ).loc Cert.ProjIdeal.main_v28_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28_0) = v0 c
          ∧ r.2.mem ((c.tc : Thread Cert.ProjIdeal.nD Cert.ProjIdeal.τ).loc Cert.ProjIdeal.main_v28_1) = v1 c
          ∧ r.2.mem ((c.tc : Thread Cert.ProjIdeal.nD Cert.ProjIdeal.τ).loc Cert.ProjIdeal.main_v28_2) = v2 c
          ∧ r.2.mem ((c.tc : Thread Cert.ProjIdeal.nD Cert.ProjIdeal.τ).loc Cert.ProjIdeal.main_v28_3) = v3 c
          ∧ r.2.mem ((c.tc : Thread Cert.ProjIdeal.nD Cert.ProjIdeal.τ).loc Cert.ProjIdeal.main_v28_4) = v4 c
          ∧ r.2.mem ((c.tc : Thread Cert.ProjIdeal.nD Cert.ProjIdeal.τ).loc Cert.ProjIdeal.main_v28_5) = v5 c
          ∧ r.2.mem ((c.tc : Thread Cert.ProjIdeal.nD Cert.ProjIdeal.τ).loc Cert.ProjIdeal.main_v28_6) = v6 c
          ∧ r.2.mem ((c.tc : Thread Cert.ProjIdeal.nD Cert.ProjIdeal.τ).loc Cert.ProjIdeal.main_v28_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v170) = v0 c
          ∧ r.2.mem ((c.tc : Thread Cert.ProjRefIdeal.nD Cert.ProjRefIdeal.τ).loc Cert.ProjRefIdeal.main_v172) = v1 c
          ∧ r.2.mem ((c.tc : Thread Cert.ProjRefIdeal.nD Cert.ProjRefIdeal.τ).loc Cert.ProjRefIdeal.main_v174) = v2 c
          ∧ r.2.mem ((c.tc : Thread Cert.ProjRefIdeal.nD Cert.ProjRefIdeal.τ).loc Cert.ProjRefIdeal.main_v176) = v3 c
          ∧ r.2.mem ((c.tc : Thread Cert.ProjRefIdeal.nD Cert.ProjRefIdeal.τ).loc Cert.ProjRefIdeal.main_v56) = v4 c
          ∧ r.2.mem ((c.tc : Thread Cert.ProjRefIdeal.nD Cert.ProjRefIdeal.τ).loc Cert.ProjRefIdeal.main_v178) = v5 c
          ∧ r.2.mem ((c.tc : Thread Cert.ProjRefIdeal.nD Cert.ProjRefIdeal.τ).loc Cert.ProjRefIdeal.main_v180) = v6 c
          ∧ r.2.mem ((c.tc : Thread Cert.ProjRefIdeal.nD Cert.ProjRefIdeal.τ).loc Cert.ProjRefIdeal.main_v169) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)) →
    ∃ (v0 : (c : Dev Cert.MlstmIdeal.nD) → Buf (Elt Ideal) ((c.tc : Thread Cert.MlstmIdeal.nD Cert.MlstmIdeal.τ).loc Cert.MlstmIdeal.main_v3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v3) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v104) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3))

def Claim : Prop :=
  ∃ (hRet : Cert.Ret.Facts) (hRetIdeal : Cert.RetIdeal.Facts) (hRetRefIdeal : Cert.RetRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hMlstm : Cert.Mlstm.Facts) (hMlstmIdeal : Cert.MlstmIdeal.Facts) (hMlstmRefIdeal : Cert.MlstmRefIdeal.Facts),
    quiescent_Ret (hRet := hRet)
    ∧ quiescent_RetIdeal (hRetIdeal := hRetIdeal)
    ∧ quiescent_RetRefIdeal (hRetRefIdeal := hRetRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Ret_RetIdeal
    ∧ algebraic_RetIdeal_RetRefIdeal (hRetIdeal := hRetIdeal) (hRetRefIdeal := hRetRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Mlstm_MlstmIdeal
    ∧ algebraic_MlstmIdeal_MlstmRefIdeal (hMlstmIdeal := hMlstmIdeal) (hMlstmRefIdeal := hMlstmRefIdeal)
-- ==== Ret.lean ====
abbrev S16384x1024 : Shape := ⟨2, ![16384, 1024]⟩
abbrev S256 : Shape := ⟨1, ![256]⟩
abbrev S4 : Shape := ⟨1, ![4]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x64 : Shape := ⟨2, ![4, 64]⟩
abbrev S2x128x1 : Shape := ⟨3, ![2, 128, 1]⟩
abbrev S2x128x128 : Shape := ⟨3, ![2, 128, 128]⟩
abbrev S256x4 : Shape := ⟨2, ![256, 4]⟩
abbrev S256x4x64 : Shape := ⟨3, ![256, 4, 64]⟩
abbrev S16384x256 : Shape := ⟨2, ![16384, 256]⟩
abbrev S1024x1024 : Shape := ⟨2, ![1024, 1024]⟩
abbrev S1024x256 : Shape := ⟨2, ![1024, 256]⟩
abbrev S16x256x256 : Shape := ⟨3, ![16, 256, 256]⟩
abbrev S256x128 : Shape := ⟨2, ![256, 128]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 71
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S256, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .i1⟩
  | .hbm, ⟨23, _⟩ => ⟨S4x1x1, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S1x256x256, .f32⟩
  | .hbm, ⟨28, _⟩ => ⟨S4x256x256, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S_, .f32⟩
  | .hbm, ⟨33, _⟩ => ⟨S_, .f32⟩
  | .hbm, ⟨34, _⟩ => ⟨S4x256x256, .i1⟩
  | .hbm, ⟨35, _⟩ => ⟨S4x256x256, .f32⟩
  | .hbm, ⟨36, _⟩ => ⟨S4x256x256, .f32⟩
  | .hbm, ⟨37, _⟩ => ⟨S4x1, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S4x1, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4x64, .f32⟩
  | .hbm, ⟨60, _⟩ => ⟨S256, .f32⟩
  | .hbm, ⟨61, _⟩ => ⟨S2x128x1, .f32⟩
  | .hbm, ⟨62, _⟩ => ⟨S2x128x128, .f32⟩
  | .hbm, ⟨63, _⟩ => ⟨S256x4, .f32⟩
  | .hbm, ⟨64, _⟩ => ⟨S256x4x64, .f32⟩
  | .hbm, ⟨65, _⟩ => ⟨S256x256, .f32⟩
  | .hbm, ⟨66, _⟩ => ⟨S256x4, .f32⟩
  | .hbm, ⟨67, _⟩ => ⟨S256x4x64, .f32⟩
  | .hbm, ⟨68, _⟩ => ⟨S256x256, .f32⟩
  | .hbm, ⟨69, _⟩ => ⟨S1x256, .f32⟩
  | .hbm, ⟨70, _⟩ => ⟨S16384x256, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x256, .f32⟩
  | .local _ .vmem, ⟨3, _⟩ => ⟨S256x256, .f32⟩
  | .local _ .vmem, ⟨4, _⟩ => ⟨S256x256, .f32⟩
  | .local _ .vmem, ⟨5, _⟩ => ⟨S2x128x128, .f32⟩
  | .local _ .vmem, ⟨6, _⟩ => ⟨S1x256, .f32⟩
  | .local _ .vmem, ⟨7, _⟩ => ⟨S1024x256, .bf16⟩
  | .local _ .vmem, ⟨8, _⟩ => ⟨S1024x256, .bf16⟩
  | .local _ .vmem, ⟨9, _⟩ => ⟨S2x128x128, .f32⟩
  | .local _ .vmem, ⟨10, _⟩ => ⟨S16x256x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetRefIdeal.lean ====
abbrev S16384x1024 : Shape := ⟨2, ![16384, 1024]⟩
abbrev S256 : Shape := ⟨1, ![256]⟩
abbrev S1x16384x1024 : Shape := ⟨3, ![1, 16384, 1024]⟩
abbrev S1x16384x256 : Shape := ⟨3, ![1, 16384, 256]⟩
abbrev S1x16384x4x64 : Shape := ⟨4, ![1, 16384, 4, 64]⟩
abbrev S1x4x16384x64 : Shape := ⟨4, ![1, 4, 16384, 64]⟩
abbrev S1x4x64x256x64 : Shape := ⟨5, ![1, 4, 64, 256, 64]⟩
abbrev S4 : Shape := ⟨1, ![4]⟩
abbrev S_ : Shape := ⟨0, ![]⟩
abbrev S4x1 : Shape := ⟨2, ![4, 1]⟩
abbrev S1x256 : Shape := ⟨2, ![1, 256]⟩
abbrev S4x256 : Shape := ⟨2, ![4, 256]⟩
abbrev S1x4x1x256x1 : Shape := ⟨5, ![1, 4, 1, 256, 1]⟩
abbrev S1x4x64x64x64 : Shape := ⟨5, ![1, 4, 64, 64, 64]⟩
abbrev S1x4x1x1 : Shape := ⟨4, ![1, 4, 1, 1]⟩
abbrev S1x4x64x64 : Shape := ⟨4, ![1, 4, 64, 64]⟩
abbrev S64x1x4x64x64 : Shape := ⟨5, ![64, 1, 4, 64, 64]⟩
abbrev S1x1x4x64x64 : Shape := ⟨5, ![1, 1, 4, 64, 64]⟩
abbrev S256x1 : Shape := ⟨2, ![256, 1]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S1x4x64x256x256 : Shape := ⟨5, ![1, 4, 64, 256, 256]⟩
abbrev S1x4x1x256x256 : Shape := ⟨5, ![1, 4, 1, 256, 256]⟩
abbrev S1x4x16384 : Shape := ⟨3, ![1, 4, 16384]⟩
abbrev S1x4x16384x1 : Shape := ⟨4, ![1, 4, 16384, 1]⟩
abbrev S1x1x256 : Shape := ⟨3, ![1, 1, 256]⟩
abbrev S16384x256 : Shape := ⟨2, ![16384, 256]⟩

abbrev nBuf : Space → Nat
  | .hbm => 215
  | .vmem => 0
  | .smem => 0
  | _ => 0

abbrev hbmTy0_0 (i : Nat) : BufTy := match i % 128 with
  | 0 => ⟨S16384x1024, .bf16⟩
  | 1 => ⟨S256, .f32⟩
  | 2 => ⟨S16384x1024, .f32⟩
  | 3 => ⟨S1x16384x1024, .f32⟩
  | 4 => ⟨S1x16384x256, .f32⟩
  | 5 => ⟨S1x16384x256, .f32⟩
  | 6 => ⟨S1x16384x256, .f32⟩
  | 7 => ⟨S1x16384x256, .f32⟩
  | 8 => ⟨S1x16384x4x64, .f32⟩
  | 9 => ⟨S1x4x16384x64, .f32⟩
  | 10 => ⟨S1x16384x4x64, .f32⟩
  | 11 => ⟨S1x4x16384x64, .f32⟩
  | 12 => ⟨S1x16384x4x64, .f32⟩
  | 13 => ⟨S1x4x16384x64, .f32⟩
  | 14 => ⟨S1x4x64x256x64, .f32⟩
  | 15 => ⟨S1x4x64x256x64, .f32⟩
  | 16 => ⟨S256, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S4x1, .f32⟩
  | 30 => ⟨S_, .f32⟩
  | 31 => ⟨S256, .f32⟩
  | 32 => ⟨S256, .f32⟩
  | 33 => ⟨S1x256, .f32⟩
  | 34 => ⟨S4x256, .f32⟩
  | 35 => ⟨S4x256, .f32⟩
  | 36 => ⟨S4x256, .f32⟩
  | 37 => ⟨S4x256, .f32⟩
  | 38 => ⟨S1x4x1x256x1, .f32⟩
  | 39 => ⟨S1x4x64x256x64, .f32⟩
  | 40 => ⟨S1x4x64x256x64, .f32⟩
  | 41 => ⟨S1x4x64x64x64, .f32⟩
  | 42 => ⟨S4, .f32⟩
  | 43 => ⟨S_, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S_, .f32⟩
  | 51 => ⟨S4, .f32⟩
  | 52 => ⟨S4, .f32⟩
  | 53 => ⟨S4, .f32⟩
  | 54 => ⟨S_, .f32⟩
  | 55 => ⟨S4, .f32⟩
  | 56 => ⟨S4, .f32⟩
  | 57 => ⟨S4, .f32⟩
  | 58 => ⟨S1x4x1x1, .f32⟩
  | 59 => ⟨S_, .f32⟩
  | 60 => ⟨S1x4x64x64, .f32⟩
  | 61 => ⟨S64x1x4x64x64, .f32⟩
  | 62 => ⟨S_, .f32⟩
  | 63 => ⟨S64x1x4x64x64, .f32⟩
  | 64 => ⟨S_, .i32⟩
  | 65 => ⟨S64x1x4x64x64, .f32⟩
  | 66 => ⟨S1x4x1x1, .f32⟩
  | 67 => ⟨S_, .i32⟩
  | 68 => ⟨S1x4x64x64, .f32⟩
  | 69 => ⟨S64x1x4x64x64, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x1x4x64x64, .f32⟩
  | 77 => ⟨S1x4x64x64, .f32⟩
  | 78 => ⟨S1x4x64x64, .f32⟩
  | 79 => ⟨S1x4x64x64, .f32⟩
  | 80 => ⟨S1x4x64x64, .f32⟩
  | 81 => ⟨S1x1x4x64x64, .f32⟩
  | 82 => ⟨S_, .i32⟩
  | 83 => ⟨S_, .i32⟩
  | 84 => ⟨S_, .i32⟩
  | 85 => ⟨S_, .i32⟩
  | 86 => ⟨S64x1x4x64x64, .f32⟩
  | 87 => ⟨S_, .i32⟩
  | 88 => ⟨S_, .i32⟩
  | 89 => ⟨S1x4x64x64x64, .f32⟩
  | 90 => ⟨S16384x1024, .f32⟩
  | 91 => ⟨S1x16384x1024, .f32⟩
  | 92 => ⟨S1x16384x256, .f32⟩
  | 93 => ⟨S1x16384x256, .f32⟩
  | 94 => ⟨S1x16384x256, .f32⟩
  | 95 => ⟨S1x16384x256, .f32⟩
  | 96 => ⟨S1x16384x4x64, .f32⟩
  | 97 => ⟨S1x4x16384x64, .f32⟩
  | 98 => ⟨S1x16384x4x64, .f32⟩
  | 99 => ⟨S1x4x16384x64, .f32⟩
  | 100 => ⟨S1x16384x4x64, .f32⟩
  | 101 => ⟨S1x4x16384x64, .f32⟩
  | 102 => ⟨S1x4x64x256x64, .f32⟩
  | 103 => ⟨S1x4x64x256x64, .f32⟩
  | 104 => ⟨S1x4x64x256x64, .f32⟩
  | 105 => ⟨S256, .f32⟩
  | 106 => ⟨S256x1, .f32⟩
  | 107 => ⟨S1x256, .f32⟩
  | 108 => ⟨S256x256, .f32⟩
  | 109 => ⟨S256x256, .f32⟩
  | 110 => ⟨S256x256, .f32⟩
  | 111 => ⟨S256, .i32⟩
  | 112 => ⟨S256x1, .i32⟩
  | 113 => ⟨S1x256, .i32⟩
  | 114 => ⟨S256x256, .i32⟩
  | 115 => ⟨S256x256, .i32⟩
  | 116 => ⟨S256x256, .i1⟩
  | 117 => ⟨S4, .f32⟩
  | 118 => ⟨S_, .f32⟩
  | 119 => ⟨S4, .f32⟩
  | 120 => ⟨S4, .f32⟩
  | 121 => ⟨S_, .f32⟩
  | 122 => ⟨S4, .f32⟩
  | 123 => ⟨S4, .f32⟩
  | 124 => ⟨S4, .f32⟩
  | 125 => ⟨S_, .f32⟩
  | 126 => ⟨S4, .f32⟩
  | 127 => ⟨S4, .f32⟩
  | _ => ⟨S16384x1024, .bf16⟩

abbrev hbmTy0_1 (i : Nat) : BufTy := match i % 128 with
  | 0 => ⟨S4, .f32⟩
  | 1 => ⟨S4x1x1, .f32⟩
  | 2 => ⟨S_, .f32⟩
  | 3 => ⟨S256x256, .f32⟩
  | 4 => ⟨S256x256, .f32⟩
  | 5 => ⟨S1x256x256, .f32⟩
  | 6 => ⟨S4x256x256, .f32⟩
  | 7 => ⟨S4x256x256, .f32⟩
  | 8 => ⟨S4x256x256, .f32⟩
  | 9 => ⟨S4x256x256, .f32⟩
  | 10 => ⟨S_, .f32⟩
  | 11 => ⟨S_, .f32⟩
  | 12 => ⟨S4x256x256, .i1⟩
  | 13 => ⟨S4x256x256, .f32⟩
  | 14 => ⟨S4x256x256, .f32⟩
  | 15 => ⟨S1x4x64x256x256, .f32⟩
  | 16 => ⟨S1x4x1x256x256, .f32⟩
  | 17 => ⟨S1x4x64x256x256, .f32⟩
  | 18 => ⟨S1x4x64x256x256, .f32⟩
  | 19 => ⟨S1x4x64x256x64, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S4x1, .f32⟩
  | 33 => ⟨S_, .f32⟩
  | 34 => ⟨S256, .f32⟩
  | 35 => ⟨S256, .f32⟩
  | 36 => ⟨S1x256, .f32⟩
  | 37 => ⟨S4x256, .f32⟩
  | 38 => ⟨S4x256, .f32⟩
  | 39 => ⟨S4x256, .f32⟩
  | 40 => ⟨S4x256, .f32⟩
  | 41 => ⟨S1x4x64x256x64, .f32⟩
  | 42 => ⟨S1x4x1x256x1, .f32⟩
  | 43 => ⟨S1x4x64x256x64, .f32⟩
  | 44 => ⟨S1x4x64x256x64, .f32⟩
  | 45 => ⟨S1x4x64x256x64, .f32⟩
  | 46 => ⟨S1x4x16384x64, .f32⟩
  | 47 => ⟨S_, .f32⟩
  | 48 => ⟨S1x4x16384, .f32⟩
  | 49 => ⟨S1x4x16384x1, .f32⟩
  | 50 => ⟨S_, .f32⟩
  | 51 => ⟨S1x4x16384x1, .f32⟩
  | 52 => ⟨S1x4x16384x1, .f32⟩
  | 53 => ⟨S1x4x16384x64, .f32⟩
  | 54 => ⟨S1x4x16384x64, .f32⟩
  | 55 => ⟨S1x4x16384x64, .f32⟩
  | 56 => ⟨S_, .f32⟩
  | 57 => ⟨S1x4x16384, .f32⟩
  | 58 => ⟨S1x4x16384x1, .f32⟩
  | 59 => ⟨S_, .f32⟩
  | 60 => ⟨S1x4x16384x1, .f32⟩
  | 61 => ⟨S1x4x16384x1, .f32⟩
  | 62 => ⟨S1x4x16384x64, .f32⟩
  | 63 => ⟨S1x4x16384x64, .f32⟩
  | 64 => ⟨S_, .f32⟩
  | 65 => ⟨S1x4x16384x1, .f32⟩
  | 66 => ⟨S1x4x16384x1, .f32⟩
  | 67 => ⟨S1x4x16384x1, .f32⟩
  | 68 => ⟨S1x4x16384x64, .f32⟩
  | 69 => ⟨S1x4x16384x64, .f32⟩
  | 70 => ⟨S1x16384x4x64, .f32⟩
  | 71 => ⟨S1x16384x256, .f32⟩
  | 72 => ⟨S1x1x256, .f32⟩
  | 73 => ⟨S1x16384x256, .f32⟩
  | 74 => ⟨S1x16384x256, .f32⟩
  | 75 => ⟨S1x16384x256, .f32⟩
  | 76 => ⟨S1x16384x256, .f32⟩
  | 77 => ⟨S_, .f32⟩
  | 78 => ⟨S1x16384x256, .f32⟩
  | 79 => ⟨S1x16384x256, .f32⟩
  | 80 => ⟨S_, .f32⟩
  | 81 => ⟨S1x16384x256, .f32⟩
  | 82 => ⟨S1x16384x256, .f32⟩
  | 83 => ⟨S1x16384x256, .f32⟩
  | 84 => ⟨S1x16384x256, .f32⟩
  | 85 => ⟨S16384x256, .f32⟩
  | 86 => ⟨S16384x256, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_c : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev main_v52_4 : Ref sig .tc := ⟨.hbm, 69, rfl⟩
abbrev main_while0c_c_27 : Ref sig .tc := ⟨.hbm, 70, rfl⟩
abbrev main_while0c_v154 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_c_2 : Ref sig .tc := ⟨.hbm, 75, rfl⟩
abbrev main_while0b_call0_v0 : Ref sig .tc := ⟨.hbm, 76, rfl⟩
abbrev main_while0b_v154 : Ref sig .tc := ⟨.hbm, 77, rfl⟩
abbrev main_while0b_v155 : Ref sig .tc := ⟨.hbm, 78, rfl⟩
abbrev main_while0b_v156 : Ref sig .tc := ⟨.hbm, 79, rfl⟩
abbrev main_while0b_v157 : Ref sig .tc := ⟨.hbm, 80, rfl⟩
abbrev main_while0b_call1_v0 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_call1_c_1 : Ref sig .tc := ⟨.hbm, 84, rfl⟩
abbrev main_while0b_call1_c_2 : Ref sig .tc := ⟨.hbm, 85, rfl⟩
abbrev main_while0b_v158 : Ref sig .tc := ⟨.hbm, 86, rfl⟩
abbrev main_while0b_c_27 : Ref sig .tc := ⟨.hbm, 87, rfl⟩
abbrev main_while0b_v159 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_9 : Ref sig .tc := ⟨.hbm, 118, rfl⟩
abbrev main_v82 : Ref sig .tc := ⟨.hbm, 119, rfl⟩
abbrev main_v83 : Ref sig .tc := ⟨.hbm, 120, rfl⟩
abbrev main_cst_10 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_11 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_12 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_13 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_14 : Ref sig .tc := ⟨.hbm, 149, rfl⟩
abbrev main_v105 : Ref sig .tc := ⟨.hbm, 150, rfl⟩
abbrev main_v106 : Ref sig .tc := ⟨.hbm, 151, rfl⟩
abbrev main_cst_15 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_16 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_17 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_18 : Ref sig .tc := ⟨.hbm, 175, rfl⟩
abbrev main_v127 : Ref sig .tc := ⟨.hbm, 176, rfl⟩
abbrev main_v128 : Ref sig .tc := ⟨.hbm, 177, rfl⟩
abbrev main_cst_19 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_20 : Ref sig .tc := ⟨.hbm, 184, rfl⟩
abbrev main_v134 : Ref sig .tc := ⟨.hbm, 185, rfl⟩
abbrev main_v135 : Ref sig .tc := ⟨.hbm, 186, rfl⟩
abbrev main_cst_21 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_22 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call3_v0 : Ref sig .tc := ⟨.hbm, 203, rfl⟩
abbrev main_call3_v1 : Ref sig .tc := ⟨.hbm, 204, rfl⟩
abbrev main_call3_cst : Ref sig .tc := ⟨.hbm, 205, rfl⟩
abbrev main_call3_v2 : Ref sig .tc := ⟨.hbm, 206, rfl⟩
abbrev main_call3_v3 : Ref sig .tc := ⟨.hbm, 207, rfl⟩
abbrev main_call3_cst_0 : Ref sig .tc := ⟨.hbm, 208, rfl⟩
abbrev main_call3_v4 : Ref sig .tc := ⟨.hbm, 209, rfl⟩
abbrev main_call3_v5 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩

abbrev nD : Nat := 1
abbrev τ : Topo := Topo.v7x

variable {F : FTy → Type} [FloatOps F]

abbrev main_while0_count : Scf.Loop 32 := ⟨0#32, 64#32, 1#32⟩
-- ==== Out.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S512x1024 : Shape := ⟨2, ![512, 1024]⟩
abbrev S256x1024 : Shape := ⟨2, ![256, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S256x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x4360 : Shape := ⟨2, ![1024, 4360]⟩
abbrev S4x512 : Shape := ⟨2, ![4, 512]⟩
abbrev S512 : Shape := ⟨1, ![512]⟩
abbrev S16384 : Shape := ⟨1, ![16384]⟩
abbrev S_ : Shape := ⟨0, ![]⟩
abbrev S31 : Shape := ⟨1, ![31]⟩
abbrev S1 : Shape := ⟨1, ![1]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1024x4352 : Shape := ⟨2, ![1024, 4352]⟩
abbrev S1024x8 : Shape := ⟨2, ![1024, 8]⟩
abbrev S1024x128 : Shape := ⟨2, ![1024, 128]⟩
abbrev S1x1024 : Shape := ⟨2, ![1, 1024]⟩
abbrev S1x512 : Shape := ⟨2, ![1, 512]⟩
abbrev S64x512x256 : Shape := ⟨3, ![64, 512, 256]⟩
abbrev S64x640x256 : Shape := ⟨3, ![64, 640, 256]⟩
abbrev S16384x512 : Shape := ⟨2, ![16384, 512]⟩
abbrev S64x1x512 : Shape := ⟨3, ![64, 1, 512]⟩
abbrev S16384x1280 : Shape := ⟨2, ![16384, 1280]⟩
abbrev S512x1024 : Shape := ⟨2, ![512, 1024]⟩
abbrev S512x128 : Shape := ⟨2, ![512, 128]⟩
abbrev S2x512x256 : Shape := ⟨3, ![2, 512, 256]⟩
abbrev S2x640x256 : Shape := ⟨3, ![2, 640, 256]⟩
abbrev S512x512 : Shape := ⟨2, ![512, 512]⟩
abbrev S2x1x512 : Shape := ⟨3, ![2, 1, 512]⟩
abbrev S512x1280 : Shape := ⟨2, ![512, 1280]⟩
abbrev S520x512 : Shape := ⟨2, ![520, 512]⟩
abbrev S512x1 : Shape := ⟨2, ![512, 1]⟩
abbrev S1024x512 : Shape := ⟨2, ![1024, 512]⟩
abbrev S256x512 : Shape := ⟨2, ![256, 512]⟩
abbrev S512x256 : Shape := ⟨2, ![512, 256]⟩
abbrev S1x512x256 : Shape := ⟨3, ![1, 512, 256]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩
abbrev S1x1x512 : Shape := ⟨3, ![1, 1, 512]⟩
abbrev S8x512 : Shape := ⟨2, ![8, 512]⟩
abbrev S1024x768 : Shape := ⟨2, ![1024, 768]⟩
abbrev S512x768 : Shape := ⟨2, ![512, 768]⟩

abbrev nBuf : Space → Nat
  | .hbm => 67
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4360, .f32⟩
  | .hbm, ⟨3, _⟩ => ⟨S4x512, .f32⟩
  | .hbm, ⟨4, _⟩ => ⟨S512, .f32⟩
  | .hbm, ⟨5, _⟩ => ⟨S16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S31, .f32⟩
  | .hbm, ⟨14, _⟩ => ⟨S_, .f32⟩
  | .hbm, ⟨15, _⟩ => ⟨S31, .f32⟩
  | .hbm, ⟨16, _⟩ => ⟨S31, .f32⟩
  | .hbm, ⟨17, _⟩ => ⟨S1, .f32⟩
  | .hbm, ⟨18, _⟩ => ⟨S_, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S31, .f32⟩
  | .hbm, ⟨23, _⟩ => ⟨S1, .f32⟩
  | .hbm, ⟨24, _⟩ => ⟨S31, .f32⟩
  | .hbm, ⟨25, _⟩ => ⟨S31, .f32⟩
  | .hbm, ⟨26, _⟩ => ⟨S31, .f32⟩
  | .hbm, ⟨27, _⟩ => ⟨S1, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S16384x1, .f32⟩
  | .hbm, ⟨36, _⟩ => ⟨S1x32, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S1x16384x1x32, .f32⟩
  | .hbm, ⟨43, _⟩ => ⟨S1x16384x4x32, .f32⟩
  | .hbm, ⟨44, _⟩ => ⟨S16384x128, .f32⟩
  | .hbm, ⟨45, _⟩ => ⟨S16384x32, .f32⟩
  | .hbm, ⟨46, _⟩ => ⟨S16384x64, .f32⟩
  | .hbm, ⟨47, _⟩ => ⟨S1x16384x1x64, .f32⟩
  | .hbm, ⟨48, _⟩ => ⟨S1x16384x2x64, .f32⟩
  | .hbm, ⟨49, _⟩ => ⟨S16384x128, .f32⟩
  | .hbm, ⟨50, _⟩ => ⟨S1024x4352, .f32⟩
  | .hbm, ⟨51, _⟩ => ⟨S1024x4352, .bf16⟩
  | .hbm, ⟨52, _⟩ => ⟨S1024x8, .f32⟩
  | .hbm, ⟨53, _⟩ => ⟨S_, .i32⟩
  | .hbm, ⟨54, _⟩ => ⟨S_, .f32⟩
  | .hbm, ⟨55, _⟩ => ⟨S1024x128, .f32⟩
  | .hbm, ⟨56, _⟩ => ⟨S1024x128, .bf16⟩
  | .hbm, ⟨57, _⟩ => ⟨S1x1024, .f32⟩
  | .hbm, ⟨58, _⟩ => ⟨S1x512, .f32⟩
  | .hbm, ⟨59, _⟩ => ⟨S64x512x256, .bf16⟩
  | .hbm, ⟨60, _⟩ => ⟨S16384x1024, .bf16⟩
  | .hbm, ⟨61, _⟩ => ⟨S64x640x256, .bf16⟩
  | .hbm, ⟨62, _⟩ => ⟨S16384x512, .bf16⟩
  | .hbm, ⟨63, _⟩ => ⟨S64x1x512, .f32⟩
  | .hbm, ⟨64, _⟩ => ⟨S16384x1024, .bf16⟩
  | .hbm, ⟨65, _⟩ => ⟨S16384x1280, .bf16⟩
  | .hbm, ⟨66, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S4x512, .f32⟩
  | .local _ .vmem, ⟨10, _⟩ => ⟨S1x512, .f32⟩
  | .local _ .vmem, ⟨11, _⟩ => ⟨S2x512x256, .bf16⟩
  | .local _ .vmem, ⟨12, _⟩ => ⟨S2x512x256, .bf16⟩
  | .local _ .vmem, ⟨13, _⟩ => ⟨S512x1024, .bf16⟩
  | .local _ .vmem, ⟨14, _⟩ => ⟨S512x1024, .bf16⟩
  | .local _ .vmem, ⟨15, _⟩ => ⟨S2x640x256, .bf16⟩
  | .local _ .vmem, ⟨16, _⟩ => ⟨S2x640x256, .bf16⟩
  | .local _ .vmem, ⟨17, _⟩ => ⟨S512x512, .bf16⟩
  | .local _ .vmem, ⟨18, _⟩ => ⟨S512x512, .bf16⟩
  | .local _ .vmem, ⟨19, _⟩ => ⟨S2x1x512, .f32⟩
  | .local _ .vmem, ⟨20, _⟩ => ⟨S2x1x512, .f32⟩
  | .local _ .vmem, ⟨21, _⟩ => ⟨S512x1024, .bf16⟩
  | .local _ .vmem, ⟨22, _⟩ => ⟨S512x1024, .bf16⟩
  | .local _ .vmem, ⟨23, _⟩ => ⟨S512x1280, .bf16⟩
  | .local _ .vmem, ⟨24, _⟩ => ⟨S512x1280, .bf16⟩
  | .local _ .vmem, ⟨25, _⟩ => ⟨S512x128, .f32⟩
  | .local _ .vmem, ⟨26, _⟩ => ⟨S512x128, .f32⟩
  | .local _ .vmem, ⟨27, _⟩ => ⟨S512x1024, .bf16⟩
  | .local _ .vmem, ⟨28, _⟩ => ⟨S520x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c : Ref sig .tc := ⟨.hbm, 53, rfl⟩
abbrev main_call1_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28_0 : Ref sig .tc := ⟨.hbm, 59, rfl⟩
abbrev main_v28_1 : Ref sig .tc := ⟨.hbm, 60, rfl⟩
abbrev main_v28_2 : Ref sig .tc := ⟨.hbm, 61, rfl⟩
abbrev main_v28_3 : Ref sig .tc := ⟨.hbm, 62, rfl⟩
abbrev main_v28_4 : Ref sig .tc := ⟨.hbm, 63, rfl⟩
abbrev main_v28_5 : Ref sig .tc := ⟨.hbm, 64, rfl⟩
abbrev main_v28_6 : Ref sig .tc := ⟨.hbm, 65, rfl⟩
abbrev main_v28_7 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x640x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1280 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16384x1024 : Shape := ⟨2, ![16384, 1024]⟩
abbrev S1024 : Shape := ⟨1, ![1024]⟩
abbrev S1024x4360 : Shape := ⟨2, ![1024, 4360]⟩
abbrev S4x512 : Shape := ⟨2, ![4, 512]⟩
abbrev S512 : Shape := ⟨1, ![512]⟩
abbrev S1x16384x1024 : Shape := ⟨3, ![1, 16384, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4360 : Shape := ⟨3, ![1, 16384, 4360]⟩
abbrev S1x16384x512 : Shape := ⟨3, ![1, 16384, 512]⟩
abbrev S1x16384x256 : Shape := ⟨3, ![1, 16384, 256]⟩
abbrev S1x16384x4 : Shape := ⟨3, ![1, 16384, 4]⟩
abbrev S64x256x512 : Shape := ⟨3, ![64, 256, 512]⟩
abbrev S64x512x256 : Shape := ⟨3, ![64, 512, 256]⟩
abbrev S256 : Shape := ⟨1, ![256]⟩
abbrev S256x1 : Shape := ⟨2, ![256, 1]⟩
abbrev S256x3 : Shape := ⟨2, ![256, 3]⟩
abbrev S256x64 : Shape := ⟨2, ![256, 64]⟩
abbrev S1x256x1x64 : Shape := ⟨4, ![1, 256, 1, 64]⟩
abbrev S64x256x4x64 : Shape := ⟨4, ![64, 256, 4, 64]⟩
abbrev S64x256x4x2x64 : Shape := ⟨5, ![64, 256, 4, 2, 64]⟩
abbrev S64x256x4x1x64 : Shape := ⟨5, ![64, 256, 4, 1, 64]⟩
abbrev S64x256x4x256 : Shape := ⟨4, ![64, 256, 4, 256]⟩
abbrev S64x8x16x256 : Shape := ⟨4, ![64, 8, 16, 256]⟩
abbrev S64x8x64x256 : Shape := ⟨4, ![64, 8, 64, 256]⟩
abbrev S64x8x80x256 : Shape := ⟨4, ![64, 8, 80, 256]⟩
abbrev S64x512 : Shape := ⟨2, ![64, 512]⟩
abbrev S64x1x512 : Shape := ⟨3, ![64, 1, 512]⟩
abbrev S16384 : Shape := ⟨1, ![16384]⟩
abbrev S1x16384x4x64 : Shape := ⟨4, ![1, 16384, 4, 64]⟩
abbrev S1x4x16384x64 : Shape := ⟨4, ![1, 4, 16384, 64]⟩
abbrev S31 : Shape := ⟨1, ![31]⟩
abbrev S1 : Shape := ⟨1, ![1]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x4x16384x32 : Shape := ⟨4, ![1, 4, 16384, 32]⟩
abbrev S1x1x16384x32 : Shape := ⟨4, ![1, 1, 16384, 32]⟩
abbrev S1x16387x512 : Shape := ⟨3, ![1, 16387, 512]⟩
abbrev S1x512 : Shape := ⟨2, ![1, 512]⟩
abbrev S1x1x512 : Shape := ⟨3, ![1, 1, 512]⟩
abbrev S1x16384x1280 : Shape := ⟨3, ![1, 16384, 1280]⟩
abbrev S1x16384x8 : Shape := ⟨3, ![1, 16384, 8]⟩
abbrev S16384x8 : Shape := ⟨2, ![16384, 8]⟩
abbrev S16384x128 : Shape := ⟨2, ![16384, 128]⟩
abbrev S64x640x256 : Shape := ⟨3, ![64, 640, 256]⟩
abbrev S16384x512 : Shape := ⟨2, ![16384, 512]⟩
abbrev S16384x1280 : Shape := ⟨2, ![16384, 1280]⟩

abbrev nBuf : Space → Nat
  | .hbm => 258
  | .vmem => 0
  | .smem => 0
  | _ => 0

abbrev hbmTy0_0 (i : Nat) : BufTy := match i % 128 with
  | 0 => ⟨S16384x1024, .f32⟩
  | 1 => ⟨S1024, .f32⟩
  | 2 => ⟨S1024x4360, .f32⟩
  | 3 => ⟨S4x512, .f32⟩
  | 4 => ⟨S512, .f32⟩
  | 5 => ⟨S1x16384x1024, .f32⟩
  | 6 => ⟨S1x16384x1024, .f32⟩
  | 7 => ⟨S_, .f32⟩
  | 8 => ⟨S1x16384, .f32⟩
  | 9 => ⟨S1x16384x1, .f32⟩
  | 10 => ⟨S_, .f32⟩
  | 11 => ⟨S1x16384x1, .f32⟩
  | 12 => ⟨S1x16384x1, .f32⟩
  | 13 => ⟨S_, .f32⟩
  | 14 => ⟨S1x16384x1, .f32⟩
  | 15 => ⟨S1x16384x1, .f32⟩
  | 16 => ⟨S1x16384x1, .f32⟩
  | 17 => ⟨S1x16384x1024, .f32⟩
  | 18 => ⟨S1x16384x1024, .f32⟩
  | 19 => ⟨S1x1x1024, .f32⟩
  | 20 => ⟨S1x16384x1024, .f32⟩
  | 21 => ⟨S1x16384x1024, .f32⟩
  | 22 => ⟨S1x16384x4360, .f32⟩
  | 23 => ⟨S1x16384x512, .f32⟩
  | 24 => ⟨S1x16384x512, .f32⟩
  | 25 => ⟨S1x16384x512, .f32⟩
  | 26 => ⟨S1x16384x512, .f32⟩
  | 27 => ⟨S1x16384x256, .f32⟩
  | 28 => ⟨S1x16384x256, .f32⟩
  | 29 => ⟨S1x16384x256, .f32⟩
  | 30 => ⟨S1x16384x256, .f32⟩
  | 31 => ⟨S1x16384x256, .f32⟩
  | 32 => ⟨S1x16384x256, .f32⟩
  | 33 => ⟨S1x16384x256, .f32⟩
  | 34 => ⟨S1x16384x256, .f32⟩
  | 35 => ⟨S1x16384x256, .f32⟩
  | 36 => ⟨S1x16384x4, .f32⟩
  | 37 => ⟨S1x16384x4, .f32⟩
  | 38 => ⟨S64x256x512, .f32⟩
  | 39 => ⟨S_, .f32⟩
  | 40 => ⟨S64x256x512, .f32⟩
  | 41 => ⟨S64x256x512, .f32⟩
  | 42 => ⟨S64x512x256, .f32⟩
  | 43 => ⟨S256, .f32⟩
  | 44 => ⟨S256x1, .f32⟩
  | 45 => ⟨S256x3, .f32⟩
  | 46 => ⟨S_, .i32⟩
  | 47 => ⟨S_, .f32⟩
  | 48 => ⟨S256x64, .f32⟩
  | 49 => ⟨S1x256x1x64, .f32⟩
  | 50 => ⟨S64x256x4x64, .f32⟩
  | 51 => ⟨S64x256x512, .f32⟩
  | 52 => ⟨S64x256x4x2x64, .f32⟩
  | 53 => ⟨S64x256x4x1x64, .f32⟩
  | 54 => ⟨S64x256x4x64, .f32⟩
  | 55 => ⟨S64x256x4x1x64, .f32⟩
  | 56 => ⟨S64x256x4x64, .f32⟩
  | 57 => ⟨S64x256x4x256, .f32⟩
  | 58 => ⟨S_, .f32⟩
  | 59 => ⟨S64x8x16x256, .f32⟩
  | 60 => ⟨S64x256x512, .f32⟩
  | 61 => ⟨S64x512x256, .f32⟩
  | 62 => ⟨S64x8x64x256, .f32⟩
  | 63 => ⟨S64x8x80x256, .f32⟩
  | 64 => ⟨S64x256x512, .f32⟩
  | 65 => ⟨S_, .f32⟩
  | 66 => ⟨S64x512, .f32⟩
  | 67 => ⟨S64x1x512, .f32⟩
  | 68 => ⟨S_, .f32⟩
  | 69 => ⟨S64x1x512, .f32⟩
  | 70 => ⟨S64x1x512, .f32⟩
  | 71 => ⟨S16384, .f32⟩
  | 72 => ⟨S1x16384x4x64, .f32⟩
  | 73 => ⟨S1x4x16384x64, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S31, .f32⟩
  | 82 => ⟨S_, .f32⟩
  | 83 => ⟨S31, .f32⟩
  | 84 => ⟨S31, .f32⟩
  | 85 => ⟨S1, .f32⟩
  | 86 => ⟨S_, .f32⟩
  | 87 => ⟨S31, .f32⟩
  | 88 => ⟨S31, .f32⟩
  | 89 => ⟨S31, .f32⟩
  | 90 => ⟨S31, .f32⟩
  | 91 => ⟨S1, .f32⟩
  | 92 => ⟨S31, .f32⟩
  | 93 => ⟨S31, .f32⟩
  | 94 => ⟨S31, .f32⟩
  | 95 => ⟨S1, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S16384x1, .f32⟩
  | 104 => ⟨S1x32, .f32⟩
  | 105 => ⟨S16384x32, .f32⟩
  | 106 => ⟨S16384x32, .f32⟩
  | 107 => ⟨S16384x32, .f32⟩
  | 108 => ⟨S16384x32, .f32⟩
  | 109 => ⟨S16384x32, .f32⟩
  | 110 => ⟨S1x4x16384x32, .f32⟩
  | 111 => ⟨S1x4x16384x32, .f32⟩
  | 112 => ⟨S1x1x16384x32, .f32⟩
  | 113 => ⟨S1x4x16384x32, .f32⟩
  | 114 => ⟨S1x4x16384x32, .f32⟩
  | 115 => ⟨S1x1x16384x32, .f32⟩
  | 116 => ⟨S1x4x16384x32, .f32⟩
  | 117 => ⟨S1x4x16384x32, .f32⟩
  | 118 => ⟨S1x4x16384x32, .f32⟩
  | 119 => ⟨S1x1x16384x32, .f32⟩
  | 120 => ⟨S1x4x16384x32, .f32⟩
  | 121 => ⟨S1x4x16384x32, .f32⟩
  | 122 => ⟨S1x1x16384x32, .f32⟩
  | 123 => ⟨S1x4x16384x32, .f32⟩
  | 124 => ⟨S1x4x16384x32, .f32⟩
  | 125 => ⟨S1x4x16384x32, .f32⟩
  | 126 => ⟨S1x4x16384x64, .f32⟩
  | 127 => ⟨S1x16384x4x64, .f32⟩
  | _ => ⟨S16384x1024, .f32⟩

abbrev hbmTy0_1 (i : Nat) : BufTy := match i % 128 with
  | 0 => ⟨S1x16384x256, .f32⟩
  | 1 => ⟨S1x16384x4x64, .f32⟩
  | 2 => ⟨S1x4x16384x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S31, .f32⟩
  | 11 => ⟨S_, .f32⟩
  | 12 => ⟨S31, .f32⟩
  | 13 => ⟨S31, .f32⟩
  | 14 => ⟨S1, .f32⟩
  | 15 => ⟨S_, .f32⟩
  | 16 => ⟨S31, .f32⟩
  | 17 => ⟨S31, .f32⟩
  | 18 => ⟨S31, .f32⟩
  | 19 => ⟨S31, .f32⟩
  | 20 => ⟨S1, .f32⟩
  | 21 => ⟨S31, .f32⟩
  | 22 => ⟨S31, .f32⟩
  | 23 => ⟨S31, .f32⟩
  | 24 => ⟨S1, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S16384x1, .f32⟩
  | 33 => ⟨S1x32, .f32⟩
  | 34 => ⟨S16384x32, .f32⟩
  | 35 => ⟨S16384x32, .f32⟩
  | 36 => ⟨S16384x32, .f32⟩
  | 37 => ⟨S16384x32, .f32⟩
  | 38 => ⟨S16384x32, .f32⟩
  | 39 => ⟨S1x4x16384x32, .f32⟩
  | 40 => ⟨S1x4x16384x32, .f32⟩
  | 41 => ⟨S1x1x16384x32, .f32⟩
  | 42 => ⟨S1x4x16384x32, .f32⟩
  | 43 => ⟨S1x4x16384x32, .f32⟩
  | 44 => ⟨S1x1x16384x32, .f32⟩
  | 45 => ⟨S1x4x16384x32, .f32⟩
  | 46 => ⟨S1x4x16384x32, .f32⟩
  | 47 => ⟨S1x4x16384x32, .f32⟩
  | 48 => ⟨S1x1x16384x32, .f32⟩
  | 49 => ⟨S1x4x16384x32, .f32⟩
  | 50 => ⟨S1x4x16384x32, .f32⟩
  | 51 => ⟨S1x1x16384x32, .f32⟩
  | 52 => ⟨S1x4x16384x32, .f32⟩
  | 53 => ⟨S1x4x16384x32, .f32⟩
  | 54 => ⟨S1x4x16384x32, .f32⟩
  | 55 => ⟨S1x4x16384x64, .f32⟩
  | 56 => ⟨S_, .f32⟩
  | 57 => ⟨S1x4x16384x64, .f32⟩
  | 58 => ⟨S1x4x16384x64, .f32⟩
  | 59 => ⟨S1x16384x4x64, .f32⟩
  | 60 => ⟨S1x16384x256, .f32⟩
  | 61 => ⟨S1x16384x1024, .f32⟩
  | 62 => ⟨S1x16384x512, .f32⟩
  | 63 => ⟨S_, .i32⟩
  | 64 => ⟨S_, .f32⟩
  | 65 => ⟨S1x16387x512, .f32⟩
  | 66 => ⟨S1x16384x512, .f32⟩
  | 67 => ⟨S1x512, .f32⟩
  | 68 => ⟨S512, .f32⟩
  | 69 => ⟨S1x1x512, .f32⟩
  | 70 => ⟨S1x16384x512, .f32⟩
  | 71 => ⟨S1x16384x512, .f32⟩
  | 72 => ⟨S_, .f32⟩
  | 73 => ⟨S1x16384x512, .f32⟩
  | 74 => ⟨S1x16384x512, .f32⟩
  | 75 => ⟨S1x16384x512, .f32⟩
  | 76 => ⟨S1x512, .f32⟩
  | 77 => ⟨S512, .f32⟩
  | 78 => ⟨S1x1x512, .f32⟩
  | 79 => ⟨S1x16384x512, .f32⟩
  | 80 => ⟨S1x16384x512, .f32⟩
  | 81 => ⟨S1x16384x512, .f32⟩
  | 82 => ⟨S1x16384x512, .f32⟩
  | 83 => ⟨S1x512, .f32⟩
  | 84 => ⟨S512, .f32⟩
  | 85 => ⟨S1x1x512, .f32⟩
  | 86 => ⟨S1x16384x512, .f32⟩
  | 87 => ⟨S1x16384x512, .f32⟩
  | 88 => ⟨S1x16384x512, .f32⟩
  | 89 => ⟨S1x16384x512, .f32⟩
  | 90 => ⟨S1x512, .f32⟩
  | 91 => ⟨S512, .f32⟩
  | 92 => ⟨S1x1x512, .f32⟩
  | 93 => ⟨S1x16384x512, .f32⟩
  | 94 => ⟨S1x16384x512, .f32⟩
  | 95 => ⟨S1x16384x512, .f32⟩
  | 96 => ⟨S1x1x512, .f32⟩
  | 97 => ⟨S1x16384x512, .f32⟩
  | 98 => ⟨S1x16384x512, .f32⟩
  | 99 => ⟨S1x16384x512, .f32⟩
  | 100 => ⟨S1x16384x512, .f32⟩
  | 101 => ⟨S_, .f32⟩
  | 102 => ⟨S1x16384x512, .f32⟩
  | 103 => ⟨S1x16384x512, .f32⟩
  | 104 => ⟨S_, .f32⟩
  | 105 => ⟨S1x16384x512, .f32⟩
  | 106 => ⟨S1x16384x512, .f32⟩
  | 107 => ⟨S1x16384x512, .f32⟩
  | 108 => ⟨S1x16384x256, .f32⟩
  | 109 => ⟨S1x16384x256, .f32⟩
  | 110 => ⟨S_, .f32⟩
  | 111 => ⟨S1x16384x256, .f32⟩
  | 112 => ⟨S1x16384x256, .f32⟩
  | 113 => ⟨S1x16384x1280, .f32⟩
  | 114 => ⟨S1x16384x8, .f32⟩
  | 115 => ⟨S16384x8, .f32⟩
  | 116 => ⟨S_, .i32⟩
  | 117 => ⟨S_, .f32⟩
  | 118 => ⟨S16384x128, .f32⟩
  | 119 => ⟨S64x512x256, .bf16⟩
  | 120 => ⟨S16384x1024, .f32⟩
  | 121 => ⟨S16384x1024, .bf16⟩
  | 122 => ⟨S64x640x256, .f32⟩
  | 123 => ⟨S64x640x256, .bf16⟩
  | 124 => ⟨S16384x512, .f32⟩
  | 125 => ⟨S16384x512, .bf16⟩
  | 126 => ⟨S16384x1024, .f32⟩
  | 127 => ⟨S16384x1024, .bf16⟩
  | _ => ⟨S16384x1024, .f32⟩

abbrev hbmTy0_2 (i : Nat) : BufTy := match i % 128 with
  | 0 => ⟨S16384x1280, .f32⟩
  | 1 => ⟨S16384x1280, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c : Ref sig .tc := ⟨.hbm, 46, rfl⟩
abbrev main_call0_v0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_cst_7 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_cst : Ref sig .tc := ⟨.hbm, 79, rfl⟩
abbrev main_call1_v3 : Ref sig .tc := ⟨.hbm, 80, rfl⟩
abbrev main_call1_v4 : Ref sig .tc := ⟨.hbm, 81, rfl⟩
abbrev main_call1_cst_0 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_v15 : Ref sig .tc := ⟨.hbm, 94, rfl⟩
abbrev main_call1_v16 : Ref sig .tc := ⟨.hbm, 95, rfl⟩
abbrev main_v60 : Ref sig .tc := ⟨.hbm, 96, rfl⟩
abbrev main_cst_8 : Ref sig .tc := ⟨.hbm, 97, rfl⟩
abbrev main_v61 : Ref sig .tc := ⟨.hbm, 98, rfl⟩
abbrev main_v62 : Ref sig .tc := ⟨.hbm, 99, rfl⟩
abbrev main_cst_9 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_10 : Ref sig .tc := ⟨.hbm, 131, rfl⟩
abbrev main_cst_11 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_cst : Ref sig .tc := ⟨.hbm, 136, rfl⟩
abbrev main_call2_v3 : Ref sig .tc := ⟨.hbm, 137, rfl⟩
abbrev main_call2_v4 : Ref sig .tc := ⟨.hbm, 138, rfl⟩
abbrev main_call2_cst_0 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_v12 : Ref sig .tc := ⟨.hbm, 148, rfl⟩
abbrev main_call2_v13 : Ref sig .tc := ⟨.hbm, 149, rfl⟩
abbrev main_call2_v14 : Ref sig .tc := ⟨.hbm, 150, rfl⟩
abbrev main_call2_v15 : Ref sig .tc := ⟨.hbm, 151, rfl⟩
abbrev main_call2_v16 : Ref sig .tc := ⟨.hbm, 152, rfl⟩
abbrev main_v93 : Ref sig .tc := ⟨.hbm, 153, rfl⟩
abbrev main_cst_12 : Ref sig .tc := ⟨.hbm, 154, rfl⟩
abbrev main_v94 : Ref sig .tc := ⟨.hbm, 155, rfl⟩
abbrev main_v95 : Ref sig .tc := ⟨.hbm, 156, rfl⟩
abbrev main_cst_13 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_14 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_c_15 : Ref sig .tc := ⟨.hbm, 191, rfl⟩
abbrev main_call3_v0 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_16 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_call4_v0 : Ref sig .tc := ⟨.hbm, 227, rfl⟩
abbrev main_call4_v1 : Ref sig .tc := ⟨.hbm, 228, rfl⟩
abbrev main_call4_cst : Ref sig .tc := ⟨.hbm, 229, rfl⟩
abbrev main_call4_v2 : Ref sig .tc := ⟨.hbm, 230, rfl⟩
abbrev main_call4_v3 : Ref sig .tc := ⟨.hbm, 231, rfl⟩
abbrev main_call4_cst_0 : Ref sig .tc := ⟨.hbm, 232, rfl⟩
abbrev main_call4_v4 : Ref sig .tc := ⟨.hbm, 233, rfl⟩
abbrev main_call4_v5 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_cst_17 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_c_18 : Ref sig .tc := ⟨.hbm, 244, rfl⟩
abbrev main_call5_v0 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩

abbrev nD : Nat := 1
abbrev τ : Topo := Topo.v7x

variable {F : FTy → Type} [FloatOps F]
-- ==== Mlstm.lean ====
abbrev S16384x1280 : Shape := ⟨2, ![16384, 1280]⟩
abbrev S16384x128 : Shape := ⟨2, ![16384, 128]⟩
abbrev S8 : Shape := ⟨1, ![8]⟩
abbrev S256 : Shape := ⟨1, ![256]⟩
abbrev S_ : Shape := ⟨0, ![]⟩
abbrev S128 : Shape := ⟨1, ![128]⟩
abbrev S1x128 : Shape := ⟨2, ![1, 128]⟩
abbrev S1x256 : Shape := ⟨2, ![1, 256]⟩
abbrev S16384x256 : Shape := ⟨2, ![16384, 256]⟩
abbrev S512x1280 : Shape := ⟨2, ![512, 1280]⟩
abbrev S512x128 : Shape := ⟨2, ![512, 128]⟩
abbrev S512x256 : Shape := ⟨2, ![512, 256]⟩
abbrev S2x128x256 : Shape := ⟨3, ![2, 128, 256]⟩
abbrev S2x1x128 : Shape := ⟨3, ![2, 1, 128]⟩
abbrev S16x128x128 : Shape := ⟨3, ![16, 128, 128]⟩
abbrev S128x128 : Shape := ⟨2, ![128, 128]⟩
abbrev S128x256 : Shape := ⟨2, ![128, 256]⟩
abbrev S1x128x128 : Shape := ⟨3, ![1, 128, 128]⟩
abbrev S128x1 : Shape := ⟨2, ![128, 1]⟩
abbrev S1x1 : Shape := ⟨2, ![1, 1]⟩
abbrev S1 : Shape := ⟨1, ![1]⟩
abbrev S1x128x256 : Shape := ⟨3, ![1, 128, 256]⟩
abbrev S1x1x128 : Shape := ⟨3, ![1, 1, 128]⟩

abbrev nBuf : Space → Nat
  | .hbm => 10
  | .vmem => 11
  | .smem => 0
  | _ => 0

abbrev bufTy : (tb : Table) → Fin (tcTables nBuf tb) → BufTy
  | .hbm, ⟨0, _⟩ => ⟨S16384x1280, .bf16⟩
  | .hbm, ⟨1, _⟩ => ⟨S16384x128, .f32⟩
  | .hbm, ⟨2, _⟩ => ⟨S8, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1x256, .f32⟩
  | .hbm, ⟨9, _⟩ => ⟨S16384x256, .bf16⟩
  | .local _ .vmem, ⟨0, _⟩ => ⟨S512x1280, .bf16⟩
  | .local _ .vmem, ⟨1, _⟩ => ⟨S512x1280, .bf16⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x256, .f32⟩
  | .local _ .vmem, ⟨6, _⟩ => ⟨S512x256, .bf16⟩
  | .local _ .vmem, ⟨7, _⟩ => ⟨S512x256, .bf16⟩
  | .local _ .vmem, ⟨8, _⟩ => ⟨S2x128x256, .f32⟩
  | .local _ .vmem, ⟨9, _⟩ => ⟨S2x1x128, .f32⟩
  | .local _ .vmem, ⟨10, _⟩ => ⟨S16x128x128, .f32⟩
  | _, _ => ⟨S16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlstmRefIdeal.lean ====
abbrev S16384x1280 : Shape := ⟨2, ![16384, 1280]⟩
abbrev S16384x128 : Shape := ⟨2, ![16384, 128]⟩
abbrev S8 : Shape := ⟨1, ![8]⟩
abbrev S256 : Shape := ⟨1, ![256]⟩
abbrev S1x16384x1280 : Shape := ⟨3, ![1, 16384, 1280]⟩
abbrev S1x16384x256 : Shape := ⟨3, ![1, 16384, 256]⟩
abbrev S16384x4 : Shape := ⟨2, ![16384, 4]⟩
abbrev S4x16384 : Shape := ⟨2, ![4, 16384]⟩
abbrev S4 : Shape := ⟨1, ![4]⟩
abbrev S4x1 : Shape := ⟨2, ![4, 1]⟩
abbrev S1x16384x4x64 : Shape := ⟨4, ![1, 16384, 4, 64]⟩
abbrev S1x4x16384x64 : Shape := ⟨4, ![1, 4, 16384, 64]⟩
abbrev S4x16384x64 : Shape := ⟨3, ![4, 16384, 64]⟩
abbrev S4x128x128x64 : Shape := ⟨4, ![4, 128, 128, 64]⟩
abbrev S128x4x128x64 : Shape := ⟨4, ![128, 4, 128, 64]⟩
abbrev S4x128x128 : Shape := ⟨3, ![4, 128, 128]⟩
abbrev S128x4x128 : Shape := ⟨3, ![128, 4, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x64x64 : Shape := ⟨3, ![4, 64, 64]⟩
abbrev S4x64 : Shape := ⟨2, ![4, 64]⟩
abbrev S1x4x128x64 : Shape := ⟨4, ![1, 4, 128, 64]⟩
abbrev S4x128x64 : Shape := ⟨3, ![4, 128, 64]⟩
abbrev S1x4x128 : Shape := ⟨3, ![1, 4, 128]⟩
abbrev S4x128 : Shape := ⟨2, ![4, 128]⟩
abbrev S4x128x1 : Shape := ⟨3, ![4, 128, 1]⟩
abbrev S4x1x128 : Shape := ⟨3, ![4, 1, 128]⟩
abbrev S4x1x1 : Shape := ⟨3, ![4, 1, 1]⟩
abbrev S1x4x16384 : Shape := ⟨3, ![1, 4, 16384]⟩
abbrev S1x4x16384x1 : Shape := ⟨4, ![1, 4, 16384, 1]⟩
abbrev S1x1x256 : Shape := ⟨3, ![1, 1, 256]⟩
abbrev S16384x256 : Shape := ⟨2, ![16384, 256]⟩

abbrev nBuf : Space → Nat
  | .hbm => 249
  | .vmem => 0
  | .smem => 0
  | _ => 0

abbrev hbmTy0_0 (i : Nat) : BufTy := match i % 128 with
  | 0 => ⟨S16384x1280, .bf16⟩
  | 1 => ⟨S16384x128, .f32⟩
  | 2 => ⟨S8, .f32⟩
  | 3 => ⟨S256, .f32⟩
  | 4 => ⟨S16384x1280, .f32⟩
  | 5 => ⟨S1x16384x1280, .f32⟩
  | 6 => ⟨S1x16384x256, .f32⟩
  | 7 => ⟨S1x16384x256, .f32⟩
  | 8 => ⟨S1x16384x256, .f32⟩
  | 9 => ⟨S1x16384x256, .f32⟩
  | 10 => ⟨S1x16384x256, .f32⟩
  | 11 => ⟨S16384x4, .f32⟩
  | 12 => ⟨S4x16384, .f32⟩
  | 13 => ⟨S4, .f32⟩
  | 14 => ⟨S4x1, .f32⟩
  | 15 => ⟨S4x16384, .f32⟩
  | 16 => ⟨S4x16384, .f32⟩
  | 17 => ⟨S16384x4, .f32⟩
  | 18 => ⟨S4x16384, .f32⟩
  | 19 => ⟨S4, .f32⟩
  | 20 => ⟨S4x1, .f32⟩
  | 21 => ⟨S4x16384, .f32⟩
  | 22 => ⟨S4x16384, .f32⟩
  | 23 => ⟨S1x16384x4x64, .f32⟩
  | 24 => ⟨S1x4x16384x64, .f32⟩
  | 25 => ⟨S4x16384x64, .f32⟩
  | 26 => ⟨S1x16384x4x64, .f32⟩
  | 27 => ⟨S1x4x16384x64, .f32⟩
  | 28 => ⟨S4x16384x64, .f32⟩
  | 29 => ⟨S1x16384x4x64, .f32⟩
  | 30 => ⟨S1x4x16384x64, .f32⟩
  | 31 => ⟨S4x16384x64, .f32⟩
  | 32 => ⟨S4x128x128x64, .f32⟩
  | 33 => ⟨S128x4x128x64, .f32⟩
  | 34 => ⟨S4x128x128x64, .f32⟩
  | 35 => ⟨S128x4x128x64, .f32⟩
  | 36 => ⟨S4x128x128x64, .f32⟩
  | 37 => ⟨S128x4x128x64, .f32⟩
  | 38 => ⟨S4x128x128, .f32⟩
  | 39 => ⟨S128x4x128, .f32⟩
  | 40 => ⟨S4x16384, .f32⟩
  | 41 => ⟨S_, .f32⟩
  | 42 => ⟨S4x16384, .f32⟩
  | 43 => ⟨S4x16384, .f32⟩
  | 44 => ⟨S4x16384, .f32⟩
  | 45 => ⟨S4x16384, .f32⟩
  | 46 => ⟨S4x16384, .f32⟩
  | 47 => ⟨S4x16384, .f32⟩
  | 48 => ⟨S4x16384, .f32⟩
  | 49 => ⟨S4x16384, .f32⟩
  | 50 => ⟨S4x128x128, .f32⟩
  | 51 => ⟨S_, .f32⟩
  | 52 => ⟨S_, .f32⟩
  | 53 => ⟨S4x128x128, .f32⟩
  | 54 => ⟨S128x4x128, .f32⟩
  | 55 => ⟨S128, .i32⟩
  | 56 => ⟨S128x1, .i32⟩
  | 57 => ⟨S1x128, .i32⟩
  | 58 => ⟨S128x128, .i32⟩
  | 59 => ⟨S128x128, .i32⟩
  | 60 => ⟨S128x128, .i1⟩
  | 61 => ⟨S_, .f32⟩
  | 62 => ⟨S4x64x64, .f32⟩
  | 63 => ⟨S_, .f32⟩
  | 64 => ⟨S4x64, .f32⟩
  | 65 => ⟨S_, .f32⟩
  | 66 => ⟨S4, .f32⟩
  | 67 => ⟨S_, .f32⟩
  | 68 => ⟨S128x4x128x64, .f32⟩
  | 69 => ⟨S_, .i32⟩
  | 70 => ⟨S128x4x128x64, .f32⟩
  | 71 => ⟨S128x4x128x64, .f32⟩
  | 72 => ⟨S128x4x128x64, .f32⟩
  | 73 => ⟨S128x4x128, .f32⟩
  | 74 => ⟨S128x4x128, .f32⟩
  | 75 => ⟨S128x128, .i1⟩
  | 76 => ⟨S_, .i32⟩
  | 77 => ⟨S4x64x64, .f32⟩
  | 78 => ⟨S4x64, .f32⟩
  | 79 => ⟨S4, .f32⟩
  | 80 => ⟨S128x4x128x64, .f32⟩
  | 81 => ⟨S_, .i32⟩
  | 82 => ⟨S_, .i1⟩
  | 83 => ⟨S_, .i32⟩
  | 84 => ⟨S_, .i32⟩
  | 85 => ⟨S_, .i32⟩
  | 86 => ⟨S1x4x128x64, .f32⟩
  | 87 => ⟨S4x128x64, .f32⟩
  | 88 => ⟨S_, .i32⟩
  | 89 => ⟨S_, .i32⟩
  | 90 => ⟨S_, .i32⟩
  | 91 => ⟨S1x4x128x64, .f32⟩
  | 92 => ⟨S4x128x64, .f32⟩
  | 93 => ⟨S_, .i32⟩
  | 94 => ⟨S_, .i32⟩
  | 95 => ⟨S_, .i32⟩
  | 96 => ⟨S1x4x128x64, .f32⟩
  | 97 => ⟨S4x128x64, .f32⟩
  | 98 => ⟨S_, .i32⟩
  | 99 => ⟨S_, .i32⟩
  | 100 => ⟨S1x4x128, .f32⟩
  | 101 => ⟨S4x128, .f32⟩
  | 102 => ⟨S_, .i32⟩
  | 103 => ⟨S_, .i32⟩
  | 104 => ⟨S1x4x128, .f32⟩
  | 105 => ⟨S4x128, .f32⟩
  | 106 => ⟨S4x128x1, .f32⟩
  | 107 => ⟨S4x1x128, .f32⟩
  | 108 => ⟨S4x128x128, .f32⟩
  | 109 => ⟨S4x128x128, .f32⟩
  | 110 => ⟨S4x128x128, .f32⟩
  | 111 => ⟨S4x1x128, .f32⟩
  | 112 => ⟨S4x128x128, .f32⟩
  | 113 => ⟨S4x128x128, .f32⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S4x1, .f32⟩
  | 120 => ⟨S4x128, .f32⟩
  | 121 => ⟨S4x128, .f32⟩
  | 122 => ⟨S_, .f32⟩
  | 123 => ⟨S4x128, .f32⟩
  | 124 => ⟨S4x128, .f32⟩
  | 125 => ⟨S4x128x1, .f32⟩
  | 126 => ⟨S4x128x128, .f32⟩
  | 127 => ⟨S4x128x128, .f32⟩
  | _ => ⟨S16384x1280, .bf16⟩

abbrev hbmTy0_1 (i : Nat) : BufTy := match i % 128 with
  | 0 => ⟨S4x128x128, .f32⟩
  | 1 => ⟨S4x128, .f32⟩
  | 2 => ⟨S4x128, .f32⟩
  | 3 => ⟨S4x128x128, .f32⟩
  | 4 => ⟨S4x128x128, .f32⟩
  | 5 => ⟨S4x128x64, .f32⟩
  | 6 => ⟨S4x128x1, .f32⟩
  | 7 => ⟨S4x128x64, .f32⟩
  | 8 => ⟨S4x128x64, .f32⟩
  | 9 => ⟨S4x128x64, .f32⟩
  | 10 => ⟨S4x128x64, .f32⟩
  | 11 => ⟨S_, .f32⟩
  | 12 => ⟨S4x128, .f32⟩
  | 13 => ⟨S4x128, .f32⟩
  | 14 => ⟨S4x128, .f32⟩
  | 15 => ⟨S4x128, .f32⟩
  | 16 => ⟨S4x128, .f32⟩
  | 17 => ⟨S4x128, .f32⟩
  | 18 => ⟨S4x128, .f32⟩
  | 19 => ⟨S4x128, .f32⟩
  | 20 => ⟨S4x128x1, .f32⟩
  | 21 => ⟨S4x128x64, .f32⟩
  | 22 => ⟨S4x128x64, .f32⟩
  | 23 => ⟨S4x1, .f32⟩
  | 24 => ⟨S4, .f32⟩
  | 25 => ⟨S4x1, .f32⟩
  | 26 => ⟨S4x128, .f32⟩
  | 27 => ⟨S4x128, .f32⟩
  | 28 => ⟨S4x128, .f32⟩
  | 29 => ⟨S4, .f32⟩
  | 30 => ⟨S_, .f32⟩
  | 31 => ⟨S4, .f32⟩
  | 32 => ⟨S4, .f32⟩
  | 33 => ⟨S4, .f32⟩
  | 34 => ⟨S4, .f32⟩
  | 35 => ⟨S4, .f32⟩
  | 36 => ⟨S4x1, .f32⟩
  | 37 => ⟨S4x128, .f32⟩
  | 38 => ⟨S4x128, .f32⟩
  | 39 => ⟨S4x128, .f32⟩
  | 40 => ⟨S4x1x1, .f32⟩
  | 41 => ⟨S4x64x64, .f32⟩
  | 42 => ⟨S4x64x64, .f32⟩
  | 43 => ⟨S4x128x1, .f32⟩
  | 44 => ⟨S4x128x64, .f32⟩
  | 45 => ⟨S4x128x64, .f32⟩
  | 46 => ⟨S4x64x64, .f32⟩
  | 47 => ⟨S4x64x64, .f32⟩
  | 48 => ⟨S4x1, .f32⟩
  | 49 => ⟨S4x64, .f32⟩
  | 50 => ⟨S4x64, .f32⟩
  | 51 => ⟨S4x64, .f32⟩
  | 52 => ⟨S4x64, .f32⟩
  | 53 => ⟨S1x4x128x64, .f32⟩
  | 54 => ⟨S_, .i32⟩
  | 55 => ⟨S_, .i32⟩
  | 56 => ⟨S_, .i32⟩
  | 57 => ⟨S128x4x128x64, .f32⟩
  | 58 => ⟨S_, .i32⟩
  | 59 => ⟨S_, .i32⟩
  | 60 => ⟨S4x128x128x64, .f32⟩
  | 61 => ⟨S4x16384x64, .f32⟩
  | 62 => ⟨S16384x1280, .f32⟩
  | 63 => ⟨S1x16384x1280, .f32⟩
  | 64 => ⟨S1x16384x256, .f32⟩
  | 65 => ⟨S1x16384x256, .f32⟩
  | 66 => ⟨S1x16384x256, .f32⟩
  | 67 => ⟨S1x16384x256, .f32⟩
  | 68 => ⟨S1x16384x256, .f32⟩
  | 69 => ⟨S1x4x16384x64, .f32⟩
  | 70 => ⟨S1x16384x256, .f32⟩
  | 71 => ⟨S1x16384x256, .f32⟩
  | 72 => ⟨S_, .f32⟩
  | 73 => ⟨S1x16384x256, .f32⟩
  | 74 => ⟨S1x16384x256, .f32⟩
  | 75 => ⟨S_, .f32⟩
  | 76 => ⟨S1x16384x256, .f32⟩
  | 77 => ⟨S1x16384x256, .f32⟩
  | 78 => ⟨S1x16384x4x64, .f32⟩
  | 79 => ⟨S1x4x16384x64, .f32⟩
  | 80 => ⟨S1x4x16384x64, .f32⟩
  | 81 => ⟨S_, .f32⟩
  | 82 => ⟨S1x4x16384, .f32⟩
  | 83 => ⟨S1x4x16384x1, .f32⟩
  | 84 => ⟨S_, .f32⟩
  | 85 => ⟨S1x4x16384x1, .f32⟩
  | 86 => ⟨S1x4x16384x1, .f32⟩
  | 87 => ⟨S1x4x16384x64, .f32⟩
  | 88 => ⟨S1x4x16384x64, .f32⟩
  | 89 => ⟨S1x4x16384x64, .f32⟩
  | 90 => ⟨S_, .f32⟩
  | 91 => ⟨S1x4x16384, .f32⟩
  | 92 => ⟨S1x4x16384x1, .f32⟩
  | 93 => ⟨S_, .f32⟩
  | 94 => ⟨S1x4x16384x1, .f32⟩
  | 95 => ⟨S1x4x16384x1, .f32⟩
  | 96 => ⟨S1x4x16384x64, .f32⟩
  | 97 => ⟨S1x4x16384x64, .f32⟩
  | 98 => ⟨S_, .f32⟩
  | 99 => ⟨S1x4x16384x1, .f32⟩
  | 100 => ⟨S1x4x16384x1, .f32⟩
  | 101 => ⟨S1x4x16384x1, .f32⟩
  | 102 => ⟨S1x4x16384x64, .f32⟩
  | 103 => ⟨S1x4x16384x64, .f32⟩
  | 104 => ⟨S1x16384x4x64, .f32⟩
  | 105 => ⟨S1x16384x256, .f32⟩
  | 106 => ⟨S1x1x256, .f32⟩
  | 107 => ⟨S1x16384x256, .f32⟩
  | 108 => ⟨S1x16384x256, .f32⟩
  | 109 => ⟨S1x16384x256, .f32⟩
  | 110 => ⟨S1x16384x256, .f32⟩
  | 111 => ⟨S_, .f32⟩
  | 112 => ⟨S1x16384x256, .f32⟩
  | 113 => ⟨S1x16384x256, .f32⟩
  | 114 => ⟨S_, .f32⟩
  | 115 => ⟨S1x16384x256, .f32⟩
  | 116 => ⟨S1x16384x256, .f32⟩
  | 117 => ⟨S1x16384x256, .f32⟩
  | 118 => ⟨S1x16384x256, .f32⟩
  | 119 => ⟨S16384x256, .f32⟩
  | 120 => ⟨S16384x256, .bf16⟩
  | _ => ⟨S16384x1280, .bf16⟩

abbrev hbmTy (i : Nat) : BufTy := match i / 128 with
  | 0 => hbmTy0_0 i
  | 1 => hbmTy0_1 i
  | _ => ⟨S16384x1280, .bf16⟩

abbrev bufTy : (tb : Table) → Fin (tcTables nBuf tb) → BufTy
  | .hbm, ⟨i, _⟩ => hbmTy i
  | _, _ => ⟨S16384x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_call0_cst : Ref sig .tc := ⟨.hbm, 51, rfl⟩
abbrev main_call0_v0 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_0 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_cst_2 : Ref sig .tc := ⟨.hbm, 65, rfl⟩
abbrev main_v56 : Ref sig .tc := ⟨.hbm, 66, rfl⟩
abbrev main_cst_3 : Ref sig .tc := ⟨.hbm, 67, rfl⟩
abbrev main_v57 : Ref sig .tc := ⟨.hbm, 68, rfl⟩
abbrev main_c : Ref sig .tc := ⟨.hbm, 69, rfl⟩
abbrev main_v58_0 : Ref sig .tc := ⟨.hbm, 70, rfl⟩
abbrev main_v58_1 : Ref sig .tc := ⟨.hbm, 71, rfl⟩
abbrev main_v58_2 : Ref sig .tc := ⟨.hbm, 72, rfl⟩
abbrev main_v58_3 : Ref sig .tc := ⟨.hbm, 73, rfl⟩
abbrev main_v58_4 : Ref sig .tc := ⟨.hbm, 74, rfl⟩
abbrev main_v58_5 : Ref sig .tc := ⟨.hbm, 75, rfl⟩
abbrev main_v58_6 : Ref sig .tc := ⟨.hbm, 76, rfl⟩
abbrev main_v58_7 : Ref sig .tc := ⟨.hbm, 77, rfl⟩
abbrev main_v58_8 : Ref sig .tc := ⟨.hbm, 78, rfl⟩
abbrev main_v58_9 : Ref sig .tc := ⟨.hbm, 79, rfl⟩
abbrev main_v58_10 : Ref sig .tc := ⟨.hbm, 80, rfl⟩
abbrev main_while0c_c_21 : Ref sig .tc := ⟨.hbm, 81, rfl⟩
abbrev main_while0c_v105 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_v0 : Ref sig .tc := ⟨.hbm, 86, rfl⟩
abbrev main_while0b_v105 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_v0 : Ref sig .tc := ⟨.hbm, 91, rfl⟩
abbrev main_while0b_v106 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_v0 : Ref sig .tc := ⟨.hbm, 96, rfl⟩
abbrev main_while0b_v107 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_v0 : Ref sig .tc := ⟨.hbm, 100, rfl⟩
abbrev main_while0b_v108 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_call5_v0 : Ref sig .tc := ⟨.hbm, 104, rfl⟩
abbrev main_while0b_v109 : Ref sig .tc := ⟨.hbm, 105, rfl⟩
abbrev main_while0b_v110 : Ref sig .tc := ⟨.hbm, 106, rfl⟩
abbrev main_while0b_v111 : Ref sig .tc := ⟨.hbm, 107, rfl⟩
abbrev main_while0b_v112 : Ref sig .tc := ⟨.hbm, 108, rfl⟩
abbrev main_while0b_v113 : Ref sig .tc := ⟨.hbm, 109, rfl⟩
abbrev main_while0b_v114 : Ref sig .tc := ⟨.hbm, 110, rfl⟩
abbrev main_while0b_v115 : Ref sig .tc := ⟨.hbm, 111, rfl⟩
abbrev main_while0b_v116 : Ref sig .tc := ⟨.hbm, 112, rfl⟩
abbrev main_while0b_v117 : Ref sig .tc := ⟨.hbm, 113, rfl⟩
abbrev main_while0b_cst_21 : Ref sig .tc := ⟨.hbm, 114, rfl⟩
abbrev main_while0b_call6_v0 : Ref sig .tc := ⟨.hbm, 115, rfl⟩
abbrev main_while0b_call6_v1 : Ref sig .tc := ⟨.hbm, 116, rfl⟩
abbrev main_while0b_call6_v2 : Ref sig .tc := ⟨.hbm, 117, rfl⟩
abbrev main_while0b_v118 : Ref sig .tc := ⟨.hbm, 118, rfl⟩
abbrev main_while0b_v119 : Ref sig .tc := ⟨.hbm, 119, rfl⟩
abbrev main_while0b_v120 : Ref sig .tc := ⟨.hbm, 120, rfl⟩
abbrev main_while0b_v121 : Ref sig .tc := ⟨.hbm, 121, rfl⟩
abbrev main_while0b_cst_22 : Ref sig .tc := ⟨.hbm, 122, rfl⟩
abbrev main_while0b_v122 : Ref sig .tc := ⟨.hbm, 123, rfl⟩
abbrev main_while0b_v123 : Ref sig .tc := ⟨.hbm, 124, rfl⟩
abbrev main_while0b_v124 : Ref sig .tc := ⟨.hbm, 125, rfl⟩
abbrev main_while0b_v125 : Ref sig .tc := ⟨.hbm, 126, rfl⟩
abbrev main_while0b_v126 : Ref sig .tc := ⟨.hbm, 127, rfl⟩
abbrev main_while0b_v127 : Ref sig .tc := ⟨.hbm, 128, rfl⟩
abbrev main_while0b_v128 : Ref sig .tc := ⟨.hbm, 129, rfl⟩
abbrev main_while0b_v129 : Ref sig .tc := ⟨.hbm, 130, rfl⟩
abbrev main_while0b_v130 : Ref sig .tc := ⟨.hbm, 131, rfl⟩
abbrev main_while0b_v131 : Ref sig .tc := ⟨.hbm, 132, rfl⟩
abbrev main_while0b_v132 : Ref sig .tc := ⟨.hbm, 133, rfl⟩
abbrev main_while0b_v133 : Ref sig .tc := ⟨.hbm, 134, rfl⟩
abbrev main_while0b_v134 : Ref sig .tc := ⟨.hbm, 135, rfl⟩
abbrev main_while0b_v135 : Ref sig .tc := ⟨.hbm, 136, rfl⟩
abbrev main_while0b_v136 : Ref sig .tc := ⟨.hbm, 137, rfl⟩
abbrev main_while0b_v137 : Ref sig .tc := ⟨.hbm, 138, rfl⟩
abbrev main_while0b_cst_23 : Ref sig .tc := ⟨.hbm, 139, rfl⟩
abbrev main_while0b_v138 : Ref sig .tc := ⟨.hbm, 140, rfl⟩
abbrev main_while0b_v139 : Ref sig .tc := ⟨.hbm, 141, rfl⟩
abbrev main_while0b_v140 : Ref sig .tc := ⟨.hbm, 142, rfl⟩
abbrev main_while0b_v141 : Ref sig .tc := ⟨.hbm, 143, rfl⟩
abbrev main_while0b_v142 : Ref sig .tc := ⟨.hbm, 144, rfl⟩
abbrev main_while0b_v143 : Ref sig .tc := ⟨.hbm, 145, rfl⟩
abbrev main_while0b_v144 : Ref sig .tc := ⟨.hbm, 146, rfl⟩
abbrev main_while0b_v145 : Ref sig .tc := ⟨.hbm, 147, rfl⟩
abbrev main_while0b_v146 : Ref sig .tc := ⟨.hbm, 148, rfl⟩
abbrev main_while0b_v147 : Ref sig .tc := ⟨.hbm, 149, rfl⟩
abbrev main_while0b_v148 : Ref sig .tc := ⟨.hbm, 150, rfl⟩
abbrev main_while0b_v149 : Ref sig .tc := ⟨.hbm, 151, rfl⟩
abbrev main_while0b_v150 : Ref sig .tc := ⟨.hbm, 152, rfl⟩
abbrev main_while0b_v151 : Ref sig .tc := ⟨.hbm, 153, rfl⟩
abbrev main_while0b_v152 : Ref sig .tc := ⟨.hbm, 154, rfl⟩
abbrev main_while0b_v153 : Ref sig .tc := ⟨.hbm, 155, rfl⟩
abbrev main_while0b_v154 : Ref sig .tc := ⟨.hbm, 156, rfl⟩
abbrev main_while0b_v155 : Ref sig .tc := ⟨.hbm, 157, rfl⟩
abbrev main_while0b_cst_24 : Ref sig .tc := ⟨.hbm, 158, rfl⟩
abbrev main_while0b_v156 : Ref sig .tc := ⟨.hbm, 159, rfl⟩
abbrev main_while0b_v157 : Ref sig .tc := ⟨.hbm, 160, rfl⟩
abbrev main_while0b_v158 : Ref sig .tc := ⟨.hbm, 161, rfl⟩
abbrev main_while0b_v159 : Ref sig .tc := ⟨.hbm, 162, rfl⟩
abbrev main_while0b_v160 : Ref sig .tc := ⟨.hbm, 163, rfl⟩
abbrev main_while0b_v161 : Ref sig .tc := ⟨.hbm, 164, rfl⟩
abbrev main_while0b_v162 : Ref sig .tc := ⟨.hbm, 165, rfl⟩
abbrev main_while0b_v163 : Ref sig .tc := ⟨.hbm, 166, rfl⟩
abbrev main_while0b_v164 : Ref sig .tc := ⟨.hbm, 167, rfl⟩
abbrev main_while0b_v165 : Ref sig .tc := ⟨.hbm, 168, rfl⟩
abbrev main_while0b_v166 : Ref sig .tc := ⟨.hbm, 169, rfl⟩
abbrev main_while0b_v167 : Ref sig .tc := ⟨.hbm, 170, rfl⟩
abbrev main_while0b_v168 : Ref sig .tc := ⟨.hbm, 171, rfl⟩
abbrev main_while0b_v169 : Ref sig .tc := ⟨.hbm, 172, rfl⟩
abbrev main_while0b_v170 : Ref sig .tc := ⟨.hbm, 173, rfl⟩
abbrev main_while0b_v171 : Ref sig .tc := ⟨.hbm, 174, rfl⟩
abbrev main_while0b_v172 : Ref sig .tc := ⟨.hbm, 175, rfl⟩
abbrev main_while0b_v173 : Ref sig .tc := ⟨.hbm, 176, rfl⟩
abbrev main_while0b_v174 : Ref sig .tc := ⟨.hbm, 177, rfl⟩
abbrev main_while0b_v175 : Ref sig .tc := ⟨.hbm, 178, rfl⟩
abbrev main_while0b_v176 : Ref sig .tc := ⟨.hbm, 179, rfl⟩
abbrev main_while0b_v177 : Ref sig .tc := ⟨.hbm, 180, rfl⟩
abbrev main_while0b_call7_v0 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_call7_c_1 : Ref sig .tc := ⟨.hbm, 184, rfl⟩
abbrev main_while0b_v178 : Ref sig .tc := ⟨.hbm, 185, rfl⟩
abbrev main_while0b_c_25 : Ref sig .tc := ⟨.hbm, 186, rfl⟩
abbrev main_while0b_v179 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_v67 : Ref sig .tc := ⟨.hbm, 196, rfl⟩
abbrev main_v68 : Ref sig .tc := ⟨.hbm, 197, rfl⟩
abbrev main_v69 : Ref sig .tc := ⟨.hbm, 198, rfl⟩
abbrev main_v70 : Ref sig .tc := ⟨.hbm, 199, rfl⟩
abbrev main_cst_4 : Ref sig .tc := ⟨.hbm, 200, rfl⟩
abbrev main_v71 : Ref sig .tc := ⟨.hbm, 201, rfl⟩
abbrev main_v72 : Ref sig .tc := ⟨.hbm, 202, rfl⟩
abbrev main_cst_5 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_cst_6 : Ref sig .tc := ⟨.hbm, 209, rfl⟩
abbrev main_v78 : Ref sig .tc := ⟨.hbm, 210, rfl⟩
abbrev main_v79 : Ref sig .tc := ⟨.hbm, 211, rfl⟩
abbrev main_cst_7 : Ref sig .tc := ⟨.hbm, 212, rfl⟩
abbrev main_v80 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_cst_8 : Ref sig .tc := ⟨.hbm, 218, rfl⟩
abbrev main_v85 : Ref sig .tc := ⟨.hbm, 219, rfl⟩
abbrev main_v86 : Ref sig .tc := ⟨.hbm, 220, rfl⟩
abbrev main_cst_9 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_v90 : Ref sig .tc := ⟨.hbm, 225, rfl⟩
abbrev main_cst_10 : Ref sig .tc := ⟨.hbm, 226, rfl⟩
abbrev main_v91 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_call8_v0 : Ref sig .tc := ⟨.hbm, 237, rfl⟩
abbrev main_call8_v1 : Ref sig .tc := ⟨.hbm, 238, rfl⟩
abbrev main_call8_cst : Ref sig .tc := ⟨.hbm, 239, rfl⟩
abbrev main_call8_v2 : Ref sig .tc := ⟨.hbm, 240, rfl⟩
abbrev main_call8_v3 : Ref sig .tc := ⟨.hbm, 241, rfl⟩
abbrev main_call8_cst_0 : Ref sig .tc := ⟨.hbm, 242, rfl⟩
abbrev main_call8_v4 : Ref sig .tc := ⟨.hbm, 243, rfl⟩
abbrev main_call8_v5 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩

abbrev nD : Nat := 1
abbrev τ : Topo := Topo.v7x

variable {F : FTy → Type} [FloatOps F]

abbrev main_while0_count : Scf.Loop 32 := ⟨0#32, 128#32, 1#32⟩
-- ==== Proof.RetTrips.lean ====
module
public import proofs.«01_k».proof.Proof.Gen.RetRefIdeal.Run
public import proofs.«01_k».proof.Proof.Gen.RetRefIdeal.Step
/-! # The retention reference's run as a step iterated

The run's loop holds a state at every trip; each trip is one `step` of it, so the result is read off the
sixty-fourth state. -/
@[expose] public section
noncomputable section
namespace Cert.RetRefIdeal.Trips
open Idealize.ShloMosaic Idealize.ShloMosaic.TcCoe Idealize.SL.Sem Idealize.ShloMosaic.StableHlo
open Cert.RetRefIdeal Cert.RetRefIdeal.Gen Cert.RetRefIdeal.Value
open Cert.RetRefIdeal.Step (State step init)
variable {F : FTy → Type} [FloatOps F]
variable (V0 : Valuation τ sig (Elt F)) (s : State F) (j : ℕ)

/-- The valuation holds the state, the set-up values and the trip's number. -/
structure Holds : Prop where
  f_3 : V0 (Proc.devRef .tc main_v52_3) = s.main_v52_3
  f_4 : V0 (Proc.devRef .tc main_v52_4) = s.main_v52_4
  f_0 : V0 (Proc.devRef .tc main_v52_0) = s.main_v52_0
  n_2 : V0 (Proc.devRef .tc main_v52_2) = constantI S_ 32 (BitVec.ofNat 32 j)
  k_1 : V0 (Proc.devRef .tc main_v52_1) = Cert.RetRefIdeal.Step.K_main_v48 (F := F)

variable {V0 s j}

/-! One trip's step of the carried values is `step`, field by field; a counter steps to the next number. -/

theorem step_3 (h : Holds V0 s j) : step_main_v52_3 V0 = (step j s).main_v52_3 := by
  unfold step_main_v52_3 Cert.RetRefIdeal.Step.step
  dsimp only
  rw [h.k_1, h.f_3, h.f_0, h.n_2]
  rfl
theorem step_4 (h : Holds V0 s j) : step_main_v52_4 V0 = (step j s).main_v52_4 := by
  unfold step_main_v52_4 Cert.RetRefIdeal.Step.step
  dsimp only
  rw [h.f_3, h.f_4, h.n_2]
  rfl
theorem step_2 (h : Holds V0 s j) : step_main_v52_2 V0 = constantI S_ 32 (BitVec.ofNat 32 (j + 1)) := by
  unfold step_main_v52_2
  rw [h.n_2]
  funext i
  show BitVec.ofNat 32 j + 1#32 = BitVec.ofNat 32 (j + 1)
  simp only [BitVec.ofNat_add]

set_option maxRecDepth 8192 in
theorem out_main_v153_holds (h : Holds V0 s j) {x_main_arg0 : (⟨S16384x1024, .bf16⟩ : BufTy).Contents (Elt F)} (h_main_arg0 : V0 (Proc.devRef .tc main_arg0) = x_main_arg0) {x_main_arg1 : (⟨S256, .f32⟩ : BufTy).Contents (Elt F)} (h_main_arg1 : V0 (Proc.devRef .tc main_arg1) = x_main_arg1) : out_main_v153 V0 = Cert.RetRefIdeal.Step.R_main_v153 s x_main_arg0 x_main_arg1 := by
  unfold out_main_v153 Cert.RetRefIdeal.Step.R_main_v153
  rw [h.f_4, h_main_arg0, h_main_arg1]
  try rfl

/-- One trip keeps the valuation holding: `step` of the state, the same set-up values, the next number. -/
theorem holds_step (h : Holds V0 s j) : Holds (STEP V0) (step j s) (j + 1) where
  f_3 := (STEP_main_v52_3 V0).trans (step_3 h)
  f_4 := (STEP_main_v52_4 V0).trans (step_4 h)
  n_2 := (STEP_main_v52_2 V0).trans (step_2 h)
  k_1 := (STEP_main_v52_1 V0).trans h.k_1
  f_0 := (STEP_main_v52_0 V0).trans h.f_0

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `RetRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v153) = Cert.RetRefIdeal.Step.R_main_v153 (it c 64) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 64
    ⟨(h c).1.trans (out_main_v153_holds hk (iter_main_arg0 m c 64) (iter_main_arg1 m c 64)), (h c).2.1, (h c).2.2⟩) (Value.run m ρ)

end Cert.RetRefIdeal.Trips

end
-- ==== Proof.RetBody.lean ====
module
public import proofs.«01_k».proof.Proof.Gen.RetIdeal.Value
public import Idealize.ShloMosaic.Lib.Pipeline.ReadBack
public import Idealize.ShloMosaic.Lib.Pipeline.ValueKit.Tiles
public import Idealize.ShloMosaic.Lib.ValueIdx
public import Idealize.ShloMosaic.Lib.ValueLayout
public import Idealize.ShloMosaic.Lib.Tactic
/-! # What one grid point of the retention kernel computes

A grid point takes four chunks of 256 rows, and in each the two pairs of heads (128 lanes each). Here the
point's stores are written as one function of its blocks and of the carried state: a state that steps from
chunk to chunk (`stN`) and, per chunk and pair, the block that is stored (`outN`). -/
@[expose] public section
set_option maxRecDepth 16384
noncomputable section
open Idealize.ShloMosaic Idealize.ShloMosaic.TcCoe Idealize.ShloMosaic.ValueIdx Idealize.SL.Sem
open Idealize.ShloMosaic.Pipeline (Dat)
namespace Cert.RetIdeal.Body
open Cert.RetIdeal Cert.RetIdeal.Gen
variable {F : FTy → Type} [FloatOps F]

/-! ## The scores buffer: a load meets the one store of its slot -/

theorem scores_skip (v : View sig .tc .vmem S16x256x256 .f32) (i j : ℕ) (hi hj) (w) (L) (h : i ≠ j) :
    v.readCov (Val := Elt F) (⟨Rect.unit ![i, 0, 0] ![1, 256, 256] hi, w⟩ :: L) (Rect.unit ![j, 0, 0] ![1, 256, 256] hj).toLoadRect
      = v.readCov L (Rect.unit ![j, 0, 0] ![1, 256, 256] hj).toLoadRect := by
  rw [View.readCov_eq_canon', View.readCov_eq_canon']
  funext x
  refine View.canon_cons_of_not_mem _ L fun hm => h ?_
  have h0 := (Rect.mem_set_unit (s := S16x256x256) (off := ![i, 0, 0]) (size := ![1, 256, 256]) (inb := hi).mp hm) 0
  have hx : (((Rect.unit (s := S16x256x256) ![j, 0, 0] ![1, 256, 256] hj).toLoadRect.idx x) 0 : ℕ) = j + 1 * (x 0 : ℕ) := rfl
  have h1 : (x 0 : ℕ) < 1 := (x 0).isLt
  have h2 : i ≤ j + 1 * (x 0 : ℕ) ∧ j + 1 * (x 0 : ℕ) < i + 1 := hx ▸ h0
  omega

theorem scores_hit (v : View sig .tc .vmem S16x256x256 .f32) (j : ℕ) (hi hj) (w) (L) :
    v.readCov (Val := Elt F) (⟨Rect.unit ![j, 0, 0] ![1, 256, 256] hi, w⟩ :: L) (Rect.unit ![j, 0, 0] ![1, 256, 256] hj).toLoadRect
      = w :=
  View.readCov_cons_toLoadRect v _ w L

/-! ## One chunk -/

/-- The head a row of the carried state belongs to, as the kernel computes it. -/
def headRow : IVec S128x128 32 := k0_pay8 (iota .tc S128x128 32 [0] iota_S128x128_d0_w32) 64#32 k0_pay5 k0_pay6 k0_pay7

/-- One chunk of one pair of heads before the normalisation: the state read through the queries and
    scaled, plus each head's decayed scores applied to the values. -/
def mix (st : FVec F S128x128 .f32) (q k v : Vec F S256x128 .bf16) (xi : Vec F S256x128 .f32) (d0 d1 : Vec F S1x256x256 .f32) :
    FVec F S256x128 .f32 :=
  k0_pay31 k0_pay4 v (k0_pay39 st q xi) (k0_pay11 (k0_pay10 k0_pay4 q k)) d0 (k0_pay12 k0_pay4 q k) d1

/-- The state after a chunk: the old one decayed, plus the chunk's keys against its values inside each head. -/
def next (st : FVec F S128x128 .f32) (k v : Vec F S256x128 .bf16) (zeta : Vec F S256x128 .f32) (cd : Vec F S1x128x128 .f32) :
    FVec F S128x128 .f32 :=
  k0_pay32 headRow k0_pay9 st k v zeta cd

/-- What a chunk stores: its mix normalised head by head, scaled, and gated. -/
def emit (y : FVec F S256x128 .f32) (g : Vec F S256x128 .bf16) (w : Vec F S1x128 .f32) : FVec F S256x128 .bf16 :=
  k0_pay38 g (k0_pay34 k0_pay4 y k0_pay33) (k0_pay35 k0_pay4 y k0_pay33) (k0_pay36 k0_pay4) (k0_pay37 k0_pay4 y k0_pay33)
    (Scalar.ofBits .f32 0x3C800000#32) w

/-! ## The blocks a chunk reads -/

/-- Rows of chunk `c`, lanes from `l`. -/
def blk (x : Vec F S1024x1024 .bf16) (c l : ℕ) : Vec F S256x128 .bf16 :=
  fun i => x (ix2 (Fin.ofNat 1024 (256 * c + (i 0).val)) (Fin.ofNat 1024 (l + (i 1).val)))
/-- Lanes from `l`. -/
def lanesOf (x : Vec F S256x256 .f32) (l : ℕ) : Vec F S256x128 .f32 := fun i => x (ix2 (i 0) (Fin.ofNat 256 (l + (i 1).val)))
/-- One head's decays. -/
def slab (x : Vec F S4x256x256 .f32) (n : ℕ) : Vec F S1x256x256 .f32 := fun i => x (ix3 (Fin.ofNat 4 n) (i 1) (i 2))
/-- One pair's square. -/
def cell (x : Vec F S2x128x128 .f32) (t : ℕ) : Vec F S1x128x128 .f32 := fun i => x (ix3 (Fin.ofNat 2 t) (i 1) (i 2))
/-- One pair's weights. -/
def part (x : Vec F S1x256 .f32) (l : ℕ) : Vec F S1x128 .f32 := fun i => x (ix2 0 (Fin.ofNat 256 (l + (i 1).val)))

theorem ld_blk (x : Vec F S1024x1024 .bf16) (r c l : ℕ) (h) (hr : r = 256 * c) :
    View.ld x (Rect.unit ![r, l] ![256, 128] h) = blk x c l := by
  subst hr
  funext i
  refine View.ld_unit_apply_of x _ _ h i _ fun a => ?_
  have h0 : 256 * c + 256 ≤ 1024 := h 0
  have h1 : l + 128 ≤ 1024 := h 1
  have i0 : (i 0 : ℕ) < 256 := (i 0).isLt
  have i1 : (i 1 : ℕ) < 128 := (i 1).isLt
  match a with
  | 0 => exact Nat.mod_eq_of_lt (by omega)
  | 1 => exact Nat.mod_eq_of_lt (by omega)

theorem ld_lanesOf (x : Vec F S256x256 .f32) (l : ℕ) (h) :
    View.ld x (Rect.unit ![0, l] ![256, 128] h) = lanesOf x l := by
  funext i
  refine View.ld_unit_apply_of x _ _ h i _ fun a => ?_
  have h1 : l + 128 ≤ 256 := h 1
  have i1 : (i 1 : ℕ) < 128 := (i 1).isLt
  match a with
  | 0 => exact (Nat.zero_add _).symm
  | 1 => exact Nat.mod_eq_of_lt (by omega)

theorem ld_slab (x : Vec F S4x256x256 .f32) (n : ℕ) (h) :
    View.ld x (Rect.unit ![n, 0, 0] ![1, 256, 256] h) = slab x n := by
  funext i
  refine View.ld_unit_apply_of x _ _ h i _ fun a => ?_
  have h0 : n + 1 ≤ 4 := h 0
  have i0 : (i 0).val < 1 := (i 0).isLt
  match a with
  | 0 => exact (Nat.mod_eq_of_lt (show n < 4 by omega)).trans (show n = n + (i 0).val by omega)
  | 1 => exact (Nat.zero_add _).symm
  | 2 => exact (Nat.zero_add _).symm

theorem ld_cell (x : Vec F S2x128x128 .f32) (t : ℕ) (h) :
    View.ld x (Rect.unit ![t, 0, 0] ![1, 128, 128] h) = cell x t := by
  funext i
  refine View.ld_unit_apply_of x _ _ h i _ fun a => ?_
  have h0 : t + 1 ≤ 2 := h 0
  have i0 : (i 0 : ℕ) < 1 := (i 0).isLt
  match a with
  | 0 => exact (Nat.mod_eq_of_lt (show t < 2 by omega)).trans (show t = t + (i 0).val by omega)
  | 1 => exact (Nat.zero_add _).symm
  | 2 => exact (Nat.zero_add _).symm

theorem ld_part (x : Vec F S1x256 .f32) (l : ℕ) (h) :
    View.ld x (Rect.unit ![0, l] ![1, 128] h) = part x l := by
  funext i
  refine View.ld_unit_apply_of x _ _ h i _ fun a => ?_
  have h1 : l + 128 ≤ 256 := h 1
  have i0 : (i 0 : ℕ) < 1 := (i 0).isLt
  have i1 : (i 1 : ℕ) < 128 := (i 1).isLt
  match a with
  | 0 => exact show 0 = 0 + (i 0).val by omega
  | 1 => exact Nat.mod_eq_of_lt (by omega)

attribute [local irreducible] blk lanesOf slab cell part

/-! ## The point -/

/-- The carried state of pair `t` after `c` of the point's chunks. -/
def stN (x0 : Vec F S1024x1024 .bf16) (x2 : Vec F S256x256 .f32) (x4 xs : Vec F S2x128x128 .f32) (t : ℕ) : ℕ → FVec F S128x128 .f32
  | 0 => k0_pay29 (cell xs t)
  | c + 1 => next (stN x0 x2 x4 xs t c) (blk x0 c (256 + 128 * t)) (blk x0 c (512 + 128 * t)) (lanesOf x2 (128 * t)) (cell x4 t)

/-- What is stored for pair `t` of chunk `c`. -/
def outN (x0 : Vec F S1024x1024 .bf16) (x1 : Vec F S4x256x256 .f32) (x2 x3 : Vec F S256x256 .f32) (x4 : Vec F S2x128x128 .f32)
    (x5 : Vec F S1x256 .f32) (xs : Vec F S2x128x128 .f32) (t c : ℕ) : FVec F S256x128 .bf16 :=
  emit (mix (stN x0 x2 x4 xs t c) (blk x0 c (128 * t)) (blk x0 c (256 + 128 * t)) (blk x0 c (512 + 128 * t)) (lanesOf x3 (128 * t))
      (slab x1 (2 * t)) (slab x1 (2 * t + 1)))
    (blk x0 c (768 + 128 * t)) (part x5 (128 * t))

/-- The output block of a point. -/
def outB (x0 : Vec F S1024x1024 .bf16) (x1 : Vec F S4x256x256 .f32) (x2 x3 : Vec F S256x256 .f32) (x4 : Vec F S2x128x128 .f32)
    (x5 : Vec F S1x256 .f32) (xs : Vec F S2x128x128 .f32) : Vec F S1024x256 .bf16 :=
  fun y => outN x0 x1 x2 x3 x4 x5 xs ((y 1).val / 128) ((y 0).val / 256) (ix2 (Fin.ofNat 256 (y 0).val) (Fin.ofNat 128 (y 1).val))

/-- The state a point leaves. -/
def stB (x0 : Vec F S1024x1024 .bf16) (x2 : Vec F S256x256 .f32) (x4 xs : Vec F S2x128x128 .f32) : Vec F S2x128x128 .f32 :=
  fun y => stN x0 x2 x4 xs (y 0).val 4 (ix2 (y 1) (y 2))

/-- The stores a point makes into its output block, last first. -/
def outL (x0 : Vec F S1024x1024 .bf16) (x1 : Vec F S4x256x256 .f32) (x2 x3 : Vec F S256x256 .f32) (x4 : Vec F S2x128x128 .f32)
    (x5 : Vec F S1x256 .f32) (xs : Vec F S2x128x128 .f32) : List (View.Piece (Elt F) S1024x256 .bf16) := [
    ⟨Rect.unit ![768, 128] ![256, 128] inb_S1024x256_S256x128_768_128, outN x0 x1 x2 x3 x4 x5 xs 1 3⟩,
    ⟨Rect.unit ![512, 128] ![256, 128] inb_S1024x256_S256x128_512_128, outN x0 x1 x2 x3 x4 x5 xs 1 2⟩,
    ⟨Rect.unit ![256, 128] ![256, 128] inb_S1024x256_S256x128_256_128, outN x0 x1 x2 x3 x4 x5 xs 1 1⟩,
    ⟨Rect.unit ![0, 128] ![256, 128] inb_S1024x256_S256x128_0_128, outN x0 x1 x2 x3 x4 x5 xs 1 0⟩,
    ⟨Rect.unit ![768, 0] ![256, 128] inb_S1024x256_S256x128_768_0, outN x0 x1 x2 x3 x4 x5 xs 0 3⟩,
    ⟨Rect.unit ![512, 0] ![256, 128] inb_S1024x256_S256x128_512_0, outN x0 x1 x2 x3 x4 x5 xs 0 2⟩,
    ⟨Rect.unit ![256, 0] ![256, 128] inb_S1024x256_S256x128_256_0, outN x0 x1 x2 x3 x4 x5 xs 0 1⟩,
    ⟨Rect.unit ![0, 0] ![256, 128] inb_S1024x256_S256x128_0_0, outN x0 x1 x2 x3 x4 x5 xs 0 0⟩]

/-- The stores a point makes into the carried state, last first. -/
def stL (x0 : Vec F S1024x1024 .bf16) (x2 : Vec F S256x256 .f32) (x4 xs : Vec F S2x128x128 .f32) :
    List (View.Piece (Elt F) S2x128x128 .f32) := [
    ⟨Rect.unit ![1, 0, 0] ![1, 128, 128] inb_S2x128x128_S1x128x128_1_0_0, k0_pay2 (stN x0 x2 x4 xs 1 4)⟩,
    ⟨Rect.unit ![0, 0, 0] ![1, 128, 128] inb_S2x128x128_S1x128x128_0_0_0, k0_pay2 (stN x0 x2 x4 xs 0 4)⟩]

theorem out_piece (x0 : Vec F S1024x1024 .bf16) (x1 : Vec F S4x256x256 .f32) (x2 x3 : Vec F S256x256 .f32) (x4 : Vec F S2x128x128 .f32)
    (x5 : Vec F S1x256 .f32) (xs : Vec F S2x128x128 .f32) (r l t c : ℕ) (h) (hr : r = 256 * c) (hl : l = 128 * t) :
    ∀ x : S256x128.Idx, outN x0 x1 x2 x3 x4 x5 xs t c x
      = outB x0 x1 x2 x3 x4 x5 xs ((Rect.unit (s := S1024x256) ![r, l] ![256, 128] h).emb x) := by
  subst hr hl
  intro x
  have e0 : (((Rect.unit (s := S1024x256) ![256 * c, 128 * t] ![256, 128] h).emb x) 0 : ℕ) = 256 * c + 1 * (x 0).val := rfl
  have e1 : (((Rect.unit (s := S1024x256) ![256 * c, 128 * t] ![256, 128] h).emb x) 1 : ℕ) = 128 * t + 1 * (x 1).val := rfl
  have i0 : (x 0).val < 256 := (x 0).isLt
  have i1 : (x 1).val < 128 := (x 1).isLt
  unfold outB
  rw [e0, e1]
  have ec : (256 * c + 1 * (x 0).val) / 256 = c := by omega
  have et : (128 * t + 1 * (x 1).val) / 128 = t := by omega
  have e2 : x = ix2 (Fin.ofNat 256 (256 * c + 1 * (x 0).val)) (Fin.ofNat 128 (128 * t + 1 * (x 1).val)) := by
    funext a
    match a with
    | 0 => exact Fin.ext (show (x 0).val = (256 * c + 1 * (x 0).val) % 256 by omega)
    | 1 => exact Fin.ext (show (x 1).val = (128 * t + 1 * (x 1).val) % 128 by omega)
  rw [ec, et]
  exact congrArg _ e2

theorem st_piece (x0 : Vec F S1024x1024 .bf16) (x2 : Vec F S256x256 .f32) (x4 xs : Vec F S2x128x128 .f32) (t : ℕ) (h) :
    ∀ x : S1x128x128.Idx, k0_pay2 (stN x0 x2 x4 xs t 4) x
      = stB x0 x2 x4 xs ((Rect.unit (s := S2x128x128) ![t, 0, 0] ![1, 128, 128] h).emb x) := by
  intro x
  have i0 : (x 0).val < 1 := (x 0).isLt
  have e0 : (((Rect.unit (s := S2x128x128) ![t, 0, 0] ![1, 128, 128] h).emb x) 0 : ℕ) = t := by
    show t + 1 * (x 0).val = t
    omega
  unfold stB
  rw [e0]
  unfold k0_pay2
  rw [eq_ix3 x]
  refine (shapeCast_ab_1ab_apply _ _ _ _ _).trans ?_
  refine congrArg _ ?_
  funext a
  match a with
  | 0 => exact Fin.ext (show (x 1).val = 0 + 1 * (x 1).val by omega)
  | 1 => exact Fin.ext (show (x 2).val = 0 + 1 * (x 2).val by omega)

theorem outL_eq (x0 : Vec F S1024x1024 .bf16) (x1 : Vec F S4x256x256 .f32) (x2 x3 : Vec F S256x256 .f32) (x4 : Vec F S2x128x128 .f32)
    (x5 : Vec F S1x256 .f32) (xs : Vec F S2x128x128 .f32) :
    View.canon (outL x0 x1 x2 x3 x4 x5 xs) = outB x0 x1 x2 x3 x4 x5 xs := by
  funext y
  refine View.canon_append_of_piecesOf _ [] _ ?_ y (View.cover_of_tiled (outL x0 x1 x2 x3 x4 x5 xs) S256x128.size rfl y)
  exact ⟨out_piece x0 x1 x2 x3 x4 x5 xs _ _ 1 3 inb_S1024x256_S256x128_768_128 rfl rfl,
    out_piece x0 x1 x2 x3 x4 x5 xs _ _ 1 2 inb_S1024x256_S256x128_512_128 rfl rfl,
    out_piece x0 x1 x2 x3 x4 x5 xs _ _ 1 1 inb_S1024x256_S256x128_256_128 rfl rfl,
    out_piece x0 x1 x2 x3 x4 x5 xs _ _ 1 0 inb_S1024x256_S256x128_0_128 rfl rfl,
    out_piece x0 x1 x2 x3 x4 x5 xs _ _ 0 3 inb_S1024x256_S256x128_768_0 rfl rfl,
    out_piece x0 x1 x2 x3 x4 x5 xs _ _ 0 2 inb_S1024x256_S256x128_512_0 rfl rfl,
    out_piece x0 x1 x2 x3 x4 x5 xs _ _ 0 1 inb_S1024x256_S256x128_256_0 rfl rfl,
    out_piece x0 x1 x2 x3 x4 x5 xs _ _ 0 0 inb_S1024x256_S256x128_0_0 rfl rfl, trivial⟩

theorem stL_eq (x0 : Vec F S1024x1024 .bf16) (x2 : Vec F S256x256 .f32) (x4 xs : Vec F S2x128x128 .f32)
    (L : List (View.Piece (Elt F) S2x128x128 .f32)) :
    View.canon (stL x0 x2 x4 xs ++ L) = stB x0 x2 x4 xs := by
  funext y
  refine View.canon_append_of_piecesOf _ L _ ?_ y (View.cover_of_tiled (stL x0 x2 x4 xs) S1x128x128.size rfl y)
  exact ⟨st_piece x0 x2 x4 xs 1 inb_S2x128x128_S1x128x128_1_0_0, st_piece x0 x2 x4 xs 0 inb_S2x128x128_S1x128x128_0_0_0, trivial⟩

/-- A load of one pair of the state passes over a store of the other. -/
theorem state_skip (v : View sig .tc .vmem S2x128x128 .f32) (h h') (w) (L) :
    v.readCov (Val := Elt F) (⟨Rect.unit ![0, 0, 0] ![1, 128, 128] h, w⟩ :: L) (Rect.unit ![1, 0, 0] ![1, 128, 128] h').toLoadRect
      = v.readCov L (Rect.unit ![1, 0, 0] ![1, 128, 128] h').toLoadRect := by
  rw [View.readCov_eq_canon', View.readCov_eq_canon']
  funext x
  refine View.canon_cons_of_not_mem _ L fun hm => ?_
  have h0 := (Rect.mem_set_unit (s := S2x128x128) (off := ![0, 0, 0]) (size := ![1, 128, 128]) (inb := h).mp hm) 0
  have hx : (((Rect.unit (s := S2x128x128) ![1, 0, 0] ![1, 128, 128] h').toLoadRect.idx x) 0 : ℕ) = 1 + 1 * (x 0 : ℕ) := rfl
  have h2 : 0 ≤ 1 + 1 * (x 0 : ℕ) ∧ 1 + 1 * (x 0 : ℕ) < 0 + 1 := hx ▸ h0
  omega

/-- A load of one pair of the state right after the state was filled. -/
theorem fill_read (v : View sig .tc .vmem S2x128x128 .f32) (t : ℕ) (h h') (Z : Vec F S2x128x128 .f32) :
    v.readCov (Val := Elt F) [⟨Rect.unit ![0, 0, 0] ![2, 128, 128] h, Z⟩] (Rect.unit ![t, 0, 0] ![1, 128, 128] h').toLoadRect
      = cell Z t := by
  refine (View.readCov_fill v h Z [] _ fun a => ?_).trans (ld_cell Z t h')
  match a with
  | 0 => rfl
  | 1 => rfl
  | 2 => rfl

set_option maxHeartbeats 2000000 in
theorem out_B (c : Dev nD) (i : grid0.Coords) (arg1 : Memref sig .tc .vmem S1024x1024 .bf16) (harg1 : arg1.IsWhole) (arg2 : Memref sig .tc .vmem S4x256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x128x128 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S2x128x128 .f32) (harg8 : arg8.IsWhole) (arg9 : Memref sig .tc .vmem S16x256x256 .f32) (harg9 : arg9.IsWhole) (hc0 : ¬cond0_0 i)
    (x0 : Vec F S1024x1024 .bf16) (x1 : Vec F S4x256x256 .f32) (x2 : Vec F S256x256 .f32) (x3 : Vec F S256x256 .f32) (x4 : Vec F S2x128x128 .f32) (x5 : Vec F S1x256 .f32) (xs0 : Vec F S2x128x128 .f32) :
    out0_B_6 c i arg1 harg1 arg2 harg2 arg3 harg3 arg4 harg4 arg5 harg5 arg6 harg6 arg7 harg7 arg8 harg8 arg9 harg9 hc0 x0 x1 x2 x3 x4 x5 xs0 = outB x0 x1 x2 x3 x4 x5 xs0 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0), ← outL_eq]
  simp only [outL, outN, stN, Nat.mul_one, Nat.mul_zero, Nat.zero_add, Nat.add_zero, Nat.reduceAdd, Nat.reduceMul]
  unfold kernelRun0_B
  dsimp only
  sl_unfold_words
  simp only [View.readAt_eq_ld, harg1.read_unread, harg2.read_unread, harg3.read_unread, harg4.read_unread, harg5.read_unread, harg6.read_unread, harg8.read_unread, shapeCast_self, ld_lanesOf, ld_slab, ld_cell, ld_part]
  simp only [scores_hit, scores_skip, ne_eq, Nat.reduceEqDiff, not_false_eq_true, OfNat.ofNat_ne_zero, OfNat.zero_ne_ofNat, OfNat.ofNat_ne_one, OfNat.one_ne_ofNat, one_ne_zero, zero_ne_one]
  simp only [ld_blk x0 0 0 _ _ rfl, ld_blk x0 256 1 _ _ rfl, ld_blk x0 512 2 _ _ rfl, ld_blk x0 768 3 _ _ rfl]
  rfl

set_option maxHeartbeats 2000000 in
theorem sout_B (c : Dev nD) (i : grid0.Coords) (arg1 : Memref sig .tc .vmem S1024x1024 .bf16) (harg1 : arg1.IsWhole) (arg2 : Memref sig .tc .vmem S4x256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x128x128 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S2x128x128 .f32) (harg8 : arg8.IsWhole) (arg9 : Memref sig .tc .vmem S16x256x256 .f32) (harg9 : arg9.IsWhole) (hc0 : ¬cond0_0 i)
    (x0 : Vec F S1024x1024 .bf16) (x1 : Vec F S4x256x256 .f32) (x2 : Vec F S256x256 .f32) (x3 : Vec F S256x256 .f32) (x4 : Vec F S2x128x128 .f32) (x5 : Vec F S1x256 .f32) (xs0 : Vec F S2x128x128 .f32) :
    sout0_B_0 c i arg1 harg1 arg2 harg2 arg3 harg3 arg4 harg4 arg5 harg5 arg6 harg6 arg7 harg7 arg8 harg8 arg9 harg9 hc0 x0 x1 x2 x3 x4 x5 xs0 = stB x0 x2 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 xs0), ← stL_eq x0 x2 x4 xs0 []]
  simp only [stL, stN, List.cons_append, List.nil_append, Nat.mul_one, Nat.mul_zero, Nat.zero_add, Nat.add_zero, Nat.reduceAdd, Nat.reduceMul]
  unfold kernelRun0_B
  dsimp only
  sl_unfold_words
  simp only [View.readAt_eq_ld, harg1.read_unread, harg2.read_unread, harg3.read_unread, harg4.read_unread, harg5.read_unread, harg6.read_unread, harg8.read_unread, shapeCast_self, ld_lanesOf, ld_slab, ld_cell, ld_part]
  simp only [ld_blk x0 0 0 _ _ rfl, ld_blk x0 256 1 _ _ rfl, ld_blk x0 512 2 _ _ rfl, ld_blk x0 768 3 _ _ rfl]
  rfl

set_option maxHeartbeats 2000000 in
theorem out_A (c : Dev nD) (i : grid0.Coords) (arg1 : Memref sig .tc .vmem S1024x1024 .bf16) (harg1 : arg1.IsWhole) (arg2 : Memref sig .tc .vmem S4x256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x128x128 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S2x128x128 .f32) (harg8 : arg8.IsWhole) (arg9 : Memref sig .tc .vmem S16x256x256 .f32) (harg9 : arg9.IsWhole) (hc0 : cond0_0 i)
    (x0 : Vec F S1024x1024 .bf16) (x1 : Vec F S4x256x256 .f32) (x2 : Vec F S256x256 .f32) (x3 : Vec F S256x256 .f32) (x4 : Vec F S2x128x128 .f32) (x5 : Vec F S1x256 .f32) :
    out0_A_6 c i arg1 harg1 arg2 harg2 arg3 harg3 arg4 harg4 arg5 harg5 arg6 harg6 arg7 harg7 arg8 harg8 arg9 harg9 hc0 x0 x1 x2 x3 x4 x5 = outB x0 x1 x2 x3 x4 x5 k0_pay3 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5), ← outL_eq]
  simp only [outL, outN, stN, Nat.mul_one, Nat.mul_zero, Nat.zero_add, Nat.add_zero, Nat.reduceAdd, Nat.reduceMul]
  unfold kernelRun0_A
  dsimp only
  sl_unfold_words
  simp only [View.readAt_eq_ld, harg1.read_unread, harg2.read_unread, harg3.read_unread, harg4.read_unread, harg5.read_unread, harg6.read_unread, shapeCast_self, ld_lanesOf, ld_slab, ld_cell, ld_part, state_skip, fill_read]
  simp only [scores_hit, scores_skip, ne_eq, Nat.reduceEqDiff, not_false_eq_true, OfNat.ofNat_ne_zero, OfNat.zero_ne_ofNat, OfNat.ofNat_ne_one, OfNat.one_ne_ofNat, one_ne_zero, zero_ne_one]
  simp only [ld_blk x0 0 0 _ _ rfl, ld_blk x0 256 1 _ _ rfl, ld_blk x0 512 2 _ _ rfl, ld_blk x0 768 3 _ _ rfl]
  rfl

set_option maxHeartbeats 2000000 in
theorem sout_A (c : Dev nD) (i : grid0.Coords) (arg1 : Memref sig .tc .vmem S1024x1024 .bf16) (harg1 : arg1.IsWhole) (arg2 : Memref sig .tc .vmem S4x256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S2x128x128 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S2x128x128 .f32) (harg8 : arg8.IsWhole) (arg9 : Memref sig .tc .vmem S16x256x256 .f32) (harg9 : arg9.IsWhole) (hc0 : cond0_0 i)
    (x0 : Vec F S1024x1024 .bf16) (x1 : Vec F S4x256x256 .f32) (x2 : Vec F S256x256 .f32) (x3 : Vec F S256x256 .f32) (x4 : Vec F S2x128x128 .f32) (x5 : Vec F S1x256 .f32) :
    sout0_A_0 c i arg1 harg1 arg2 harg2 arg3 harg3 arg4 harg4 arg5 harg5 arg6 harg6 arg7 harg7 arg8 harg8 arg9 harg9 hc0 x0 x1 x2 x3 x4 x5 = stB x0 x2 x4 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5), ← stL_eq x0 x2 x4 k0_pay3 [⟨Rect.unit ![0, 0, 0] ![2, 128, 128] inb_S2x128x128_S2x128x128_0_0_0, k0_pay3⟩]]
  simp only [stL, stN, List.cons_append, List.nil_append, Nat.mul_one, Nat.mul_zero, Nat.zero_add, Nat.add_zero, Nat.reduceAdd, Nat.reduceMul]
  unfold kernelRun0_A
  dsimp only
  sl_unfold_words
  simp only [View.readAt_eq_ld, harg1.read_unread, harg2.read_unread, harg3.read_unread, harg4.read_unread, harg5.read_unread, harg6.read_unread, shapeCast_self, ld_lanesOf, ld_slab, ld_cell, ld_part, state_skip, fill_read]
  simp only [ld_blk x0 0 0 _ _ rfl, ld_blk x0 256 1 _ _ rfl, ld_blk x0 512 2 _ _ rfl, ld_blk x0 768 3 _ _ rfl]
  rfl

end Cert.RetIdeal.Body
-- ==== Proof.RetPoint.lean ====
module
public import proofs.«01_k».proof.Proof.RetBody
public import Idealize.ShloMosaic.Lib.Pointwise
/-! # One chunk of the retention kernel, read at an index

Over the reals: the chunk's mix, the next state and the stored block, entry by entry. -/
@[expose] public section
set_option maxRecDepth 16384
noncomputable section
open Idealize.ShloMosaic Idealize.ShloMosaic.TcCoe Idealize.SL.Sem
namespace Cert.RetIdeal.Point
open Cert.RetIdeal Cert.RetIdeal.Gen Cert.RetIdeal.Body

theorem laneHead (r : Fin 256) (l : Fin 128) : k0_pay4 (ix2 r l) = BitVec.ofNat 32 (l.val / 64) := by
  have h : ∀ l : Fin 128, k0_pay4 (ix2 0 l) = BitVec.ofNat 32 (l.val / 64) := by decide +kernel
  exact h l

theorem rowHead (a b : Fin 128) : headRow (ix2 a b) = BitVec.ofNat 32 (a.val / 64) := by
  have h : ∀ l : Fin 128, headRow (ix2 l 0) = BitVec.ofNat 32 (l.val / 64) := by decide +kernel
  exact h a

theorem colHead (a b : Fin 128) : k0_pay9 (ix2 a b) = BitVec.ofNat 32 (b.val / 64) := by
  have h : ∀ l : Fin 128, k0_pay9 (ix2 0 l) = BitVec.ofNat 32 (l.val / 64) := by decide +kernel
  exact h b

/-- Lane `d` of head `b` of a pair. -/
def hl (b : Fin 2) (d : Fin 64) : Fin 128 := ⟨64 * b.val + d.val, by omega⟩

theorem hl_div (b : Fin 2) (d : Fin 64) : (hl b d).val / 64 = b.val := by
  show (64 * b.val + d.val) / 64 = b.val; omega

/-- A sum over a pair's lanes is the sum over each head's. -/
theorem sum_pair (f : Fin 128 → EReal) : ∑ x, f x = ∑ d, f (hl 0 d) + ∑ d, f (hl 1 d) := by
  have h := Fin.sum_univ_add (a := 64) (b := 64) f
  refine h.trans (congrArg₂ (· + ·) ?_ ?_)
  · exact Finset.sum_congr rfl fun d _ => congrArg f (Fin.ext (show d.val = 64 * 0 + d.val by omega))
  · exact Finset.sum_congr rfl fun d _ => congrArg f (Fin.ext (show 64 + d.val = 64 * 1 + d.val by omega))

theorem cmp00 (r : Fin 256) (d : Fin 64) : IntOp.cmpi CmpIPredicate.eq (k0_pay4 (ix2 r (hl 0 d))) 0#32 = 1#1 := by
  rw [laneHead, hl_div]; rfl
theorem cmp01 (r : Fin 256) (d : Fin 64) : IntOp.cmpi CmpIPredicate.eq (k0_pay4 (ix2 r (hl 0 d))) 1#32 = 0#1 := by
  rw [laneHead, hl_div]; rfl
theorem cmp10 (r : Fin 256) (d : Fin 64) : IntOp.cmpi CmpIPredicate.eq (k0_pay4 (ix2 r (hl 1 d))) 0#32 = 0#1 := by
  rw [laneHead, hl_div]; rfl
theorem cmp11 (r : Fin 256) (d : Fin 64) : IntOp.cmpi CmpIPredicate.eq (k0_pay4 (ix2 r (hl 1 d))) 1#32 = 1#1 := by
  rw [laneHead, hl_div]; rfl
theorem cmpRC (a b : Fin 2) (d e : Fin 64) :
    IntOp.cmpi CmpIPredicate.eq (headRow (ix2 (hl a d) (hl b e))) (k0_pay9 (ix2 (hl a d) (hl b e))) = if a = b then 1#1 else 0#1 := by
  rw [rowHead, colHead, hl_div, hl_div]
  revert a b; decide

/-- The next state, at lane `d` of head `a` against lane `e` of head `b`. -/
theorem next_apply (st : FVec Ideal S128x128 .f32) (k v : Vec Ideal S256x128 .bf16) (z : Vec Ideal S256x128 .f32)
    (cd : Vec Ideal S1x128x128 .f32) (a b : Fin 2) (d e : Fin 64) :
    next st k v z cd (ix2 (hl a d) (hl b e)) = cd (ix3 0 (hl a d) (hl b e)) * st (ix2 (hl a d) (hl b e))
      + if a = b then ∑ r : Fin 256, (k (ix2 r (hl a d)) * z (ix2 r (hl a d))) * v (ix2 r (hl b e)) else 0 := by
  pointwise [next, k0_pay32]
  rw [cmpRC]
  split
  · rfl
  · rfl

/-- The mix of a chunk whose carried state keeps the two heads apart. -/
theorem mix_apply (st : FVec Ideal S128x128 .f32) (q k v : Vec Ideal S256x128 .bf16) (x : Vec Ideal S256x128 .f32)
    (d0 d1 : Vec Ideal S1x256x256 .f32) (R : Fin 2 → Fin 64 → Fin 64 → EReal)
    (hst : ∀ a b d e, st (ix2 (hl a d) (hl b e)) = if a = b then R b d e else 0) (r : Fin 256) (b : Fin 2) (e : Fin 64) :
    mix st q k v x d0 d1 (ix2 r (hl b e)) = (∑ d, q (ix2 r (hl b d)) * R b d e) * x (ix2 r (hl b e))
      + ∑ s : Fin 256, ((∑ d, q (ix2 r (hl b d)) * k (ix2 s (hl b d))) * (if b = 0 then d0 else d1) (ix3 0 r s)) * v (ix2 s (hl b e)) := by
  pointwise [mix, k0_pay31, k0_pay39, k0_pay11, k0_pay10, k0_pay12]
  match b with
  | 0 =>
    simp only [sum_pair, cmp00, cmp01, cmp10, cmp11, hst, ValueIdx.select_one, ValueIdx.select_zero, Finset.sum_const_zero, add_zero, zero_add,
      if_true, mul_zero, one_ne_zero, if_false]
  | 1 =>
    simp only [sum_pair, cmp00, cmp01, cmp10, cmp11, hst, ValueIdx.select_one, ValueIdx.select_zero, Finset.sum_const_zero, add_zero, zero_add,
      if_true, mul_zero, one_ne_zero, zero_ne_one, if_false]

/-- The mean over a head's lanes. -/
def mean (f : Fin 64 → EReal) : EReal := Ideal.div (∑ d, f d) (Ideal.ofBits .f32 0x42800000#32)

theorem mean_eq (f : Fin 64 → EReal) : (∑ d, f d) * Ideal.ofBits .f32 0x3C800000#32 = mean f := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  unfold mean
  rw [h1, h2, Ideal.div_coe (by norm_num)]

/-- What is stored at lane `e` of head `b`: the head's entries centred, divided by their spread, weighted and gated. -/
theorem emit_apply (y : FVec Ideal S256x128 .f32) (g : Vec Ideal S256x128 .bf16) (w : Vec Ideal S1x128 .f32) (r : Fin 256) (b : Fin 2) (e : Fin 64)
    (Y : Fin 64 → EReal) (hY : ∀ d, y (ix2 r (hl b d)) = Y d) :
    emit y g w (ix2 r (hl b e)) = (Y e - mean Y) * Ideal.rsqrt (mean (fun d => (Y d - mean Y) * (Y d - mean Y)) + Ideal.ofBits .f32 0x3727C5AC#32)
      * w (ix2 0 (hl b e)) * (g (ix2 r (hl b e)) * Ideal.logistic (g (ix2 r (hl b e)))) := by
  pointwise [emit, k0_pay38, k0_pay37, k0_pay36, k0_pay35, k0_pay34, k0_pay33]
  match b with
  | 0 =>
    simp only [sum_pair, cmp00, cmp01, cmp10, cmp11, ValueIdx.select_one, ValueIdx.select_zero, Finset.sum_const_zero, add_zero, zero_add, hY, mean_eq]
  | 1 =>
    simp only [sum_pair, cmp00, cmp01, cmp10, cmp11, ValueIdx.select_one, ValueIdx.select_zero, Finset.sum_const_zero, add_zero, zero_add, hY, mean_eq]

end Cert.RetIdeal.Point
-- ==== Proof.RetTables.lean ====
module
public import proofs.«01_k».proof.Proof.Gen.RetIdeal.Value
public import Idealize.ShloMosaic.Lib.StableHlo.RunRead
public import Idealize.ShloMosaic.Lib.ValueIdxCore
/-! # The retention kernel's decay tables

The kernel's host code makes four tables from the heads' decay rates. Here each is written as an expression,
and the blocks that the grid's windows hand the body are read as these tables and the rows of the argument. -/
@[expose] public section
set_option maxRecDepth 16384
noncomputable section
open Idealize.ShloMosaic Idealize.ShloMosaic.TcCoe Idealize.SL.Sem Idealize.ShloMosaic.StableHlo
namespace Cert.RetIdeal.Tables
open Cert.RetIdeal Cert.RetIdeal.Gen
variable {F : FTy → Type} [FloatOps F]
variable (m : (ℓ : Loc nD τ sig) → Buf (Elt F) ℓ) (c : Dev nD)

/-- The logarithm of each head's decay rate. -/
def lg : FVec F S4 .f32 :=
  Host.log (subf (broadcastInDim S4 ![] bcast_S_S4 (constant S_ .f32 0x3F800000#32)) (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))

/-- How much of a chunk row is left at the chunk's end. -/
def zeta : FVec F S4x256 .f32 :=
  Host.exp (mulf (broadcastInDim S4x256 ![0, 1] bcast_S4x1_S4x256_0_1 (broadcastInDim S4x1 ![0] bcast_S4_S4x1_0 (lg (F := F)))) (broadcastInDim S4x256 ![0, 1] bcast_S1x256_S4x256_0_1 (broadcastInDim S1x256 ![1] bcast_S256_S1x256_1 (subf (broadcastInDim S256 ![] bcast_S_S256 (constant S_ .f32 0x437F0000#32)) (sitofp .f32 (iotaInDim S256 32 0))))))

/-- How much of the carried state is left at a chunk row. -/
def xi : FVec F S4x256 .f32 :=
  Host.exp (mulf (broadcastInDim S4x256 ![0, 1] bcast_S4x1_S4x256_0_1 (broadcastInDim S4x1 ![0] bcast_S4_S4x1_0 (lg (F := F)))) (broadcastInDim S4x256 ![0, 1] bcast_S1x256_S4x256_0_1 (broadcastInDim S1x256 ![1] bcast_S256_S1x256_1 (addf (sitofp .f32 (iotaInDim S256 32 0)) (broadcastInDim S256 ![] bcast_S_S256 (constant S_ .f32 0x3F800000#32))))))

/-- How much of the carried state a chunk leaves. -/
def cd : FVec F S4 .f32 :=
  Host.exp (mulf (lg (F := F)) (broadcastInDim S4 ![] bcast_S_S4 (constant S_ .f32 0x43800000#32)))

/-- How many rows the first index is ahead of the second. -/
def gap : FVec F S256x256 .f32 :=
  subf (broadcastInDim S256x256 ![0, 1] bcast_S256x1_S256x256_0_1 (broadcastInDim S256x1 ![0] bcast_S256_S256x1_0 (sitofp .f32 (iotaInDim S256 32 0)))) (broadcastInDim S256x256 ![0, 1] bcast_S1x256_S256x256_0_1 (broadcastInDim S1x256 ![1] bcast_S256_S1x256_1 (sitofp .f32 (iotaInDim S256 32 0))))

/-- The causal decay between two rows of a chunk. -/
def decay : FVec F S4x256x256 .f32 :=
  select (broadcastInDim S4x256x256 ![1, 2] bcast_S256x256_S4x256x256_1_2 (cmpf .oge (gap (F := F)) (broadcastInDim S256x256 ![] bcast_S_S256x256 (constant S_ .f32 0x00000000#32)))) (Host.exp (mulf (broadcastInDim S4x256x256 ![0, 1, 2] bcast_S4x1x1_S4x256x256_0_1_2 (broadcastInDim S4x1x1 ![0] bcast_S4_S4x1x1_0 (lg (F := F)))) (broadcastInDim S4x256x256 ![0, 1, 2] bcast_S1x256x256_S4x256x256_0_1_2 (broadcastInDim S1x256x256 ![1, 2] bcast_S256x256_S1x256x256_1_2 (maximumf (gap (F := F)) (broadcastInDim S256x256 ![] bcast_S_S256x256 (constant S_ .f32 0x00000000#32))))))) (broadcastInDim S4x256x256 ![] bcast_S_S4x256x256 (constant S_ .f32 0x00000000#32))

theorem V25 : V m c main_v25 = decay := by
  show StableHlo.after _ _ _ = _
  simp only [hostOps0, hostOps0_1, hostOps0_2, List.flatten_cons, List.flatten_nil, List.append_nil, List.cons_append, List.nil_append]
  after_reads_simp
  simp only [TRef.ofBuf_toBuf, TRef.ofBuf, TRef.toBuf, cast_eq, id]
  unfold decay lg gap
  rfl

theorem V48 : V m c main_v48 = broadcastInDim S2x128x128 ![0, 1, 2] bcast_S2x128x1_S2x128x128_0_1_2 (shapeCast S2x128x1 (shapeCast S256 (broadcastInDim S4x64 ![0] bcast_S4_S4x64_0 (cd (F := F))) shapeCasts_S4x64_S256) shapeCasts_S256_S2x128x1) := by
  show StableHlo.after _ _ _ = _
  simp only [hostOps0, hostOps0_1, hostOps0_2, List.flatten_cons, List.flatten_nil, List.append_nil, List.cons_append, List.nil_append]
  after_reads_simp
  rfl

theorem V51 : V m c main_v51 = shapeCast S256x256 (broadcastInDim S256x4x64 ![0, 1] bcast_S256x4_S256x4x64_0_1 (transpose S256x4 [1, 0] (zeta (F := F)) transposes_S4x256_S256x4_1_0)) shapeCasts_S256x4x64_S256x256 := by
  show StableHlo.after _ _ _ = _
  simp only [hostOps0, hostOps0_1, hostOps0_2, List.flatten_cons, List.flatten_nil, List.append_nil, List.cons_append, List.nil_append]
  after_reads_simp
  rfl

theorem V54 : V m c main_v54 = shapeCast S256x256 (broadcastInDim S256x4x64 ![0, 1] bcast_S256x4_S256x4x64_0_1 (transpose S256x4 [1, 0] (xi (F := F)) transposes_S4x256_S256x4_1_0)) shapeCasts_S256x4x64_S256x256 := by
  show StableHlo.after _ _ _ = _
  simp only [hostOps0, hostOps0_1, hostOps0_2, List.flatten_cons, List.flatten_nil, List.append_nil, List.cons_append, List.nil_append]
  after_reads_simp
  rfl

theorem V55 : V m c main_v55 = broadcastInDim S1x256 ![1] bcast_S256_S1x256_1 (m ((c : Thread nD τ).loc main_arg1)) := by
  show StableHlo.after _ _ _ = _
  simp only [hostOps0, hostOps0_1, hostOps0_2, List.flatten_cons, List.flatten_nil, List.append_nil, List.cons_append, List.nil_append]
  after_reads_simp

theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem ix1_2 : ∀ t : Fin cfg0.N, win0_1.index t 2 = 0 := (by decide +kernel : ∀ t : Fin grid0.N, win0_1.index t 2 = 0)
theorem blk1 (t : Fin cfg0.N) : iblk m c 1 t = V m c main_v25 := by
  funext j
  unfold iblk
  rw [View.read_apply]
  show V m c main_v25 _ = V m c main_v25 j
  congr 1
  funext a
  apply Fin.ext
  match a with
  | ⟨0, _⟩ =>
    show win0_1.index t 0 * 4 + 1 * (j 0).val = (j 0).val
    rw [ix1_0 t]; omega
  | ⟨1, _⟩ =>
    show win0_1.index t 1 * 256 + 1 * (j 1).val = (j 1).val
    rw [ix1_1 t]; omega
  | ⟨2, _⟩ =>
    show win0_1.index t 2 * 256 + 1 * (j 2).val = (j 2).val
    rw [ix1_2 t]; omega

theorem ix2_0 : ∀ t : Fin cfg0.N, win0_2.index t 0 = 0 := (by decide +kernel : ∀ t : Fin grid0.N, win0_2.index t 0 = 0)
theorem ix2_1 : ∀ t : Fin cfg0.N, win0_2.index t 1 = 0 := (by decide +kernel : ∀ t : Fin grid0.N, win0_2.index t 1 = 0)
theorem blk2 (t : Fin cfg0.N) : iblk m c 2 t = V m c main_v51 := by
  funext j
  unfold iblk
  rw [View.read_apply]
  show V m c main_v51 _ = V m c main_v51 j
  congr 1
  funext a
  apply Fin.ext
  match a with
  | ⟨0, _⟩ =>
    show win0_2.index t 0 * 256 + 1 * (j 0).val = (j 0).val
    rw [ix2_0 t]; omega
  | ⟨1, _⟩ =>
    show win0_2.index t 1 * 256 + 1 * (j 1).val = (j 1).val
    rw [ix2_1 t]; omega

theorem ix3_0 : ∀ t : Fin cfg0.N, win0_3.index t 0 = 0 := (by decide +kernel : ∀ t : Fin grid0.N, win0_3.index t 0 = 0)
theorem ix3_1 : ∀ t : Fin cfg0.N, win0_3.index t 1 = 0 := (by decide +kernel : ∀ t : Fin grid0.N, win0_3.index t 1 = 0)
theorem blk3 (t : Fin cfg0.N) : iblk m c 3 t = V m c main_v54 := by
  funext j
  unfold iblk
  rw [View.read_apply]
  show V m c main_v54 _ = V m c main_v54 j
  congr 1
  funext a
  apply Fin.ext
  match a with
  | ⟨0, _⟩ =>
    show win0_3.index t 0 * 256 + 1 * (j 0).val = (j 0).val
    rw [ix3_0 t]; omega
  | ⟨1, _⟩ =>
    show win0_3.index t 1 * 256 + 1 * (j 1).val = (j 1).val
    rw [ix3_1 t]; omega

theorem ix4_0 : ∀ t : Fin cfg0.N, win0_4.index t 0 = 0 := (by decide +kernel : ∀ t : Fin grid0.N, win0_4.index t 0 = 0)
theorem ix4_1 : ∀ t : Fin cfg0.N, win0_4.index t 1 = 0 := (by decide +kernel : ∀ t : Fin grid0.N, win0_4.index t 1 = 0)
theorem ix4_2 : ∀ t : Fin cfg0.N, win0_4.index t 2 = 0 := (by decide +kernel : ∀ t : Fin grid0.N, win0_4.index t 2 = 0)
theorem blk4 (t : Fin cfg0.N) : iblk m c 4 t = V m c main_v48 := by
  funext j
  unfold iblk
  rw [View.read_apply]
  show V m c main_v48 _ = V m c main_v48 j
  congr 1
  funext a
  apply Fin.ext
  match a with
  | ⟨0, _⟩ =>
    show win0_4.index t 0 * 2 + 1 * (j 0).val = (j 0).val
    rw [ix4_0 t]; omega
  | ⟨1, _⟩ =>
    show win0_4.index t 1 * 128 + 1 * (j 1).val = (j 1).val
    rw [ix4_1 t]; omega
  | ⟨2, _⟩ =>
    show win0_4.index t 2 * 128 + 1 * (j 2).val = (j 2).val
    rw [ix4_2 t]; omega

theorem ix5_0 : ∀ t : Fin cfg0.N, win0_5.index t 0 = 0 := (by decide +kernel : ∀ t : Fin grid0.N, win0_5.index t 0 = 0)
theorem ix5_1 : ∀ t : Fin cfg0.N, win0_5.index t 1 = 0 := (by decide +kernel : ∀ t : Fin grid0.N, win0_5.index t 1 = 0)
theorem blk5 (t : Fin cfg0.N) : iblk m c 5 t = V m c main_v55 := by
  funext j
  unfold iblk
  rw [View.read_apply]
  show V m c main_v55 _ = V m c main_v55 j
  congr 1
  funext a
  apply Fin.ext
  match a with
  | ⟨0, _⟩ =>
    show win0_5.index t 0 * 1 + 1 * (j 0).val = (j 0).val
    rw [ix5_0 t]; omega
  | ⟨1, _⟩ =>
    show win0_5.index t 1 * 256 + 1 * (j 1).val = (j 1).val
    rw [ix5_1 t]; omega

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)

/-- Point `t` sees rows `1024 t …` of the argument. -/
theorem blk0 (t : Fin cfg0.N) (j : S1024x1024.Idx) (h : 1024 * t.val + (j 0).val < 16384) :
    iblk m c 0 t j = m ((c : Thread nD τ).loc main_arg0) (ValueIdx.ix2 (⟨1024 * t.val + (j 0).val, h⟩ : Fin 16384) (j 1)) := by
  unfold iblk
  rw [View.read_apply]
  show V m c main_arg0 _ = _
  rw [V_main_arg0]
  congr 1
  funext a
  apply Fin.ext
  match a with
  | ⟨0, _⟩ =>
    show win0_0.index t 0 * 1024 + 1 * (j 0).val = 1024 * t.val + (j 0).val
    rw [ix0_0 t]; omega
  | ⟨1, _⟩ =>
    show win0_0.index t 1 * 1024 + 1 * (j 1).val = (j 1).val
    rw [ix0_1 t]; omega

end Cert.RetIdeal.Tables
-- ==== Proof.RetFold.lean ====
module
public import proofs.«01_k».proof.Proof.RetBody
public import proofs.«01_k».proof.Proof.RetTables
/-! # The whole array the retention kernel leaves

The grid's points run one after another and hand each other the state. Here the state that enters point `p`
is a recursion over the argument's rows, and the output array is read at an index through it. -/
@[expose] public section
set_option maxRecDepth 16384
noncomputable section
open Idealize.ShloMosaic Idealize.ShloMosaic.TcCoe Idealize.ShloMosaic.ValueIdx Idealize.SL.Sem
namespace Cert.RetIdeal.Fold
open Cert.RetIdeal Cert.RetIdeal.Gen Cert.RetIdeal.Body Cert.RetIdeal.Tables Cert.RetIdeal.Value
variable {F : FTy → Type} [FloatOps F]

/-- Rows `1024 p …` of the argument. -/
def rowsOf (X : Vec F S16384x1024 .bf16) (p : ℕ) : Vec F S1024x1024 .bf16 :=
  fun j => X (ix2 (Fin.ofNat 16384 (1024 * p + (j 0).val)) (j 1))

variable (m : (ℓ : Loc nD τ sig) → Buf (Elt F) ℓ) (c : Dev nD)

/-- The argument. -/
abbrev arg : Vec F S16384x1024 .bf16 := m ((c : Thread nD τ).loc main_arg0)
/-- Each lane's `zeta`. -/
abbrev zl : Vec F S256x256 .f32 := V m c main_v51
/-- Each lane's `xi`. -/
abbrev xl : Vec F S256x256 .f32 := V m c main_v54
/-- Each lane's chunk decay. -/
abbrev cl : Vec F S2x128x128 .f32 := V m c main_v48
/-- Each pair of rows' decay. -/
abbrev dl : Vec F S4x256x256 .f32 := V m c main_v25
/-- The norm's weights. -/
abbrev wl : Vec F S1x256 .f32 := V m c main_v55

/-- The state that enters point `p`. -/
def entry : ℕ → Vec F S2x128x128 .f32
  | 0 => k0_pay3
  | p + 1 => stB (rowsOf (arg m c) p) (zl m c) (cl m c) (entry p)

theorem rows_eq (t : Fin cfg0.N) : iblk m c 0 t = rowsOf (arg m c) t.val := by
  funext j
  have hN : t.val < 16 := lt_of_lt_of_eq t.isLt (show cfg0.N = 16 from N_0)
  have hj : (j 0).val < 1024 := (j 0).isLt
  rw [blk0 m c t j (by omega)]
  unfold rowsOf
  refine congrArg _ ?_
  funext a
  match a with
  | 0 => exact Fin.ext (Nat.mod_eq_of_lt (show 1024 * t.val + (j 0).val < 16384 by omega)).symm
  | 1 => rfl

theorem fold_eq (n : ℕ) (h : 0 + n < cfg0.N) :
    Pipeline.accAt (fun n h => stAt0 m c n h junk0) (stAt0 m c) 0 n h
      = (outB (rowsOf (arg m c) n) (dl m c) (zl m c) (xl m c) (cl m c) (wl m c) (entry m c n), entry m c (n + 1)) := by
  have hN : (cfg0.N : ℕ) = 16 := N_0
  induction n with
  | zero =>
    rw [Pipeline.accAt_zero]
    show stAt0 m c 0 h junk0 = _
    rw [stAt0_A m c ⟨0, h⟩ _ (Nat.zero_mod _), out_A, sout_A, rows_eq, blk1, blk2, blk3, blk4, blk5]
    rfl
  | succ n ih =>
    rw [Pipeline.accAt_succ, ih (by omega)]
    have e : 0 + (n + 1) = n + 1 := Nat.zero_add _
    have key : ∀ (k : ℕ) (hk : k < cfg0.N) (acc), k = n + 1 → acc.2 = entry m c (n + 1) →
        stAt0 m c k hk acc = (outB (rowsOf (arg m c) (n + 1)) (dl m c) (zl m c) (xl m c) (cl m c) (wl m c) (entry m c (n + 1)), entry m c (n + 1 + 1)) := by
      intro k hk acc e1 e2
      subst e1
      rw [stAt0_B m c ⟨n + 1, hk⟩ acc (show ¬(n + 1) % 16 = 0 by omega), out_B, sout_B, rows_eq, blk1, blk2, blk3, blk4, blk5, e2]
      rfl
    exact key _ _ _ e rfl

/-- The output at row `r`, lane `l`. -/
theorem G6_apply (r : Fin 16384) (l : Fin 256) :
    G6 m c (ix2 r l) = outB (rowsOf (arg m c) (r.val / 1024)) (dl m c) (zl m c) (xl m c) (cl m c) (wl m c) (entry m c (r.val / 1024))
      (ix2 (⟨r.val % 1024, Nat.mod_lt _ (by decide)⟩ : Fin 1024) l) := by
  have hN : (cfg0.N : ℕ) = 16 := N_0
  have hp : pt6Of (ix2 r l) = r.val / 1024 := by
    show 1 * (r.val / 1024 - 0) + 1 * (l.val / 256 - 0) = r.val / 1024
    omega
  have hl : loc6Of (ix2 r l) = ix2 (⟨r.val % 1024, Nat.mod_lt _ (by decide)⟩ : Fin 1024) l := by
    funext a
    match a with
    | ⟨0, _⟩ => rfl
    | ⟨1, _⟩ => exact Fin.ext (Nat.mod_eq_of_lt l.isLt)
  unfold G6
  rw [dif_pos (show pt6Of (ix2 r l) < cfg0.N by omega), fold_eq, hl, hp]

end Cert.RetIdeal.Fold
-- ==== Proof.RetSpec.lean ====
module
public import proofs.«01_k».proof.Proof.RetPoint
public import proofs.«01_k».proof.Proof.RetFold
/-! # The retention kernel's array in closed form

Over the reals: each head's state after `n` chunks, each row's mix, and the normalised, gated output, all by
the argument's entries and the four tables. -/
@[expose] public section
set_option maxRecDepth 16384
noncomputable section
open Idealize.ShloMosaic Idealize.ShloMosaic.TcCoe Idealize.SL.Sem
namespace Cert.RetIdeal.Spec
open Cert.RetIdeal Cert.RetIdeal.Gen Cert.RetIdeal.Body Cert.RetIdeal.Point Cert.RetIdeal.Tables Cert.RetIdeal.Fold Cert.RetIdeal.Value

/-- The argument's entry at row `r`, lane `l`. -/
def el (X : Vec Ideal S16384x1024 .bf16) (r l : ℕ) : EReal := X (ix2 (Fin.ofNat 16384 r) (Fin.ofNat 1024 l))

/-- Head `h`'s state after `n` chunks. -/
def state (X : Vec Ideal S16384x1024 .bf16) (h : Fin 4) (d e : Fin 64) : ℕ → EReal
  | 0 => 0
  | n + 1 => cd (F := Ideal) (ix1 h) * state X h d e n
      + ∑ r : Fin 256, (el X (256 * n + r.val) (256 + 64 * h.val + d.val) * zeta (F := Ideal) (ix2 h r)) * el X (256 * n + r.val) (512 + 64 * h.val + e.val)

/-- Row `r` of chunk `n` before the normalisation. -/
def mixed (X : Vec Ideal S16384x1024 .bf16) (n : ℕ) (r : Fin 256) (h : Fin 4) (e : Fin 64) : EReal :=
  (∑ d : Fin 64, el X (256 * n + r.val) (64 * h.val + d.val) * state X h d e n) * xi (F := Ideal) (ix2 h r)
    + ∑ s : Fin 256, ((∑ d : Fin 64, el X (256 * n + r.val) (64 * h.val + d.val) * el X (256 * n + s.val) (256 + 64 * h.val + d.val))
        * decay (F := Ideal) (ix3 h r s)) * el X (256 * n + s.val) (512 + 64 * h.val + e.val)

/-- Row `r` of chunk `n`, lane `e` of head `h`: the mix centred, divided by its spread, weighted and gated. -/
def gated (X : Vec Ideal S16384x1024 .bf16) (W : Vec Ideal S256 .f32) (n : ℕ) (r : Fin 256) (h : Fin 4) (e : Fin 64) : EReal :=
  (mixed X n r h e - mean (mixed X n r h))
      * Ideal.rsqrt (mean (fun d => (mixed X n r h d - mean (mixed X n r h)) * (mixed X n r h d - mean (mixed X n r h))) + Ideal.ofBits .f32 0x3727C5AC#32)
      * W (ix1 (Fin.ofNat 256 (64 * h.val + e.val)))
    * (el X (256 * n + r.val) (768 + 64 * h.val + e.val) * Ideal.logistic (el X (256 * n + r.val) (768 + 64 * h.val + e.val)))

variable (m : (ℓ : Loc nD τ sig) → Buf (Elt Ideal) ℓ) (c : Dev nD)

/-- Head `b` of pair `t`. -/
def head (t b : Fin 2) : Fin 4 := ⟨2 * t.val + b.val, by omega⟩

/-! ## The blocks -/

theorem blk_eq (p : ℕ) (k : Fin 4) (l : ℕ) (r : Fin 256) (j : Fin 128) (X : Vec Ideal S16384x1024 .bf16) :
    blk (rowsOf X p) k.val l (ix2 r j) = el X (256 * (4 * p + k.val) + r.val) (l + j.val) := by
  unfold blk rowsOf el
  refine congrArg X ?_
  funext a
  match a with
  | 0 =>
    refine Fin.ext ?_
    show (1024 * p + (256 * k.val + r.val) % 1024) % 16384 = (256 * (4 * p + k.val) + r.val) % 16384
    rw [Nat.mod_eq_of_lt (show 256 * k.val + r.val < 1024 by omega)]
    congr 1; omega
  | 1 => rfl

theorem zl_eq (t b : Fin 2) (r : Fin 256) (d : Fin 64) :
    lanesOf (zl m c) (128 * t.val) (ix2 r (hl b d)) = zeta (F := Ideal) (ix2 (head t b) r) := by
  unfold lanesOf zl
  rw [V51]
  pointwise
  refine congrArg _ ?_
  funext a
  match a with
  | 0 => exact Fin.ext (show (128 * t.val + (64 * b.val + d.val)) % 256 / 64 = 2 * t.val + b.val by omega)
  | 1 => rfl

theorem xl_eq (t b : Fin 2) (r : Fin 256) (d : Fin 64) :
    lanesOf (xl m c) (128 * t.val) (ix2 r (hl b d)) = xi (F := Ideal) (ix2 (head t b) r) := by
  unfold lanesOf xl
  rw [V54]
  pointwise
  refine congrArg _ ?_
  funext a
  match a with
  | 0 => exact Fin.ext (show (128 * t.val + (64 * b.val + d.val)) % 256 / 64 = 2 * t.val + b.val by omega)
  | 1 => rfl

theorem cl_eq (t a b : Fin 2) (d e : Fin 64) :
    cell (cl m c) t.val (ix3 0 (hl a d) (hl b e)) = cd (F := Ideal) (ix1 (head t a)) := by
  unfold cell cl
  rw [V48]
  pointwise
  refine congrArg _ ?_
  funext x
  match x with
  | 0 => exact Fin.ext (show t.val % 2 * 2 + (64 * a.val + d.val) / 64 = 2 * t.val + a.val by omega)

theorem dl_eq (t b : Fin 2) (r s : Fin 256) :
    (if b = 0 then slab (dl m c) (2 * t.val) else slab (dl m c) (2 * t.val + 1)) (ix3 0 r s) = decay (F := Ideal) (ix3 (head t b) r s) := by
  unfold slab dl
  rw [V25]
  match b with
  | 0 =>
    rw [if_pos rfl]
    show decay (F := Ideal) (ix3 (Fin.ofNat 4 (2 * t.val)) r s) = _
    congr 2
    exact Fin.ext (show (2 * t.val) % 4 = 2 * t.val + 0 by omega)
  | 1 =>
    rw [if_neg (by decide)]
    show decay (F := Ideal) (ix3 (Fin.ofNat 4 (2 * t.val + 1)) r s) = _
    congr 2
    exact Fin.ext (show (2 * t.val + 1) % 4 = 2 * t.val + 1 by omega)

theorem wl_eq (t b : Fin 2) (e : Fin 64) :
    part (wl m c) (128 * t.val) (ix2 0 (hl b e)) = (m ((c : Thread nD τ).loc main_arg1) : Vec Ideal S256 .f32) (ix1 (Fin.ofNat 256 (64 * (head t b).val + e.val))) := by
  unfold part wl
  rw [V55]
  pointwise
  refine congrArg _ ?_
  funext x
  match x with
  | 0 => exact Fin.ext (show (128 * t.val + (64 * b.val + e.val)) % 256 = (64 * (2 * t.val + b.val) + e.val) % 256 by omega)

/-! ## The state -/

theorem stN_eq (t : Fin 2) (p : ℕ)
    (h0 : ∀ a b d e, entry m c p (ix3 t (hl a d) (hl b e)) = if a = b then state (arg m c) (head t b) d e (4 * p) else 0) :
    ∀ k : ℕ, k ≤ 4 → ∀ a b d e, stN (rowsOf (arg m c) p) (zl m c) (cl m c) (entry m c p) t.val k (ix2 (hl a d) (hl b e))
      = if a = b then state (arg m c) (head t b) d e (4 * p + k) else 0
  | 0, _, a, b, d, e => by
    rw [stN]
    refine Eq.trans ?_ (h0 a b d e)
    pointwise [k0_pay29, cell]
    congr 2
    exact Fin.ext (Nat.mod_eq_of_lt t.isLt)
  | k + 1, hk, a, b, d, e => by
    rw [stN, next_apply, stN_eq t p h0 k (by omega) a b d e, cl_eq]
    by_cases hab : a = b
    · subst hab
      rw [if_pos rfl, if_pos rfl, if_pos rfl, ← Nat.add_assoc, state]
      refine congrArg _ (Finset.sum_congr rfl fun r _ => ?_)
      rw [zl_eq, blk_eq p ⟨k, by omega⟩, blk_eq p ⟨k, by omega⟩]
      refine congrArg₂ _ (congrArg₂ _ (congrArg _ ?_) rfl) (congrArg _ ?_)
      · show 256 + 128 * t.val + (64 * a.val + d.val) = 256 + 64 * (2 * t.val + a.val) + d.val; omega
      · show 512 + 128 * t.val + (64 * a.val + e.val) = 512 + 64 * (2 * t.val + a.val) + e.val; omega
    · rw [if_neg hab, if_neg hab, if_neg hab, mul_zero, add_zero]

theorem entry_eq (t : Fin 2) : ∀ p a b d e, entry m c p (ix3 t (hl a d) (hl b e)) = if a = b then state (arg m c) (head t b) d e (4 * p) else 0
  | 0, a, b, d, e => by
    rw [entry]
    pointwise [k0_pay3]
    split <;> rfl
  | p + 1, a, b, d, e => by
    rw [entry]
    refine (stN_eq m c t p (entry_eq t p) 4 (le_refl _) a b d e).trans ?_
    rfl

/-! ## The output -/

theorem outN_eq (t : Fin 2) (p : ℕ) (k : Fin 4) (r : Fin 256) (b : Fin 2) (e : Fin 64) :
    outN (rowsOf (arg m c) p) (dl m c) (zl m c) (xl m c) (cl m c) (wl m c) (entry m c p) t.val k.val (ix2 r (hl b e))
      = gated (arg m c) (m ((c : Thread nD τ).loc main_arg1)) (4 * p + k.val) r (head t b) e := by
  unfold outN
  rw [emit_apply _ _ _ r b e (mixed (arg m c) (4 * p + k.val) r (head t b)), wl_eq, blk_eq]
  · unfold gated
    have e3 : 768 + 128 * t.val + (hl b e).val = 768 + 64 * (head t b).val + e.val := by
      show 768 + 128 * t.val + (64 * b.val + e.val) = 768 + 64 * (2 * t.val + b.val) + e.val; omega
    rw [e3]
  · intro d
    rw [mix_apply _ _ _ _ _ _ _ (fun b d e => state (arg m c) (head t b) d e (4 * p + k.val))
      (fun a b d e => stN_eq m c t p (entry_eq m c t p) k.val (by omega) a b d e)]
    unfold mixed
    rw [xl_eq]
    have eq (d : Fin 64) : 128 * t.val + (hl b d).val = 64 * (head t b).val + d.val := by
      show 128 * t.val + (64 * b.val + d.val) = 64 * (2 * t.val + b.val) + d.val; omega
    have ek (d : Fin 64) : 256 + 128 * t.val + (hl b d).val = 256 + 64 * (head t b).val + d.val := by
      show 256 + 128 * t.val + (64 * b.val + d.val) = 256 + 64 * (2 * t.val + b.val) + d.val; omega
    have ev (d : Fin 64) : 512 + 128 * t.val + (hl b d).val = 512 + 64 * (head t b).val + d.val := by
      show 512 + 128 * t.val + (64 * b.val + d.val) = 512 + 64 * (2 * t.val + b.val) + d.val; omega
    simp only [blk_eq, eq, ek, ev]
    refine congrArg _ (Finset.sum_congr rfl fun s _ => congrArg₂ _ (congrArg _ ?_) rfl)
    exact dl_eq m c t b r s

/-- The array the kernel leaves, at row `256 n + r`, lane `64 h + e`. -/
theorem G6_eq (i : Fin 16384) (l : Fin 256) :
    G6 m c (ix2 i l) = gated (arg m c) (m ((c : Thread nD τ).loc main_arg1)) (i.val / 256) ⟨i.val % 256, Nat.mod_lt _ (by decide)⟩
      ⟨l.val / 64, by omega⟩ ⟨l.val % 64, Nat.mod_lt _ (by decide)⟩ := by
  refine (congrArg (G6 m c) (ix2_eq_valueIdx i l)).trans ((G6_apply m c i l).trans ?_)
  unfold outB
  have key := outN_eq m c ⟨l.val / 128, by omega⟩ (i.val / 1024) ⟨i.val % 1024 / 256, by omega⟩ ⟨i.val % 256, Nat.mod_lt _ (by decide)⟩
    ⟨l.val % 128 / 64, by omega⟩ ⟨l.val % 64, Nat.mod_lt _ (by decide)⟩
  refine Eq.trans ?_ (key.trans ?_)
  · refine congrArg _ ?_
    funext a
    match a with
    | 0 => exact Fin.ext (show i.val % 1024 % 256 = i.val % 256 by omega)
    | 1 => exact Fin.ext (show l.val % 128 = 64 * (l.val % 128 / 64) + l.val % 64 by omega)
  · have e1 : 4 * (i.val / 1024) + i.val % 1024 / 256 = i.val / 256 := by omega
    have e2 : head ⟨l.val / 128, by omega⟩ ⟨l.val % 128 / 64, by omega⟩ = ⟨l.val / 64, by omega⟩ :=
      Fin.ext (show 2 * (l.val / 128) + l.val % 128 / 64 = l.val / 64 by omega)
    rw [e2]
    exact congrArg (fun n => gated (arg m c) (m ((c : Thread nD τ).loc main_arg1)) n _ _ _) e1

end Cert.RetIdeal.Spec
-- ==== Proof.RetRef.lean ====
module
public import proofs.«01_k».proof.Proof.RetTrips
public import proofs.«01_k».proof.Proof.RetSpec
public import Idealize.ShloMosaic.Lib.DynamicIndex
/-! # What the retention reference computes

The reference's loop carries each head's state and keeps every chunk's; what follows the loop reads the kept
states and the argument. Both are read at an index, in the closed form of the kernel's array. -/
@[expose] public section
set_option maxRecDepth 16384
noncomputable section
open Idealize.ShloMosaic Idealize.ShloMosaic.TcCoe Idealize.SL.Sem
namespace Cert.RetRefIdeal.Read
open Cert.RetRefIdeal Cert.RetRefIdeal.Gen Cert.RetRefIdeal.Step Cert.RetRefIdeal.Trips
open Cert.RetIdeal.Spec (el state mixed gated)
open Cert.RetIdeal.Point (mean)

theorem zeta_eq : K_main_v31 (F := Ideal) = Cert.RetIdeal.Tables.zeta (F := Ideal) := by
  unfold Cert.RetIdeal.Tables.zeta Cert.RetIdeal.Tables.lg; rfl
theorem cd_eq : K_main_v47 (F := Ideal) = Cert.RetIdeal.Tables.cd (F := Ideal) := by
  unfold Cert.RetIdeal.Tables.cd Cert.RetIdeal.Tables.lg; rfl

/-! ## One trip -/

/-- Each chunk's keys against its values. -/
theorem kv_apply (X : Vec Ideal S16384x1024 .bf16) (n : Fin 64) (h : Fin 4) (d e : Fin 64) :
    A_main_v50 (F := Ideal) X (ix5 n 0 h d e)
      = ∑ r : Fin 256, (el X (256 * n.val + r.val) (256 + 64 * h.val + d.val) * Cert.RetIdeal.Tables.zeta (F := Ideal) (ix2 h r)) * el X (256 * n.val + r.val) (512 + 64 * h.val + e.val) := by
  pointwise [A_main_v50, A_main_v35, A_main_v34, A_main_v13, A_main_v12, A_main_v11, A_main_v10, A_main_v9, A_main_v8, A_main_v4, A_main_v3, A_main_v1, A_main_v0, K_main_v33, K_main_v32]
  rw [zeta_eq]
  refine Finset.sum_congr rfl fun r _ => ?_
  unfold el
  congr 2
  · congr 1
    funext a
    match a with
    | 0 => exact Fin.ext (show n.val * 256 + r.val = (256 * n.val + r.val) % 16384 by omega)
    | 1 => exact Fin.ext (show 256 + (h.val * 64 + d.val) = (256 + 64 * h.val + d.val) % 1024 by omega)
  · funext a
    match a with
    | 0 => exact Fin.ext (show n.val * 256 + r.val = (256 * n.val + r.val) % 16384 by omega)
    | 1 => exact Fin.ext (show 512 + (h.val * 64 + e.val) = (512 + 64 * h.val + e.val) % 1024 by omega)

/-- A trip's number read as a start is itself. -/
theorem start_trip (ht : S1x1x4x64x64.rank = S64x1x4x64x64.rank) (n : Fin 64) (a b c d : (⟨S_, .i32⟩ : BufTy).Contents (Elt Ideal)) :
    Host.clampedStart S64x1x4x64x64 S1x1x4x64x64 ht (fun k => (((![(constantI S_ 32 (BitVec.ofNat 32 n.val) : (⟨S_, .i32⟩ : BufTy).Contents (Elt Ideal)), a, b, c, d] : Fin 5 → (⟨S_, .i32⟩ : BufTy).Contents (Elt Ideal))) k (Shape.Idx.first h_S_)).toInt) 0 = n.val :=
  Host.clampedStart_of_le ht _ 0 n.val (toInt_ofNat_of_lt (by omega)) (show n.val + 1 ≤ 64 by omega)
theorem start_1 (ht : S1x1x4x64x64.rank = S64x1x4x64x64.rank) (f : Fin 5 → Int) : Host.clampedStart S64x1x4x64x64 S1x1x4x64x64 ht f 1 = 0 := by
  show (min (max (f 1) 0) (0 : Int)).toNat = 0; omega
theorem start_2 (ht : S1x1x4x64x64.rank = S64x1x4x64x64.rank) (f : Fin 5 → Int) : Host.clampedStart S64x1x4x64x64 S1x1x4x64x64 ht f 2 = 0 := by
  show (min (max (f 2) 0) (0 : Int)).toNat = 0; omega
theorem start_3 (ht : S1x1x4x64x64.rank = S64x1x4x64x64.rank) (f : Fin 5 → Int) : Host.clampedStart S64x1x4x64x64 S1x1x4x64x64 ht f 3 = 0 := by
  show (min (max (f 3) 0) (0 : Int)).toNat = 0; omega
theorem start_4 (ht : S1x1x4x64x64.rank = S64x1x4x64x64.rank) (f : Fin 5 → Int) : Host.clampedStart S64x1x4x64x64 S1x1x4x64x64 ht f 4 = 0 := by
  show (min (max (f 4) 0) (0 : Int)).toNat = 0; omega

theorem b8_apply (s : State Ideal) (n : Fin 64) (h : Fin 4) (d e : Fin 64) :
    b8 n.val s (ix4 0 h d e) = Cert.RetIdeal.Tables.cd (F := Ideal) (ix1 h) * s.main_v52_3 (ix4 0 h d e) + s.main_v52_0 (ix5 n 0 h d e) := by
  pointwise [b8, b7, b6, b5, b4, K_main_v48]
  simp only [start_trip, start_1, start_2, start_3, start_4, Nat.zero_add, cd_eq]
  rfl

theorem b14_apply (s : State Ideal) (n j : Fin 64) (h : Fin 4) (d e : Fin 64) :
    b14 n.val s (ix5 j 0 h d e) = if j = n then s.main_v52_3 (ix4 0 h d e) else s.main_v52_4 (ix5 j 0 h d e) := by
  pointwise [b14, b9]
  simp only [start_trip, start_1, start_2, start_3, start_4]
  by_cases hj : j = n
  · subst hj
    rw [if_pos rfl, dif_pos ⟨⟨le_rfl, by omega⟩, by omega⟩]
    congr 1
  · rw [if_neg hj, dif_neg]
    rintro ⟨⟨h1, h2⟩, -⟩
    exact hj (Fin.ext (by omega))

/-! ## All trips -/

/-- The state before each trip. -/
def sts (X : Vec Ideal S16384x1024 .bf16) : ℕ → State Ideal
  | 0 => init (F := Ideal) X
  | n + 1 => step n (sts X n)

theorem sts_kv (X : Vec Ideal S16384x1024 .bf16) (n : ℕ) : (sts X n).main_v52_0 = A_main_v50 (F := Ideal) X := by
  induction n with
  | zero => rfl
  | succ n ih => exact ih

theorem sts_state (X : Vec Ideal S16384x1024 .bf16) (h : Fin 4) (d e : Fin 64) (n : ℕ) (hn : n ≤ 64) :
    (sts X n).main_v52_3 (ix4 0 h d e) = state X h d e n := by
  induction n with
  | zero =>
    show K_main_v49 (F := Ideal) (ix4 0 h d e) = 0
    pointwise [K_main_v49, K_main_cst_7]
  | succ n ih =>
    show b8 n (sts X n) (ix4 0 h d e) = _
    rw [b8_apply (sts X n) ⟨n, by omega⟩ h d e, ih (by omega), sts_kv, kv_apply]
    rfl

theorem sts_kept (X : Vec Ideal S16384x1024 .bf16) (h : Fin 4) (d e : Fin 64) (j : Fin 64) (n : ℕ) (hn : n ≤ 64) (hj : j.val < n) :
    (sts X n).main_v52_4 (ix5 j 0 h d e) = state X h d e j.val := by
  induction n with
  | zero => omega
  | succ n ih =>
    show b14 n (sts X n) (ix5 j 0 h d e) = _
    rw [b14_apply (sts X n) ⟨n, by omega⟩ j h d e]
    by_cases hjn : j.val = n
    · rw [if_pos (Fin.ext hjn), sts_state X h d e n (by omega), hjn]
    · rw [if_neg (fun he => hjn (congrArg Fin.val he))]
      exact ih (by omega) (by omega)

end Cert.RetRefIdeal.Read
-- ==== Proof.RetTail.lean ====
module
public import proofs.«01_k».proof.Proof.RetRef
/-! # The retention reference's result in closed form

What follows the loop, part by part: the chunks of the argument, the decay tables, each row's mix, and the
normalised, gated output. -/
@[expose] public section
set_option maxRecDepth 16384
noncomputable section
open Idealize.ShloMosaic Idealize.ShloMosaic.TcCoe Idealize.SL.Sem
namespace Cert.RetRefIdeal.Tail
open Cert.RetRefIdeal Cert.RetRefIdeal.Gen Cert.RetRefIdeal.Step Cert.RetRefIdeal.Read
open Cert.RetIdeal.Spec (el state mixed gated)
open Cert.RetIdeal.Point (mean)

/-- The chunks of the queries, keys and values, head by head. -/
def qC (X : Vec Ideal S16384x1024 .bf16) : FVec Ideal S1x4x64x256x64 .f32 :=
  shapeCast S1x4x64x256x64 (transpose S1x4x16384x64 [0, 2, 1, 3] (shapeCast S1x16384x4x64 (extractStridedSlice S1x16384x256 ![0, 0, 0] (broadcastInDim S1x16384x1024 ![1, 2] bcast_S16384x1024_S1x16384x1024_1_2 (extf .f32 (X) bitsLt_bf16_f32)) slices_S1x16384x1024_S1x16384x256_0_0_0) shapeCasts_S1x16384x256_S1x16384x4x64) transposes_S1x16384x4x64_S1x4x16384x64_0_2_1_3) shapeCasts_S1x4x16384x64_S1x4x64x256x64
def kC (X : Vec Ideal S16384x1024 .bf16) : FVec Ideal S1x4x64x256x64 .f32 :=
  shapeCast S1x4x64x256x64 (transpose S1x4x16384x64 [0, 2, 1, 3] (shapeCast S1x16384x4x64 (extractStridedSlice S1x16384x256 ![0, 0, 256] (broadcastInDim S1x16384x1024 ![1, 2] bcast_S16384x1024_S1x16384x1024_1_2 (extf .f32 (X) bitsLt_bf16_f32)) slices_S1x16384x1024_S1x16384x256_0_0_256) shapeCasts_S1x16384x256_S1x16384x4x64) transposes_S1x16384x4x64_S1x4x16384x64_0_2_1_3) shapeCasts_S1x4x16384x64_S1x4x64x256x64
def vC (X : Vec Ideal S16384x1024 .bf16) : FVec Ideal S1x4x64x256x64 .f32 :=
  shapeCast S1x4x64x256x64 (transpose S1x4x16384x64 [0, 2, 1, 3] (shapeCast S1x16384x4x64 (extractStridedSlice S1x16384x256 ![0, 0, 512] (broadcastInDim S1x16384x1024 ![1, 2] bcast_S16384x1024_S1x16384x1024_1_2 (extf .f32 (X) bitsLt_bf16_f32)) slices_S1x16384x1024_S1x16384x256_0_0_512) shapeCasts_S1x16384x256_S1x16384x4x64) transposes_S1x16384x4x64_S1x4x16384x64_0_2_1_3) shapeCasts_S1x4x16384x64_S1x4x64x256x64

/-- The causal decay between two rows of a chunk. -/
def decR : FVec Ideal S4x256x256 .f32 :=
  select (broadcastInDim S4x256x256 ![1, 2] bcast_S256x256_S4x256x256_1_2 (cmpi .sge (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (Host.exp (mulf (broadcastInDim S4x256x256 ![0, 1, 2] bcast_S4x1x1_S4x256x256_0_1_2 (broadcastInDim S4x1x1 ![0] bcast_S4_S4x1x1_0 (Host.log (subf (broadcastInDim S4 ![] bcast_S_S4 (constant S_ .f32 0x3F800000#32)) (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))) (broadcastInDim S4x256x256 ![0, 1, 2] bcast_S1x256x256_S4x256x256_0_1_2 (broadcastInDim S1x256x256 ![1, 2] bcast_S256x256_S1x256x256_1_2 (maximumf (subf (broadcastInDim S256x256 ![0, 1] bcast_S256x1_S256x256_0_1 (broadcastInDim S256x1 ![0] bcast_S256_S256x1_0 (sitofp .f32 (iotaInDim S256 32 0)))) (broadcastInDim S256x256 ![0, 1] bcast_S1x256_S256x256_0_1 (broadcastInDim S1x256 ![1] bcast_S256_S1x256_1 (sitofp .f32 (iotaInDim S256 32 0))))) (broadcastInDim S256x256 ![] bcast_S_S256x256 (constant S_ .f32 0x00000000#32))))))) (broadcastInDim S4x256x256 ![] bcast_S_S4x256x256 (id (constant S_ .f32 0x00000000#32)))

/-- How much of the carried state is left at a chunk row. -/
def xiR : FVec Ideal S4x256 .f32 :=
  Host.exp (mulf (broadcastInDim S4x256 ![0, 1] bcast_S4x1_S4x256_0_1 (broadcastInDim S4x1 ![0] bcast_S4_S4x1_0 (Host.log (subf (broadcastInDim S4 ![] bcast_S_S4 (constant S_ .f32 0x3F800000#32)) (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))) (broadcastInDim S4x256 ![0, 1] bcast_S1x256_S4x256_0_1 (broadcastInDim S1x256 ![1] bcast_S256_S1x256_1 (addf (sitofp .f32 (iotaInDim S256 32 0)) (broadcastInDim S256 ![] bcast_S_S256 (constant S_ .f32 0x3F800000#32))))))

/-- Each row's mix, of the kept states. -/
def mixR (X : Vec Ideal S16384x1024 .bf16) (K : FVec Ideal S64x1x4x64x64 .f32) : FVec Ideal S1x4x64x256x64 .f32 :=
  addf (Host.dotGeneral dot_S1x4x64x256x256_S1x4x64x256x64_S1x4x64x256x64_4_3_3_4_012_012 none (mulf (Host.dotGeneral dot_S1x4x64x256x64_S1x4x64x256x64_S1x4x64x256x256_4_4_3_3_012_012 none (qC X) (kC X)) (broadcastInDim S1x4x64x256x256 ![0, 1, 2, 3, 4] bcast_S1x4x1x256x256_S1x4x64x256x256_0_1_2_3_4 (broadcastInDim S1x4x1x256x256 ![1, 3, 4] bcast_S4x256x256_S1x4x1x256x256_1_3_4 (decR)))) (vC X)) (mulf (Host.dotGeneral dot_S1x4x64x256x64_S1x4x64x64x64_S1x4x64x256x64_4_3_3_4_012_012 none (qC X) (transpose S1x4x64x64x64 [1, 2, 0, 3, 4] (K) transposes_S64x1x4x64x64_S1x4x64x64x64_1_2_0_3_4)) (broadcastInDim S1x4x64x256x64 ![0, 1, 2, 3, 4] bcast_S1x4x1x256x1_S1x4x64x256x64_0_1_2_3_4 (broadcastInDim S1x4x1x256x1 ![1, 3] bcast_S4x256_S1x4x1x256x1_1_3 (xiR))))

/-- The chunks put back into rows. -/
def rows (Y : FVec Ideal S1x4x64x256x64 .f32) : FVec Ideal S1x4x16384x64 .f32 :=
  shapeCast S1x4x16384x64 Y shapeCasts_S1x4x64x256x64_S1x4x16384x64

/-- The rows centred, head by head. -/
def cen (Y : FVec Ideal S1x4x64x256x64 .f32) : FVec Ideal S1x4x16384x64 .f32 :=
  subf (rows Y) (broadcastInDim S1x4x16384x64 ![0, 1, 2, 3] bcast_S1x4x16384x1_S1x4x16384x64_0_1_2_3 (Host.divf (broadcastInDim S1x4x16384x1 ![0, 1, 2] bcast_S1x4x16384_S1x4x16384x1_0_1_2 (Host.reduceAdd (rows Y) (constant S_ .f32 0x00000000#32) reducesTo_S1x4x16384x64_S1x4x16384_d3 h_S_)) (broadcastInDim S1x4x16384x1 ![] bcast_S_S1x4x16384x1 (constant S_ .f32 0x42800000#32))))

/-- The gates. -/
def gR (X : Vec Ideal S16384x1024 .bf16) : FVec Ideal S1x16384x256 .f32 :=
  extractStridedSlice S1x16384x256 ![0, 0, 768] (broadcastInDim S1x16384x1024 ![1, 2] bcast_S16384x1024_S1x16384x1024_1_2 (extf .f32 (X) bitsLt_bf16_f32)) slices_S1x16384x1024_S1x16384x256_0_0_768

/-- The mix normalised, weighted and gated. -/
def finR (X : Vec Ideal S16384x1024 .bf16) (W : Vec Ideal S256 .f32) (Y : FVec Ideal S1x4x64x256x64 .f32) : Vec Ideal S16384x256 .bf16 :=
  truncf .bf16 (shapeCast _ (mulf (mulf (shapeCast _ (transpose S1x16384x4x64 [0, 2, 1, 3] (mulf (cen Y) (broadcastInDim S1x4x16384x64 ![0, 1, 2, 3] bcast_S1x4x16384x1_S1x4x16384x64_0_1_2_3 (Host.rsqrt (addf (Host.divf (broadcastInDim S1x4x16384x1 ![0, 1, 2] bcast_S1x4x16384_S1x4x16384x1_0_1_2 (Host.reduceAdd (mulf (cen Y) (cen Y)) (constant S_ .f32 0x00000000#32) reducesTo_S1x4x16384x64_S1x4x16384_d3 h_S_)) (broadcastInDim S1x4x16384x1 ![] bcast_S_S1x4x16384x1 (constant S_ .f32 0x42800000#32))) (broadcastInDim S1x4x16384x1 ![] bcast_S_S1x4x16384x1 (constant S_ .f32 0x3727C5AC#32)))))) transposes_S1x4x16384x64_S1x16384x4x64_0_2_1_3) shapeCasts_S1x16384x4x64_S1x16384x256) (broadcastInDim S1x16384x256 ![0, 1, 2] bcast_S1x1x256_S1x16384x256_0_1_2 (broadcastInDim S1x1x256 ![2] bcast_S256_S1x1x256_2 (W)))) (mulf (gR X) (Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf (gR X))))))) shapeCasts_S1x16384x256_S16384x256) bitsLt_bf16_f32

theorem R_eq (s : State Ideal) (X : Vec Ideal S16384x1024 .bf16) (W : Vec Ideal S256 .f32) :
    R_main_v153 (F := Ideal) s X W = finR X W (mixR X s.main_v52_4) := by
  unfold R_main_v153 finR mixR cen rows gR qC kC vC decR xiR
  rfl

theorem xi_eq : xiR = Cert.RetIdeal.Tables.xi (F := Ideal) := by
  unfold Cert.RetIdeal.Tables.xi Cert.RetIdeal.Tables.lg xiR; rfl

theorem word (k : Fin 256) : FloatOps.sitofp (F := Ideal) .f32 (BitVec.ofNat 32 k.val) = ((k.val : ℝ) : EReal) := by
  show (((BitVec.ofNat 32 k.val).toInt : ℝ) : EReal) = _
  rw [toInt_ofNat_of_lt (show k.val < 2 ^ 31 by omega)]
  norm_num

theorem ahead (r s : Fin 256) : (0 : EReal) ≤ ((r.val : ℝ) : EReal) - ((s.val : ℝ) : EReal) ↔ s.val ≤ r.val := by
  rw [← EReal.coe_sub, ← EReal.coe_zero, EReal.coe_le_coe_iff, sub_nonneg, Nat.cast_le]

theorem later (r s : Fin 256) : IntOp.cmpi .sge (BitVec.ofNat 32 r.val) (BitVec.ofNat 32 s.val) = if s.val ≤ r.val then 1#1 else 0#1 := by
  have hr := toInt_ofNat_of_lt (show r.val < 2 ^ 31 by omega)
  have hs := toInt_ofNat_of_lt (show s.val < 2 ^ 31 by omega)
  show BitVec.ofBool ((BitVec.ofNat 32 s.val).sle (BitVec.ofNat 32 r.val)) = _
  unfold BitVec.sle
  rw [hr, hs]
  by_cases h : s.val ≤ r.val
  · rw [if_pos h, decide_eq_true (by exact_mod_cast h)]; rfl
  · rw [if_neg h, decide_eq_false (by exact_mod_cast h)]; rfl

theorem dec_apply (h : Fin 4) (r s : Fin 256) : decR (ix3 h r s) = Cert.RetIdeal.Tables.decay (F := Ideal) (ix3 h r s) := by
  pointwise [decR, Cert.RetIdeal.Tables.decay, Cert.RetIdeal.Tables.gap, Cert.RetIdeal.Tables.lg]
  have hz : id (constant (F := Ideal) S_ FTy.f32 0#32) ix0 = 0 := by
    show constant (F := Ideal) S_ FTy.f32 0#32 ix0 = 0
    pointwise
  rw [hz, later, word, word]
  simp only [ahead]
  by_cases hsr : s.val ≤ r.val
  · rw [if_pos hsr, if_pos hsr, ValueIdx.select_one]
  · rw [if_neg hsr, if_neg hsr, ValueIdx.select_zero]

theorem qC_apply (X : Vec Ideal S16384x1024 .bf16) (n h) (r d) : qC X (ix5 0 h n r d) = el X (256 * n.val + r.val) (64 * h.val + d.val) := by
  pointwise [qC]
  refine congrArg X ?_
  funext a
  match a with
  | 0 => exact Fin.ext (show n.val * 256 + r.val = (256 * n.val + r.val) % 16384 by omega)
  | 1 => exact Fin.ext (show h.val * 64 + d.val = (64 * h.val + d.val) % 1024 by omega)
theorem kC_apply (X : Vec Ideal S16384x1024 .bf16) (n h) (r d) : kC X (ix5 0 h n r d) = el X (256 * n.val + r.val) (256 + 64 * h.val + d.val) := by
  pointwise [kC]
  refine congrArg X ?_
  funext a
  match a with
  | 0 => exact Fin.ext (show n.val * 256 + r.val = (256 * n.val + r.val) % 16384 by omega)
  | 1 => exact Fin.ext (show 256 + (h.val * 64 + d.val) = (256 + 64 * h.val + d.val) % 1024 by omega)
theorem vC_apply (X : Vec Ideal S16384x1024 .bf16) (n h) (r d) : vC X (ix5 0 h n r d) = el X (256 * n.val + r.val) (512 + 64 * h.val + d.val) := by
  pointwise [vC]
  refine congrArg X ?_
  funext a
  match a with
  | 0 => exact Fin.ext (show n.val * 256 + r.val = (256 * n.val + r.val) % 16384 by omega)
  | 1 => exact Fin.ext (show 512 + (h.val * 64 + d.val) = (512 + 64 * h.val + d.val) % 1024 by omega)

theorem mix_eq (X : Vec Ideal S16384x1024 .bf16) (K : FVec Ideal S64x1x4x64x64 .f32) (h : Fin 4) (n : Fin 64) (r : Fin 256) (e : Fin 64)
    (hK : ∀ d e, K (ix5 n 0 h d e) = state X h d e n.val) :
    mixR X K (ix5 0 h n r e) = mixed X n.val r h e := by
  pointwise [mixR]
  simp only [qC_apply, kC_apply, vC_apply, dec_apply, xi_eq, hK]
  rw [add_comm]
  rfl

theorem fin_apply (X : Vec Ideal S16384x1024 .bf16) (W : Vec Ideal S256 .f32) (Y : FVec Ideal S1x4x64x256x64 .f32) (i : Fin 16384) (l : Fin 256)
    (hY : ∀ d, Y (ix5 0 ⟨l.val / 64, by omega⟩ ⟨i.val / 256, by omega⟩ ⟨i.val % 256, by omega⟩ d)
      = mixed X (i.val / 256) ⟨i.val % 256, by omega⟩ ⟨l.val / 64, by omega⟩ d) :
    finR X W Y (ix2 i l) = gated X W (i.val / 256) ⟨i.val % 256, by omega⟩ ⟨l.val / 64, by omega⟩ ⟨l.val % 64, by omega⟩ := by
  have hW : W (ix1 l) = W (ix1 (Fin.ofNat 256 (64 * (l.val / 64) + l.val % 64))) := by
    refine congrArg W (congrArg ix1 (Fin.ext ?_))
    show l.val = (64 * (l.val / 64) + l.val % 64) % 256
    omega
  have hg : X (ix2 i ⟨768 + l.val, by omega⟩) = el X (256 * (i.val / 256) + i.val % 256) (768 + 64 * (l.val / 64) + l.val % 64) := by
    refine congrArg X ?_
    funext a
    match a with
    | 0 => exact Fin.ext (show i.val = (256 * (i.val / 256) + i.val % 256) % 16384 by omega)
    | 1 => exact Fin.ext (show 768 + l.val = (768 + 64 * (l.val / 64) + l.val % 64) % 1024 by omega)
  pointwise [finR, cen, rows, gR]
  simp only [hY, hg, hW]
  rfl

/-- The reference's result, of its argument and the weights. -/
theorem result (X : Vec Ideal S16384x1024 .bf16) (W : Vec Ideal S256 .f32) (i : Fin 16384) (l : Fin 256) :
    R_main_v153 (F := Ideal) (sts X 64) X W (ix2 i l)
      = gated X W (i.val / 256) ⟨i.val % 256, by omega⟩ ⟨l.val / 64, by omega⟩ ⟨l.val % 64, by omega⟩ := by
  rw [R_eq]
  exact fin_apply X W _ i l fun d => mix_eq X _ _ ⟨i.val / 256, by omega⟩ _ d fun d e => sts_kept X _ d e _ 64 le_rfl (by show i.val / 256 < 64; omega)

end Cert.RetRefIdeal.Tail
-- ==== Proof.RetEq.lean ====
module
public import proofs.«01_k».proof.Proof.RetTail
/-! # The retention kernel and its reference agree

Both arrays are the same closed form of the argument and the weights, entry by entry. -/
@[expose] public section
noncomputable section
open Idealize.ShloMosaic Idealize.ShloMosaic.TcCoe Idealize.SL.Sem
namespace Cert.RetEq

theorem agree (m : (ℓ : Loc Cert.RetIdeal.nD Cert.RetIdeal.τ Cert.RetIdeal.sig) → Buf (Elt Ideal) ℓ) (c : Dev Cert.RetIdeal.nD) (X : Vec Ideal Cert.RetIdeal.S16384x1024 .bf16) (W : Vec Ideal Cert.RetIdeal.S256 .f32)
    (hX : X = m ((c.tc : Thread Cert.RetIdeal.nD Cert.RetIdeal.τ).loc Cert.RetIdeal.main_arg0))
    (hW : W = m ((c.tc : Thread Cert.RetIdeal.nD Cert.RetIdeal.τ).loc Cert.RetIdeal.main_arg1)) :
    Cert.RetRefIdeal.Step.R_main_v153 (F := Ideal) (Cert.RetRefIdeal.Read.sts X 64) X W = Cert.RetIdeal.Value.G6 m c := by
  subst hX hW
  funext j
  have hj : j = ix2 (j 0) (j 1) := by
    funext a
    match a with
    | 0 => rfl
    | 1 => rfl
  rw [hj]
  exact (Cert.RetRefIdeal.Tail.result _ _ (j 0) (j 1)).trans (Cert.RetIdeal.Spec.G6_eq m c (j 0) (j 1)).symm

end Cert.RetEq
-- ==== Proof.RetClaims.lean ====
module
public import proofs.«01_k».proof.Defs
public import proofs.«01_k».proof.Proof.Gen.Ret.Frame
public import proofs.«01_k».proof.Proof.Gen.RetIdeal.Frame
public import proofs.«01_k».proof.Proof.RetEq
/-! # The claims about the retention call

The kernel's frames are the generated ones; the reference's run gives its frame and, beside the kernel's run,
the equality of the results. -/
@[expose] public section
noncomputable section
open Idealize.ShloMosaic Idealize.ShloMosaic.TcCoe Idealize.SL.Sem
namespace Cert.RetClaims

/-- The state before each trip of the reference's loop, of the memory it starts from. -/
abbrev seq (m : (ℓ : Loc Cert.RetRefIdeal.nD Cert.RetRefIdeal.τ Cert.RetRefIdeal.sig) → Buf (Elt Ideal) ℓ) (c : Dev Cert.RetRefIdeal.nD) :
    ℕ → Cert.RetRefIdeal.Step.State Ideal :=
  Cert.RetRefIdeal.Read.sts (m ((c.tc : Thread Cert.RetRefIdeal.nD Cert.RetRefIdeal.τ).loc Cert.RetRefIdeal.main_arg0))

theorem frame_r : Cert.quiescent_RetRefIdeal := fun m ρ _ =>
  (θ_run Cert.RetRefIdeal.defs _ _).mono (fun r h => ⟨fun c => (h c).2, sem_eq_zero_of_no_sems (by decide) r.2⟩)
    (Cert.RetRefIdeal.Trips.run_iter (F := Ideal) m ρ (seq m) (fun _ => rfl) (fun _ _ => rfl))

theorem algebraic : Cert.algebraic_RetIdeal_RetRefIdeal := by
  intro m ρ m' ρ' _ hagree
  refine ⟨fun c => Cert.RetIdeal.Value.G6 m c, Cert.RetIdeal.Value.run (F := Ideal) m ρ, ?_⟩
  exact (θ_run Cert.RetRefIdeal.defs _ _).mono
    (fun r h c => ⟨(h c).1.trans (Cert.RetEq.agree m c _ _ (hagree c).1 (hagree c).2), (h c).2⟩)
    (Cert.RetRefIdeal.Trips.run_iter (F := Ideal) m' ρ' (seq m') (fun _ => rfl) (fun _ _ => rfl))

end Cert.RetClaims
-- ==== Proof.ProjPiece.lean ====
module
public import proofs.«01_k».proof.Proof.Gen.ProjIdeal.Value
public import Idealize.ShloMosaic.Lib.Pipeline.ReadBack
public import Idealize.ShloMosaic.Lib.Pipeline.ValueKit.Tiles
public import Idealize.ShloMosaic.Lib.Pointwise
public import Idealize.ShloMosaic.Lib.Tactic
/-! # What a grid point of the projections stores, piece by piece

A point takes 512 rows. Every store is read at an entry, over the products `seg` of the normed rows with the
columns of the weights; rows, columns and lanes are plain numbers here. -/
@[expose] public section
set_option maxRecDepth 65536
noncomputable section
open Idealize.ShloMosaic Idealize.ShloMosaic.TcCoe Idealize.SL.Sem
namespace Cert.ProjIdeal.Piece
open Cert.ProjIdeal Cert.ProjIdeal.Gen

/-- Row `r` of the normed block times column `n` of the weights. -/
def seg (H : Vec Ideal S512x1024 .bf16) (x2 : Vec Ideal S1024x4352 .bf16) (r n : ℕ) : EReal :=
  ∑ k : Fin 1024, H (ix2 (Fin.ofNat 512 r) k) * x2 (ix2 k (Fin.ofNat 4352 n))

/-- 512 columns of the weights. -/
def cols (x2 : Vec Ideal S1024x4352 .bf16) (lo : ℕ) : Vec Ideal S1024x512 .bf16 :=
  fun i => x2 (ix2 (i 0) (Fin.ofNat 4352 (lo + (i 1).val)))
/-- 768 columns of the weights. -/
def cols' (x2 : Vec Ideal S1024x4352 .bf16) (lo : ℕ) : Vec Ideal S1024x768 .bf16 :=
  fun i => x2 (ix2 (i 0) (Fin.ofNat 4352 (lo + (i 1).val)))

theorem ld_cols (x : Vec Ideal S1024x4352 .bf16) (l : ℕ) (h) :
    View.ld x (Rect.unit ![0, l] ![1024, 512] h) = cols x l := by
  funext i
  refine View.ld_unit_apply_of x _ _ h i _ fun a => ?_
  have h1 : l + 512 ≤ 4352 := h 1
  have i1 : (i 1 : ℕ) < 512 := (i 1).isLt
  match a with
  | 0 => exact (Nat.zero_add _).symm
  | 1 => exact Nat.mod_eq_of_lt (by omega)

theorem ld_cols' (x : Vec Ideal S1024x4352 .bf16) (l : ℕ) (h) :
    View.ld x (Rect.unit ![0, l] ![1024, 768] h) = cols' x l := by
  funext i
  refine View.ld_unit_apply_of x _ _ h i _ fun a => ?_
  have h1 : l + 768 ≤ 4352 := h 1
  have i1 : (i 1 : ℕ) < 768 := (i 1).isLt
  match a with
  | 0 => exact (Nat.zero_add _).symm
  | 1 => exact Nat.mod_eq_of_lt (by omega)

theorem ofNat_val {n : ℕ} [NeZero n] (r : Fin n) : Fin.ofNat n r.val = r := Fin.ext (Nat.mod_eq_of_lt r.isLt)

theorem seg_cols (H : Vec Ideal S512x1024 .bf16) (x2 : Vec Ideal S1024x4352 .bf16) (lo : ℕ) (r : Fin 512) (l : Fin 512) :
    ∑ k, H (ix2 r k) * cols x2 lo (ix2 k l) = seg H x2 r.val (lo + l.val) := by
  unfold seg
  rw [ofNat_val]
  rfl

theorem seg_cols' (H : Vec Ideal S512x1024 .bf16) (x2 : Vec Ideal S1024x4352 .bf16) (lo : ℕ) (r : Fin 512) (l : Fin 768) :
    ∑ k, H (ix2 r k) * cols' x2 lo (ix2 k l) = seg H x2 r.val (lo + l.val) := by
  unfold seg
  rw [ofNat_val]
  rfl

theorem seg_at (H : Vec Ideal S512x1024 .bf16) (x2 : Vec Ideal S1024x4352 .bf16) (lo : ℕ) (a l : Fin 512) (r m : ℕ)
    (hr : a.val = r) (hm : lo + l.val = m) : ∑ k, H (ix2 a k) * cols x2 lo (ix2 k l) = seg H x2 r m := by
  subst hr hm
  exact seg_cols H x2 lo a l

theorem eq2 {n k : ℕ} (x : (⟨2, ![n, k]⟩ : Shape).Idx) : x = ix2 (x 0) (x 1) := by
  funext a
  match a with
  | 0 => rfl
  | 1 => rfl
theorem eq3 {n k l : ℕ} (x : (⟨3, ![n, k, l]⟩ : Shape).Idx) : x = ix3 (x 0) (x 1) (x 2) := by
  funext a
  match a with
  | 0 => rfl
  | 1 => rfl
  | 2 => rfl

/-! ## The blocks -/

/-- The queries: transposed and scaled. -/
def e8 (S : ℕ → ℕ → EReal) (n q r : ℕ) : EReal := S (256 * n + r) q * Ideal.ofBits .f32 0x3E38AA3B#32
/-- The keys of head `h`: its own lanes, the other half holds the row in the block in three lanes, and zeros. -/
def e9 (S : ℕ → ℕ → EReal) (r h b : ℕ) : EReal :=
  if b / 64 = h % 2 then S r (512 + (128 * (h / 2) + b))
  else if b % 64 < 3 then FloatOps.sitofp (F := Ideal) (w := 32) .f32 (BitVec.ofNat 32 (r % 256)) else 0
/-- The values of head `h`, transposed, over ones. -/
def e10 (S : ℕ → ℕ → EReal) (n h q r : ℕ) : EReal :=
  if q < 64 then S (256 * n + r) (1024 + (64 * h + q)) else 1
/-- The attention's gates. -/
def e11 (S : ℕ → ℕ → EReal) (r l : ℕ) : EReal := S r (1536 + l)
/-- The keys' means. -/
def e12 (S : ℕ → ℕ → EReal) (n l : ℕ) : EReal :=
  Ideal.div (∑ r : Fin 256, S (256 * n + r.val) (512 + l)) (Ideal.ofBits .f32 0x43800000#32)
/-- The lane that the rotation swaps a lane with. -/
def swapped (l : ℕ) : ℕ := if l % 64 < 32 then l + 32 else l - 32
/-- A rotated lane. -/
def rot (S C D : ℕ → ℕ → EReal) (r l : ℕ) : EReal := S r (2048 + l) * C r (l % 128) + S r (2048 + swapped l) * D r (l % 128)
/-- The retention's queries and keys, rotated, its values and its gates. -/
def e13 (S C D : ℕ → ℕ → EReal) (r l : ℕ) : EReal :=
  if l < 256 then rot S C D r l
  else if l < 512 then rot S C D r l * Ideal.ofBits .f32 0x3E000000#32 else S r (2048 + l)
/-- The convolution over the rows `E`, whose row `q` is five rows before row `q`. -/
def conv (E : ℕ → ℕ → EReal) (cw : Vec Ideal S4x512 .f32) (cb : Vec Ideal S1x512 .f32) (r l : ℕ) : EReal :=
  cb (ix2 0 (Fin.ofNat 512 l)) + cw (ix2 0 (Fin.ofNat 512 l)) * E (r + 5) l + cw (ix2 1 (Fin.ofNat 512 l)) * E (r + 6) l
    + cw (ix2 2 (Fin.ofNat 512 l)) * E (r + 7) l + cw (ix2 3 (Fin.ofNat 512 l)) * E (r + 8) l
/-- The mLSTM's queries and keys, its values and its gates. -/
def e14 (S E : ℕ → ℕ → EReal) (cw : Vec Ideal S4x512 .f32) (cb : Vec Ideal S1x512 .f32) (r l : ℕ) : EReal :=
  if l < 256 then conv E cw cb r l * Ideal.logistic (conv E cw cb r l)
  else if l < 512 then conv E cw cb r l * Ideal.logistic (conv E cw cb r l) * Ideal.ofBits .f32 0x3E000000#32
  else S r (3072 + l)
/-- The history of the convolution: eight rows from before, then the block's. -/
def hist (S : ℕ → ℕ → EReal) (P : ℕ → ℕ → EReal) (q l : ℕ) : EReal := if q < 8 then P q l else S (q - 8) (3072 + l)

theorem sel (c : BitVec 1) (p : Prop) [Decidable p] (A B : EReal) (h : c = if p then 1#1 else 0#1) :
    Scalar.select c A B = if p then A else B := by
  subst h
  by_cases hp : p
  · rw [if_pos hp, if_pos hp]; rfl
  · rw [if_neg hp, if_neg hp]; rfl

theorem q_1 (H : Vec Ideal S512x1024 .bf16) (x2 : Vec Ideal S1024x4352 .bf16) (z : Fin 1) (a : Fin 512) (b : Fin 256) :
    k0_pay59 (k0_pay3 H (cols x2 0)) (ix3 z a b)
      = e8 (seg H x2) (1 + 1 * z.val) (0 + 1 * a.val) (0 + 1 * b.val) := by
  pointwise [k0_pay3, k0_pay59]
  try simp only [Nat.one_mul, Nat.zero_add]
  have hz : z.val = 0 := by omega
  exact congrArg (· * Ideal.ofBits .f32 0x3E38AA3B#32) (seg_at H x2 0 _ _ _ _ (by (try dsimp only) <;> omega) (by (try dsimp only) <;> omega))

theorem q_0 (H : Vec Ideal S512x1024 .bf16) (x2 : Vec Ideal S1024x4352 .bf16) (z : Fin 1) (a : Fin 512) (b : Fin 256) :
    k0_pay37 (k0_pay3 H (cols x2 0)) (ix3 z a b)
      = e8 (seg H x2) (0 + 1 * z.val) (0 + 1 * a.val) (0 + 1 * b.val) := by
  pointwise [k0_pay3, k0_pay37]
  try simp only [Nat.one_mul, Nat.zero_add]
  have hz : z.val = 0 := by omega
  exact congrArg (· * Ideal.ofBits .f32 0x3E38AA3B#32) (seg_at H x2 0 _ _ _ _ (by (try dsimp only) <;> omega) (by (try dsimp only) <;> omega))

theorem k_7 (H : Vec Ideal S512x1024 .bf16) (x2 : Vec Ideal S1024x4352 .bf16) (a : Fin 512) (b : Fin 128) :
    k0_pay35 (k0_pay4 H (cols x2 512)) k0_pay6 (iota Kind.tc S512x128 32 [1] iota_S512x128_d1_w32) (64#32) (k0_pay32 (iota Kind.tc S512x128 32 [1] iota_S512x128_d1_w32)) (k0_pay33 (iota Kind.tc S512x128 32 [1] iota_S512x128_d1_w32)) (k0_pay34 (iota Kind.tc S512x128 32 [1] iota_S512x128_d1_w32)) (ix2 a b)
      = e9 (seg H x2) (0 + 1 * a.val) ((896 + 1 * b.val) / 128) ((896 + 1 * b.val) % 128) := by
  pointwise [k0_pay4, k0_pay6, k0_pay32, k0_pay33, k0_pay34, k0_pay35]
  try simp only [Nat.one_mul, Nat.zero_add]
  have e1 : (896 + b.val) / 128 = 7 := by omega
  have e2 : (896 + b.val) % 128 = b.val := by omega
  rw [e1, e2]
  unfold e9
  refine (sel _ (b.val / 64 = 1) _ _ (by revert b; decide +kernel)).trans ?_
  by_cases hb : b.val / 64 = 1
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_6 (H : Vec Ideal S512x1024 .bf16) (x2 : Vec Ideal S1024x4352 .bf16) (a : Fin 512) (b : Fin 128) :
    k0_pay31 (k0_pay4 H (cols x2 512)) k0_pay6 (iota Kind.tc S512x128 32 [1] iota_S512x128_d1_w32) (k0_pay28 (iota Kind.tc S512x128 32 [1] iota_S512x128_d1_w32)) (k0_pay29 (iota Kind.tc S512x128 32 [1] iota_S512x128_d1_w32)) (k0_pay30 (iota Kind.tc S512x128 32 [1] iota_S512x128_d1_w32)) (ix2 a b)
      = e9 (seg H x2) (0 + 1 * a.val) ((768 + 1 * b.val) / 128) ((768 + 1 * b.val) % 128) := by
  pointwise [k0_pay4, k0_pay6, k0_pay28, k0_pay29, k0_pay30, k0_pay31]
  try simp only [Nat.one_mul, Nat.zero_add]
  have e1 : (768 + b.val) / 128 = 6 := by omega
  have e2 : (768 + b.val) % 128 = b.val := by omega
  rw [e1, e2]
  unfold e9
  refine (sel _ (b.val / 64 = 0) _ _ (by revert b; decide +kernel)).trans ?_
  by_cases hb : b.val / 64 = 0
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_5 (H : Vec Ideal S512x1024 .bf16) (x2 : Vec Ideal S1024x4352 .bf16) (a : Fin 512) (b : Fin 128) :
    k0_pay27 (k0_pay4 H (cols x2 512)) k0_pay6 (iota Kind.tc S512x128 32 [1] iota_S512x128_d1_w32) (k0_pay26 (iota Kind.tc S512x128 32 [1] iota_S512x128_d1_w32)) (constantI S512x128 1 1#1) (ix2 a b)
      = e9 (seg H x2) (0 + 1 * a.val) ((640 + 1 * b.val) / 128) ((640 + 1 * b.val) % 128) := by
  pointwise [k0_pay4, k0_pay6, k0_pay26, k0_pay27]
  try simp only [Nat.one_mul, Nat.zero_add]
  have e1 : (640 + b.val) / 128 = 5 := by omega
  have e2 : (640 + b.val) % 128 = b.val := by omega
  rw [e1, e2]
  unfold e9
  refine (sel _ (b.val / 64 = 1) _ _ (by revert b; decide +kernel)).trans ?_
  by_cases hb : b.val / 64 = 1
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_4 (H : Vec Ideal S512x1024 .bf16) (x2 : Vec Ideal S1024x4352 .bf16) (a : Fin 512) (b : Fin 128) :
    k0_pay25 (k0_pay4 H (cols x2 512)) k0_pay6 (k0_pay21 (iota Kind.tc S512x128 32 [1] iota_S512x128_d1_w32)) (k0_pay22 (iota Kind.tc S512x128 32 [1] iota_S512x128_d1_w32)) (64#32) (k0_pay23 (iota Kind.tc S512x128 32 [1] iota_S512x128_d1_w32)) (k0_pay24 (iota Kind.tc S512x128 32 [1] iota_S512x128_d1_w32)) 0#32 (ix2 a b)
      = e9 (seg H x2) (0 + 1 * a.val) ((512 + 1 * b.val) / 128) ((512 + 1 * b.val) % 128) := by
  pointwise [k0_pay4, k0_pay6, k0_pay21, k0_pay22, k0_pay23, k0_pay24, k0_pay25]
  try simp only [Nat.one_mul, Nat.zero_add]
  have e1 : (512 + b.val) / 128 = 4 := by omega
  have e2 : (512 + b.val) % 128 = b.val := by omega
  rw [e1, e2]
  unfold e9
  refine (sel _ (b.val / 64 = 0) _ _ (by revert b; decide +kernel)).trans ?_
  by_cases hb : b.val / 64 = 0
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_3 (H : Vec Ideal S512x1024 .bf16) (x2 : Vec Ideal S1024x4352 .bf16) (a : Fin 512) (b : Fin 128) :
    k0_pay20 (k0_pay4 H (cols x2 512)) k0_pay6 (k0_pay17 (iota Kind.tc S512x128 32 [1] iota_S512x128_d1_w32)) (k0_pay18 (iota Kind.tc S512x128 32 [1] iota_S512x128_d1_w32)) (k0_pay19 (iota Kind.tc S512x128 32 [1] iota_S512x128_d1_w32)) 3#32 (ix2 a b)
      = e9 (seg H x2) (0 + 1 * a.val) ((384 + 1 * b.val) / 128) ((384 + 1 * b.val) % 128) := by
  pointwise [k0_pay4, k0_pay6, k0_pay17, k0_pay18, k0_pay19, k0_pay20]
  try simp only [Nat.one_mul, Nat.zero_add]
  have e1 : (384 + b.val) / 128 = 3 := by omega
  have e2 : (384 + b.val) % 128 = b.val := by omega
  rw [e1, e2]
  unfold e9
  refine (sel _ (b.val / 64 = 1) _ _ (by revert b; decide +kernel)).trans ?_
  by_cases hb : b.val / 64 = 1
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_2 (H : Vec Ideal S512x1024 .bf16) (x2 : Vec Ideal S1024x4352 .bf16) (a : Fin 512) (b : Fin 128) :
    k0_pay16 (k0_pay4 H (cols x2 512)) k0_pay6 (iota Kind.tc S512x128 32 [1] iota_S512x128_d1_w32) (64#32) (k0_pay13 (iota Kind.tc S512x128 32 [1] iota_S512x128_d1_w32)) (k0_pay14 (iota Kind.tc S512x128 32 [1] iota_S512x128_d1_w32)) (k0_pay15 (iota Kind.tc S512x128 32 [1] iota_S512x128_d1_w32)) (ix2 a b)
      = e9 (seg H x2) (0 + 1 * a.val) ((256 + 1 * b.val) / 128) ((256 + 1 * b.val) % 128) := by
  pointwise [k0_pay4, k0_pay6, k0_pay13, k0_pay14, k0_pay15, k0_pay16]
  try simp only [Nat.one_mul, Nat.zero_add]
  have e1 : (256 + b.val) / 128 = 2 := by omega
  have e2 : (256 + b.val) % 128 = b.val := by omega
  rw [e1, e2]
  unfold e9
  refine (sel _ (b.val / 64 = 0) _ _ (by revert b; decide +kernel)).trans ?_
  by_cases hb : b.val / 64 = 0
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_1 (H : Vec Ideal S512x1024 .bf16) (x2 : Vec Ideal S1024x4352 .bf16) (a : Fin 512) (b : Fin 128) :
    k0_pay12 (k0_pay4 H (cols x2 512)) k0_pay6 (iota Kind.tc S512x128 32 [1] iota_S512x128_d1_w32) (k0_pay9 (iota Kind.tc S512x128 32 [1] iota_S512x128_d1_w32)) (k0_pay10 (iota Kind.tc S512x128 32 [1] iota_S512x128_d1_w32)) (k0_pay11 (iota Kind.tc S512x128 32 [1] iota_S512x128_d1_w32)) (ix2 a b)
      = e9 (seg H x2) (0 + 1 * a.val) ((128 + 1 * b.val) / 128) ((128 + 1 * b.val) % 128) := by
  pointwise [k0_pay4, k0_pay6, k0_pay9, k0_pay10, k0_pay11, k0_pay12]
  try simp only [Nat.one_mul, Nat.zero_add]
  have e1 : (128 + b.val) / 128 = 1 := by omega
  have e2 : (128 + b.val) % 128 = b.val := by omega
  rw [e1, e2]
  unfold e9
  refine (sel _ (b.val / 64 = 1) _ _ (by revert b; decide +kernel)).trans ?_
  by_cases hb : b.val / 64 = 1
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem k_0 (H : Vec Ideal S512x1024 .bf16) (x2 : Vec Ideal S1024x4352 .bf16) (a : Fin 512) (b : Fin 128) :
    k0_pay8 (k0_pay4 H (cols x2 512)) k0_pay6 (iota Kind.tc S512x128 32 [1] iota_S512x128_d1_w32) k0_pay7 (constantI S512x128 1 1#1) (ix2 a b)
      = e9 (seg H x2) (0 + 1 * a.val) ((0 + 1 * b.val) / 128) ((0 + 1 * b.val) % 128) := by
  pointwise [k0_pay4, k0_pay6, k0_pay7, k0_pay8]
  try simp only [Nat.one_mul, Nat.zero_add]
  have e1 : b.val / 128 = 0 := by omega
  have e2 : b.val % 128 = b.val := by omega
  rw [e1, e2]
  unfold e9
  refine (sel _ (b.val / 64 = 0) _ _ (by revert b; decide +kernel)).trans ?_
  by_cases hb : b.val / 64 = 0
  · rw [if_pos hb, if_pos hb]
    exact seg_at H x2 512 _ _ _ _ (by (try dsimp only) <;> omega) (by (try dsimp only) <;> omega)
  · rw [if_neg hb, if_neg hb]
    refine (sel _ (b.val % 64 < 3) _ _ (by revert b; decide +kernel)).trans (if_congr Iff.rfl ?_ rfl)
    exact congrArg (FloatOps.sitofp (F := Ideal) (w := 32) .f32) (by clear hb e1 e2 b; revert a; decide +kernel)

theorem v_1_624 (S : ℕ → ℕ → EReal)  (z : Fin 1) (a : Fin 16) (b : Fin 256) :
    k0_pay78 (F := Ideal) (ix3 z a b)
      = e10 (S) (1 + 1 * z.val) ((624 + 1 * a.val) / 80) ((624 + 1 * a.val) % 80) (0 + 1 * b.val) := by
  pointwise [k0_pay78]
  try simp only [Nat.one_mul, Nat.zero_add]
  have hz : z.val = 0 := by omega
  have e1 : (624 + a.val) / 80 = 7 := by omega
  have e2 : (624 + a.val) % 80 = 64 + a.val := by omega
  rw [e1, e2]
  unfold e10
  rw [if_neg (by omega)]

theorem v_1_560 (H : Vec Ideal S512x1024 .bf16) (x2 : Vec Ideal S1024x4352 .bf16) (z : Fin 1) (a : Fin 64) (b : Fin 256) :
    k0_pay77 (k0_pay60 (k0_pay5 H (cols x2 1024))) (ix3 z a b)
      = e10 (seg H x2) (1 + 1 * z.val) ((560 + 1 * a.val) / 80) ((560 + 1 * a.val) % 80) (0 + 1 * b.val) := by
  pointwise [k0_pay5, k0_pay60, k0_pay65, k0_pay77]
  try simp only [Nat.one_mul, Nat.zero_add]
  have hz : z.val = 0 := by omega
  have e1 : (560 + a.val) / 80 = 7 := by omega
  have e2 : (560 + a.val) % 80 = a.val := by omega
  rw [e1, e2]
  unfold e10
  rw [if_pos a.isLt]
  exact seg_at H x2 1024 _ _ _ _ (by (try dsimp only) <;> omega) (by (try dsimp only) <;> omega)

theorem v_1_544 (S : ℕ → ℕ → EReal)  (z : Fin 1) (a : Fin 16) (b : Fin 256) :
    k0_pay76 (F := Ideal) (ix3 z a b)
      = e10 (S) (1 + 1 * z.val) ((544 + 1 * a.val) / 80) ((544 + 1 * a.val) % 80) (0 + 1 * b.val) := by
  pointwise [k0_pay76]
  try simp only [Nat.one_mul, Nat.zero_add]
  have hz : z.val = 0 := by omega
  have e1 : (544 + a.val) / 80 = 6 := by omega
  have e2 : (544 + a.val) % 80 = 64 + a.val := by omega
  rw [e1, e2]
  unfold e10
  rw [if_neg (by omega)]

theorem v_1_480 (H : Vec Ideal S512x1024 .bf16) (x2 : Vec Ideal S1024x4352 .bf16) (z : Fin 1) (a : Fin 64) (b : Fin 256) :
    k0_pay75 (k0_pay60 (k0_pay5 H (cols x2 1024))) (ix3 z a b)
      = e10 (seg H x2) (1 + 1 * z.val) ((480 + 1 * a.val) / 80) ((480 + 1 * a.val) % 80) (0 + 1 * b.val) := by
  pointwise [k0_pay5, k0_pay60, k0_pay65, k0_pay75]
  try simp only [Nat.one_mul, Nat.zero_add]
  have hz : z.val = 0 := by omega
  have e1 : (480 + a.val) / 80 = 6 := by omega
  have e2 : (480 + a.val) % 80 = a.val := by omega
  rw [e1, e2]
  unfold e10
  rw [if_pos a.isLt]
  exact seg_at H x2 1024 _ _ _ _ (by (try dsimp only) <;> omega) (by (try dsimp only) <;> omega)

theorem v_1_464 (S : ℕ → ℕ → EReal)  (z : Fin 1) (a : Fin 16) (b : Fin 256) :
    k0_pay74 (k0_pay73 (F := Ideal)) (ix3 z a b)
      = e10 (S) (1 + 1 * z.val) ((464 + 1 * a.val) / 80) ((464 + 1 * a.val) % 80) (0 + 1 * b.val) := by
  pointwise [k0_pay73, k0_pay74]
  try simp only [Nat.one_mul, Nat.zero_add]
  have hz : z.val = 0 := by omega
  have e1 : (464 + a.val) / 80 = 5 := by omega
  have e2 : (464 + a.val) % 80 = 64 + a.val := by omega
  rw [e1, e2]
  unfold e10
  rw [if_neg (by omega)]

theorem v_1_400 (H : Vec Ideal S512x1024 .bf16) (x2 : Vec Ideal S1024x4352 .bf16) (z : Fin 1) (a : Fin 64) (b : Fin 256) :
    k0_pay72 (k0_pay60 (k0_pay5 H (cols x2 1024))) (ix3 z a b)
      = e10 (seg H x2) (1 + 1 * z.val) ((400 + 1 * a.val) / 80) ((400 + 1 * a.val) % 80) (0 + 1 * b.val) := by
  pointwise [k0_pay5, k0_pay60, k0_pay65, k0_pay72]
  try simp only [Nat.one_mul, Nat.zero_add]
  have hz : z.val = 0 := by omega
  have e1 : (400 + a.val) / 80 = 5 := by omega
  have e2 : (400 + a.val) % 80 = a.val := by omega
  rw [e1, e2]
  unfold e10
  rw [if_pos a.isLt]
  exact seg_at H x2 1024 _ _ _ _ (by (try dsimp only) <;> omega) (by (try dsimp only) <;> omega)

theorem v_1_384 (S : ℕ → ℕ → EReal)  (z : Fin 1) (a : Fin 16) (b : Fin 256) :
    k0_pay71 (F := Ideal) (ix3 z a b)
      = e10 (S) (1 + 1 * z.val) ((384 + 1 * a.val) / 80) ((384 + 1 * a.val) % 80) (0 + 1 * b.val) := by
  pointwise [k0_pay71]
  try simp only [Nat.one_mul, Nat.zero_add]
  have hz : z.val = 0 := by omega
  have e1 : (384 + a.val) / 80 = 4 := by omega
  have e2 : (384 + a.val) % 80 = 64 + a.val := by omega
  rw [e1, e2]
  unfold e10
  rw [if_neg (by omega)]

theorem v_1_320 (H : Vec Ideal S512x1024 .bf16) (x2 : Vec Ideal S1024x4352 .bf16) (z : Fin 1) (a : Fin 64) (b : Fin 256) :
    k0_pay70 (k0_pay60 (k0_pay5 H (cols x2 1024))) (ix3 z a b)
      = e10 (seg H x2) (1 + 1 * z.val) ((320 + 1 * a.val) / 80) ((320 + 1 * a.val) % 80) (0 + 1 * b.val) := by
  pointwise [k0_pay5, k0_pay60, k0_pay65, k0_pay70]
  try simp only [Nat.one_mul, Nat.zero_add]
  have hz : z.val = 0 := by omega
  have e1 : (320 + a.val) / 80 = 4 := by omega
  have e2 : (320 + a.val) % 80 = a.val := by omega
  rw [e1, e2]
  unfold e10
  rw [if_pos a.isLt]
  exact seg_at H x2 1024 _ _ _ _ (by (try dsimp only) <;> omega) (by (try dsimp only) <;> omega)

theorem v_1_304 (S : ℕ → ℕ → EReal)  (z : Fin 1) (a : Fin 16) (b : Fin 256) :
    k0_pay69 (F := Ideal) (ix3 z a b)
      = e10 (S) (1 + 1 * z.val) ((304 + 1 * a.val) / 80) ((304 + 1 * a.val) % 80) (0 + 1 * b.val) := by
  pointwise [k0_pay69]
  try simp only [Nat.one_mul, Nat.zero_add]
  have hz : z.val = 0 := by omega
  have e1 : (304 + a.val) / 80 = 3 := by omega
  have e2 : (304 + a.val) % 80 = 64 + a.val := by omega
  rw [e1, e2]
  unfold e10
  rw [if_neg (by omega)]

theorem v_1_240 (H : Vec Ideal S512x1024 .bf16) (x2 : Vec Ideal S1024x4352 .bf16) (z : Fin 1) (a : Fin 64) (b : Fin 256) :
    k0_pay68 (k0_pay60 (k0_pay5 H (cols x2 1024))) (ix3 z a b)
      = e10 (seg H x2) (1 + 1 * z.val) ((240 + 1 * a.val) / 80) ((240 + 1 * a.val) % 80) (0 + 1 * b.val) := by
  pointwise [k0_pay5, k0_pay60, k0_pay65, k0_pay68]
  try simp only [Nat.one_mul, Nat.zero_add]
  have hz : z.val = 0 := by omega
  have e1 : (240 + a.val) / 80 = 3 := by omega
  have e2 : (240 + a.val) % 80 = a.val := by omega
  rw [e1, e2]
  unfold e10
  rw [if_pos a.isLt]
  exact seg_at H x2 1024 _ _ _ _ (by (try dsimp only) <;> omega) (by (try dsimp only) <;> omega)

theorem v_1_224 (S : ℕ → ℕ → EReal)  (z : Fin 1) (a : Fin 16) (b : Fin 256) :
    k0_pay67 (F := Ideal) (ix3 z a b)
      = e10 (S) (1 + 1 * z.val) ((224 + 1 * a.val) / 80) ((224 + 1 * a.val) % 80) (0 + 1 * b.val) := by
  pointwise [k0_pay67]
  try simp only [Nat.one_mul, Nat.zero_add]
  have hz : z.val = 0 := by omega
  have e1 : (224 + a.val) / 80 = 2 := by omega
  have e2 : (224 + a.val) % 80 = 64 + a.val := by omega
  rw [e1, e2]
  unfold e10
  rw [if_neg (by omega)]

theorem v_1_160 (H : Vec Ideal S512x1024 .bf16) (x2 : Vec Ideal S1024x4352 .bf16) (z : Fin 1) (a : Fin 64) (b : Fin 256) :
    k0_pay66 (k0_pay65 (k0_pay5 H (cols x2 1024))) (ix3 z a b)
      = e10 (seg H x2) (1 + 1 * z.val) ((160 + 1 * a.val) / 80) ((160 + 1 * a.val) % 80) (0 + 1 * b.val) := by
  pointwise [k0_pay5, k0_pay60, k0_pay65, k0_pay66]
  try simp only [Nat.one_mul, Nat.zero_add]
  have hz : z.val = 0 := by omega
  have e1 : (160 + a.val) / 80 = 2 := by omega
  have e2 : (160 + a.val) % 80 = a.val := by omega
  rw [e1, e2]
  unfold e10
  rw [if_pos a.isLt]
  exact seg_at H x2 1024 _ _ _ _ (by (try dsimp only) <;> omega) (by (try dsimp only) <;> omega)

theorem v_1_144 (S : ℕ → ℕ → EReal)  (z : Fin 1) (a : Fin 16) (b : Fin 256) :
    k0_pay64 (F := Ideal) (ix3 z a b)
      = e10 (S) (1 + 1 * z.val) ((144 + 1 * a.val) / 80) ((144 + 1 * a.val) % 80) (0 + 1 * b.val) := by
  pointwise [k0_pay64]
  try simp only [Nat.one_mul, Nat.zero_add]
  have hz : z.val = 0 := by omega
  have e1 : (144 + a.val) / 80 = 1 := by omega
  have e2 : (144 + a.val) % 80 = 64 + a.val := by omega
  rw [e1, e2]
  unfold e10
  rw [if_neg (by omega)]

theorem v_1_80 (H : Vec Ideal S512x1024 .bf16) (x2 : Vec Ideal S1024x4352 .bf16) (z : Fin 1) (a : Fin 64) (b : Fin 256) :
    k0_pay63 (k0_pay5 H (cols x2 1024)) (ix3 z a b)
      = e10 (seg H x2) (1 + 1 * z.val) ((80 + 1 * a.val) / 80) ((80 + 1 * a.val) % 80) (0 + 1 * b.val) := by
  pointwise [k0_pay5, k0_pay60, k0_pay63, k0_pay65]
  try simp only [Nat.one_mul, Nat.zero_add]
  have hz : z.val = 0 := by omega
  have e1 : (80 + a.val) / 80 = 1 := by omega
  have e2 : (80 + a.val) % 80 = a.val := by omega
  rw [e1, e2]
  unfold e10
  rw [if_pos a.isLt]
  exact seg_at H x2 1024 _ _ _ _ (by (try dsimp only) <;> omega) (by (try dsimp only) <;> omega)

theorem v_1_64 (S : ℕ → ℕ → EReal)  (z : Fin 1) (a : Fin 16) (b : Fin 256) :
    k0_pay62 (F := Ideal) (ix3 z a b)
      = e10 (S) (1 + 1 * z.val) ((64 + 1 * a.val) / 80) ((64 + 1 * a.val) % 80) (0 + 1 * b.val) := by
  pointwise [k0_pay62]
  try simp only [Nat.one_mul, Nat.zero_add]
  have hz : z.val = 0 := by omega
  have e1 : (64 + a.val) / 80 = 0 := by omega
  have e2 : (64 + a.val) % 80 = 64 + a.val := by omega
  rw [e1, e2]
  unfold e10
  rw [if_neg (by omega)]

theorem v_1_0 (H : Vec Ideal S512x1024 .bf16) (x2 : Vec Ideal S1024x4352 .bf16) (z : Fin 1) (a : Fin 64) (b : Fin 256) :
    k0_pay61 (k0_pay5 H (cols x2 1024)) (ix3 z a b)
      = e10 (seg H x2) (1 + 1 * z.val) ((0 + 1 * a.val) / 80) ((0 + 1 * a.val) % 80) (0 + 1 * b.val) := by
  pointwise [k0_pay5, k0_pay60, k0_pay61, k0_pay65]
  try simp only [Nat.one_mul, Nat.zero_add]
  have hz : z.val = 0 := by omega
  have e1 : a.val / 80 = 0 := by omega
  have e2 : a.val % 80 = a.val := by omega
  rw [e1, e2]
  unfold e10
  rw [if_pos a.isLt]
  exact seg_at H x2 1024 _ _ _ _ (by (try dsimp only) <;> omega) (by (try dsimp only) <;> omega)

theorem v_0_624 (S : ℕ → ℕ → EReal)  (z : Fin 1) (a : Fin 16) (b : Fin 256) :
    k0_pay56 (F := Ideal) (ix3 z a b)
      = e10 (S) (0 + 1 * z.val) ((624 + 1 * a.val) / 80) ((624 + 1 * a.val) % 80) (0 + 1 * b.val) := by
  pointwise [k0_pay56]
  try simp only [Nat.one_mul, Nat.zero_add]
  have hz : z.val = 0 := by omega
  have e1 : (624 + a.val) / 80 = 7 := by omega
  have e2 : (624 + a.val) % 80 = 64 + a.val := by omega
  rw [e1, e2]
  unfold e10
  rw [if_neg (by omega)]

theorem v_0_560 (H : Vec Ideal S512x1024 .bf16) (x2 : Vec Ideal S1024x4352 .bf16) (z : Fin 1) (a : Fin 64) (b : Fin 256) :
    k0_pay55 (k0_pay38 (k0_pay5 H (cols x2 1024))) (ix3 z a b)
      = e10 (seg H x2) (0 + 1 * z.val) ((560 + 1 * a.val) / 80) ((560 + 1 * a.val) % 80) (0 + 1 * b.val) := by
  pointwise [k0_pay38, k0_pay5, k0_pay55]
  try simp only [Nat.one_mul, Nat.zero_add]
  have hz : z.val = 0 := by omega
  have e1 : (560 + a.val) / 80 = 7 := by omega
  have e2 : (560 + a.val) % 80 = a.val := by omega
  rw [e1, e2]
  unfold e10
  rw [if_pos a.isLt]
  exact seg_at H x2 1024 _ _ _ _ (by (try dsimp only) <;> omega) (by (try dsimp only) <;> omega)

theorem v_0_544 (S : ℕ → ℕ → EReal)  (z : Fin 1) (a : Fin 16) (b : Fin 256) :
    k0_pay54 (F := Ideal) (ix3 z a b)
      = e10 (S) (0 + 1 * z.val) ((544 + 1 * a.val) / 80) ((544 + 1 * a.val) % 80) (0 + 1 * b.val) := by
  pointwise [k0_pay54]
  try simp only [Nat.one_mul, Nat.zero_add]
  have hz : z.val = 0 := by omega
  have e1 : (544 + a.val) / 80 = 6 := by omega
  have e2 : (544 + a.val) % 80 = 64 + a.val := by omega
  rw [e1, e2]
  unfold e10
  rw [if_neg (by omega)]

theorem v_0_480 (H : Vec Ideal S512x1024 .bf16) (x2 : Vec Ideal S1024x4352 .bf16) (z : Fin 1) (a : Fin 64) (b : Fin 256) :
    k0_pay53 (k0_pay38 (k0_pay5 H (cols x2 1024))) (ix3 z a b)
      = e10 (seg H x2) (0 + 1 * z.val) ((480 + 1 * a.val) / 80) ((480 + 1 * a.val) % 80) (0 + 1 * b.val) := by
  pointwise [k0_pay38, k0_pay5, k0_pay53]
  try simp only [Nat.one_mul, Nat.zero_add]
  have hz : z.val = 0 := by omega
  have e1 : (480 + a.val) / 80 = 6 := by omega
  have e2 : (480 + a.val) % 80 = a.val := by omega
  rw [e1, e2]
  unfold e10
  rw [if_pos a.isLt]
  exact seg_at H x2 1024 _ _ _ _ (by (try dsimp only) <;> omega) (by (try dsimp only) <;> omega)

theorem v_0_464 (S : ℕ → ℕ → EReal)  (z : Fin 1) (a : Fin 16) (b : Fin 256) :
    k0_pay52 (F := Ideal) (ix3 z a b)
      = e10 (S) (0 + 1 * z.val) ((464 + 1 * a.val) / 80) ((464 + 1 * a.val) % 80) (0 + 1 * b.val) := by
  pointwise [k0_pay52]
  try simp only [Nat.one_mul, Nat.zero_add]
  have hz : z.val = 0 := by omega
  have e1 : (464 + a.val) / 80 = 5 := by omega
  have e2 : (464 + a.val) % 80 = 64 + a.val := by omega
  rw [e1, e2]
  unfold e10
  rw [if_neg (by omega)]

theorem v_0_400 (H : Vec Ideal S512x1024 .bf16) (x2 : Vec Ideal S1024x4352 .bf16) (z : Fin 1) (a : Fin 64) (b : Fin 256) :
    k0_pay51 (k0_pay50 (k0_pay38 (k0_pay5 H (cols x2 1024)))) (ix3 z a b)
      = e10 (seg H x2) (0 + 1 * z.val) ((400 + 1 * a.val) / 80) ((400 + 1 * a.val) % 80) (0 + 1 * b.val) := by
  pointwise [k0_pay38, k0_pay5, k0_pay50, k0_pay51]
  try simp only [Nat.one_mul, Nat.zero_add]
  have hz : z.val = 0 := by omega
  have e1 : (400 + a.val) / 80 = 5 := by omega
  have e2 : (400 + a.val) % 80 = a.val := by omega
  rw [e1, e2]
  unfold e10
  rw [if_pos a.isLt]
  exact seg_at H x2 1024 _ _ _ _ (by (try dsimp only) <;> omega) (by (try dsimp only) <;> omega)

theorem v_0_384 (S : ℕ → ℕ → EReal)  (z : Fin 1) (a : Fin 16) (b : Fin 256) :
    k0_pay49 (F := Ideal) (ix3 z a b)
      = e10 (S) (0 + 1 * z.val) ((384 + 1 * a.val) / 80) ((384 + 1 * a.val) % 80) (0 + 1 * b.val) := by
  pointwise [k0_pay49]
  try simp only [Nat.one_mul, Nat.zero_add]
  have hz : z.val = 0 := by omega
  have e1 : (384 + a.val) / 80 = 4 := by omega
  have e2 : (384 + a.val) % 80 = 64 + a.val := by omega
  rw [e1, e2]
  unfold e10
  rw [if_neg (by omega)]

theorem v_0_320 (H : Vec Ideal S512x1024 .bf16) (x2 : Vec Ideal S1024x4352 .bf16) (z : Fin 1) (a : Fin 64) (b : Fin 256) :
    k0_pay48 (k0_pay38 (k0_pay5 H (cols x2 1024))) (ix3 z a b)
      = e10 (seg H x2) (0 + 1 * z.val) ((320 + 1 * a.val) / 80) ((320 + 1 * a.val) % 80) (0 + 1 * b.val) := by
  pointwise [k0_pay38, k0_pay48, k0_pay5]
  try simp only [Nat.one_mul, Nat.zero_add]
  have hz : z.val = 0 := by omega
  have e1 : (320 + a.val) / 80 = 4 := by omega
  have e2 : (320 + a.val) % 80 = a.val := by omega
  rw [e1, e2]
  unfold e10
  rw [if_pos a.isLt]
  exact seg_at H x2 1024 _ _ _ _ (by (try dsimp only) <;> omega) (by (try dsimp only) <;> omega)

theorem v_0_304 (S : ℕ → ℕ → EReal)  (z : Fin 1) (a : Fin 16) (b : Fin 256) :
    k0_pay47 (F := Ideal) (ix3 z a b)
      = e10 (S) (0 + 1 * z.val) ((304 + 1 * a.val) / 80) ((304 + 1 * a.val) % 80) (0 + 1 * b.val) := by
  pointwise [k0_pay47]
  try simp only [Nat.one_mul, Nat.zero_add]
  have hz : z.val = 0 := by omega
  have e1 : (304 + a.val) / 80 = 3 := by omega
  have e2 : (304 + a.val) % 80 = 64 + a.val := by omega
  rw [e1, e2]
  unfold e10
  rw [if_neg (by omega)]

theorem v_0_240 (H : Vec Ideal S512x1024 .bf16) (x2 : Vec Ideal S1024x4352 .bf16) (z : Fin 1) (a : Fin 64) (b : Fin 256) :
    k0_pay46 (k0_pay38 (k0_pay5 H (cols x2 1024))) (ix3 z a b)
      = e10 (seg H x2) (0 + 1 * z.val) ((240 + 1 * a.val) / 80) ((240 + 1 * a.val) % 80) (0 + 1 * b.val) := by
  pointwise [k0_pay38, k0_pay46, k0_pay5]
  try simp only [Nat.one_mul, Nat.zero_add]
  have hz : z.val = 0 := by omega
  have e1 : (240 + a.val) / 80 = 3 := by omega
  have e2 : (240 + a.val) % 80 = a.val := by omega
  rw [e1, e2]
  unfold e10
  rw [if_pos a.isLt]
  exact seg_at H x2 1024 _ _ _ _ (by (try dsimp only) <;> omega) (by (try dsimp only) <;> omega)

theorem v_0_224 (S : ℕ → ℕ → EReal)  (z : Fin 1) (a : Fin 16) (b : Fin 256) :
    k0_pay45 (F := Ideal) (ix3 z a b)
      = e10 (S) (0 + 1 * z.val) ((224 + 1 * a.val) / 80) ((224 + 1 * a.val) % 80) (0 + 1 * b.val) := by
  pointwise [k0_pay45]
  try simp only [Nat.one_mul, Nat.zero_add]
  have hz : z.val = 0 := by omega
  have e1 : (224 + a.val) / 80 = 2 := by omega
  have e2 : (224 + a.val) % 80 = 64 + a.val := by omega
  rw [e1, e2]
  unfold e10
  rw [if_neg (by omega)]

theorem v_0_160 (H : Vec Ideal S512x1024 .bf16) (x2 : Vec Ideal S1024x4352 .bf16) (z : Fin 1) (a : Fin 64) (b : Fin 256) :
    k0_pay44 (k0_pay38 (k0_pay5 H (cols x2 1024))) (ix3 z a b)
      = e10 (seg H x2) (0 + 1 * z.val) ((160 + 1 * a.val) / 80) ((160 + 1 * a.val) % 80) (0 + 1 * b.val) := by
  pointwise [k0_pay38, k0_pay44, k0_pay5]
  try simp only [Nat.one_mul, Nat.zero_add]
  have hz : z.val = 0 := by omega
  have e1 : (160 + a.val) / 80 = 2 := by omega
  have e2 : (160 + a.val) % 80 = a.val := by omega
  rw [e1, e2]
  unfold e10
  rw [if_pos a.isLt]
  exact seg_at H x2 1024 _ _ _ _ (by (try dsimp only) <;> omega) (by (try dsimp only) <;> omega)

theorem v_0_144 (S : ℕ → ℕ → EReal)  (z : Fin 1) (a : Fin 16) (b : Fin 256) :
    k0_pay43 (k0_pay42 (F := Ideal)) (ix3 z a b)
      = e10 (S) (0 + 1 * z.val) ((144 + 1 * a.val) / 80) ((144 + 1 * a.val) % 80) (0 + 1 * b.val) := by
  pointwise [k0_pay42, k0_pay43]
  try simp only [Nat.one_mul, Nat.zero_add]
  have hz : z.val = 0 := by omega
  have e1 : (144 + a.val) / 80 = 1 := by omega
  have e2 : (144 + a.val) % 80 = 64 + a.val := by omega
  rw [e1, e2]
  unfold e10
  rw [if_neg (by omega)]

theorem v_0_80 (H : Vec Ideal S512x1024 .bf16) (x2 : Vec Ideal S1024x4352 .bf16) (z : Fin 1) (a : Fin 64) (b : Fin 256) :
    k0_pay41 (k0_pay5 H (cols x2 1024)) (ix3 z a b)
      = e10 (seg H x2) (0 + 1 * z.val) ((80 + 1 * a.val) / 80) ((80 + 1 * a.val) % 80) (0 + 1 * b.val) := by
  pointwise [k0_pay38, k0_pay41, k0_pay5]
  try simp only [Nat.one_mul, Nat.zero_add]
  have hz : z.val = 0 := by omega
  have e1 : (80 + a.val) / 80 = 1 := by omega
  have e2 : (80 + a.val) % 80 = a.val := by omega
  rw [e1, e2]
  unfold e10
  rw [if_pos a.isLt]
  exact seg_at H x2 1024 _ _ _ _ (by (try dsimp only) <;> omega) (by (try dsimp only) <;> omega)

theorem v_0_64 (S : ℕ → ℕ → EReal)  (z : Fin 1) (a : Fin 16) (b : Fin 256) :
    k0_pay40 (F := Ideal) (ix3 z a b)
      = e10 (S) (0 + 1 * z.val) ((64 + 1 * a.val) / 80) ((64 + 1 * a.val) % 80) (0 + 1 * b.val) := by
  pointwise [k0_pay40]
  try simp only [Nat.one_mul, Nat.zero_add]
  have hz : z.val = 0 := by omega
  have e1 : (64 + a.val) / 80 = 0 := by omega
  have e2 : (64 + a.val) % 80 = 64 + a.val := by omega
  rw [e1, e2]
  unfold e10
  rw [if_neg (by omega)]

theorem v_0_0 (H : Vec Ideal S512x1024 .bf16) (x2 : Vec Ideal S1024x4352 .bf16) (z : Fin 1) (a : Fin 64) (b : Fin 256) :
    k0_pay39 (k0_pay5 H (cols x2 1024)) (ix3 z a b)
      = e10 (seg H x2) (0 + 1 * z.val) ((0 + 1 * a.val) / 80) ((0 + 1 * a.val) % 80) (0 + 1 * b.val) := by
  pointwise [k0_pay38, k0_pay39, k0_pay5]
  try simp only [Nat.one_mul, Nat.zero_add]
  have hz : z.val = 0 := by omega
  have e1 : a.val / 80 = 0 := by omega
  have e2 : a.val % 80 = a.val := by omega
  rw [e1, e2]
  unfold e10
  rw [if_pos a.isLt]
  exact seg_at H x2 1024 _ _ _ _ (by (try dsimp only) <;> omega) (by (try dsimp only) <;> omega)

theorem g_0 (H : Vec Ideal S512x1024 .bf16) (x2 : Vec Ideal S1024x4352 .bf16) (a : Fin 512) (b : Fin 512) :
    k0_pay36 H (cols x2 1536) (ix2 a b)
      = e11 (seg H x2) (0 + 1 * a.val) (0 + 1 * b.val) := by
  pointwise [k0_pay36]
  try simp only [Nat.one_mul, Nat.zero_add]
  exact seg_at H x2 1536 _ _ _ _ (by (try dsimp only) <;> omega) (by (try dsimp only) <;> omega)

theorem m_1 (H : Vec Ideal S512x1024 .bf16) (x2 : Vec Ideal S1024x4352 .bf16) (z : Fin 1) (a : Fin 1) (b : Fin 512) :
    k0_pay79 (k0_pay4 H (cols x2 512)) (ix3 z a b)
      = e12 (seg H x2) (1 + 1 * z.val) (0 + 1 * b.val) := by
  pointwise [k0_pay4, k0_pay79]
  try simp only [Nat.one_mul, Nat.zero_add]
  have hz : z.val = 0 := by omega
  unfold e12
  exact congrArg (Ideal.div · _) (Finset.sum_congr rfl fun r _ => seg_at H x2 512 _ _ _ _ (by (try dsimp only) <;> omega) (by (try dsimp only) <;> omega))

theorem m_0 (H : Vec Ideal S512x1024 .bf16) (x2 : Vec Ideal S1024x4352 .bf16) (z : Fin 1) (a : Fin 1) (b : Fin 512) :
    k0_pay58 (k0_pay57 (k0_pay4 H (cols x2 512))) (ix3 z a b)
      = e12 (seg H x2) (0 + 1 * z.val) (0 + 1 * b.val) := by
  pointwise [k0_pay4, k0_pay57, k0_pay58]
  try simp only [Nat.one_mul, Nat.zero_add]
  have hz : z.val = 0 := by omega
  unfold e12
  exact congrArg (Ideal.div · _) (Finset.sum_congr rfl fun r _ => seg_at H x2 512 _ _ _ _ (by (try dsimp only) <;> omega) (by (try dsimp only) <;> omega))

theorem r_512 (H : Vec Ideal S512x1024 .bf16) (x2 : Vec Ideal S1024x4352 .bf16) (C D : ℕ → ℕ → EReal) (a : Fin 512) (b : Fin 512) :
    k0_pay92 H (cols x2 2560) (ix2 a b)
      = e13 (seg H x2) C D (0 + 1 * a.val) (512 + 1 * b.val) := by
  pointwise [k0_pay92]
  try simp only [Nat.one_mul, Nat.zero_add]
  unfold e13
  rw [if_neg (by omega), if_neg (by omega)]
  exact seg_at H x2 2560 _ _ _ _ (by (try dsimp only) <;> omega) (by (try dsimp only) <;> omega)

theorem r_384 (H : Vec Ideal S512x1024 .bf16) (x2 : Vec Ideal S1024x4352 .bf16) (x4 x5 : Vec Ideal S512x128 .f32) (C D : ℕ → ℕ → EReal) (hC : ∀ (a : Fin 512) (b : Fin 128), x4 (ix2 a b) = C a.val b.val) (hD : ∀ (a : Fin 512) (b : Fin 128), x5 (ix2 a b) = D a.val b.val) (a : Fin 512) (b : Fin 128) :
    k0_pay91 (k0_pay80 x4) (k0_pay81 x5) (k0_pay82 H (cols x2 2048)) (ix2 a b)
      = e13 (seg H x2) C D (0 + 1 * a.val) (384 + 1 * b.val) := by
  pointwise [k0_pay80, k0_pay81, k0_pay82, k0_pay91]
  try simp only [Nat.one_mul, Nat.zero_add]
  unfold e13
  rw [if_neg (by omega), if_pos (by omega)]
  unfold rot
  have e2 : (384 + b.val) % 128 = b.val := by omega
  have e3 : swapped (384 + b.val) = 384 + (if b.val % 64 < 32 then b.val + 32 else b.val - 32) := by
    unfold swapped
    split <;> (try split) <;> omega
  rw [e2, e3, ← hC, ← hD]
  refine congrArg (· * Ideal.ofBits .f32 0x3E000000#32) (congrArg₂ (· + ·) (congrArg (· * x4 (ix2 a b)) (seg_at H x2 2048 _ _ _ _ (by (try dsimp only) <;> omega) (by (try dsimp only) <;> omega))) (congrArg (· * x5 (ix2 a b)) ?_))
  refine (sel _ (b.val % 64 < 32) _ _ (by revert b; decide +kernel)).trans ?_
  split
  · exact seg_at H x2 2048 _ _ _ _ (by (try dsimp only) <;> omega) (by (try dsimp only) <;> omega)
  · exact seg_at H x2 2048 _ _ _ _ (by (try dsimp only) <;> omega) (by (try dsimp only) <;> omega)

theorem r_256 (H : Vec Ideal S512x1024 .bf16) (x2 : Vec Ideal S1024x4352 .bf16) (x4 x5 : Vec Ideal S512x128 .f32) (C D : ℕ → ℕ → EReal) (hC : ∀ (a : Fin 512) (b : Fin 128), x4 (ix2 a b) = C a.val b.val) (hD : ∀ (a : Fin 512) (b : Fin 128), x5 (ix2 a b) = D a.val b.val) (a : Fin 512) (b : Fin 128) :
    k0_pay90 (k0_pay81 x5) (k0_pay87 (k0_pay82 H (cols x2 2048))) (k0_pay88 (k0_pay80 x4) (k0_pay82 H (cols x2 2048))) k0_pay89 (ix2 a b)
      = e13 (seg H x2) C D (0 + 1 * a.val) (256 + 1 * b.val) := by
  pointwise [k0_pay80, k0_pay81, k0_pay82, k0_pay87, k0_pay88, k0_pay89, k0_pay90]
  try simp only [Nat.one_mul, Nat.zero_add]
  unfold e13
  rw [if_neg (by omega), if_pos (by omega)]
  unfold rot
  have e2 : (256 + b.val) % 128 = b.val := by omega
  have e3 : swapped (256 + b.val) = 256 + (if b.val % 64 < 32 then b.val + 32 else b.val - 32) := by
    unfold swapped
    split <;> (try split) <;> omega
  rw [e2, e3, ← hC, ← hD]
  refine congrArg (· * Ideal.ofBits .f32 0x3E000000#32) (congrArg₂ (· + ·) (congrArg (· * x4 (ix2 a b)) (seg_at H x2 2048 _ _ _ _ (by (try dsimp only) <;> omega) (by (try dsimp only) <;> omega))) (congrArg (· * x5 (ix2 a b)) ?_))
  refine (sel _ (b.val % 64 < 32) _ _ (by revert b; decide +kernel)).trans ?_
  split
  · exact seg_at H x2 2048 _ _ _ _ (by (try dsimp only) <;> omega) (by (try dsimp only) <;> omega)
  · exact seg_at H x2 2048 _ _ _ _ (by (try dsimp only) <;> omega) (by (try dsimp only) <;> omega)

theorem r_128 (H : Vec Ideal S512x1024 .bf16) (x2 : Vec Ideal S1024x4352 .bf16) (x4 x5 : Vec Ideal S512x128 .f32) (C D : ℕ → ℕ → EReal) (hC : ∀ (a : Fin 512) (b : Fin 128), x4 (ix2 a b) = C a.val b.val) (hD : ∀ (a : Fin 512) (b : Fin 128), x5 (ix2 a b) = D a.val b.val) (a : Fin 512) (b : Fin 128) :
    k0_pay86 (k0_pay81 x5) (k0_pay84 H (cols x2 2048)) (k0_pay85 (k0_pay80 x4) H (cols x2 2048)) (iota Kind.tc S512x128 32 [1] iota_S512x128_d1_w32) 64#32 (ix2 a b)
      = e13 (seg H x2) C D (0 + 1 * a.val) (128 + 1 * b.val) := by
  pointwise [k0_pay80, k0_pay81, k0_pay84, k0_pay85, k0_pay86, k0_pay82]
  try simp only [Nat.one_mul, Nat.zero_add]
  unfold e13
  rw [if_pos (by omega)]
  unfold rot
  have e2 : (128 + b.val) % 128 = b.val := by omega
  have e3 : swapped (128 + b.val) = 128 + (if b.val % 64 < 32 then b.val + 32 else b.val - 32) := by
    unfold swapped
    split <;> (try split) <;> omega
  rw [e2, e3, ← hC, ← hD]
  refine congrArg₂ (· + ·) (congrArg (· * x4 (ix2 a b)) (seg_at H x2 2048 _ _ _ _ (by (try dsimp only) <;> omega) (by (try dsimp only) <;> omega))) (congrArg (· * x5 (ix2 a b)) ?_)
  refine (sel _ (b.val % 64 < 32) _ _ (by revert b; decide +kernel)).trans ?_
  split
  · exact seg_at H x2 2048 _ _ _ _ (by (try dsimp only) <;> omega) (by (try dsimp only) <;> omega)
  · exact seg_at H x2 2048 _ _ _ _ (by (try dsimp only) <;> omega) (by (try dsimp only) <;> omega)

theorem r_0 (H : Vec Ideal S512x1024 .bf16) (x2 : Vec Ideal S1024x4352 .bf16) (x4 x5 : Vec Ideal S512x128 .f32) (C D : ℕ → ℕ → EReal) (hC : ∀ (a : Fin 512) (b : Fin 128), x4 (ix2 a b) = C a.val b.val) (hD : ∀ (a : Fin 512) (b : Fin 128), x5 (ix2 a b) = D a.val b.val) (a : Fin 512) (b : Fin 128) :
    k0_pay83 (k0_pay80 x4) x5 H (cols x2 2048) (ix2 a b)
      = e13 (seg H x2) C D (0 + 1 * a.val) (0 + 1 * b.val) := by
  pointwise [k0_pay80, k0_pay83, k0_pay82, k0_pay81]
  try simp only [Nat.one_mul, Nat.zero_add]
  unfold e13
  rw [if_pos (by omega)]
  unfold rot
  have e2 : b.val % 128 = b.val := by omega
  have e3 : swapped b.val = 0 + (if b.val % 64 < 32 then b.val + 32 else b.val - 32) := by
    unfold swapped
    split <;> (try split) <;> omega
  rw [e2, e3, ← hC, ← hD]
  refine congrArg₂ (· + ·) (congrArg (· * x4 (ix2 a b)) (seg_at H x2 2048 _ _ _ _ (by (try dsimp only) <;> omega) (by (try dsimp only) <;> omega))) (congrArg (· * x5 (ix2 a b)) ?_)
  refine (sel _ (b.val % 64 < 32) _ _ (by revert b; decide +kernel)).trans ?_
  split
  · exact seg_at H x2 2048 _ _ _ _ (by (try dsimp only) <;> omega) (by (try dsimp only) <;> omega)
  · exact seg_at H x2 2048 _ _ _ _ (by (try dsimp only) <;> omega) (by (try dsimp only) <;> omega)

theorem l_512 (H : Vec Ideal S512x1024 .bf16) (x2 : Vec Ideal S1024x4352 .bf16) (E : ℕ → ℕ → EReal) (cw : Vec Ideal S4x512 .f32) (cb : Vec Ideal S1x512 .f32) (a : Fin 512) (b : Fin 768) :
    k0_pay100 H (cols' x2 3584) (ix2 a b)
      = e14 (seg H x2) E cw cb (0 + 1 * a.val) (512 + 1 * b.val) := by
  pointwise [k0_pay100]
  try simp only [Nat.one_mul, Nat.zero_add]
  unfold e14
  rw [if_neg (by omega), if_neg (by omega)]
  refine (seg_cols' H x2 3584 a b).trans ?_
  exact congrArg₂ (seg H x2) (by omega) (by omega)

theorem l_256 (S E : ℕ → ℕ → EReal) (cw : Vec Ideal S4x512 .f32) (x7 w0 w1 w2 w3 : Vec Ideal S1x512 .f32) (y0 y1 y2 y3 : Vec Ideal S512x512 .f32)
    (hw0 : ∀ l, w0 (ix2 0 l) = cw (ix2 0 l)) (hw1 : ∀ l, w1 (ix2 0 l) = cw (ix2 1 l)) (hw2 : ∀ l, w2 (ix2 0 l) = cw (ix2 2 l)) (hw3 : ∀ l, w3 (ix2 0 l) = cw (ix2 3 l))
    (hy0 : ∀ (a l : Fin 512), y0 (ix2 a l) = E (a.val + 5) l.val) (hy1 : ∀ (a l : Fin 512), y1 (ix2 a l) = E (a.val + 6) l.val)
    (hy2 : ∀ (a l : Fin 512), y2 (ix2 a l) = E (a.val + 7) l.val) (hy3 : ∀ (a l : Fin 512), y3 (ix2 a l) = E (a.val + 8) l.val) (a : Fin 512) (b : Fin 256) :
    k0_pay99 (k0_pay95 x7 w0 y0 w1 y1) w2 y2 w3 y3 (ix2 a b)
      = e14 S E cw x7 (0 + 1 * a.val) (256 + 1 * b.val) := by
  pointwise [k0_pay98, k0_pay99, k0_pay95, k0_pay97]
  try simp only [Nat.one_mul, Nat.zero_add]
  unfold e14
  rw [if_neg (by omega), if_pos (by omega)]
  have e : Fin.ofNat 512 (256 + b.val) = (⟨256 + b.val, by omega⟩ : Fin 512) := Fin.ext (show (256 + b.val) % 512 = 256 + b.val by omega)
  unfold conv
  simp only [Nat.zero_add, Nat.one_mul, e, hw0, hw1, hw2, hw3, hy0, hy1, hy2, hy3]

theorem l_0 (S E : ℕ → ℕ → EReal) (cw : Vec Ideal S4x512 .f32) (x7 w0 w1 w2 w3 : Vec Ideal S1x512 .f32) (y0 y1 y2 y3 : Vec Ideal S512x512 .f32)
    (hw0 : ∀ l, w0 (ix2 0 l) = cw (ix2 0 l)) (hw1 : ∀ l, w1 (ix2 0 l) = cw (ix2 1 l)) (hw2 : ∀ l, w2 (ix2 0 l) = cw (ix2 2 l)) (hw3 : ∀ l, w3 (ix2 0 l) = cw (ix2 3 l))
    (hy0 : ∀ (a l : Fin 512), y0 (ix2 a l) = E (a.val + 5) l.val) (hy1 : ∀ (a l : Fin 512), y1 (ix2 a l) = E (a.val + 6) l.val)
    (hy2 : ∀ (a l : Fin 512), y2 (ix2 a l) = E (a.val + 7) l.val) (hy3 : ∀ (a l : Fin 512), y3 (ix2 a l) = E (a.val + 8) l.val) (a : Fin 512) (b : Fin 256) :
    k0_pay98 (k0_pay95 x7 w0 y0 w1 y1) w2 y2 w3 y3 (ix2 a b)
      = e14 S E cw x7 (0 + 1 * a.val) (0 + 1 * b.val) := by
  pointwise [k0_pay98, k0_pay99, k0_pay95, k0_pay97]
  try simp only [Nat.one_mul, Nat.zero_add]
  unfold e14
  rw [if_pos (by omega)]
  have e : Fin.ofNat 512 b.val = (⟨b.val, by omega⟩ : Fin 512) := Fin.ext (show b.val % 512 = b.val by omega)
  unfold conv
  simp only [Nat.zero_add, Nat.one_mul, e, hw0, hw1, hw2, hw3, hy0, hy1, hy2, hy3]

theorem t_0 (H : Vec Ideal S512x1024 .bf16) (x3 : Vec Ideal S1024x128 .bf16) (a : Fin 512) (b : Fin 128) :
    k0_pay1 H x3 (ix2 a b)
      = ∑ k, H (ix2 a k) * x3 (ix2 k b) := by
  pointwise [k0_pay1]
  try simp only [Nat.one_mul, Nat.zero_add]

theorem h_0 (x0 : Vec Ideal S512x1024 .f32) (x1 : Vec Ideal S1x1024 .f32) (a : Fin 512) (b : Fin 1024) :
    k0_pay2 x0 x1 (ix2 a b)
      = x0 (ix2 a b) * Ideal.rsqrt (Ideal.div (∑ k, x0 (ix2 a k) * x0 (ix2 a k)) (Ideal.ofBits .f32 0x44800000#32) + Ideal.ofBits .f32 0x358637BD#32) * x1 (ix2 0 b) := by
  pointwise [k0_pay2]
  try simp only [Nat.one_mul, Nat.zero_add]

theorem s_0 (H : Vec Ideal S512x1024 .bf16) (x2 : Vec Ideal S1024x4352 .bf16) (a : Fin 512) (b : Fin 512) :
    k0_pay94 H (cols x2 3072) (ix2 a b)
      = seg H x2 a.val (3072 + b.val) := by
  pointwise [k0_pay94]
  try simp only [Nat.one_mul, Nat.zero_add]
  exact seg_cols H x2 3072 a b

end Cert.ProjIdeal.Piece
-- ==== Proof.ProjBody.lean ====
module
public import proofs.«01_k».proof.Proof.ProjPiece
public import Idealize.ShloMosaic.Lib.WritesUnit
/-! # What a grid point of the projections leaves in each window

The first point and the later points differ only in the rows before the block that the convolution sees: zeros,
and what the point before left. -/
@[expose] public section
set_option maxRecDepth 65536
noncomputable section
open Idealize.ShloMosaic Idealize.ShloMosaic.TcCoe Idealize.SL.Sem
namespace Cert.ProjIdeal.Piece
open Cert.ProjIdeal Cert.ProjIdeal.Gen

theorem canon_of {s : Shape} {e : EltTy} (G : s.Idx → Elt Ideal e) (L : List (View.Piece (Elt Ideal) s e)) (h : View.PiecesOf G L)
    (c : ∀ y : s.Idx, ∃ p ∈ L, y ∈ p.1.set) : View.canon L = G := by
  funext y
  have := View.canon_append_of_piecesOf G [] L h y (c y)
  rwa [List.append_nil] at this

theorem at2 {n k : ℕ} {α : Type} (f : (⟨2, ![n, k]⟩ : Shape).Idx → α) (x : (⟨2, ![n, k]⟩ : Shape).Idx) : f x = f (ix2 (x 0) (x 1)) :=
  congrArg f (eq2 x)
theorem at3 {n k l : ℕ} {α : Type} (f : (⟨3, ![n, k, l]⟩ : Shape).Idx → α) (x : (⟨3, ![n, k, l]⟩ : Shape).Idx) :
    f x = f (ix3 (x 0) (x 1) (x 2)) := congrArg f (eq3 x)

theorem ldw {n k : ℕ} {e : EltTy} (x : Vec Ideal (⟨2, ![n, k]⟩ : Shape) e) (h) :
    View.ld x (Rect.unit (s := (⟨2, ![n, k]⟩ : Shape)) ![0, 0] ![n, k] h) = x := by
  funext i
  refine View.ld_unit_apply_of x _ _ h i i fun a => ?_
  match a with
  | 0 => exact (Nat.zero_add _).symm
  | 1 => exact (Nat.zero_add _).symm

theorem ld_tap (x : Vec Ideal S4x512 .f32) (j : Fin 4) (o : ℕ) (ho : j.val = o) (h) (l : Fin 512) :
    View.ld x (Rect.unit ![o, 0] ![1, 512] h) (ix2 0 l) = x (ix2 j l) := by
  refine View.ld_unit_apply_of x _ _ h (ix2 0 l) _ fun a => ?_
  match a with
  | 0 => exact ho
  | 1 => exact (Nat.zero_add _).symm

/-! ## The rows before the block -/

theorem past {κ : Kind} {sp : Space} (v : View sig κ sp S520x512 .f32) (f : v.ty.Contents (Elt Ideal)) (p : Vec Ideal S512x512 .f32) (inb)
    (L : List (View.Piece (Elt Ideal) S520x512 .f32)) (q : Fin 520) (l : Fin 512) :
    v.read (Elt Ideal) (v.writes (Elt Ideal) f (⟨Rect.unit ![8, 0] ![512, 512] inb, p⟩ :: L)) (ix2 q l)
      = if q.val < 8 then v.read (Elt Ideal) (v.writes (Elt Ideal) f L) (ix2 q l) else p (ix2 (Fin.ofNat 512 (q.val - 8)) l) := by
  have hq := q.isLt
  by_cases h : q.val < 8
  · rw [if_pos h]
    exact View.read_writes_cons_rows_of_not_mem (W := 512) v f inb p L (ix2 q l) rfl rfl (Or.inl h)
  · rw [if_neg h]
    refine View.read_writes_cons_rows_of_mem (o := 8) v f inb p L (ix2 q l) (ix2 (Fin.ofNat 512 (q.val - 8)) l) rfl ?_ rfl
    show q.val = 8 + (q.val - 8) % 512
    omega

theorem ld_rows (X : Vec Ideal S520x512 .f32) (j : ℕ) (hj : j ≤ 8) (h) (a l : Fin 512) :
    View.ld X (Rect.unit ![j, 0] ![512, 512] h) (ix2 a l) = X (ix2 ⟨j + a.val, by omega⟩ l) := by
  refine View.ld_unit_apply_of X _ _ h (ix2 a l) _ fun a => ?_
  match a with
  | 0 => rfl
  | 1 => exact (Nat.zero_add _).symm

theorem past_B {κ : Kind} {sp : Space} (m : Memref sig κ sp S520x512 .f32) (hm : m.IsWhole) (xs1 : Vec Ideal S520x512 .f32)
    (H : Vec Ideal S512x1024 .bf16) (x2 : Vec Ideal S1024x4352 .bf16) (inb) (j : ℕ) (hj : j ≤ 8) (h) (a l : Fin 512) :
    View.ld (View.read (Elt Ideal) m.view (m.view.writes (Elt Ideal) (hm.unread xs1)
        [⟨Rect.unit ![8, 0] ![512, 512] inb, k0_pay94 H (cols x2 3072)⟩])) (Rect.unit ![j, 0] ![512, 512] h) (ix2 a l)
      = hist (seg H x2) (fun q l => xs1 (ix2 (Fin.ofNat 520 q) (Fin.ofNat 512 l))) (a.val + j) l.val := by
  rw [ld_rows _ j hj, past, View.writes_nil, hm.read_unread]
  unfold hist
  have e : j + a.val = a.val + j := Nat.add_comm _ _
  refine if_congr (by show j + a.val < 8 ↔ _; rw [e]) ?_ ?_
  · refine congrArg xs1 (congrArg₂ ix2 (Fin.ext ?_) (ofNat_val l).symm)
    show j + a.val = (a.val + j) % 520
    omega
  · rw [s_0]
    refine congrArg (fun r => seg H x2 r _) ?_
    show (j + a.val - 8) % 512 = a.val + j - 8
    omega

theorem past_A {κ : Kind} {sp : Space} (v : View sig κ sp S520x512 .f32)
    (H : Vec Ideal S512x1024 .bf16) (x2 : Vec Ideal S1024x4352 .bf16) (inb inb') (j : ℕ) (hj : j ≤ 8) (h) (a l : Fin 512) :
    (v.readCov (Val := Elt Ideal) [⟨Rect.unit ![8, 0] ![512, 512] inb, k0_pay94 H (cols x2 3072)⟩, ⟨Rect.unit ![0, 0] ![8, 512] inb', k0_pay93 (F := Ideal)⟩]
        (Rect.unit (s := S520x512) ![j, 0] ![512, 512] h).toLoadRect : Vec Ideal S512x512 .f32) (ix2 a l)
      = hist (seg H x2) (fun _ _ => 0) (a.val + j) l.val := by
  have e : j + a.val = a.val + j := Nat.add_comm _ _
  refine (congrFun (View.readAt_eq_ld v _ _) _).trans ?_
  rw [ld_rows _ j hj, past]
  unfold hist
  by_cases hq : j + a.val < 8
  · rw [if_pos hq, if_pos (by omega)]
    refine (View.read_writes_cons_rows_of_mem (o := 0) v _ inb' _ [] _ (ix2 ⟨j + a.val, hq⟩ l) rfl (Nat.zero_add _).symm rfl).trans ?_
    pointwise [k0_pay93]
  · rw [if_neg hq, if_neg (by omega), s_0]
    refine congrArg (fun r => seg H x2 r _) ?_
    show (j + a.val - 8) % 512 = a.val + j - 8
    omega

/-- The eight rows carried over: the block's last. -/
theorem carry {κ : Kind} {sp : Space} (v : View sig κ sp S520x512 .f32)
    (H : Vec Ideal S512x1024 .bf16) (x2 : Vec Ideal S1024x4352 .bf16) (inb) (L : List (View.Piece (Elt Ideal) S520x512 .f32)) (h) (a : Fin 8) (l : Fin 512) :
    (v.readCov (Val := Elt Ideal) (⟨Rect.unit ![8, 0] ![512, 512] inb, k0_pay94 H (cols x2 3072)⟩ :: L)
        (Rect.unit (s := S520x512) ![512, 0] ![8, 512] h).toLoadRect : Vec Ideal S8x512 .f32) (ix2 a l)
      = seg H x2 (504 + a.val) (3072 + l.val) := by
  have ha := a.isLt
  refine (congrFun (View.readAt_eq_ld v _ _) _).trans ?_
  refine (View.ld_unit_apply_of _ _ _ h (ix2 a l) (ix2 ⟨512 + a.val, by omega⟩ l) fun a => ?_).trans ?_
  · match a with
    | 0 => rfl
    | 1 => exact (Nat.zero_add _).symm
  · rw [past, if_neg (by dsimp only; omega), s_0]
    refine congrArg (fun r => seg H x2 r _) ?_
    show (512 + a.val - 8) % 512 = 504 + a.val
    omega

/-- What a point leaves in the scratch. -/
def left (S : ℕ → ℕ → EReal) (q l : ℕ) : EReal := if q < 8 then S (504 + q) (3072 + l) else S (q - 8) (3072 + l)

/-- The mLSTM's input and forget gates, before anything else. -/
def e15 (H : Vec Ideal S512x1024 .bf16) (x3 : Vec Ideal S1024x128 .bf16) (r l : ℕ) : EReal :=
  ∑ k, H (ix2 (Fin.ofNat 512 r) k) * x3 (ix2 k (Fin.ofNat 128 l))
theorem t_1 (H : Vec Ideal S512x1024 .bf16) (x3 : Vec Ideal S1024x128 .bf16) (a : Fin 512) (b : Fin 128) :
    k0_pay1 H x3 (ix2 a b) = e15 H x3 (0 + 1 * a.val) (0 + 1 * b.val) := by
  rw [t_0]
  unfold e15
  rw [Nat.zero_add, Nat.one_mul, Nat.zero_add, Nat.one_mul, ofNat_val, ofNat_val]

/-- Window 8. -/
def blk8 (H : Vec Ideal S512x1024 .bf16) (x2 : Vec Ideal S1024x4352 .bf16) : Vec Ideal S2x512x256 .bf16 := fun y => e8 (seg H x2) (y 0).val (y 1).val (y 2).val
/-- Window 9. -/
def blk9 (H : Vec Ideal S512x1024 .bf16) (x2 : Vec Ideal S1024x4352 .bf16) : Vec Ideal S512x1024 .bf16 := fun y => e9 (seg H x2) (y 0).val ((y 1).val / 128) ((y 1).val % 128)
/-- Window 10. -/
def blk10 (H : Vec Ideal S512x1024 .bf16) (x2 : Vec Ideal S1024x4352 .bf16) : Vec Ideal S2x640x256 .bf16 := fun y => e10 (seg H x2) (y 0).val ((y 1).val / 80) ((y 1).val % 80) (y 2).val
/-- Window 11. -/
def blk11 (H : Vec Ideal S512x1024 .bf16) (x2 : Vec Ideal S1024x4352 .bf16) : Vec Ideal S512x512 .bf16 := fun y => e11 (seg H x2) (y 0).val (y 1).val
/-- Window 12. -/
def blk12 (H : Vec Ideal S512x1024 .bf16) (x2 : Vec Ideal S1024x4352 .bf16) : Vec Ideal S2x1x512 .f32 := fun y => e12 (seg H x2) (y 0).val (y 2).val
/-- Window 13. -/
def blk13 (H : Vec Ideal S512x1024 .bf16) (x2 : Vec Ideal S1024x4352 .bf16) (C D : ℕ → ℕ → EReal) : Vec Ideal S512x1024 .bf16 := fun y => e13 (seg H x2) C D (y 0).val (y 1).val
/-- Window 14. -/
def blk14 (H : Vec Ideal S512x1024 .bf16) (x2 : Vec Ideal S1024x4352 .bf16) (E : ℕ → ℕ → EReal) (x6 : Vec Ideal S4x512 .f32) (x7 : Vec Ideal S1x512 .f32) : Vec Ideal S512x1280 .bf16 := fun y => e14 (seg H x2) E x6 x7 (y 0).val (y 1).val
/-- Window 15. -/
def blk15 (H : Vec Ideal S512x1024 .bf16) (x3 : Vec Ideal S1024x128 .bf16) : Vec Ideal S512x128 .f32 := fun y => e15 H x3 (y 0).val (y 1).val
/-- The scratch. -/
def blk1 (H : Vec Ideal S512x1024 .bf16) (x2 : Vec Ideal S1024x4352 .bf16) : Vec Ideal S520x512 .f32 := fun y => left (seg H x2) (y 0).val (y 1).val

/-- Entries of a table by numbers. -/
def tab (x : Vec Ideal S512x128 .f32) (r l : ℕ) : EReal := x (ix2 (Fin.ofNat 512 r) (Fin.ofNat 128 l))
theorem tab_at (x : Vec Ideal S512x128 .f32) (a : Fin 512) (b : Fin 128) : x (ix2 a b) = tab x a.val b.val := by
  unfold tab
  rw [ofNat_val, ofNat_val]
/-- Rows carried over, by numbers. -/
def rows8 (x : Vec Ideal S520x512 .f32) (q l : ℕ) : EReal := x (ix2 (Fin.ofNat 520 q) (Fin.ofNat 512 l))

theorem past_8 (H : Vec Ideal S512x1024 .bf16) (x2 : Vec Ideal S1024x4352 .bf16) (P : ℕ → ℕ → EReal) (a l : Fin 512) :
    k0_pay94 H (cols x2 3072) (ix2 a l) = hist (seg H x2) P (a.val + 8) l.val := by
  rw [s_0]
  unfold hist
  rw [if_neg (by omega), Nat.add_sub_cancel]

theorem sc_8 (H : Vec Ideal S512x1024 .bf16) (x2 : Vec Ideal S1024x4352 .bf16) (a l : Fin 512) :
    k0_pay94 H (cols x2 3072) (ix2 a l) = left (seg H x2) (8 + 1 * a.val) (0 + 1 * l.val) := by
  rw [s_0]
  unfold left
  rw [if_neg (by omega), Nat.one_mul, Nat.zero_add, Nat.one_mul, Nat.add_sub_cancel_left]

theorem sc_0 {κ : Kind} {sp : Space} (v : View sig κ sp S520x512 .f32)
    (H : Vec Ideal S512x1024 .bf16) (x2 : Vec Ideal S1024x4352 .bf16) (inb) (L : List (View.Piece (Elt Ideal) S520x512 .f32)) (h) (a : Fin 8) (l : Fin 512) :
    k0_pay96 (v.readCov (Val := Elt Ideal) (⟨Rect.unit ![8, 0] ![512, 512] inb, k0_pay94 H (cols x2 3072)⟩ :: L)
        (Rect.unit (s := S520x512) ![512, 0] ![8, 512] h).toLoadRect) (ix2 a l)
      = left (seg H x2) (0 + 1 * a.val) (0 + 1 * l.val) := by
  have ha := a.isLt
  have e : ∀ Z : Vec Ideal S8x512 .f32, k0_pay96 Z (ix2 a l) = Z (ix2 a l) := fun Z => by pointwise [k0_pay96]
  rw [e, carry]
  unfold left
  rw [if_pos (by omega), Nat.zero_add, Nat.one_mul, Nat.zero_add, Nat.one_mul]

/-- The first eight rows are stored twice; the later store is what counts. -/
theorem canon_dead (G : S520x512.Idx → Elt Ideal .f32) (p q r : View.Piece (Elt Ideal) S520x512 .f32) (h : View.PiecesOf G [p, q])
    (c : ∀ y : S520x512.Idx, ∃ t ∈ [p, q], y ∈ t.1.set) : View.canon [p, q, r] = G :=
  funext fun y => View.canon_append_of_piecesOf G [r] [p, q] h y (c y)

set_option maxHeartbeats 4000000 in
theorem out0_A_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk8 (k0_pay2 x0 x1) x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![1, 512, 256] (by sl_kernel_rfl))
  exact ⟨fun x => (at3 _ x).trans (q_1 (k0_pay2 x0 x1) x2 _ _ _),
    fun x => (at3 _ x).trans (q_0 (k0_pay2 x0 x1) x2 _ _ _), trivial⟩

set_option maxHeartbeats 4000000 in
theorem out0_B_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk8 (k0_pay2 x0 x1) x2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![1, 512, 256] (by sl_kernel_rfl))
  exact ⟨fun x => (at3 _ x).trans (q_1 (k0_pay2 x0 x1) x2 _ _ _),
    fun x => (at3 _ x).trans (q_0 (k0_pay2 x0 x1) x2 _ _ _), trivial⟩

set_option maxHeartbeats 4000000 in
theorem out0_A_9_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk9 (k0_pay2 x0 x1) x2 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (k_7 (k0_pay2 x0 x1) x2 _ _),
    fun x => (at2 _ x).trans (k_6 (k0_pay2 x0 x1) x2 _ _),
    fun x => (at2 _ x).trans (k_5 (k0_pay2 x0 x1) x2 _ _),
    fun x => (at2 _ x).trans (k_4 (k0_pay2 x0 x1) x2 _ _),
    fun x => (at2 _ x).trans (k_3 (k0_pay2 x0 x1) x2 _ _),
    fun x => (at2 _ x).trans (k_2 (k0_pay2 x0 x1) x2 _ _),
    fun x => (at2 _ x).trans (k_1 (k0_pay2 x0 x1) x2 _ _),
    fun x => (at2 _ x).trans (k_0 (k0_pay2 x0 x1) x2 _ _), trivial⟩

set_option maxHeartbeats 4000000 in
theorem out0_B_9_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk9 (k0_pay2 x0 x1) x2 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (k_7 (k0_pay2 x0 x1) x2 _ _),
    fun x => (at2 _ x).trans (k_6 (k0_pay2 x0 x1) x2 _ _),
    fun x => (at2 _ x).trans (k_5 (k0_pay2 x0 x1) x2 _ _),
    fun x => (at2 _ x).trans (k_4 (k0_pay2 x0 x1) x2 _ _),
    fun x => (at2 _ x).trans (k_3 (k0_pay2 x0 x1) x2 _ _),
    fun x => (at2 _ x).trans (k_2 (k0_pay2 x0 x1) x2 _ _),
    fun x => (at2 _ x).trans (k_1 (k0_pay2 x0 x1) x2 _ _),
    fun x => (at2 _ x).trans (k_0 (k0_pay2 x0 x1) x2 _ _), trivial⟩

set_option maxHeartbeats 4000000 in
theorem out0_A_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk10 (k0_pay2 x0 x1) x2 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![1, 16, 256] (by sl_kernel_rfl))
  exact ⟨fun x => (at3 _ x).trans (v_1_624 _ _ _ _),
    fun x => (at3 _ x).trans (v_1_560 (k0_pay2 x0 x1) x2 _ _ _),
    fun x => (at3 _ x).trans (v_1_544 _ _ _ _),
    fun x => (at3 _ x).trans (v_1_480 (k0_pay2 x0 x1) x2 _ _ _),
    fun x => (at3 _ x).trans (v_1_464 _ _ _ _),
    fun x => (at3 _ x).trans (v_1_400 (k0_pay2 x0 x1) x2 _ _ _),
    fun x => (at3 _ x).trans (v_1_384 _ _ _ _),
    fun x => (at3 _ x).trans (v_1_320 (k0_pay2 x0 x1) x2 _ _ _),
    fun x => (at3 _ x).trans (v_1_304 _ _ _ _),
    fun x => (at3 _ x).trans (v_1_240 (k0_pay2 x0 x1) x2 _ _ _),
    fun x => (at3 _ x).trans (v_1_224 _ _ _ _),
    fun x => (at3 _ x).trans (v_1_160 (k0_pay2 x0 x1) x2 _ _ _),
    fun x => (at3 _ x).trans (v_1_144 _ _ _ _),
    fun x => (at3 _ x).trans (v_1_80 (k0_pay2 x0 x1) x2 _ _ _),
    fun x => (at3 _ x).trans (v_1_64 _ _ _ _),
    fun x => (at3 _ x).trans (v_1_0 (k0_pay2 x0 x1) x2 _ _ _),
    fun x => (at3 _ x).trans (v_0_624 _ _ _ _),
    fun x => (at3 _ x).trans (v_0_560 (k0_pay2 x0 x1) x2 _ _ _),
    fun x => (at3 _ x).trans (v_0_544 _ _ _ _),
    fun x => (at3 _ x).trans (v_0_480 (k0_pay2 x0 x1) x2 _ _ _),
    fun x => (at3 _ x).trans (v_0_464 _ _ _ _),
    fun x => (at3 _ x).trans (v_0_400 (k0_pay2 x0 x1) x2 _ _ _),
    fun x => (at3 _ x).trans (v_0_384 _ _ _ _),
    fun x => (at3 _ x).trans (v_0_320 (k0_pay2 x0 x1) x2 _ _ _),
    fun x => (at3 _ x).trans (v_0_304 _ _ _ _),
    fun x => (at3 _ x).trans (v_0_240 (k0_pay2 x0 x1) x2 _ _ _),
    fun x => (at3 _ x).trans (v_0_224 _ _ _ _),
    fun x => (at3 _ x).trans (v_0_160 (k0_pay2 x0 x1) x2 _ _ _),
    fun x => (at3 _ x).trans (v_0_144 _ _ _ _),
    fun x => (at3 _ x).trans (v_0_80 (k0_pay2 x0 x1) x2 _ _ _),
    fun x => (at3 _ x).trans (v_0_64 _ _ _ _),
    fun x => (at3 _ x).trans (v_0_0 (k0_pay2 x0 x1) x2 _ _ _), trivial⟩

set_option maxHeartbeats 4000000 in
theorem out0_B_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk10 (k0_pay2 x0 x1) x2 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![1, 16, 256] (by sl_kernel_rfl))
  exact ⟨fun x => (at3 _ x).trans (v_1_624 _ _ _ _),
    fun x => (at3 _ x).trans (v_1_560 (k0_pay2 x0 x1) x2 _ _ _),
    fun x => (at3 _ x).trans (v_1_544 _ _ _ _),
    fun x => (at3 _ x).trans (v_1_480 (k0_pay2 x0 x1) x2 _ _ _),
    fun x => (at3 _ x).trans (v_1_464 _ _ _ _),
    fun x => (at3 _ x).trans (v_1_400 (k0_pay2 x0 x1) x2 _ _ _),
    fun x => (at3 _ x).trans (v_1_384 _ _ _ _),
    fun x => (at3 _ x).trans (v_1_320 (k0_pay2 x0 x1) x2 _ _ _),
    fun x => (at3 _ x).trans (v_1_304 _ _ _ _),
    fun x => (at3 _ x).trans (v_1_240 (k0_pay2 x0 x1) x2 _ _ _),
    fun x => (at3 _ x).trans (v_1_224 _ _ _ _),
    fun x => (at3 _ x).trans (v_1_160 (k0_pay2 x0 x1) x2 _ _ _),
    fun x => (at3 _ x).trans (v_1_144 _ _ _ _),
    fun x => (at3 _ x).trans (v_1_80 (k0_pay2 x0 x1) x2 _ _ _),
    fun x => (at3 _ x).trans (v_1_64 _ _ _ _),
    fun x => (at3 _ x).trans (v_1_0 (k0_pay2 x0 x1) x2 _ _ _),
    fun x => (at3 _ x).trans (v_0_624 _ _ _ _),
    fun x => (at3 _ x).trans (v_0_560 (k0_pay2 x0 x1) x2 _ _ _),
    fun x => (at3 _ x).trans (v_0_544 _ _ _ _),
    fun x => (at3 _ x).trans (v_0_480 (k0_pay2 x0 x1) x2 _ _ _),
    fun x => (at3 _ x).trans (v_0_464 _ _ _ _),
    fun x => (at3 _ x).trans (v_0_400 (k0_pay2 x0 x1) x2 _ _ _),
    fun x => (at3 _ x).trans (v_0_384 _ _ _ _),
    fun x => (at3 _ x).trans (v_0_320 (k0_pay2 x0 x1) x2 _ _ _),
    fun x => (at3 _ x).trans (v_0_304 _ _ _ _),
    fun x => (at3 _ x).trans (v_0_240 (k0_pay2 x0 x1) x2 _ _ _),
    fun x => (at3 _ x).trans (v_0_224 _ _ _ _),
    fun x => (at3 _ x).trans (v_0_160 (k0_pay2 x0 x1) x2 _ _ _),
    fun x => (at3 _ x).trans (v_0_144 _ _ _ _),
    fun x => (at3 _ x).trans (v_0_80 (k0_pay2 x0 x1) x2 _ _ _),
    fun x => (at3 _ x).trans (v_0_64 _ _ _ _),
    fun x => (at3 _ x).trans (v_0_0 (k0_pay2 x0 x1) x2 _ _ _), trivial⟩

set_option maxHeartbeats 4000000 in
theorem out0_A_11_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk11 (k0_pay2 x0 x1) x2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![512, 512] (by sl_kernel_rfl))
  exact ⟨fun x => (at2 _ x).trans (g_0 (k0_pay2 x0 x1) x2 _ _), trivial⟩

set_option maxHeartbeats 4000000 in
theorem out0_B_11_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk11 (k0_pay2 x0 x1) x2 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![512, 512] (by sl_kernel_rfl))
  exact ⟨fun x => (at2 _ x).trans (g_0 (k0_pay2 x0 x1) x2 _ _), trivial⟩

set_option maxHeartbeats 4000000 in
theorem out0_A_12_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk12 (k0_pay2 x0 x1) x2 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![1, 1, 512] (by sl_kernel_rfl))
  exact ⟨fun x => (at3 _ x).trans (m_1 (k0_pay2 x0 x1) x2 _ _ _),
    fun x => (at3 _ x).trans (m_0 (k0_pay2 x0 x1) x2 _ _ _), trivial⟩

set_option maxHeartbeats 4000000 in
theorem out0_B_12_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk12 (k0_pay2 x0 x1) x2 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![1, 1, 512] (by sl_kernel_rfl))
  exact ⟨fun x => (at3 _ x).trans (m_1 (k0_pay2 x0 x1) x2 _ _ _),
    fun x => (at3 _ x).trans (m_0 (k0_pay2 x0 x1) x2 _ _ _), trivial⟩

set_option maxHeartbeats 4000000 in
theorem out0_A_13_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk13 (k0_pay2 x0 x1) x2 (tab x4) (tab x5) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (r_512 (k0_pay2 x0 x1) x2 _ _ _ _),
    fun x => (at2 _ x).trans (r_384 (k0_pay2 x0 x1) x2 x4 x5 _ _ (tab_at x4) (tab_at x5) _ _),
    fun x => (at2 _ x).trans (r_256 (k0_pay2 x0 x1) x2 x4 x5 _ _ (tab_at x4) (tab_at x5) _ _),
    fun x => (at2 _ x).trans (r_128 (k0_pay2 x0 x1) x2 x4 x5 _ _ (tab_at x4) (tab_at x5) _ _),
    fun x => (at2 _ x).trans (r_0 (k0_pay2 x0 x1) x2 x4 x5 _ _ (tab_at x4) (tab_at x5) _ _), trivial⟩

set_option maxHeartbeats 4000000 in
theorem out0_B_13_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk13 (k0_pay2 x0 x1) x2 (tab x4) (tab x5) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (r_512 (k0_pay2 x0 x1) x2 _ _ _ _),
    fun x => (at2 _ x).trans (r_384 (k0_pay2 x0 x1) x2 x4 x5 _ _ (tab_at x4) (tab_at x5) _ _),
    fun x => (at2 _ x).trans (r_256 (k0_pay2 x0 x1) x2 x4 x5 _ _ (tab_at x4) (tab_at x5) _ _),
    fun x => (at2 _ x).trans (r_128 (k0_pay2 x0 x1) x2 x4 x5 _ _ (tab_at x4) (tab_at x5) _ _),
    fun x => (at2 _ x).trans (r_0 (k0_pay2 x0 x1) x2 x4 x5 _ _ (tab_at x4) (tab_at x5) _ _), trivial⟩

set_option maxHeartbeats 4000000 in
theorem out0_A_14_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk14 (k0_pay2 x0 x1) x2 (hist (seg (k0_pay2 x0 x1) x2) (fun _ _ => 0)) x6 x7 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![512, 256] (by sl_kernel_rfl))
  exact ⟨fun x => (at2 _ x).trans (l_512 (k0_pay2 x0 x1) x2 (hist (seg (k0_pay2 x0 x1) x2) (fun _ _ => 0)) x6 x7 _ _),
    fun x => (at2 _ x).trans (l_256 (seg (k0_pay2 x0 x1) x2) (hist (seg (k0_pay2 x0 x1) x2) (fun _ _ => 0)) x6 x7 _ _ _ _ _ _ _ _ (ld_tap x6 0 0 rfl _) (ld_tap x6 1 1 rfl _) (ld_tap x6 2 2 rfl _) (ld_tap x6 3 3 rfl _) (past_A arg18.view (k0_pay2 x0 x1) x2 _ _ 5 (by omega) _) (past_A arg18.view (k0_pay2 x0 x1) x2 _ _ 6 (by omega) _) (past_A arg18.view (k0_pay2 x0 x1) x2 _ _ 7 (by omega) _) (past_8 (k0_pay2 x0 x1) x2 _) _ _),
    fun x => (at2 _ x).trans (l_0 (seg (k0_pay2 x0 x1) x2) (hist (seg (k0_pay2 x0 x1) x2) (fun _ _ => 0)) x6 x7 _ _ _ _ _ _ _ _ (ld_tap x6 0 0 rfl _) (ld_tap x6 1 1 rfl _) (ld_tap x6 2 2 rfl _) (ld_tap x6 3 3 rfl _) (past_A arg18.view (k0_pay2 x0 x1) x2 _ _ 5 (by omega) _) (past_A arg18.view (k0_pay2 x0 x1) x2 _ _ 6 (by omega) _) (past_A arg18.view (k0_pay2 x0 x1) x2 _ _ 7 (by omega) _) (past_8 (k0_pay2 x0 x1) x2 _) _ _), trivial⟩

set_option maxHeartbeats 4000000 in
theorem out0_B_14_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk14 (k0_pay2 x0 x1) x2 (hist (seg (k0_pay2 x0 x1) x2) (rows8 xs1)) x6 x7 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![512, 256] (by sl_kernel_rfl))
  exact ⟨fun x => (at2 _ x).trans (l_512 (k0_pay2 x0 x1) x2 (hist (seg (k0_pay2 x0 x1) x2) (rows8 xs1)) x6 x7 _ _),
    fun x => (at2 _ x).trans (l_256 (seg (k0_pay2 x0 x1) x2) (hist (seg (k0_pay2 x0 x1) x2) (rows8 xs1)) x6 x7 _ _ _ _ _ _ _ _ (ld_tap x6 0 0 rfl _) (ld_tap x6 1 1 rfl _) (ld_tap x6 2 2 rfl _) (ld_tap x6 3 3 rfl _) (past_B arg18 harg18 xs1 (k0_pay2 x0 x1) x2 _ 5 (by omega) _) (past_B arg18 harg18 xs1 (k0_pay2 x0 x1) x2 _ 6 (by omega) _) (past_B arg18 harg18 xs1 (k0_pay2 x0 x1) x2 _ 7 (by omega) _) (past_8 (k0_pay2 x0 x1) x2 _) _ _),
    fun x => (at2 _ x).trans (l_0 (seg (k0_pay2 x0 x1) x2) (hist (seg (k0_pay2 x0 x1) x2) (rows8 xs1)) x6 x7 _ _ _ _ _ _ _ _ (ld_tap x6 0 0 rfl _) (ld_tap x6 1 1 rfl _) (ld_tap x6 2 2 rfl _) (ld_tap x6 3 3 rfl _) (past_B arg18 harg18 xs1 (k0_pay2 x0 x1) x2 _ 5 (by omega) _) (past_B arg18 harg18 xs1 (k0_pay2 x0 x1) x2 _ 6 (by omega) _) (past_B arg18 harg18 xs1 (k0_pay2 x0 x1) x2 _ 7 (by omega) _) (past_8 (k0_pay2 x0 x1) x2 _) _ _), trivial⟩

set_option maxHeartbeats 4000000 in
theorem out0_A_15_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk15 (k0_pay2 x0 x1) x3 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (t_1 (k0_pay2 x0 x1) x3 _ _), trivial⟩

set_option maxHeartbeats 4000000 in
theorem out0_B_15_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk15 (k0_pay2 x0 x1) x3 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![512, 128] (by sl_kernel_rfl))
  exact ⟨fun x => (at2 _ x).trans (t_1 (k0_pay2 x0 x1) x3 _ _), trivial⟩

set_option maxHeartbeats 4000000 in
theorem sout0_A_1_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = blk1 (k0_pay2 x0 x1) x2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, shapeCast_self]
  simp only [View.readCov_cons_toLoadRect]
  simp only [ld_cols, ld_cols', ldw]
  refine canon_dead _ _ _ _ ?_ (View.cover_of_tiledBy _ ![8, 512] (by sl_kernel_rfl))
  exact ⟨fun x => (at2 _ x).trans (sc_0 arg18.view (k0_pay2 x0 x1) x2 _ _ _ _ _),
    fun x => (at2 _ x).trans (sc_8 (k0_pay2 x0 x1) x2 _ _), trivial⟩

set_option maxHeartbeats 4000000 in
theorem sout0_B_1_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S1024x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S2x512x256 .bf16) (harg9 : arg9.IsWhole) (arg10 : Memref sig .tc .vmem S512x1024 .bf16) (harg10 : arg10.IsWhole) (arg11 : Memref sig .tc .vmem S2x640x256 .bf16) (harg11 : arg11.IsWhole) (arg12 : Memref sig .tc .vmem S512x512 .bf16) (harg12 : arg12.IsWhole) (arg13 : Memref sig .tc .vmem S2x1x512 .f32) (harg13 : arg13.IsWhole) (arg14 : Memref sig .tc .vmem S512x1024 .bf16) (harg14 : arg14.IsWhole) (arg15 : Memref sig .tc .vmem S512x1280 .bf16) (harg15 : arg15.IsWhole) (arg16 : Memref sig .tc .vmem S512x128 .f32) (harg16 : arg16.IsWhole) (arg17 : Memref sig .tc .vmem S512x1024 .bf16) (harg17 : arg17.IsWhole) (arg18 : Memref sig .tc .vmem S520x512 .f32) (harg18 : arg18.IsWhole) (hc0 : ¬cond0_0 i)
    (x0 : Vec Ideal S512x1024 .f32) (x1 : Vec Ideal S1x1024 .f32) (x2 : Vec Ideal S1024x4352 .bf16) (x3 : Vec Ideal S1024x128 .bf16) (x4 : Vec Ideal S512x128 .f32) (x5 : Vec Ideal S512x128 .f32) (x6 : Vec Ideal S4x512 .f32) (x7 : Vec Ideal S1x512 .f32) (xs1 : Vec Ideal S520x512 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1 = blk1 (k0_pay2 x0 x1) x2 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg18.read_unread, shapeCast_self]
  simp only [View.readCov_cons_toLoadRect]
  simp only [ld_cols, ld_cols', ldw]
  refine canon_of _ _ ?_ (View.cover_of_tiledBy _ ![8, 512] (by sl_kernel_rfl))
  exact ⟨fun x => (at2 _ x).trans (sc_0 arg18.view (k0_pay2 x0 x1) x2 _ _ _ _ _),
    fun x => (at2 _ x).trans (sc_8 (k0_pay2 x0 x1) x2 _ _), trivial⟩

end Cert.ProjIdeal.Piece
-- ==== Proof.ProjTables.lean ====
module
public import proofs.«01_k».proof.Proof.Gen.ProjIdeal.Value
public import Idealize.ShloMosaic.Lib.StableHlo.RunRead
public import Idealize.ShloMosaic.Lib.ValueIdxCore
public import Idealize.ShloMosaic.Lib.Pointwise
/-! # What the projections' windows hold

The host's arrays before the grid starts, and the block of each that a grid point sees. -/
@[expose] public section
set_option maxRecDepth 16384
noncomputable section
open Idealize.ShloMosaic Idealize.ShloMosaic.TcCoe Idealize.SL.Sem Idealize.ShloMosaic.StableHlo
namespace Cert.ProjIdeal.Tables
open Cert.ProjIdeal Cert.ProjIdeal.Gen
variable {F : FTy → Type} [FloatOps F]
variable (m : (ℓ : Loc nD τ sig) → Buf (Elt F) ℓ) (c : Dev nD)

/-- Numbers evenly spaced from zero to one, as the host computes them. -/
def steps : FVec F S32 .f32 :=
  concatenate S32 0
    [⟨S31, addf (mulf (broadcastInDim S31 ![0] bcast_S1_S31_0 (shapeCast S1 (constant S_ .f32 0x00000000#32) shapeCasts_S_S1))
        (subf (broadcastInDim S31 ![] bcast_S_S31 (constant S_ .f32 0x3F800000#32))
          (Host.divf (sitofp .f32 (iotaInDim S31 32 0)) (broadcastInDim S31 ![] bcast_S_S31 (constant S_ .f32 0x41F80000#32)))))
      (mulf (broadcastInDim S31 ![0] bcast_S1_S31_0 (shapeCast S1 (constant S_ .f32 0x3F800000#32) shapeCasts_S_S1))
        (Host.divf (sitofp .f32 (iotaInDim S31 32 0)) (broadcastInDim S31 ![] bcast_S_S31 (constant S_ .f32 0x41F80000#32))))⟩,
     ⟨S1, broadcastInDim S1 ![] bcast_S_S1 (constant S_ .f32 0x3F800000#32)⟩] concatenates_S31_S1_S32_d0

/-- The angle of each row and pair of lanes. -/
def ang : FVec F S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32)) (steps (F := F))))))

set_option maxHeartbeats 4000000 in
theorem V15 : V m c main_v15 = shapeCast S16384x128 (broadcastInDim S1x16384x4x32 ![0, 1, 2, 3] bcast_S1x16384x1x32_S1x16384x4x32_0_1_2_3
    (shapeCast S1x16384x1x32 (Host.cos (ang (F := F))) shapeCasts_S16384x32_S1x16384x1x32)) shapeCasts_S1x16384x4x32_S16384x128 := by
  show StableHlo.after _ _ _ = _
  simp only [hostOps0, hostOps0_1, hostOps0_2, hostOps0_3, hostOps0_4, List.flatten_cons, List.flatten_nil, List.append_nil, List.cons_append, List.nil_append]
  after_reads_simp
  simp only [TRef.ofBuf_toBuf, TRef.ofBuf, TRef.toBuf, cast_eq, id]
  unfold ang steps
  rfl

theorem V25 : V m c main_v25 = truncf .bf16 (pad S1024x128 ![0, 0] ![0, 120] ![0, 0]
    (extractStridedSlice S1024x8 ![0, 4352] (m ((c : Thread nD τ).loc main_arg2)) slices_S1024x4360_S1024x8_0_4352 : Vec F S1024x8 .f32)
    (sitofp .f32 (constantI S_ 32 0#32)) pads_S1024x8_S1024x128_000_01200 h_S_) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp
  rfl

theorem V22 : V m c main_v22 = truncf .bf16 (extractStridedSlice S1024x4352 ![0, 0] (m ((c : Thread nD τ).loc main_arg2)) slices_S1024x4360_S1024x4352_0_0 : Vec F S1024x4352 .f32) bitsLt_bf16_f32 := by
  show StableHlo.after _ _ _ = _
  simp only [hostOps0, hostOps0_1, hostOps0_2, hostOps0_3, hostOps0_4, List.flatten_cons, List.flatten_nil, List.append_nil, List.cons_append, List.nil_append]
  after_reads_simp

theorem V26 : V m c main_v26 = broadcastInDim S1x1024 ![1] bcast_S1024_S1x1024_1 (m ((c : Thread nD τ).loc main_arg1)) := by
  show StableHlo.after _ _ _ = _
  simp only [hostOps0, hostOps0_1, hostOps0_2, hostOps0_3, hostOps0_4, List.flatten_cons, List.flatten_nil, List.append_nil, List.cons_append, List.nil_append]
  after_reads_simp

theorem V27 : V m c main_v27 = broadcastInDim S1x512 ![1] bcast_S512_S1x512_1 (m ((c : Thread nD τ).loc main_arg4)) := by
  show StableHlo.after _ _ _ = _
  simp only [hostOps0, hostOps0_1, hostOps0_2, hostOps0_3, hostOps0_4, List.flatten_cons, List.flatten_nil, List.append_nil, List.cons_append, List.nil_append]
  after_reads_simp

/-- The sine table from its two halves. -/
def sinTab (A B : FVec F S16384x32 .f32) : FVec F S16384x128 .f32 :=
  shapeCast S16384x128 (broadcastInDim S1x16384x2x64 ![0, 1, 2, 3] bcast_S1x16384x1x64_S1x16384x2x64_0_1_2_3
    (shapeCast S1x16384x1x64 (concatenate S16384x64 1 [⟨S16384x32, A⟩, ⟨S16384x32, B⟩] concatenates_S16384x32_S16384x32_S16384x64_d1) shapeCasts_S16384x64_S1x16384x1x64)) shapeCasts_S1x16384x2x64_S16384x128

theorem sinTab_eq {A B A' B' : FVec F S16384x32 .f32} (hA : A = A') (hB : B = B') :
    (fun i => shapeCast S16384x128 (broadcastInDim S1x16384x2x64 ![0, 1, 2, 3] bcast_S1x16384x1x64_S1x16384x2x64_0_1_2_3
      (fun i => shapeCast S1x16384x1x64 (concatenate S16384x64 1 [⟨S16384x32, A⟩, ⟨S16384x32, B⟩] concatenates_S16384x32_S16384x32_S16384x64_d1) shapeCasts_S16384x64_S1x16384x1x64 i)) shapeCasts_S1x16384x2x64_S16384x128 i)
      = sinTab A' B' := by
  subst hA hB
  rfl

set_option maxHeartbeats 400000 in
theorem V20 : V m c main_v20 = sinTab (Host.negf (Host.sin (ang (F := F)))) (Host.sin (ang (F := F))) := by
  show StableHlo.after _ _ _ = _
  simp only [hostOps0, hostOps0_1, hostOps0_2, hostOps0_3, hostOps0_4, List.flatten_cons, List.flatten_nil, List.append_nil, List.cons_append, List.nil_append]
  after_reads_simp
  try simp only [TRef.ofBuf_toBuf, TRef.ofBuf, TRef.toBuf, cast_eq, id]
  refine sinTab_eq ?_ ?_
  · after_reads_simp
    try simp only [TRef.ofBuf_toBuf, TRef.ofBuf, TRef.toBuf, cast_eq, id]
    unfold ang steps
    rfl
  · after_reads_simp
    try simp only [TRef.ofBuf_toBuf, TRef.ofBuf, TRef.toBuf, cast_eq, id]
    unfold ang steps
    rfl

theorem Varg0 : V m c main_arg0 = m ((c : Thread nD τ).loc main_arg0) := by
  show StableHlo.after _ _ _ = _
  simp only [hostOps0, hostOps0_1, hostOps0_2, hostOps0_3, hostOps0_4, List.flatten_cons, List.flatten_nil, List.append_nil, List.cons_append, List.nil_append]
  after_reads_simp

theorem Varg3 : V m c main_arg3 = m ((c : Thread nD τ).loc main_arg3) := by
  show StableHlo.after _ _ _ = _
  simp only [hostOps0, hostOps0_1, hostOps0_2, hostOps0_3, hostOps0_4, List.flatten_cons, List.flatten_nil, List.append_nil, List.cons_append, List.nil_append]
  after_reads_simp

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem blk0 (t : Fin cfg0.N) (a : Fin 512) (b : Fin 1024) : iblk m c 0 t (ix2 a b) = V m c main_arg0 (ix2 (Fin.ofNat 16384 (512 * t.val + a.val)) b) := by
  have hN : t.val < 32 := lt_of_lt_of_eq t.isLt (show cfg0.N = 32 from N_0)
  have ha := a.isLt
  unfold iblk
  rw [View.read_apply]
  show V m c main_arg0 _ = V m c main_arg0 _
  congr 1
  funext x
  apply Fin.ext
  match x with
  | ⟨0, _⟩ =>
    show win0_0.index t 0 * 512 + 1 * a.val = (512 * t.val + a.val) % 16384
    rw [ix0_0 t]; omega
  | ⟨1, _⟩ =>
    show win0_0.index t 1 * 1024 + 1 * b.val = b.val
    rw [ix0_1 t]; omega

theorem ix1_0 : ∀ t : Fin cfg0.N, win0_1.index t 0 = 0 := (by decide +kernel : ∀ t : Fin grid0.N, win0_1.index t 0 = 0)
theorem ix1_1 : ∀ t : Fin cfg0.N, win0_1.index t 1 = 0 := (by decide +kernel : ∀ t : Fin grid0.N, win0_1.index t 1 = 0)
theorem blk1 (t : Fin cfg0.N) : iblk m c 1 t = V m c main_v26 := by
  funext j
  unfold iblk
  rw [View.read_apply]
  show V m c main_v26 _ = V m c main_v26 j
  congr 1
  funext a
  apply Fin.ext
  match a with
  | ⟨0, _⟩ =>
    show win0_1.index t 0 * 1 + 1 * (j 0).val = (j 0).val
    rw [ix1_0 t]; omega
  | ⟨1, _⟩ =>
    show win0_1.index t 1 * 1024 + 1 * (j 1).val = (j 1).val
    rw [ix1_1 t]; omega

theorem ix2_0 : ∀ t : Fin cfg0.N, win0_2.index t 0 = 0 := (by decide +kernel : ∀ t : Fin grid0.N, win0_2.index t 0 = 0)
theorem ix2_1 : ∀ t : Fin cfg0.N, win0_2.index t 1 = 0 := (by decide +kernel : ∀ t : Fin grid0.N, win0_2.index t 1 = 0)
theorem blk2 (t : Fin cfg0.N) : iblk m c 2 t = V m c main_v22 := by
  funext j
  unfold iblk
  rw [View.read_apply]
  show V m c main_v22 _ = V m c main_v22 j
  congr 1
  funext a
  apply Fin.ext
  match a with
  | ⟨0, _⟩ =>
    show win0_2.index t 0 * 1024 + 1 * (j 0).val = (j 0).val
    rw [ix2_0 t]; omega
  | ⟨1, _⟩ =>
    show win0_2.index t 1 * 4352 + 1 * (j 1).val = (j 1).val
    rw [ix2_1 t]; omega

theorem ix3_0 : ∀ t : Fin cfg0.N, win0_3.index t 0 = 0 := (by decide +kernel : ∀ t : Fin grid0.N, win0_3.index t 0 = 0)
theorem ix3_1 : ∀ t : Fin cfg0.N, win0_3.index t 1 = 0 := (by decide +kernel : ∀ t : Fin grid0.N, win0_3.index t 1 = 0)
theorem blk3 (t : Fin cfg0.N) : iblk m c 3 t = V m c main_v25 := by
  funext j
  unfold iblk
  rw [View.read_apply]
  show V m c main_v25 _ = V m c main_v25 j
  congr 1
  funext a
  apply Fin.ext
  match a with
  | ⟨0, _⟩ =>
    show win0_3.index t 0 * 1024 + 1 * (j 0).val = (j 0).val
    rw [ix3_0 t]; omega
  | ⟨1, _⟩ =>
    show win0_3.index t 1 * 128 + 1 * (j 1).val = (j 1).val
    rw [ix3_1 t]; omega

theorem ix4_0 : ∀ t : Fin cfg0.N, win0_4.index t 0 = t.val := (by decide +kernel : ∀ t : Fin grid0.N, win0_4.index t 0 = t.val)
theorem ix4_1 : ∀ t : Fin cfg0.N, win0_4.index t 1 = 0 := (by decide +kernel : ∀ t : Fin grid0.N, win0_4.index t 1 = 0)
theorem blk4 (t : Fin cfg0.N) (a : Fin 512) (b : Fin 128) : iblk m c 4 t (ix2 a b) = V m c main_v15 (ix2 (Fin.ofNat 16384 (512 * t.val + a.val)) b) := by
  have hN : t.val < 32 := lt_of_lt_of_eq t.isLt (show cfg0.N = 32 from N_0)
  have ha := a.isLt
  unfold iblk
  rw [View.read_apply]
  show V m c main_v15 _ = V m c main_v15 _
  congr 1
  funext x
  apply Fin.ext
  match x with
  | ⟨0, _⟩ =>
    show win0_4.index t 0 * 512 + 1 * a.val = (512 * t.val + a.val) % 16384
    rw [ix4_0 t]; omega
  | ⟨1, _⟩ =>
    show win0_4.index t 1 * 128 + 1 * b.val = b.val
    rw [ix4_1 t]; omega

theorem ix5_0 : ∀ t : Fin cfg0.N, win0_5.index t 0 = t.val := (by decide +kernel : ∀ t : Fin grid0.N, win0_5.index t 0 = t.val)
theorem ix5_1 : ∀ t : Fin cfg0.N, win0_5.index t 1 = 0 := (by decide +kernel : ∀ t : Fin grid0.N, win0_5.index t 1 = 0)
theorem blk5 (t : Fin cfg0.N) (a : Fin 512) (b : Fin 128) : iblk m c 5 t (ix2 a b) = V m c main_v20 (ix2 (Fin.ofNat 16384 (512 * t.val + a.val)) b) := by
  have hN : t.val < 32 := lt_of_lt_of_eq t.isLt (show cfg0.N = 32 from N_0)
  have ha := a.isLt
  unfold iblk
  rw [View.read_apply]
  show V m c main_v20 _ = V m c main_v20 _
  congr 1
  funext x
  apply Fin.ext
  match x with
  | ⟨0, _⟩ =>
    show win0_5.index t 0 * 512 + 1 * a.val = (512 * t.val + a.val) % 16384
    rw [ix5_0 t]; omega
  | ⟨1, _⟩ =>
    show win0_5.index t 1 * 128 + 1 * b.val = b.val
    rw [ix5_1 t]; omega

theorem ix6_0 : ∀ t : Fin cfg0.N, win0_6.index t 0 = 0 := (by decide +kernel : ∀ t : Fin grid0.N, win0_6.index t 0 = 0)
theorem ix6_1 : ∀ t : Fin cfg0.N, win0_6.index t 1 = 0 := (by decide +kernel : ∀ t : Fin grid0.N, win0_6.index t 1 = 0)
theorem blk6 (t : Fin cfg0.N) : iblk m c 6 t = V m c main_arg3 := by
  funext j
  unfold iblk
  rw [View.read_apply]
  show V m c main_arg3 _ = V m c main_arg3 j
  congr 1
  funext a
  apply Fin.ext
  match a with
  | ⟨0, _⟩ =>
    show win0_6.index t 0 * 4 + 1 * (j 0).val = (j 0).val
    rw [ix6_0 t]; omega
  | ⟨1, _⟩ =>
    show win0_6.index t 1 * 512 + 1 * (j 1).val = (j 1).val
    rw [ix6_1 t]; omega

theorem ix7_0 : ∀ t : Fin cfg0.N, win0_7.index t 0 = 0 := (by decide +kernel : ∀ t : Fin grid0.N, win0_7.index t 0 = 0)
theorem ix7_1 : ∀ t : Fin cfg0.N, win0_7.index t 1 = 0 := (by decide +kernel : ∀ t : Fin grid0.N, win0_7.index t 1 = 0)
theorem blk7 (t : Fin cfg0.N) : iblk m c 7 t = V m c main_v27 := by
  funext j
  unfold iblk
  rw [View.read_apply]
  show V m c main_v27 _ = V m c main_v27 j
  congr 1
  funext a
  apply Fin.ext
  match a with
  | ⟨0, _⟩ =>
    show win0_7.index t 0 * 1 + 1 * (j 0).val = (j 0).val
    rw [ix7_0 t]; omega
  | ⟨1, _⟩ =>
    show win0_7.index t 1 * 512 + 1 * (j 1).val = (j 1).val
    rw [ix7_1 t]; omega

end Cert.ProjIdeal.Tables
-- ==== Proof.ProjFold.lean ====
module
public import proofs.«01_k».proof.Proof.ProjBody
public import proofs.«01_k».proof.Proof.ProjTables
/-! # The arrays the projections leave

The grid's points run one after another and hand each other the last rows before the convolution. Here every
array is read at an index, over the products of the normed rows with the columns of the weights. -/
@[expose] public section
set_option maxRecDepth 65536
noncomputable section
open Idealize.ShloMosaic Idealize.ShloMosaic.TcCoe Idealize.SL.Sem
namespace Cert.ProjIdeal.Fold
open Cert.ProjIdeal Cert.ProjIdeal.Gen Cert.ProjIdeal.Piece Cert.ProjIdeal.Tables Cert.ProjIdeal.Value

/-- Rows `512 p …` of the argument. -/
def rowsOf (X : Vec Ideal S16384x1024 .f32) (p : ℕ) : Vec Ideal S512x1024 .f32 :=
  fun j => X (ix2 (Fin.ofNat 16384 (512 * p + (j 0).val)) (j 1))
/-- Rows `512 p …` of a table. -/
def tabOf (T : Vec Ideal S16384x128 .f32) (p : ℕ) : Vec Ideal S512x128 .f32 :=
  fun j => T (ix2 (Fin.ofNat 16384 (512 * p + (j 0).val)) (j 1))

variable (m : (ℓ : Loc nD τ sig) → Buf (Elt Ideal) ℓ) (c : Dev nD)

/-- The normed rows of point `p`. -/
def Hp (p : ℕ) : Vec Ideal S512x1024 .bf16 := k0_pay2 (rowsOf (V m c main_arg0) p) (V m c main_v26)
/-- The products of point `p`. -/
abbrev Sp (p : ℕ) : ℕ → ℕ → EReal := seg (Hp m c p) (V m c main_v22)
/-- The rows that point `p` finds from before. -/
def ent : ℕ → ℕ → ℕ → EReal
  | 0 => fun _ _ => 0
  | p + 1 => rows8 (Piece.blk1 (Hp m c p) (V m c main_v22))

theorem rows_eq (t : Fin cfg0.N) : iblk m c 0 t = rowsOf (V m c main_arg0) t.val := by
  funext j
  exact (congrArg _ (eq2 j)).trans (Tables.blk0 m c t (j 0) (j 1))
theorem tab4_eq (t : Fin cfg0.N) : iblk m c 4 t = tabOf (V m c main_v15) t.val := by
  funext j
  exact (congrArg _ (eq2 j)).trans (Tables.blk4 m c t (j 0) (j 1))
theorem tab5_eq (t : Fin cfg0.N) : iblk m c 5 t = tabOf (V m c main_v20) t.val := by
  funext j
  exact (congrArg _ (eq2 j)).trans (Tables.blk5 m c t (j 0) (j 1))

/-- What point `n` leaves. -/
def left0 (n : ℕ) : Vec Ideal S2x512x256 .bf16 × Vec Ideal S512x1024 .bf16 × Vec Ideal S2x640x256 .bf16 × Vec Ideal S512x512 .bf16 × Vec Ideal S2x1x512 .f32 × Vec Ideal S512x1024 .bf16 × Vec Ideal S512x1280 .bf16 × Vec Ideal S512x128 .f32 × Vec Ideal S520x512 .f32 :=
  (blk8 (Hp m c n) (V m c main_v22), blk9 (Hp m c n) (V m c main_v22), blk10 (Hp m c n) (V m c main_v22), blk11 (Hp m c n) (V m c main_v22),
    blk12 (Hp m c n) (V m c main_v22), blk13 (Hp m c n) (V m c main_v22) (tab (tabOf (V m c main_v15) n)) (tab (tabOf (V m c main_v20) n)),
    blk14 (Hp m c n) (V m c main_v22) (hist (Sp m c n) (ent m c n)) (V m c main_arg3) (V m c main_v27), blk15 (Hp m c n) (V m c main_v25),
    Piece.blk1 (Hp m c n) (V m c main_v22))

theorem fold_eq (n : ℕ) (h : 0 + n < cfg0.N) :
    Pipeline.accAt (fun n h => stAt0 m c n h junk0) (stAt0 m c) 0 n h = left0 m c n := by
  have hN : (cfg0.N : ℕ) = 32 := N_0
  induction n with
  | zero =>
    rw [Pipeline.accAt_zero]
    show stAt0 m c 0 h junk0 = _
    rw [stAt0_A m c ⟨0, h⟩ _ (Nat.zero_mod _), out0_A_8_eq, out0_A_9_eq, out0_A_10_eq, out0_A_11_eq, out0_A_12_eq, out0_A_13_eq, out0_A_14_eq, out0_A_15_eq, sout0_A_1_eq,
      rows_eq, tab4_eq, tab5_eq, Tables.blk1, blk2, blk3, blk6, blk7]
    rfl
  | succ n ih =>
    rw [Pipeline.accAt_succ, ih (by omega)]
    have e : 0 + (n + 1) = n + 1 := Nat.zero_add _
    have key : ∀ (k : ℕ) (hk : k < cfg0.N) (acc), k = n + 1 → acc.2.2.2.2.2.2.2.2 = Piece.blk1 (Hp m c n) (V m c main_v22) →
        stAt0 m c k hk acc = left0 m c (n + 1) := by
      intro k hk acc e1 e2
      subst e1
      rw [stAt0_B m c ⟨n + 1, hk⟩ acc (show ¬(n + 1) % 32 = 0 by omega), out0_B_8_eq, out0_B_9_eq, out0_B_10_eq, out0_B_11_eq, out0_B_12_eq, out0_B_13_eq, out0_B_14_eq, out0_B_15_eq, sout0_B_1_eq,
        rows_eq, tab4_eq, tab5_eq, Tables.blk1, blk2, blk3, blk6, blk7, e2]
      rfl
    exact key _ _ _ e rfl

end Cert.ProjIdeal.Fold
-- ==== Proof.ProjRef.lean ====
module
public import proofs.«01_k».proof.Proof.ProjFold
public import proofs.«01_k».proof.Proof.Gen.ProjRefIdeal.Run
/-! # What the reference of the projections computes

Every result is read at an entry, over the products of the normed rows with the columns of the weights. -/
@[expose] public section
set_option maxRecDepth 65536
noncomputable section
open Idealize.ShloMosaic Idealize.ShloMosaic.TcCoe Idealize.SL.Sem
namespace Cert.ProjRefIdeal.Read
open Cert.ProjRefIdeal Cert.ProjRefIdeal.Gen
open Cert.ProjIdeal.Piece (e8 e9 e10 e11 e12 e13 e14 rot swapped conv hist)

/-- The argument with a leading axis. -/
def rows (X : FVec Ideal S16384x1024 .f32) : FVec Ideal S1x16384x1024 .f32 :=
  broadcastInDim S1x16384x1024 ![1, 2] bcast_S16384x1024_S1x16384x1024_1_2 X

/-- The normed rows times the weights. -/
def projR (X : FVec Ideal S16384x1024 .f32) (w : FVec Ideal S1024 .f32) (W : FVec Ideal S1024x4360 .f32) : FVec Ideal S1x16384x4360 .f32 :=
  Host.dotGeneral (φ₁ := .f32) (φ₂ := .f32) dot_S1x16384x1024_S1024x4360_S1x16384x4360_2_0_01_1_n_n none (mulf (mulf (rows X) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (rows X) (rows X)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 w))) W

/-- The keys. -/
def keys (P : FVec Ideal S1x16384x4360 .f32) : FVec Ideal S1x16384x512 .f32 :=
  extractStridedSlice S1x16384x512 ![0, 0, 512] P slices_S1x16384x4360_S1x16384x512_0_0_512

/-- The lanes that hold the row in the block. -/
def feat  : FVec Ideal S64x256x4x64 .f32 :=
  broadcastInDim S64x256x4x64 ![0, 1, 2, 3] bcast_S1x256x1x64_S64x256x4x64_0_1_2_3 (broadcastInDim S1x256x1x64 ![1, 3] bcast_S256x64_S1x256x1x64_1_3 (pad S256x64 ![0, 0] ![0, 61] ![0, 0] (broadcastInDim S256x3 ![0, 1] bcast_S256x1_S256x3_0_1 (broadcastInDim S256x1 ![0] bcast_S256_S256x1_0 (sitofp .f32 (iotaInDim S256 32 0)))) (sitofp .f32 (constantI S_ 32 0#32)) pads_S256x3_S256x64_000_0610 h_S_))

/-- The keys by pairs of heads. -/
def heads (P : FVec Ideal S1x16384x4360 .f32) : FVec Ideal S64x256x4x2x64 .f32 :=
  shapeCast _ (shapeCast _ (keys P) shapeCasts_S1x16384x512_S64x256x512) shapeCasts_S64x256x512_S64x256x4x2x64

/-- The retention queries by heads. -/
def qs (P : FVec Ideal S1x16384x4360 .f32) : FVec Ideal S1x4x16384x64 .f32 :=
  transpose S1x4x16384x64 [0, 2, 1, 3] (shapeCast _ (extractStridedSlice S1x16384x256 ![0, 0, 2048] P slices_S1x16384x4360_S1x16384x256_0_0_2048) shapeCasts_S1x16384x256_S1x16384x4x64) transposes_S1x16384x4x64_S1x4x16384x64_0_2_1_3

/-- Their first halves. -/
def qa (P : FVec Ideal S1x16384x4360 .f32) : FVec Ideal S1x4x16384x32 .f32 :=
  extractStridedSlice S1x4x16384x32 ![0, 0, 0, 0] (qs P) slices_S1x4x16384x64_S1x4x16384x32_0_0_0_0

/-- Their second halves. -/
def qb (P : FVec Ideal S1x16384x4360 .f32) : FVec Ideal S1x4x16384x32 .f32 :=
  extractStridedSlice S1x4x16384x32 ![0, 0, 0, 32] (qs P) slices_S1x4x16384x64_S1x4x16384x32_0_0_0_32

/-- The retention keys by heads. -/
def ks (P : FVec Ideal S1x16384x4360 .f32) : FVec Ideal S1x4x16384x64 .f32 :=
  transpose S1x4x16384x64 [0, 2, 1, 3] (shapeCast _ (extractStridedSlice S1x16384x256 ![0, 0, 2304] P slices_S1x16384x4360_S1x16384x256_0_0_2304) shapeCasts_S1x16384x256_S1x16384x4x64) transposes_S1x16384x4x64_S1x4x16384x64_0_2_1_3

/-- Their first halves. -/
def ka (P : FVec Ideal S1x16384x4360 .f32) : FVec Ideal S1x4x16384x32 .f32 :=
  extractStridedSlice S1x4x16384x32 ![0, 0, 0, 0] (ks P) slices_S1x4x16384x64_S1x4x16384x32_0_0_0_0

/-- Their second halves. -/
def kb (P : FVec Ideal S1x16384x4360 .f32) : FVec Ideal S1x4x16384x32 .f32 :=
  extractStridedSlice S1x4x16384x32 ![0, 0, 0, 32] (ks P) slices_S1x4x16384x64_S1x4x16384x32_0_0_0_32

/-- The rows of the convolution after three rows of zeros. -/
def ext (P : FVec Ideal S1x16384x4360 .f32) : FVec Ideal S1x16387x512 .f32 :=
  pad S1x16387x512 ![0, 3, 0] ![0, 0, 0] ![0, 0, 0] (concatenate S1x16384x512 2 [⟨S1x16384x256, (extractStridedSlice S1x16384x256 ![0, 0, 3072] P slices_S1x16384x4360_S1x16384x256_0_0_3072)⟩, ⟨S1x16384x256, (extractStridedSlice S1x16384x256 ![0, 0, 3328] P slices_S1x16384x4360_S1x16384x256_0_0_3328)⟩] concatenates_S1x16384x256_S1x16384x256_S1x16384x512_d2) (sitofp .f32 (constantI S_ 32 0#32)) pads_S1x16384x512_S1x16387x512_000_300_000 h_S_

/-- The convolution. -/
def cv (P : FVec Ideal S1x16384x4360 .f32) (cw : FVec Ideal S4x512 .f32) (cb : FVec Ideal S512 .f32) : FVec Ideal S1x16384x512 .f32 :=
  addf (addf (addf (addf (addf (broadcastInDim S1x16384x512 ![] bcast_S_S1x16384x512 (constant S_ .f32 0x00000000#32)) (mulf (extractStridedSlice S1x16384x512 ![0, 0, 0] (ext P) slices_S1x16387x512_S1x16384x512_0_0_0) (broadcastInDim S1x16384x512 ![0, 1, 2] bcast_S1x1x512_S1x16384x512_0_1_2 (broadcastInDim S1x1x512 ![2] bcast_S512_S1x1x512_2 (shapeCast _ (extractStridedSlice S1x512 ![0, 0] cw slices_S4x512_S1x512_0_0) shapeCasts_S1x512_S512))))) (mulf (extractStridedSlice S1x16384x512 ![0, 1, 0] (ext P) slices_S1x16387x512_S1x16384x512_0_1_0) (broadcastInDim S1x16384x512 ![0, 1, 2] bcast_S1x1x512_S1x16384x512_0_1_2 (broadcastInDim S1x1x512 ![2] bcast_S512_S1x1x512_2 (shapeCast _ (extractStridedSlice S1x512 ![1, 0] cw slices_S4x512_S1x512_1_0) shapeCasts_S1x512_S512))))) (mulf (extractStridedSlice S1x16384x512 ![0, 2, 0] (ext P) slices_S1x16387x512_S1x16384x512_0_2_0) (broadcastInDim S1x16384x512 ![0, 1, 2] bcast_S1x1x512_S1x16384x512_0_1_2 (broadcastInDim S1x1x512 ![2] bcast_S512_S1x1x512_2 (shapeCast _ (extractStridedSlice S1x512 ![2, 0] cw slices_S4x512_S1x512_2_0) shapeCasts_S1x512_S512))))) (mulf (extractStridedSlice S1x16384x512 ![0, 3, 0] (ext P) slices_S1x16387x512_S1x16384x512_0_3_0) (broadcastInDim S1x16384x512 ![0, 1, 2] bcast_S1x1x512_S1x16384x512_0_1_2 (broadcastInDim S1x1x512 ![2] bcast_S512_S1x1x512_2 (shapeCast _ (extractStridedSlice S1x512 ![3, 0] cw slices_S4x512_S1x512_3_0) shapeCasts_S1x512_S512))))) (broadcastInDim S1x16384x512 ![0, 1, 2] bcast_S1x1x512_S1x16384x512_0_1_2 (broadcastInDim S1x1x512 ![2] bcast_S512_S1x1x512_2 cb))

/-- The convolution times its logistic. -/
def act (P : FVec Ideal S1x16384x4360 .f32) (cw : FVec Ideal S4x512 .f32) (cb : FVec Ideal S512 .f32) : FVec Ideal S1x16384x512 .f32 :=
  mulf (cv P cw cb) (Host.divf (broadcastInDim S1x16384x512 ![] bcast_S_S1x16384x512 (constant S_ .f32 0x3F800000#32)) (addf (broadcastInDim S1x16384x512 ![] bcast_S_S1x16384x512 (constant S_ .f32 0x3F800000#32)) (Host.exp (Host.negf (cv P cw cb)))))

/-- The queries. -/
def R8 (P : FVec Ideal S1x16384x4360 .f32) : FVec Ideal S64x512x256 .bf16 :=
  truncf .bf16 (transpose S64x512x256 [0, 2, 1] (mulf (shapeCast _ (extractStridedSlice S1x16384x512 ![0, 0, 0] P slices_S1x16384x4360_S1x16384x512_0_0_0) shapeCasts_S1x16384x512_S64x256x512) (broadcastInDim S64x256x512 ![] bcast_S_S64x256x512 (constant S_ .f32 0x3E38AA3B#32))) transposes_S64x256x512_S64x512x256_0_2_1) bitsLt_bf16_f32

/-- The keys with the row in the block. -/
def R9 (P : FVec Ideal S1x16384x4360 .f32) : FVec Ideal S16384x1024 .bf16 :=
  truncf .bf16 (shapeCast _ ((concatenate S64x256x4x256 3 [⟨S64x256x4x64, ((shapeCast _ (extractStridedSlice S64x256x4x1x64 ![0, 0, 0, 0, 0] (heads P) slices_S64x256x4x2x64_S64x256x4x1x64_0_0_0_0_0) shapeCasts_S64x256x4x1x64_S64x256x4x64) : (⟨S64x256x4x64, .f32⟩ : BufTy).Contents (Elt Ideal))⟩, ⟨S64x256x4x64, (feat : (⟨S64x256x4x64, .f32⟩ : BufTy).Contents (Elt Ideal))⟩, ⟨S64x256x4x64, (feat : (⟨S64x256x4x64, .f32⟩ : BufTy).Contents (Elt Ideal))⟩, ⟨S64x256x4x64, ((shapeCast _ (extractStridedSlice S64x256x4x1x64 ![0, 0, 0, 1, 0] (heads P) slices_S64x256x4x2x64_S64x256x4x1x64_0_0_0_1_0) shapeCasts_S64x256x4x1x64_S64x256x4x64) : (⟨S64x256x4x64, .f32⟩ : BufTy).Contents (Elt Ideal))⟩] concatenates_S64x256x4x64_S64x256x4x64_S64x256x4x64_S64x256x4x64_S64x256x4x256_d3 : (⟨S64x256x4x256, .f32⟩ : BufTy).Contents (Elt Ideal))) shapeCasts_S64x256x4x256_S16384x1024) bitsLt_bf16_f32

/-- The values over ones. -/
def R10 (P : FVec Ideal S1x16384x4360 .f32) : FVec Ideal S64x640x256 .bf16 :=
  truncf .bf16 (shapeCast _ (concatenate S64x8x80x256 2 [⟨S64x8x64x256, (shapeCast _ (transpose S64x512x256 [0, 2, 1] (shapeCast _ (extractStridedSlice S1x16384x512 ![0, 0, 1024] P slices_S1x16384x4360_S1x16384x512_0_0_1024) shapeCasts_S1x16384x512_S64x256x512) transposes_S64x256x512_S64x512x256_0_2_1) shapeCasts_S64x512x256_S64x8x64x256)⟩, ⟨S64x8x16x256, (broadcastInDim S64x8x16x256 ![] bcast_S_S64x8x16x256 (constant S_ .f32 0x3F800000#32))⟩] concatenates_S64x8x64x256_S64x8x16x256_S64x8x80x256_d2) shapeCasts_S64x8x80x256_S64x640x256) bitsLt_bf16_f32

/-- The gates of the attention. -/
def R11 (P : FVec Ideal S1x16384x4360 .f32) : FVec Ideal S16384x512 .bf16 :=
  truncf .bf16 (shapeCast _ (extractStridedSlice S1x16384x512 ![0, 0, 1536] P slices_S1x16384x4360_S1x16384x512_0_0_1536) shapeCasts_S1x16384x512_S16384x512) bitsLt_bf16_f32

/-- The means of the keys. -/
def R12 (P : FVec Ideal S1x16384x4360 .f32) : FVec Ideal S64x1x512 .f32 :=
  Host.divf (broadcastInDim S64x1x512 ![0, 2] bcast_S64x512_S64x1x512_0_2 (Host.reduceAdd (shapeCast _ (keys P) shapeCasts_S1x16384x512_S64x256x512) (constant S_ .f32 0x00000000#32) reducesTo_S64x256x512_S64x512_d1 h_S_)) (broadcastInDim S64x1x512 ![] bcast_S_S64x1x512 (constant S_ .f32 0x43800000#32))

/-- What the retention takes. -/
def R13 (P : FVec Ideal S1x16384x4360 .f32) (C D : FVec Ideal S16384x32 .f32) : FVec Ideal S16384x1024 .bf16 :=
  truncf .bf16 (shapeCast _ ((concatenate S1x16384x1024 2 [⟨S1x16384x256, ((shapeCast _ (transpose S1x16384x4x64 [0, 2, 1, 3] (concatenate S1x4x16384x64 3 [⟨S1x4x16384x32, (subf (mulf (qa P) (broadcastInDim S1x4x16384x32 ![0, 1, 2, 3] bcast_S1x1x16384x32_S1x4x16384x32_0_1_2_3 (broadcastInDim S1x1x16384x32 ![2, 3] bcast_S16384x32_S1x1x16384x32_2_3 C))) (mulf (qb P) (broadcastInDim S1x4x16384x32 ![0, 1, 2, 3] bcast_S1x1x16384x32_S1x4x16384x32_0_1_2_3 (broadcastInDim S1x1x16384x32 ![2, 3] bcast_S16384x32_S1x1x16384x32_2_3 D))))⟩, ⟨S1x4x16384x32, (addf (mulf (qa P) (broadcastInDim S1x4x16384x32 ![0, 1, 2, 3] bcast_S1x1x16384x32_S1x4x16384x32_0_1_2_3 (broadcastInDim S1x1x16384x32 ![2, 3] bcast_S16384x32_S1x1x16384x32_2_3 D))) (mulf (qb P) (broadcastInDim S1x4x16384x32 ![0, 1, 2, 3] bcast_S1x1x16384x32_S1x4x16384x32_0_1_2_3 (broadcastInDim S1x1x16384x32 ![2, 3] bcast_S16384x32_S1x1x16384x32_2_3 C))))⟩] concatenates_S1x4x16384x32_S1x4x16384x32_S1x4x16384x64_d3) transposes_S1x4x16384x64_S1x16384x4x64_0_2_1_3) shapeCasts_S1x16384x4x64_S1x16384x256) : (⟨S1x16384x256, .f32⟩ : BufTy).Contents (Elt Ideal))⟩, ⟨S1x16384x256, ((shapeCast _ (transpose S1x16384x4x64 [0, 2, 1, 3] (mulf (concatenate S1x4x16384x64 3 [⟨S1x4x16384x32, (subf (mulf (ka P) (broadcastInDim S1x4x16384x32 ![0, 1, 2, 3] bcast_S1x1x16384x32_S1x4x16384x32_0_1_2_3 (broadcastInDim S1x1x16384x32 ![2, 3] bcast_S16384x32_S1x1x16384x32_2_3 C))) (mulf (kb P) (broadcastInDim S1x4x16384x32 ![0, 1, 2, 3] bcast_S1x1x16384x32_S1x4x16384x32_0_1_2_3 (broadcastInDim S1x1x16384x32 ![2, 3] bcast_S16384x32_S1x1x16384x32_2_3 D))))⟩, ⟨S1x4x16384x32, (addf (mulf (ka P) (broadcastInDim S1x4x16384x32 ![0, 1, 2, 3] bcast_S1x1x16384x32_S1x4x16384x32_0_1_2_3 (broadcastInDim S1x1x16384x32 ![2, 3] bcast_S16384x32_S1x1x16384x32_2_3 D))) (mulf (kb P) (broadcastInDim S1x4x16384x32 ![0, 1, 2, 3] bcast_S1x1x16384x32_S1x4x16384x32_0_1_2_3 (broadcastInDim S1x1x16384x32 ![2, 3] bcast_S16384x32_S1x1x16384x32_2_3 C))))⟩] concatenates_S1x4x16384x32_S1x4x16384x32_S1x4x16384x64_d3) (broadcastInDim S1x4x16384x64 ![] bcast_S_S1x4x16384x64 (constant S_ .f32 0x3E000000#32))) transposes_S1x4x16384x64_S1x16384x4x64_0_2_1_3) shapeCasts_S1x16384x4x64_S1x16384x256) : (⟨S1x16384x256, .f32⟩ : BufTy).Contents (Elt Ideal))⟩, ⟨S1x16384x256, ((extractStridedSlice S1x16384x256 ![0, 0, 2560] P slices_S1x16384x4360_S1x16384x256_0_0_2560) : (⟨S1x16384x256, .f32⟩ : BufTy).Contents (Elt Ideal))⟩, ⟨S1x16384x256, ((extractStridedSlice S1x16384x256 ![0, 0, 2816] P slices_S1x16384x4360_S1x16384x256_0_0_2816) : (⟨S1x16384x256, .f32⟩ : BufTy).Contents (Elt Ideal))⟩] concatenates_S1x16384x256_S1x16384x256_S1x16384x256_S1x16384x256_S1x16384x1024_d2 : (⟨S1x16384x1024, .f32⟩ : BufTy).Contents (Elt Ideal))) shapeCasts_S1x16384x1024_S16384x1024) bitsLt_bf16_f32

/-- What the mLSTM takes. -/
def R14 (P : FVec Ideal S1x16384x4360 .f32) (cw : FVec Ideal S4x512 .f32) (cb : FVec Ideal S512 .f32) : FVec Ideal S16384x1280 .bf16 :=
  truncf .bf16 (shapeCast _ ((concatenate S1x16384x1280 2 [⟨S1x16384x256, ((extractStridedSlice S1x16384x256 ![0, 0, 0] (act P cw cb) slices_S1x16384x512_S1x16384x256_0_0_0) : (⟨S1x16384x256, .f32⟩ : BufTy).Contents (Elt Ideal))⟩, ⟨S1x16384x256, ((mulf (extractStridedSlice S1x16384x256 ![0, 0, 256] (act P cw cb) slices_S1x16384x512_S1x16384x256_0_0_256) (broadcastInDim S1x16384x256 ![] bcast_S_S1x16384x256 (constant S_ .f32 0x3E000000#32))) : (⟨S1x16384x256, .f32⟩ : BufTy).Contents (Elt Ideal))⟩, ⟨S1x16384x256, ((extractStridedSlice S1x16384x256 ![0, 0, 3584] P slices_S1x16384x4360_S1x16384x256_0_0_3584) : (⟨S1x16384x256, .f32⟩ : BufTy).Contents (Elt Ideal))⟩, ⟨S1x16384x256, ((extractStridedSlice S1x16384x256 ![0, 0, 3840] P slices_S1x16384x4360_S1x16384x256_0_0_3840) : (⟨S1x16384x256, .f32⟩ : BufTy).Contents (Elt Ideal))⟩, ⟨S1x16384x256, ((extractStridedSlice S1x16384x256 ![0, 0, 4096] P slices_S1x16384x4360_S1x16384x256_0_0_4096) : (⟨S1x16384x256, .f32⟩ : BufTy).Contents (Elt Ideal))⟩] concatenates_S1x16384x256_S1x16384x256_S1x16384x256_S1x16384x256_S1x16384x256_S1x16384x1280_d2 : (⟨S1x16384x1280, .f32⟩ : BufTy).Contents (Elt Ideal))) shapeCasts_S1x16384x1280_S16384x1280) bitsLt_bf16_f32

/-- The gates of the mLSTM. -/
def R15 (P : FVec Ideal S1x16384x4360 .f32) : FVec Ideal S16384x128 .f32 :=
  pad S16384x128 ![0, 0] ![0, 120] ![0, 0] (shapeCast _ (concatenate S1x16384x8 2 [⟨S1x16384x4, (extractStridedSlice S1x16384x4 ![0, 0, 4352] P slices_S1x16384x4360_S1x16384x4_0_0_4352)⟩, ⟨S1x16384x4, (extractStridedSlice S1x16384x4 ![0, 0, 4356] P slices_S1x16384x4360_S1x16384x4_0_0_4356)⟩] concatenates_S1x16384x4_S1x16384x4_S1x16384x8_d2) shapeCasts_S1x16384x8_S16384x8) (sitofp .f32 (constantI S_ 32 0#32)) pads_S16384x8_S16384x128_000_01200 h_S_

theorem sitofp_zero : (FloatOps.sitofp (F := Ideal) (w := 32) .f32 0#32 : EReal) = 0 := by
  show ((((0#32 : BitVec 32).toInt : ℤ) : ℝ) : EReal) = 0
  simp

variable (P : FVec Ideal S1x16384x4360 .f32) (Q : ℕ → ℕ → EReal)

theorem R8_apply (hP : ∀ z i n, P (ix3 z i n) = Q i.val n.val) (a : Fin 64) (b : Fin 512) (d : Fin 256) :
    R8 P (ix3 a b d) = e8 Q a.val b.val d.val := by
  pointwise [R8]
  simp only [hP]
  unfold e8
  rw [Nat.mul_comm a.val 256]
  try rw [Nat.zero_add]

theorem R9_apply (hP : ∀ z i n, P (ix3 z i n) = Q i.val n.val) (r : Fin 16384) (l : Fin 1024) :
    R9 P (ix2 r l) = e9 Q r.val (l.val / 128) (l.val % 128) := by
  pointwise [R9, heads, feat, keys]
  simp only [hP]
  unfold e9
  have hl := l.isLt
  have hr : r.val % 256 < 256 := Nat.mod_lt _ (by decide)
  by_cases h0 : l.val % 256 < 64
  · rw [dif_pos h0, if_pos (show l.val % 128 / 64 = l.val / 128 % 2 by omega)]
    exact congrArg (Q r.val) (by omega)
  · rw [dif_neg h0]
    by_cases h1 : l.val % 256 - 64 < 64
    · rw [dif_pos h1, if_neg (show ¬ l.val % 128 / 64 = l.val / 128 % 2 by omega)]
      by_cases h2 : l.val % 256 - 64 < 3
      · rw [dif_pos ⟨hr, h2⟩, if_pos (show l.val % 128 % 64 < 3 by omega)]
      · rw [dif_neg (fun h => h2 h.2), if_neg (show ¬ l.val % 128 % 64 < 3 by omega)]
        exact sitofp_zero
    · rw [dif_neg h1]
      by_cases h3 : l.val % 256 - 64 - 64 < 64
      · rw [dif_pos h3, if_neg (show ¬ l.val % 128 / 64 = l.val / 128 % 2 by omega)]
        by_cases h2 : l.val % 256 - 64 - 64 < 3
        · rw [dif_pos ⟨hr, h2⟩, if_pos (show l.val % 128 % 64 < 3 by omega)]
        · rw [dif_neg (fun h => h2 h.2), if_neg (show ¬ l.val % 128 % 64 < 3 by omega)]
          exact sitofp_zero
      · rw [dif_neg h3, if_pos (show l.val % 128 / 64 = l.val / 128 % 2 by omega)]
        exact congrArg (Q r.val) (by omega)

theorem R10_apply (hP : ∀ z i n, P (ix3 z i n) = Q i.val n.val) (a : Fin 64) (b : Fin 640) (d : Fin 256) :
    R10 P (ix3 a b d) = e10 Q a.val (b.val / 80) (b.val % 80) d.val := by
  pointwise [R10]
  simp only [hP]
  unfold e10
  rw [Nat.mul_comm a.val 256, Nat.mul_comm (b.val / 80) 64]
  exact dite_eq_ite

theorem R11_apply (hP : ∀ z i n, P (ix3 z i n) = Q i.val n.val) (r : Fin 16384) (l : Fin 512) :
    R11 P (ix2 r l) = e11 Q r.val l.val := by
  pointwise [R11]
  simp only [hP]
  rfl

theorem R12_apply (hP : ∀ z i n, P (ix3 z i n) = Q i.val n.val) (a : Fin 64) (z : Fin 1) (l : Fin 512) :
    R12 P (ix3 a z l) = e12 Q a.val l.val := by
  pointwise [R12, keys]
  simp only [hP]
  unfold e12
  rw [Nat.mul_comm a.val 256]

theorem R15_apply (hP : ∀ z i n, P (ix3 z i n) = Q i.val n.val) (r : Fin 16384) (l : Fin 128) :
    R15 P (ix2 r l) = if l.val < 8 then Q r.val (4352 + l.val) else 0 := by
  pointwise [R15]
  simp only [hP]
  by_cases h : l.val < 8
  · rw [dif_pos h, if_pos h]
    by_cases h4 : l.val < 4
    · rw [dif_pos h4]
    · rw [dif_neg h4]
      exact congrArg (Q r.val) (by omega)
  · rw [dif_neg h, if_neg h]
    exact sitofp_zero

section tables
variable (C D : FVec Ideal S16384x32 .f32) (C' D' : ℕ → ℕ → EReal)

theorem rot_lo (r : Fin 16384) (l k n1 n2 : ℕ) (hk : k < 32)
    (hC : ∀ (r : Fin 16384) (l k : ℕ) (hk : k < 32), l < 128 → l % 32 = k → C' r.val l = C (ix2 r ⟨k, hk⟩))
    (hD : ∀ (r : Fin 16384) (l k : ℕ) (hk : k < 32), l < 128 → l % 32 = k → D' r.val l = if l % 64 < 32 then -D (ix2 r ⟨k, hk⟩) else D (ix2 r ⟨k, hk⟩))
    (h : l % 64 = k) (h1 : n1 = 2048 + l) (h2 : n2 = 2048 + (l + 32)) :
    Q r.val n1 * C (ix2 r ⟨k, hk⟩) - Q r.val n2 * D (ix2 r ⟨k, hk⟩) = rot Q C' D' r.val l := by
  subst h1 h2
  unfold rot swapped
  rw [if_pos (show l % 64 < 32 by omega), hC r (l % 128) k hk (by omega) (by omega), hD r (l % 128) k hk (by omega) (by omega),
    if_pos (show l % 128 % 64 < 32 by omega), mul_neg, sub_eq_add_neg]

theorem rot_hi (r : Fin 16384) (l k n1 n2 : ℕ) (hk : k < 32)
    (hC : ∀ (r : Fin 16384) (l k : ℕ) (hk : k < 32), l < 128 → l % 32 = k → C' r.val l = C (ix2 r ⟨k, hk⟩))
    (hD : ∀ (r : Fin 16384) (l k : ℕ) (hk : k < 32), l < 128 → l % 32 = k → D' r.val l = if l % 64 < 32 then -D (ix2 r ⟨k, hk⟩) else D (ix2 r ⟨k, hk⟩))
    (h : l % 64 = k + 32) (h1 : n1 = 2048 + (l - 32)) (h2 : n2 = 2048 + l) :
    Q r.val n1 * D (ix2 r ⟨k, hk⟩) + Q r.val n2 * C (ix2 r ⟨k, hk⟩) = rot Q C' D' r.val l := by
  subst h1 h2
  unfold rot swapped
  rw [if_neg (show ¬ l % 64 < 32 by omega), hC r (l % 128) k hk (by omega) (by omega), hD r (l % 128) k hk (by omega) (by omega),
    if_neg (show ¬ l % 128 % 64 < 32 by omega), add_comm]

theorem e13_q (S C D : ℕ → ℕ → EReal) (r l : ℕ) (h : l < 256) : e13 S C D r l = rot S C D r l := if_pos h
theorem e13_k (S C D : ℕ → ℕ → EReal) (r l : ℕ) (h : ¬ l < 256) (h1 : l < 512) : e13 S C D r l = rot S C D r l * Ideal.ofBits .f32 0x3E000000#32 :=
  (if_neg h).trans (if_pos h1)
theorem e13_v (S C D : ℕ → ℕ → EReal) (r l : ℕ) (h : ¬ l < 256) (h1 : ¬ l < 512) : e13 S C D r l = S r (2048 + l) :=
  (if_neg h).trans (if_neg h1)

theorem R13_apply (hP : ∀ z i n, P (ix3 z i n) = Q i.val n.val)
    (hC : ∀ (r : Fin 16384) (l k : ℕ) (hk : k < 32), l < 128 → l % 32 = k → C' r.val l = C (ix2 r ⟨k, hk⟩))
    (hD : ∀ (r : Fin 16384) (l k : ℕ) (hk : k < 32), l < 128 → l % 32 = k → D' r.val l = if l % 64 < 32 then -D (ix2 r ⟨k, hk⟩) else D (ix2 r ⟨k, hk⟩))
    (r : Fin 16384) (l : Fin 1024) :
    R13 P C D (ix2 r l) = e13 Q C' D' r.val l.val := by
  pointwise [R13, qa, qb, ka, kb, qs, ks]
  simp only [hP]
  have hl := l.isLt
  by_cases h : l.val < 256
  · refine (dif_pos h).trans (Eq.trans ?_ (e13_q Q C' D' r.val l.val h).symm)
    by_cases h2 : l.val % 64 < 32
    · exact (dif_pos h2).trans (rot_lo Q C D C' D' r l.val (l.val % 64) (2048 + (l.val / 64 * 64 + l.val % 64)) (2048 + (l.val / 64 * 64 + (32 + l.val % 64))) h2 hC hD (by omega) (by omega) (by omega))
    · exact (dif_neg h2).trans (rot_hi Q C D C' D' r l.val (l.val % 64 - 32) (2048 + (l.val / 64 * 64 + (l.val % 64 - 32))) (2048 + (l.val / 64 * 64 + (32 + (l.val % 64 - 32)))) (by omega) hC hD (by omega) (by omega) (by omega))
  · refine (dif_neg h).trans ?_
    by_cases h1 : l.val < 512
    · refine (dif_pos (show l.val - 256 < 256 by omega)).trans (Eq.trans ?_ (e13_k Q C' D' r.val l.val h h1).symm)
      refine congrArg (fun e : EReal => e * Ideal.ofBits .f32 0x3E000000#32) ?_
      by_cases h2 : (l.val - 256) % 64 < 32
      · exact (dif_pos h2).trans (rot_lo Q C D C' D' r l.val ((l.val - 256) % 64) (2304 + ((l.val - 256) / 64 * 64 + (l.val - 256) % 64)) (2304 + ((l.val - 256) / 64 * 64 + (32 + (l.val - 256) % 64))) h2 hC hD (by omega) (by omega) (by omega))
      · exact (dif_neg h2).trans (rot_hi Q C D C' D' r l.val ((l.val - 256) % 64 - 32) (2304 + ((l.val - 256) / 64 * 64 + ((l.val - 256) % 64 - 32))) (2304 + ((l.val - 256) / 64 * 64 + (32 + ((l.val - 256) % 64 - 32)))) (by omega) hC hD (by omega) (by omega) (by omega))
    · refine (dif_neg (show ¬ l.val - 256 < 256 by omega)).trans (Eq.trans ?_ (e13_v Q C' D' r.val l.val h h1).symm)
      by_cases h3 : l.val - 256 - 256 < 256
      · exact (dif_pos h3).trans (congrArg (Q r.val) (by omega))
      · exact (dif_neg h3).trans (congrArg (Q r.val) (by omega))
end tables

section taps
variable (cw : FVec Ideal S4x512 .f32) (cb : FVec Ideal S512 .f32) (cb' : Vec Ideal S1x512 .f32)

theorem tap (r j q : ℕ) (l : Fin 512) (hj : j ≤ 3) (hq : q = r + 5 + j) (hr : r < 16384) :
    (if h : 3 ≤ j + r ∧ j + r - 3 < 16384 then if h : l.val < 256 then Q (j + r - 3) (3072 + l.val) else Q (j + r - 3) (3328 + (l.val - 256))
      else (FloatOps.sitofp (F := Ideal) (w := 32) .f32 0#32 : EReal)) = hist Q (fun _ _ => 0) q l.val := by
  subst hq
  unfold hist
  by_cases h : 3 ≤ j + r
  · rw [dif_pos ⟨h, by omega⟩, if_neg (show ¬ r + 5 + j < 8 by omega), show j + r - 3 = r + 5 + j - 8 by omega]
    by_cases h2 : l.val < 256
    · rw [dif_pos h2]
    · rw [dif_neg h2]
      exact congrArg (Q (r + 5 + j - 8)) (by omega)
  · rw [dif_neg (fun h' => h h'.1), if_pos (show r + 5 + j < 8 by omega)]
    exact sitofp_zero

theorem last (r q : ℕ) (l : Fin 512) (hq : q = r + 8) :
    (if h : l.val < 256 then Q r (3072 + l.val) else Q r (3328 + (l.val - 256))) = hist Q (fun _ _ => 0) q l.val := by
  subst hq
  unfold hist
  rw [if_neg (show ¬ r + 8 < 8 by omega), show r + 8 - 8 = r by omega]
  by_cases h2 : l.val < 256
  · rw [dif_pos h2]
  · rw [dif_neg h2]
    exact congrArg (Q r) (by omega)

theorem cv_apply (hP : ∀ z i n, P (ix3 z i n) = Q i.val n.val) (hb : ∀ l, cb' (ix2 0 l) = cb (ix1 l)) (z : Fin 1) (r : Fin 16384) (l : Fin 512) :
    cv P cw cb (ix3 z r l) = conv (hist Q (fun _ _ => 0)) cw cb' r.val l.val := by
  pointwise [cv, ext]
  simp only [hP]
  have hr := r.isLt
  have t0 := tap Q r.val 0 _ l (by omega) rfl hr
  rw [Nat.zero_add] at t0
  rw [t0, tap Q r.val 1 (r.val + 6) l (by omega) (by omega) hr, tap Q r.val 2 (r.val + 7) l (by omega) (by omega) hr, last Q r.val _ l rfl]
  unfold conv
  rw [Cert.ProjIdeal.Piece.ofNat_val, hb, mul_comm (cw (ix2 0 l)), mul_comm (cw (ix2 1 l)), mul_comm (cw (ix2 2 l)), mul_comm (cw (ix2 3 l)),
    add_comm _ (cb (ix1 l))]
  simp only [add_assoc]

theorem act_apply (hP : ∀ z i n, P (ix3 z i n) = Q i.val n.val) (hb : ∀ l, cb' (ix2 0 l) = cb (ix1 l)) (z : Fin 1) (r : Fin 16384) (l : Fin 512) :
    act P cw cb (ix3 z r l) = conv (hist Q (fun _ _ => 0)) cw cb' r.val l.val * Ideal.logistic (conv (hist Q (fun _ _ => 0)) cw cb' r.val l.val) := by
  pointwise [act]
  rw [cv_apply P Q cw cb cb' hP hb]
  rfl

theorem R14_apply (hP : ∀ z i n, P (ix3 z i n) = Q i.val n.val) (hb : ∀ l, cb' (ix2 0 l) = cb (ix1 l)) (r : Fin 16384) (l : Fin 1280) :
    R14 P cw cb (ix2 r l) = e14 Q (hist Q (fun _ _ => 0)) cw cb' r.val l.val := by
  pointwise [R14]
  simp only [hP, act_apply P Q cw cb cb' hP hb]
  unfold e14
  have hl := l.isLt
  by_cases h : l.val < 256
  · rw [dif_pos h, if_pos h]
  · rw [dif_neg h, if_neg h]
    by_cases h1 : l.val < 512
    · rw [dif_pos (show l.val - 256 < 256 by omega), if_pos h1, show 256 + (l.val - 256) = l.val by omega]
    · rw [dif_neg (show ¬ l.val - 256 < 256 by omega), if_neg h1]
      by_cases h3 : l.val - 256 - 256 < 256
      · rw [dif_pos h3]
        exact congrArg (Q r.val) (by omega)
      · rw [dif_neg h3]
        by_cases h4 : l.val - 256 - 256 - 256 < 256
        · rw [dif_pos h4]
          exact congrArg (Q r.val) (by omega)
        · rw [dif_neg h4]
          exact congrArg (Q r.val) (by omega)
end taps

/-! ## The product -/

/-- Entry `k` of the normed row `i`. -/
def hrow (X : FVec Ideal S16384x1024 .f32) (w : FVec Ideal S1024 .f32) (i : Fin 16384) (k : Fin 1024) : EReal :=
  X (ix2 i k) * Ideal.rsqrt (Ideal.div (∑ k, X (ix2 i k) * X (ix2 i k)) (Ideal.ofBits .f32 0x44800000#32) + Ideal.ofBits .f32 0x358637BD#32) * w (ix1 k)

/-- Row `i` of the normed argument times column `n` of the weights. -/
def prod (X : FVec Ideal S16384x1024 .f32) (w : FVec Ideal S1024 .f32) (W : FVec Ideal S1024x4360 .f32) (i n : ℕ) : EReal :=
  ∑ k : Fin 1024, hrow X w (Fin.ofNat 16384 i) k * W (ix2 k (Fin.ofNat 4360 n))

theorem projR_apply (X : FVec Ideal S16384x1024 .f32) (w : FVec Ideal S1024 .f32) (W : FVec Ideal S1024x4360 .f32) (z : Fin 1) (i : Fin 16384) (n : Fin 4360) :
    projR X w W (ix3 z i n) = prod X w W i.val n.val := by
  pointwise [projR, rows]
  unfold prod hrow
  rw [Cert.ProjIdeal.Piece.ofNat_val, Cert.ProjIdeal.Piece.ofNat_val]

end Cert.ProjRefIdeal.Read
-- ==== Proof.ProjEq.lean ====
module
public import proofs.«01_k».proof.Proof.ProjRef
/-! # The projections and their reference leave the same arrays

Every array of the kernel is read at an entry, over the same products as the reference's result. -/
@[expose] public section
set_option maxRecDepth 65536
noncomputable section
open Idealize.ShloMosaic Idealize.ShloMosaic.TcCoe Idealize.SL.Sem
namespace Cert.ProjIdeal.Eq
open Cert.ProjIdeal Cert.ProjIdeal.Gen Cert.ProjIdeal.Piece Cert.ProjIdeal.Fold Cert.ProjIdeal.Value
open Cert.ProjRefIdeal.Read (hrow prod projR sitofp_zero)

variable (m : (ℓ : Loc nD τ sig) → Buf (Elt Ideal) ℓ) (c : Dev nD)

/-- The rows. -/
abbrev aX : Vec Ideal S16384x1024 .f32 := m ((c : Thread nD τ).loc main_arg0)
/-- The norm's weights. -/
abbrev aw : Vec Ideal S1024 .f32 := m ((c : Thread nD τ).loc main_arg1)
/-- The weights. -/
abbrev aW : Vec Ideal S1024x4360 .f32 := m ((c : Thread nD τ).loc main_arg2)
/-- The taps of the convolution. -/
abbrev acw : Vec Ideal S4x512 .f32 := m ((c : Thread nD τ).loc main_arg3)
/-- Its bias. -/
abbrev acb : Vec Ideal S512 .f32 := m ((c : Thread nD τ).loc main_arg4)
/-- The products. -/
abbrev Q : ℕ → ℕ → EReal := prod (aX m c) (aw m c) (aW m c)

theorem w_at (b : Fin 1024) : V m c main_v26 (ix2 0 b) = aw m c (ix1 b) := by
  rw [Tables.V26]
  pointwise []

theorem cb_at (l : Fin 512) : V m c main_v27 (ix2 0 l) = acb m c (ix1 l) := by
  rw [Tables.V27]
  pointwise []

theorem W_at (k : Fin 1024) (n : Fin 4352) : V m c main_v22 (ix2 k n) = aW m c (ix2 k ⟨n.val, by omega⟩) := by
  rw [Tables.V22]
  pointwise []

theorem g_at (k : Fin 1024) (l : Fin 128) :
    V m c main_v25 (ix2 k l) = if h : l.val < 8 then aW m c (ix2 k ⟨4352 + l.val, by omega⟩) else 0 := by
  rw [Tables.V25]
  pointwise []
  rw [sitofp_zero]

theorem H_at (p r : ℕ) (k : Fin 1024) (hr : r < 512) :
    Hp m c p (ix2 (Fin.ofNat 512 r) k) = hrow (aX m c) (aw m c) (Fin.ofNat 16384 (512 * p + r)) k := by
  have e : (Fin.ofNat 512 r).val = r := Nat.mod_eq_of_lt hr
  have row : ∀ k, rowsOf (V m c main_arg0) p (ix2 (Fin.ofNat 512 r) k) = aX m c (ix2 (Fin.ofNat 16384 (512 * p + r)) k) := by
    intro k
    unfold rowsOf
    rw [Tables.Varg0]
    show aX m c (ix2 (Fin.ofNat 16384 (512 * p + (Fin.ofNat 512 r).val)) k) = _
    rw [e]
  unfold Hp
  rw [h_0, w_at]
  simp only [row]
  rfl

theorem seg_is (p r n i n' : ℕ) (hr : r < 512) (hn : n < 4352) (hi : 512 * p + r = i) (hn' : n = n') :
    Sp m c p r n = Q m c i n' := by
  subst hi hn'
  unfold Sp seg Q prod
  refine Finset.sum_congr rfl fun k _ => ?_
  rw [H_at m c p r k hr, W_at]
  refine congrArg (fun q => _ * aW m c (ix2 k q)) (Fin.ext ?_)
  show n % 4352 = n % 4360
  omega

/-! ## The results at an entry -/

theorem G8_at (a : Fin 64) (b : Fin 512) (d : Fin 256) : G8 m c (ix3 a b d) = e8 (Q m c) a.val b.val d.val := by
  have hN : (cfg0.N : ℕ) = 32 := N_0
  have hp : pt8Of (ix3 a b d) = a.val / 2 := by
    show 1 * (a.val / 2 - 0) + 1 * (b.val / 512 - 0) + 1 * (d.val / 256 - 0) = a.val / 2
    omega
  unfold G8
  rw [dif_pos (show pt8Of (ix3 a b d) < cfg0.N by omega), fold_eq, hp]
  show e8 (Sp m c (a.val / 2)) (a.val % 2) (b.val % 512) (d.val % 256) = _
  unfold e8
  rw [seg_is m c _ _ _ (256 * a.val + d.val) b.val (by omega) (by omega) (by omega) (by omega)]

theorem G9_at (r : Fin 16384) (l : Fin 1024) : G9 m c (ix2 r l) = e9 (Q m c) r.val (l.val / 128) (l.val % 128) := by
  have hN : (cfg0.N : ℕ) = 32 := N_0
  have hp : pt9Of (ix2 r l) = r.val / 512 := by
    show 1 * (r.val / 512 - 0) + 1 * (l.val / 1024 - 0) = r.val / 512
    omega
  unfold G9
  rw [dif_pos (show pt9Of (ix2 r l) < cfg0.N by omega), fold_eq, hp]
  show e9 (Sp m c (r.val / 512)) (r.val % 512) (l.val % 1024 / 128) (l.val % 1024 % 128) = _
  rw [Nat.mod_eq_of_lt l.isLt]
  unfold e9
  rw [seg_is m c _ _ _ r.val (512 + (128 * (l.val / 128 / 2) + l.val % 128)) (by omega) (by omega) (by omega) rfl, show r.val % 512 % 256 = r.val % 256 by omega]

theorem G10_at (a : Fin 64) (b : Fin 640) (d : Fin 256) : G10 m c (ix3 a b d) = e10 (Q m c) a.val (b.val / 80) (b.val % 80) d.val := by
  have hN : (cfg0.N : ℕ) = 32 := N_0
  have hp : pt10Of (ix3 a b d) = a.val / 2 := by
    show 1 * (a.val / 2 - 0) + 1 * (b.val / 640 - 0) + 1 * (d.val / 256 - 0) = a.val / 2
    omega
  unfold G10
  rw [dif_pos (show pt10Of (ix3 a b d) < cfg0.N by omega), fold_eq, hp]
  show e10 (Sp m c (a.val / 2)) (a.val % 2) (b.val % 640 / 80) (b.val % 640 % 80) (d.val % 256) = _
  rw [Nat.mod_eq_of_lt b.isLt]
  unfold e10
  by_cases h : b.val % 80 < 64
  · rw [if_pos h, if_pos h]
    exact seg_is m c _ _ _ _ _ (by omega) (by omega) (by omega) rfl
  · rw [if_neg h, if_neg h]

theorem G11_at (r : Fin 16384) (l : Fin 512) : G11 m c (ix2 r l) = e11 (Q m c) r.val l.val := by
  have hN : (cfg0.N : ℕ) = 32 := N_0
  have hp : pt11Of (ix2 r l) = r.val / 512 := by
    show 1 * (r.val / 512 - 0) + 1 * (l.val / 512 - 0) = r.val / 512
    omega
  unfold G11
  rw [dif_pos (show pt11Of (ix2 r l) < cfg0.N by omega), fold_eq, hp]
  show e11 (Sp m c (r.val / 512)) (r.val % 512) (l.val % 512) = _
  unfold e11
  exact seg_is m c _ _ _ _ _ (by omega) (by omega) (by omega) (by omega)

theorem G12_at (a : Fin 64) (z : Fin 1) (l : Fin 512) : G12 m c (ix3 a z l) = e12 (Q m c) a.val l.val := by
  have hN : (cfg0.N : ℕ) = 32 := N_0
  have hp : pt12Of (ix3 a z l) = a.val / 2 := by
    show 1 * (a.val / 2 - 0) + 1 * (z.val / 1 - 0) + 1 * (l.val / 512 - 0) = a.val / 2
    omega
  unfold G12
  rw [dif_pos (show pt12Of (ix3 a z l) < cfg0.N by omega), fold_eq, hp]
  show e12 (Sp m c (a.val / 2)) (a.val % 2) (l.val % 512) = _
  unfold e12
  refine congrArg (fun e : EReal => Ideal.div e (Ideal.ofBits .f32 0x43800000#32)) (Finset.sum_congr rfl fun r _ => ?_)
  exact seg_is m c _ _ _ _ _ (by omega) (by omega) (by omega) (by omega)

/-- The cosines. -/
def Ct (r l : ℕ) : EReal := V m c main_v15 (ix2 (Fin.ofNat 16384 r) (Fin.ofNat 128 l))
/-- The sines. -/
def Dt (r l : ℕ) : EReal := V m c main_v20 (ix2 (Fin.ofNat 16384 r) (Fin.ofNat 128 l))

theorem cosTab_at (A : FVec Ideal S16384x32 .f32) (r : Fin 16384) (l : Fin 128) :
    shapeCast S16384x128 (broadcastInDim S1x16384x4x32 ![0, 1, 2, 3] bcast_S1x16384x1x32_S1x16384x4x32_0_1_2_3
      (shapeCast S1x16384x1x32 A shapeCasts_S16384x32_S1x16384x1x32)) shapeCasts_S1x16384x4x32_S16384x128 (ix2 r l)
      = A (ix2 r ⟨l.val % 32, Nat.mod_lt _ (by decide)⟩) := by
  pointwise []

theorem G13_at (r : Fin 16384) (l : Fin 1024) : G13 m c (ix2 r l) = e13 (Q m c) (Ct m c) (Dt m c) r.val l.val := by
  have hN : (cfg0.N : ℕ) = 32 := N_0
  have hp : pt13Of (ix2 r l) = r.val / 512 := by
    show 1 * (r.val / 512 - 0) + 1 * (l.val / 1024 - 0) = r.val / 512
    omega
  unfold G13
  rw [dif_pos (show pt13Of (ix2 r l) < cfg0.N by omega), fold_eq, hp]
  show e13 (Sp m c (r.val / 512)) (tab (tabOf (V m c main_v15) (r.val / 512))) (tab (tabOf (V m c main_v20) (r.val / 512))) (r.val % 512) (l.val % 1024) = _
  rw [Nat.mod_eq_of_lt l.isLt]
  have hl := l.isLt
  have hC : tab (tabOf (V m c main_v15) (r.val / 512)) (r.val % 512) (l.val % 128) = Ct m c r.val (l.val % 128) := by
    refine congrArg (fun q => V m c main_v15 (ix2 q (Fin.ofNat 128 (l.val % 128)))) (Fin.ext ?_)
    show (512 * (r.val / 512) + r.val % 512 % 512) % 16384 = r.val % 16384
    omega
  have hD : tab (tabOf (V m c main_v20) (r.val / 512)) (r.val % 512) (l.val % 128) = Dt m c r.val (l.val % 128) := by
    refine congrArg (fun q => V m c main_v20 (ix2 q (Fin.ofNat 128 (l.val % 128)))) (Fin.ext ?_)
    show (512 * (r.val / 512) + r.val % 512 % 512) % 16384 = r.val % 16384
    omega
  have hrot : l.val < 512 → rot (Sp m c (r.val / 512)) (tab (tabOf (V m c main_v15) (r.val / 512))) (tab (tabOf (V m c main_v20) (r.val / 512))) (r.val % 512) l.val
      = rot (Q m c) (Ct m c) (Dt m c) r.val l.val := by
    intro h
    have hs : swapped l.val < 544 := by unfold swapped; split <;> omega
    unfold rot
    rw [hC, hD, seg_is m c _ _ _ r.val (2048 + l.val) (by omega) (by omega) (by omega) rfl, seg_is m c _ _ _ r.val (2048 + swapped l.val) (by omega) (by omega) (by omega) rfl]
  unfold e13
  by_cases h1 : l.val < 256
  · rw [if_pos h1, if_pos h1]
    exact hrot (by omega)
  · rw [if_neg h1, if_neg h1]
    by_cases h2 : l.val < 512
    · rw [if_pos h2, if_pos h2, hrot h2]
    · rw [if_neg h2, if_neg h2]
      exact seg_is m c _ _ _ _ _ (by omega) (by omega) (by omega) rfl

/-- What a point finds before its rows is what comes before them in the whole array. -/
theorem hist_is (p q l : ℕ) (hq : q < 520) (hl : l < 512) :
    hist (Sp m c p) (ent m c p) q l = hist (Q m c) (fun _ _ => 0) (512 * p + q) l := by
  unfold hist
  by_cases h : q < 8
  · rw [if_pos h]
    match p with
    | 0 => rw [if_pos (by omega)]; rfl
    | p + 1 =>
      rw [if_neg (by omega)]
      show left (Sp m c p) (q % 520) (l % 512) = _
      unfold left
      rw [Nat.mod_eq_of_lt hq, Nat.mod_eq_of_lt hl, if_pos h]
      exact seg_is m c _ _ _ _ _ (by omega) (by omega) (by omega) rfl
  · rw [if_neg h, if_neg (by omega)]
    exact seg_is m c _ _ _ _ _ (by omega) (by omega) (by omega) rfl

theorem G14_at (r : Fin 16384) (l : Fin 1280) :
    G14 m c (ix2 r l) = e14 (Q m c) (hist (Q m c) (fun _ _ => 0)) (acw m c) (V m c main_v27) r.val l.val := by
  have hN : (cfg0.N : ℕ) = 32 := N_0
  have hp : pt14Of (ix2 r l) = r.val / 512 := by
    show 1 * (r.val / 512 - 0) + 1 * (l.val / 1280 - 0) = r.val / 512
    omega
  unfold G14
  rw [dif_pos (show pt14Of (ix2 r l) < cfg0.N by omega), fold_eq, hp]
  show e14 (Sp m c (r.val / 512)) (hist (Sp m c (r.val / 512)) (ent m c (r.val / 512))) (V m c main_arg3) (V m c main_v27) (r.val % 512) (l.val % 1280) = _
  rw [Nat.mod_eq_of_lt l.isLt, Tables.Varg3]
  have hl := l.isLt
  have hcv : l.val < 512 → conv (hist (Sp m c (r.val / 512)) (ent m c (r.val / 512))) (acw m c) (V m c main_v27) (r.val % 512) l.val
      = conv (hist (Q m c) (fun _ _ => 0)) (acw m c) (V m c main_v27) r.val l.val := by
    intro h
    unfold conv
    rw [hist_is m c _ _ _ (by omega) h, hist_is m c _ _ _ (by omega) h, hist_is m c _ _ _ (by omega) h, hist_is m c _ _ _ (by omega) h,
      show 512 * (r.val / 512) + (r.val % 512 + 5) = r.val + 5 by omega, show 512 * (r.val / 512) + (r.val % 512 + 6) = r.val + 6 by omega,
      show 512 * (r.val / 512) + (r.val % 512 + 7) = r.val + 7 by omega, show 512 * (r.val / 512) + (r.val % 512 + 8) = r.val + 8 by omega]
  unfold e14
  by_cases h1 : l.val < 256
  · rw [if_pos h1, if_pos h1, hcv (by omega)]
  · rw [if_neg h1, if_neg h1]
    by_cases h2 : l.val < 512
    · rw [if_pos h2, if_pos h2, hcv h2]
    · rw [if_neg h2, if_neg h2]
      exact seg_is m c _ _ _ _ _ (by omega) (by omega) (by omega) rfl

theorem G15_at (r : Fin 16384) (l : Fin 128) : G15 m c (ix2 r l) = if l.val < 8 then Q m c r.val (4352 + l.val) else 0 := by
  have hN : (cfg0.N : ℕ) = 32 := N_0
  have hp : pt15Of (ix2 r l) = r.val / 512 := by
    show 1 * (r.val / 512 - 0) + 1 * (l.val / 128 - 0) = r.val / 512
    omega
  unfold G15
  rw [dif_pos (show pt15Of (ix2 r l) < cfg0.N by omega), fold_eq, hp]
  show e15 (Hp m c (r.val / 512)) (V m c main_v25) (r.val % 512) (l.val % 128) = _
  unfold e15
  rw [Nat.mod_eq_of_lt l.isLt, ofNat_val]
  by_cases h : l.val < 8
  · rw [if_pos h]
    unfold Q prod
    refine Finset.sum_congr rfl fun k _ => ?_
    rw [H_at m c _ _ k (by omega), g_at, dif_pos h, show 512 * (r.val / 512) + r.val % 512 = r.val by omega]
    refine congrArg (fun q => _ * aW m c (ix2 k q)) (Fin.ext ?_)
    show 4352 + l.val = (4352 + l.val) % 4360
    omega
  · rw [if_neg h]
    refine Finset.sum_eq_zero fun k _ => ?_
    rw [g_at, dif_neg h, mul_zero]

end Cert.ProjIdeal.Eq
-- ==== Proof.ProjClaims.lean ====
module
public import proofs.«01_k».proof.Defs
public import proofs.«01_k».proof.Proof.Gen.Proj.Frame
public import proofs.«01_k».proof.Proof.Gen.ProjIdeal.Frame
public import proofs.«01_k».proof.Proof.ProjEq
/-! # The claims about the projections

The kernel's frames are the generated ones; the reference's run gives its frame and, beside the kernel's run,
the equality of the eight results. -/
@[expose] public section
set_option maxRecDepth 65536
noncomputable section
open Idealize.ShloMosaic Idealize.ShloMosaic.TcCoe Idealize.SL.Sem
namespace Cert.ProjClaims
open Cert.ProjRefIdeal.Read
open Cert.ProjIdeal.Eq (Q aX aw aW acw acb)
open Cert.ProjIdeal.Piece (eq2 eq3 ofNat_val)
open Cert.ProjIdeal.Gen (V)

theorem frame_r : Cert.quiescent_ProjRefIdeal := fun m ρ _ =>
  (θ_run Cert.ProjRefIdeal.defs _ _).mono (fun r h => ⟨fun c => (h c).2.2.2.2.2.2.2.2, sem_eq_zero_of_no_sems (by decide) r.2⟩)
    (Cert.ProjRefIdeal.Value.run (F := Ideal) m ρ)

variable (m : (ℓ : Loc Cert.ProjIdeal.nD Cert.ProjIdeal.τ Cert.ProjIdeal.sig) → Buf (Elt Ideal) ℓ) (c : Dev Cert.ProjIdeal.nD)

/-- The product of the kernel's arguments. -/
abbrev P : FVec Ideal Cert.ProjRefIdeal.S1x16384x4360 .f32 := projR (aX m c) (aw m c) (aW m c)

theorem P_at (z : Fin 1) (i : Fin 16384) (n : Fin 4360) : P m c (ix3 z i n) = Q m c i.val n.val :=
  projR_apply _ _ _ z i n

/-! ## The tables -/

/-- The cosines of the angles. -/
abbrev cs : FVec Ideal Cert.ProjRefIdeal.S16384x32 .f32 := Host.cos (Cert.ProjIdeal.Tables.ang (F := Ideal))
/-- The sines of the angles. -/
abbrev sn : FVec Ideal Cert.ProjRefIdeal.S16384x32 .f32 := Host.sin (Cert.ProjIdeal.Tables.ang (F := Ideal))

theorem sinTab_at (A B : FVec Ideal Cert.ProjIdeal.S16384x32 .f32) (r : Fin 16384) (l : Fin 128) (k : ℕ) (hk : k < 32) (h : l.val % 32 = k) :
    Cert.ProjIdeal.Tables.sinTab A B (ix2 r l) = if l.val % 64 < 32 then A (ix2 r ⟨k, hk⟩) else B (ix2 r ⟨k, hk⟩) := by
  pointwise [Cert.ProjIdeal.Tables.sinTab]
  by_cases h1 : l.val % 64 < 32
  · rw [dif_pos h1, if_pos h1]
    exact congrArg (fun q => A (ix2 r q)) (Fin.ext (show l.val % 64 = k by omega))
  · rw [dif_neg h1, if_neg h1]
    exact congrArg (fun q => B (ix2 r q)) (Fin.ext (show l.val % 64 - 32 = k by omega))

theorem C_at (r : Fin 16384) (l k : ℕ) (hk : k < 32) (hl : l < 128) (h : l % 32 = k) :
    Cert.ProjIdeal.Eq.Ct m c r.val l = cs (ix2 r ⟨k, hk⟩) := by
  have e : Fin.ofNat 128 l = ⟨l, hl⟩ := Fin.ext (Nat.mod_eq_of_lt hl)
  unfold Cert.ProjIdeal.Eq.Ct
  rw [Cert.ProjIdeal.Tables.V15, ofNat_val, e, Cert.ProjIdeal.Eq.cosTab_at]
  exact congrArg (fun q => cs (ix2 r q)) (Fin.ext h)

theorem D_at (r : Fin 16384) (l k : ℕ) (hk : k < 32) (hl : l < 128) (h : l % 32 = k) :
    Cert.ProjIdeal.Eq.Dt m c r.val l = if l % 64 < 32 then -sn (ix2 r ⟨k, hk⟩) else sn (ix2 r ⟨k, hk⟩) := by
  have e : Fin.ofNat 128 l = ⟨l, hl⟩ := Fin.ext (Nat.mod_eq_of_lt hl)
  unfold Cert.ProjIdeal.Eq.Dt
  rw [Cert.ProjIdeal.Tables.V20, ofNat_val, e, sinTab_at _ _ r ⟨l, hl⟩ k hk h]
  rfl

/-! ## The results -/

theorem agree8 : R8 (P m c) = Cert.ProjIdeal.Value.G8 m c := by
  funext j
  rw [eq3 j]
  exact (R8_apply _ _ (P_at m c) _ _ _).trans (Cert.ProjIdeal.Eq.G8_at m c _ _ _).symm
theorem agree9 : R9 (P m c) = Cert.ProjIdeal.Value.G9 m c := by
  funext j
  rw [eq2 j]
  exact (R9_apply _ _ (P_at m c) _ _).trans (Cert.ProjIdeal.Eq.G9_at m c _ _).symm
theorem agree10 : R10 (P m c) = Cert.ProjIdeal.Value.G10 m c := by
  funext j
  rw [eq3 j]
  exact (R10_apply _ _ (P_at m c) _ _ _).trans (Cert.ProjIdeal.Eq.G10_at m c _ _ _).symm
theorem agree11 : R11 (P m c) = Cert.ProjIdeal.Value.G11 m c := by
  funext j
  rw [eq2 j]
  exact (R11_apply _ _ (P_at m c) _ _).trans (Cert.ProjIdeal.Eq.G11_at m c _ _).symm
theorem agree12 : R12 (P m c) = Cert.ProjIdeal.Value.G12 m c := by
  funext j
  rw [eq3 j]
  exact (R12_apply _ _ (P_at m c) _ _ _).trans (Cert.ProjIdeal.Eq.G12_at m c _ _ _).symm
theorem agree13 : R13 (P m c) cs sn = Cert.ProjIdeal.Value.G13 m c := by
  funext j
  rw [eq2 j]
  exact (R13_apply _ _ _ _ _ _ (P_at m c) (C_at m c) (D_at m c) _ _).trans (Cert.ProjIdeal.Eq.G13_at m c _ _).symm
theorem agree14 : R14 (P m c) (acw m c) (acb m c) = Cert.ProjIdeal.Value.G14 m c := by
  funext j
  rw [eq2 j]
  exact (R14_apply _ _ _ _ _ (P_at m c) (Cert.ProjIdeal.Eq.cb_at m c) _ _).trans (Cert.ProjIdeal.Eq.G14_at m c _ _).symm
theorem agree15 : R15 (P m c) = Cert.ProjIdeal.Value.G15 m c := by
  funext j
  rw [eq2 j]
  exact (R15_apply _ _ (P_at m c) _ _).trans (Cert.ProjIdeal.Eq.G15_at m c _ _).symm

/-- The reference's eight results, of arguments equal to the kernel's. -/
theorem agree (X : Vec Ideal Cert.ProjRefIdeal.S16384x1024 .f32) (w : Vec Ideal Cert.ProjRefIdeal.S1024 .f32) (W : Vec Ideal Cert.ProjRefIdeal.S1024x4360 .f32)
    (cw : Vec Ideal Cert.ProjRefIdeal.S4x512 .f32) (cb : Vec Ideal Cert.ProjRefIdeal.S512 .f32)
    (h0 : X = aX m c) (h1 : w = aw m c) (h2 : W = aW m c) (h3 : cw = acw m c) (h4 : cb = acb m c) :
    R8 (projR X w W) = Cert.ProjIdeal.Value.G8 m c ∧ R9 (projR X w W) = Cert.ProjIdeal.Value.G9 m c ∧ R10 (projR X w W) = Cert.ProjIdeal.Value.G10 m c
      ∧ R11 (projR X w W) = Cert.ProjIdeal.Value.G11 m c ∧ R12 (projR X w W) = Cert.ProjIdeal.Value.G12 m c ∧ R13 (projR X w W) cs sn = Cert.ProjIdeal.Value.G13 m c
      ∧ R14 (projR X w W) cw cb = Cert.ProjIdeal.Value.G14 m c ∧ R15 (projR X w W) = Cert.ProjIdeal.Value.G15 m c := by
  subst h0 h1 h2 h3 h4
  exact ⟨agree8 m c, agree9 m c, agree10 m c, agree11 m c, agree12 m c, agree13 m c, agree14 m c, agree15 m c⟩

theorem algebraic : Cert.algebraic_ProjIdeal_ProjRefIdeal := by
  intro m ρ m' ρ' _ hagree
  refine ⟨fun c => Cert.ProjIdeal.Value.G8 m c, fun c => Cert.ProjIdeal.Value.G9 m c, fun c => Cert.ProjIdeal.Value.G10 m c, fun c => Cert.ProjIdeal.Value.G11 m c,
    fun c => Cert.ProjIdeal.Value.G12 m c, fun c => Cert.ProjIdeal.Value.G13 m c, fun c => Cert.ProjIdeal.Value.G14 m c, fun c => Cert.ProjIdeal.Value.G15 m c,
    Cert.ProjIdeal.Value.run (F := Ideal) m ρ, ?_⟩
  refine (θ_run Cert.ProjRefIdeal.defs _ _).mono (fun r h c => ?_) (Cert.ProjRefIdeal.Value.run (F := Ideal) m' ρ')
  obtain ⟨a0, a1, a2, a3, a4⟩ := hagree c
  obtain ⟨e0, e1, e2, e3, e4, e5, e6, e7⟩ := agree m c _ _ _ _ _ a0 a1 a2 a3 a4
  obtain ⟨k0, k1, k2, k3, k4, k5, k6, k7, kept⟩ := h c
  exact ⟨k0.trans e0, k1.trans e1, k2.trans e2, k3.trans e3, k4.trans e4, k5.trans e5, k6.trans e6, k7.trans e7, kept⟩

end Cert.ProjClaims
-- ==== Proof.OutFinal.lean ====
module
public import proofs.«01_k».proof.Proof.Gen.OutIdeal.Value
public import Idealize.ShloMosaic.Lib.StableHlo.RunRead
public import Idealize.ShloMosaic.Lib.Pointwise
public import Idealize.ShloMosaic.Lib.ValueIdxCore
/-! # The output projection's array, block by block

The array's row `i` lies in the block of point `i / 512`; what that point stores is read over the rows and
weights its windows hand it. -/
@[expose] public section
set_option maxRecDepth 16384
noncomputable section
open Idealize.ShloMosaic Idealize.ShloMosaic.TcCoe Idealize.SL.Sem Idealize.ShloMosaic.StableHlo
namespace Cert.OutIdeal.Final
open Cert.OutIdeal Cert.OutIdeal.Gen Cert.OutIdeal.Value
variable {F : FTy → Type} [FloatOps F]
variable (m : (ℓ : Loc nD τ sig) → Buf (Elt F) ℓ) (c : Dev nD)

/-- What a point stores, of its blocks. -/
theorem out_eq (x0 : Vec F S512x1024 .f32) (x1 : Vec F S512x512 .bf16) (x2 : Vec F S512x256 .bf16) (x3 : Vec F S512x256 .bf16) (x4 : Vec F S512x1024 .bf16) (x5 : Vec F S256x1024 .bf16) (x6 : Vec F S256x1024 .bf16) (x7 : Vec F S1x1024 .f32) :
    out0_8 x0 x1 x2 x3 x4 x5 x6 x7 = k0_pay1 x0 x1 x4 x2 x5 x3 x6 x7 := by
  have hz : (![0, 0] : Fin 2 → Nat) = fun _ => 0 := funext fun a => by fin_cases a <;> rfl
  unfold out0_8
  rw [View.canon_unit_zero hz]
  rw [show View.ld x0 r0_0 = x0 from View.ld_unit_zero hz _ x0, show View.ld x1 r0_1 = x1 from View.ld_unit_zero hz _ x1,
    show View.ld x2 r0_2 = x2 from View.ld_unit_zero hz _ x2, show View.ld x3 r0_2 = x3 from View.ld_unit_zero hz _ x3,
    show View.ld x4 r0_0 = x4 from View.ld_unit_zero hz _ x4, show View.ld x5 r0_3 = x5 from View.ld_unit_zero hz _ x5,
    show View.ld x6 r0_3 = x6 from View.ld_unit_zero hz _ x6, show View.ld x7 r0_4 = x7 from View.ld_unit_zero hz _ x7]

theorem flush8 : ∀ t : Fin cfg0.N, (cfg0.win 8).flush t = true := (by decide +kernel : ∀ t : Fin grid0.N, (cfg0.win 8).flush t = true)
theorem ix8_0 : ∀ t : Fin cfg0.N, win0_8.index t 0 = t.val := (by decide +kernel : ∀ t : Fin grid0.N, win0_8.index t 0 = t.val)
theorem ix8_1 : ∀ t : Fin cfg0.N, win0_8.index t 1 = 0 := (by decide +kernel : ∀ t : Fin grid0.N, win0_8.index t 1 = 0)

theorem arr_apply (t : Fin cfg0.N) (r : Fin 512) (l : Fin 1024) (i : Fin 16384) (hi : i.val = 512 * t.val + r.val) :
    (dats m 0 c).arrAt 8 cfg0.N (ix2 i l)
      = k0_pay1 (iblk m c 0 t) (iblk m c 1 t) (iblk m c 4 t) (iblk m c 2 t) (iblk m c 5 t) (iblk m c 3 t) (iblk m c 6 t) (iblk m c 7 t) (ix2 r l) := by
  have h := (congrFun (blocks8 m c t (flush8 t)) (ix2 r l)).trans (congrFun (flushed8 m c t) (ix2 r l))
  rw [View.read_apply] at h
  refine Eq.trans (congrArg _ ?_) (h.trans ((congrFun (out_eq _ _ _ _ _ _ _ _) _).trans (congrArg _ ?_)))
  · funext a
    apply Fin.ext
    match a with
    | ⟨0, _⟩ =>
      show i.val = win0_8.index t 0 * 512 + 1 * r.val
      rw [ix8_0 t]; omega
    | ⟨1, _⟩ =>
      show l.val = win0_8.index t 1 * 1024 + 1 * l.val
      rw [ix8_1 t]; omega
  · funext a
    match a with
    | ⟨0, _⟩ => rfl
    | ⟨1, _⟩ => rfl

end Cert.OutIdeal.Final
-- ==== Proof.OutPoint.lean ====
module
public import proofs.«01_k».proof.Proof.OutFinal
/-! # The output projection's array at an entry

Over the reals: the residual plus the three groups' products, divided by the row's root mean square. -/
@[expose] public section
set_option maxRecDepth 16384
noncomputable section
open Idealize.ShloMosaic Idealize.ShloMosaic.TcCoe Idealize.SL.Sem Idealize.ShloMosaic.StableHlo
namespace Cert.OutIdeal.Point
open Cert.OutIdeal Cert.OutIdeal.Gen Cert.OutIdeal.Value Cert.OutIdeal.Final

/-- The residual plus the three groups' products. -/
def acc (X : Vec Ideal S16384x1024 .f32) (A : Vec Ideal S16384x512 .bf16) (B C : Vec Ideal S16384x256 .bf16) (W : Vec Ideal S1024x1024 .f32)
    (i : Fin 16384) (l : Fin 1024) : EReal :=
  X (ix2 i l) + ∑ k : Fin 512, A (ix2 i k) * W (ix2 ⟨k.val, by omega⟩ l) + ∑ k : Fin 256, B (ix2 i k) * W (ix2 ⟨512 + k.val, by omega⟩ l)
    + ∑ k : Fin 256, C (ix2 i k) * W (ix2 ⟨768 + k.val, by omega⟩ l)

/-- Divided by the row's root mean square, and weighted. -/
def normed (f : Fin 1024 → EReal) (w : EReal) (l : Fin 1024) : EReal :=
  f l * Ideal.rsqrt (Ideal.div (∑ k, f k * f k) (Ideal.ofBits .f32 0x44800000#32) + Ideal.ofBits .f32 0x358637BD#32) * w

theorem pay_apply (x0 : Vec Ideal S512x1024 .f32) (x1 : Vec Ideal S512x512 .bf16) (x4 : Vec Ideal S512x1024 .bf16) (x2 : Vec Ideal S512x256 .bf16)
    (x5 : Vec Ideal S256x1024 .bf16) (x3 : Vec Ideal S512x256 .bf16) (x6 : Vec Ideal S256x1024 .bf16) (x7 : Vec Ideal S1x1024 .f32) (r : Fin 512) (l : Fin 1024)
    (f : Fin 1024 → EReal)
    (hf : ∀ l, x0 (ix2 r l) + ∑ k, x1 (ix2 r k) * x4 (ix2 k l) + ∑ k, x2 (ix2 r k) * x5 (ix2 k l) + ∑ k, x3 (ix2 r k) * x6 (ix2 k l) = f l) :
    k0_pay1 x0 x1 x4 x2 x5 x3 x6 x7 (ix2 r l) = normed f (x7 (ix2 0 l)) l := by
  pointwise [k0_pay1]
  simp only [hf]
  rfl

variable (m : (ℓ : Loc nD τ sig) → Buf (Elt Ideal) ℓ) (c : Dev nD)

theorem V1 : V m c main_v1 = extractStridedSlice S512x1024 ![0, 0] (truncf (F := Ideal) .bf16 (m ((c : Thread nD τ).loc main_arg4) : Vec Ideal S1024x1024 .f32) bitsLt_bf16_f32) slices_S1024x1024_S512x1024_0_0 := by
  show StableHlo.after _ _ _ = _
  simp only [hostOps0, List.flatten_cons, List.flatten_nil, List.append_nil, List.cons_append, List.nil_append]
  after_reads_simp
theorem V2 : V m c main_v2 = extractStridedSlice S256x1024 ![512, 0] (truncf (F := Ideal) .bf16 (m ((c : Thread nD τ).loc main_arg4) : Vec Ideal S1024x1024 .f32) bitsLt_bf16_f32) slices_S1024x1024_S256x1024_512_0 := by
  show StableHlo.after _ _ _ = _
  simp only [hostOps0, List.flatten_cons, List.flatten_nil, List.append_nil, List.cons_append, List.nil_append]
  after_reads_simp
theorem V3 : V m c main_v3 = extractStridedSlice S256x1024 ![768, 0] (truncf (F := Ideal) .bf16 (m ((c : Thread nD τ).loc main_arg4) : Vec Ideal S1024x1024 .f32) bitsLt_bf16_f32) slices_S1024x1024_S256x1024_768_0 := by
  show StableHlo.after _ _ _ = _
  simp only [hostOps0, List.flatten_cons, List.flatten_nil, List.append_nil, List.cons_append, List.nil_append]
  after_reads_simp
theorem V4 : V m c main_v4 = broadcastInDim S1x1024 ![1] bcast_S1024_S1x1024_1 (m ((c : Thread nD τ).loc main_arg5) : Vec Ideal S1024 .f32) := by
  show StableHlo.after _ _ _ = _
  simp only [hostOps0, List.flatten_cons, List.flatten_nil, List.append_nil, List.cons_append, List.nil_append]
  after_reads_simp

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem blk0 (t : Fin cfg0.N) (r : Fin 512) (l : Fin 1024) (i : Fin 16384) (hi : i.val = 512 * t.val + r.val) :
    iblk m c 0 t (ix2 r l) = (m ((c : Thread nD τ).loc main_arg0) : Vec Ideal S16384x1024 .f32) (ix2 i l) := by
  unfold iblk
  rw [View.read_apply]
  show V m c main_arg0 _ = _
  rw [V_main_arg0]
  refine congrArg (m ((c : Thread nD τ).loc main_arg0) : Vec Ideal S16384x1024 .f32) ?_
  funext a
  apply Fin.ext
  match a with
  | ⟨0, _⟩ => show win0_0.index t 0 * 512 + 1 * r.val = i.val; rw [ix0_0 t]; omega
  | ⟨1, _⟩ => show win0_0.index t 1 * 1024 + 1 * l.val = l.val; rw [ix0_1 t]; omega
theorem ix1_0 : ∀ t : Fin cfg0.N, win0_1.index t 0 = t.val := (by decide +kernel : ∀ t : Fin grid0.N, win0_1.index t 0 = t.val)
theorem ix1_1 : ∀ t : Fin cfg0.N, win0_1.index t 1 = 0 := (by decide +kernel : ∀ t : Fin grid0.N, win0_1.index t 1 = 0)
theorem blk1 (t : Fin cfg0.N) (r : Fin 512) (l : Fin 512) (i : Fin 16384) (hi : i.val = 512 * t.val + r.val) :
    iblk m c 1 t (ix2 r l) = (m ((c : Thread nD τ).loc main_arg1) : Vec Ideal S16384x512 .bf16) (ix2 i l) := by
  unfold iblk
  rw [View.read_apply]
  show V m c main_arg1 _ = _
  rw [V_main_arg1]
  refine congrArg (m ((c : Thread nD τ).loc main_arg1) : Vec Ideal S16384x512 .bf16) ?_
  funext a
  apply Fin.ext
  match a with
  | ⟨0, _⟩ => show win0_1.index t 0 * 512 + 1 * r.val = i.val; rw [ix1_0 t]; omega
  | ⟨1, _⟩ => show win0_1.index t 1 * 512 + 1 * l.val = l.val; rw [ix1_1 t]; omega
theorem ix2_0 : ∀ t : Fin cfg0.N, win0_2.index t 0 = t.val := (by decide +kernel : ∀ t : Fin grid0.N, win0_2.index t 0 = t.val)
theorem ix2_1 : ∀ t : Fin cfg0.N, win0_2.index t 1 = 0 := (by decide +kernel : ∀ t : Fin grid0.N, win0_2.index t 1 = 0)
theorem blk2 (t : Fin cfg0.N) (r : Fin 512) (l : Fin 256) (i : Fin 16384) (hi : i.val = 512 * t.val + r.val) :
    iblk m c 2 t (ix2 r l) = (m ((c : Thread nD τ).loc main_arg2) : Vec Ideal S16384x256 .bf16) (ix2 i l) := by
  unfold iblk
  rw [View.read_apply]
  show V m c main_arg2 _ = _
  rw [V_main_arg2]
  refine congrArg (m ((c : Thread nD τ).loc main_arg2) : Vec Ideal S16384x256 .bf16) ?_
  funext a
  apply Fin.ext
  match a with
  | ⟨0, _⟩ => show win0_2.index t 0 * 512 + 1 * r.val = i.val; rw [ix2_0 t]; omega
  | ⟨1, _⟩ => show win0_2.index t 1 * 256 + 1 * l.val = l.val; rw [ix2_1 t]; omega
theorem ix3_0 : ∀ t : Fin cfg0.N, win0_3.index t 0 = t.val := (by decide +kernel : ∀ t : Fin grid0.N, win0_3.index t 0 = t.val)
theorem ix3_1 : ∀ t : Fin cfg0.N, win0_3.index t 1 = 0 := (by decide +kernel : ∀ t : Fin grid0.N, win0_3.index t 1 = 0)
theorem blk3 (t : Fin cfg0.N) (r : Fin 512) (l : Fin 256) (i : Fin 16384) (hi : i.val = 512 * t.val + r.val) :
    iblk m c 3 t (ix2 r l) = (m ((c : Thread nD τ).loc main_arg3) : Vec Ideal S16384x256 .bf16) (ix2 i l) := by
  unfold iblk
  rw [View.read_apply]
  show V m c main_arg3 _ = _
  rw [V_main_arg3]
  refine congrArg (m ((c : Thread nD τ).loc main_arg3) : Vec Ideal S16384x256 .bf16) ?_
  funext a
  apply Fin.ext
  match a with
  | ⟨0, _⟩ => show win0_3.index t 0 * 512 + 1 * r.val = i.val; rw [ix3_0 t]; omega
  | ⟨1, _⟩ => show win0_3.index t 1 * 256 + 1 * l.val = l.val; rw [ix3_1 t]; omega
theorem ix4_0 : ∀ t : Fin cfg0.N, win0_4.index t 0 = 0 := (by decide +kernel : ∀ t : Fin grid0.N, win0_4.index t 0 = 0)
theorem ix4_1 : ∀ t : Fin cfg0.N, win0_4.index t 1 = 0 := (by decide +kernel : ∀ t : Fin grid0.N, win0_4.index t 1 = 0)
theorem blk4 (t : Fin cfg0.N) : iblk m c 4 t = V m c main_v1 := by
  funext j
  unfold iblk
  rw [View.read_apply]
  show V m c main_v1 _ = V m c main_v1 j
  congr 1
  funext a
  apply Fin.ext
  match a with
  | ⟨0, _⟩ => show win0_4.index t 0 * 512 + 1 * (j 0).val = (j 0).val; rw [ix4_0 t]; omega
  | ⟨1, _⟩ => show win0_4.index t 1 * 1024 + 1 * (j 1).val = (j 1).val; rw [ix4_1 t]; omega
theorem ix5_0 : ∀ t : Fin cfg0.N, win0_5.index t 0 = 0 := (by decide +kernel : ∀ t : Fin grid0.N, win0_5.index t 0 = 0)
theorem ix5_1 : ∀ t : Fin cfg0.N, win0_5.index t 1 = 0 := (by decide +kernel : ∀ t : Fin grid0.N, win0_5.index t 1 = 0)
theorem blk5 (t : Fin cfg0.N) : iblk m c 5 t = V m c main_v2 := by
  funext j
  unfold iblk
  rw [View.read_apply]
  show V m c main_v2 _ = V m c main_v2 j
  congr 1
  funext a
  apply Fin.ext
  match a with
  | ⟨0, _⟩ => show win0_5.index t 0 * 256 + 1 * (j 0).val = (j 0).val; rw [ix5_0 t]; omega
  | ⟨1, _⟩ => show win0_5.index t 1 * 1024 + 1 * (j 1).val = (j 1).val; rw [ix5_1 t]; omega
theorem ix6_0 : ∀ t : Fin cfg0.N, win0_6.index t 0 = 0 := (by decide +kernel : ∀ t : Fin grid0.N, win0_6.index t 0 = 0)
theorem ix6_1 : ∀ t : Fin cfg0.N, win0_6.index t 1 = 0 := (by decide +kernel : ∀ t : Fin grid0.N, win0_6.index t 1 = 0)
theorem blk6 (t : Fin cfg0.N) : iblk m c 6 t = V m c main_v3 := by
  funext j
  unfold iblk
  rw [View.read_apply]
  show V m c main_v3 _ = V m c main_v3 j
  congr 1
  funext a
  apply Fin.ext
  match a with
  | ⟨0, _⟩ => show win0_6.index t 0 * 256 + 1 * (j 0).val = (j 0).val; rw [ix6_0 t]; omega
  | ⟨1, _⟩ => show win0_6.index t 1 * 1024 + 1 * (j 1).val = (j 1).val; rw [ix6_1 t]; omega
theorem ix7_0 : ∀ t : Fin cfg0.N, win0_7.index t 0 = 0 := (by decide +kernel : ∀ t : Fin grid0.N, win0_7.index t 0 = 0)
theorem ix7_1 : ∀ t : Fin cfg0.N, win0_7.index t 1 = 0 := (by decide +kernel : ∀ t : Fin grid0.N, win0_7.index t 1 = 0)
theorem blk7 (t : Fin cfg0.N) : iblk m c 7 t = V m c main_v4 := by
  funext j
  unfold iblk
  rw [View.read_apply]
  show V m c main_v4 _ = V m c main_v4 j
  congr 1
  funext a
  apply Fin.ext
  match a with
  | ⟨0, _⟩ => show win0_7.index t 0 * 1 + 1 * (j 0).val = (j 0).val; rw [ix7_0 t]; omega
  | ⟨1, _⟩ => show win0_7.index t 1 * 1024 + 1 * (j 1).val = (j 1).val; rw [ix7_1 t]; omega

/-- The array the kernel leaves. -/
theorem arr (i : Fin 16384) (l : Fin 1024) :
    (dats m 0 c).arrAt 8 cfg0.N (ix2 i l)
      = normed (acc (m ((c : Thread nD τ).loc main_arg0)) (m ((c : Thread nD τ).loc main_arg1)) (m ((c : Thread nD τ).loc main_arg2)) (m ((c : Thread nD τ).loc main_arg3)) (m ((c : Thread nD τ).loc main_arg4)) i)
        ((m ((c : Thread nD τ).loc main_arg5) : Vec Ideal S1024 .f32) (ix1 l)) l := by
  have hN : (cfg0.N : ℕ) = 32 := N_0
  obtain ⟨t, r, hi⟩ : ∃ (t : Fin cfg0.N) (r : Fin 512), i.val = 512 * t.val + r.val :=
    ⟨⟨i.val / 512, by omega⟩, ⟨i.val % 512, Nat.mod_lt _ (by decide)⟩, by show i.val = 512 * (i.val / 512) + i.val % 512; omega⟩
  refine (arr_apply m c t r l i hi).trans ?_
  rw [pay_apply _ _ _ _ _ _ _ _ _ l (acc (m ((c : Thread nD τ).loc main_arg0)) (m ((c : Thread nD τ).loc main_arg1)) (m ((c : Thread nD τ).loc main_arg2)) (m ((c : Thread nD τ).loc main_arg3)) (m ((c : Thread nD τ).loc main_arg4)) i)]
  · rw [blk7, V4]
    pointwise
  · intro l
    rw [blk4, blk5, blk6, V1, V2, V3]
    simp only [blk0 m c _ _ _ i hi, blk1 m c _ _ _ i hi, blk2 m c _ _ _ i hi, blk3 m c _ _ _ i hi]
    unfold acc
    pointwise

end Cert.OutIdeal.Point
-- ==== Proof.OutRef.lean ====
module
public import proofs.«01_k».proof.Proof.OutPoint
public import proofs.«01_k».proof.Proof.Gen.OutRefIdeal.Run
/-! # What the output projection's reference computes

One product over the concatenated groups is the three groups' products together. -/
@[expose] public section
set_option maxRecDepth 16384
noncomputable section
open Idealize.ShloMosaic Idealize.ShloMosaic.TcCoe Idealize.SL.Sem
namespace Cert.OutRefIdeal.Read
open Cert.OutRefIdeal Cert.OutRefIdeal.Gen
open Cert.OutIdeal.Point (acc normed)

/-- The residual plus the product. -/
def sumR (X : Vec Ideal S16384x1024 .f32) (A : Vec Ideal S16384x512 .bf16) (B C : Vec Ideal S16384x256 .bf16) (W : Vec Ideal S1024x1024 .f32) : FVec Ideal S16384x1024 .f32 :=
  addf (X) (Host.dotGeneral (φ₁ := .f32) (φ₂ := .f32) dot_S16384x1024_S1024x1024_S16384x1024_1_0_0_1_n_n none (extf .f32 ((concatenate S16384x1024 1 [⟨S16384x512, ((A) : (⟨S16384x512, .bf16⟩ : BufTy).Contents (Elt Ideal))⟩, ⟨S16384x256, ((B) : (⟨S16384x256, .bf16⟩ : BufTy).Contents (Elt Ideal))⟩, ⟨S16384x256, ((C) : (⟨S16384x256, .bf16⟩ : BufTy).Contents (Elt Ideal))⟩] concatenates_S16384x512_S16384x256_S16384x256_S16384x1024_d1 : (⟨S16384x1024, .bf16⟩ : BufTy).Contents (Elt Ideal))) bitsLt_bf16_f32) (W : FVec Ideal S1024x1024 .f32))

/-- The result. -/
def outR (X : Vec Ideal S16384x1024 .f32) (A : Vec Ideal S16384x512 .bf16) (B C : Vec Ideal S16384x256 .bf16) (W : Vec Ideal S1024x1024 .f32) (w : Vec Ideal S1024 .f32) : FVec Ideal S16384x1024 .f32 :=
  mulf (mulf (sumR X A B C W) (broadcastInDim S16384x1024 ![0, 1] bcast_S16384x1_S16384x1024_0_1 (Host.rsqrt (addf (Host.divf (broadcastInDim S16384x1 ![0] bcast_S16384_S16384x1_0 (Host.reduceAdd (mulf (sumR X A B C W) (sumR X A B C W)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (w)))

theorem sum_groups (f : Fin 1024 → EReal) :
    ∑ k, f k = ∑ k : Fin 512, f ⟨k.val, by omega⟩ + (∑ k : Fin 256, f ⟨512 + k.val, by omega⟩ + ∑ k : Fin 256, f ⟨768 + k.val, by omega⟩) := by
  refine (Fin.sum_univ_add (a := 512) (b := 512) f).trans (congrArg₂ (· + ·) (Finset.sum_congr rfl fun k _ => congrArg f (Fin.ext rfl)) ?_)
  refine (Fin.sum_univ_add (a := 256) (b := 256) fun k : Fin 512 => f (Fin.natAdd 512 k)).trans (congrArg₂ (· + ·) ?_ ?_)
  · exact Finset.sum_congr rfl fun k _ => congrArg f (Fin.ext rfl)
  · exact Finset.sum_congr rfl fun k _ => congrArg f (Fin.ext (show 512 + (256 + k.val) = 768 + k.val by omega))

theorem sumR_apply (X : Vec Ideal S16384x1024 .f32) (A : Vec Ideal S16384x512 .bf16) (B C : Vec Ideal S16384x256 .bf16) (W : Vec Ideal S1024x1024 .f32)
    (i : Fin 16384) (l : Fin 1024) : sumR X A B C W (ix2 i l) = acc X A B C W i l := by
  pointwise [sumR]
  rw [sum_groups]
  unfold acc
  rw [← add_assoc, ← add_assoc]
  refine congrArg₂ (· + ·) (congrArg₂ (· + ·) (congrArg (X (ix2 i l) + ·) ?_) ?_) ?_
  · refine Finset.sum_congr rfl fun k _ => ?_
    rw [dif_pos (show (k.val : ℕ) < 512 from k.2)]
  · refine Finset.sum_congr rfl fun k _ => ?_
    rw [dif_neg (show ¬ 512 + k.val < 512 by omega), dif_pos (show 512 + k.val - 512 < 256 by omega)]
    exact congrArg (fun q => B (ix2 i q) * _) (Fin.ext (show 512 + k.val - 512 = k.val by omega))
  · refine Finset.sum_congr rfl fun k _ => ?_
    rw [dif_neg (show ¬ 768 + k.val < 512 by omega), dif_neg (show ¬ 768 + k.val - 512 < 256 by omega)]
    exact congrArg (fun q => C (ix2 i q) * _) (Fin.ext (show 768 + k.val - 512 - 256 = k.val by omega))

theorem outR_apply (X : Vec Ideal S16384x1024 .f32) (A : Vec Ideal S16384x512 .bf16) (B C : Vec Ideal S16384x256 .bf16) (W : Vec Ideal S1024x1024 .f32) (w : Vec Ideal S1024 .f32)
    (i : Fin 16384) (l : Fin 1024) : outR X A B C W w (ix2 i l) = normed (acc X A B C W i) (w (ix1 l)) l := by
  pointwise [outR]
  simp only [sumR_apply]
  rfl

end Cert.OutRefIdeal.Read
-- ==== Proof.OutClaims.lean ====
module
public import proofs.«01_k».proof.Defs
public import proofs.«01_k».proof.Proof.Gen.Out.Frame
public import proofs.«01_k».proof.Proof.Gen.OutIdeal.Frame
public import proofs.«01_k».proof.Proof.OutRef
/-! # The claims about the output projection

The kernel's frames are the generated ones; the reference's run gives its frame and, beside the kernel's run,
the equality of the results. -/
@[expose] public section
set_option maxRecDepth 16384
noncomputable section
open Idealize.ShloMosaic Idealize.ShloMosaic.TcCoe Idealize.SL.Sem
namespace Cert.OutClaims

theorem frame_r : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The two results, of memories that agree on the arguments. -/
theorem agree (m : (ℓ : Loc Cert.OutIdeal.nD Cert.OutIdeal.τ Cert.OutIdeal.sig) → Buf (Elt Ideal) ℓ) (c : Dev Cert.OutIdeal.nD)
    (X : Vec Ideal Cert.OutRefIdeal.S16384x1024 .f32) (A : Vec Ideal Cert.OutRefIdeal.S16384x512 .bf16) (B C : Vec Ideal Cert.OutRefIdeal.S16384x256 .bf16)
    (W : Vec Ideal Cert.OutRefIdeal.S1024x1024 .f32) (w : Vec Ideal Cert.OutRefIdeal.S1024 .f32)
    (h0 : X = m ((c.tc : Thread Cert.OutIdeal.nD Cert.OutIdeal.τ).loc Cert.OutIdeal.main_arg0))
    (h1 : A = m ((c.tc : Thread Cert.OutIdeal.nD Cert.OutIdeal.τ).loc Cert.OutIdeal.main_arg1))
    (h2 : B = m ((c.tc : Thread Cert.OutIdeal.nD Cert.OutIdeal.τ).loc Cert.OutIdeal.main_arg2))
    (h3 : C = m ((c.tc : Thread Cert.OutIdeal.nD Cert.OutIdeal.τ).loc Cert.OutIdeal.main_arg3))
    (h4 : W = m ((c.tc : Thread Cert.OutIdeal.nD Cert.OutIdeal.τ).loc Cert.OutIdeal.main_arg4))
    (h5 : w = m ((c.tc : Thread Cert.OutIdeal.nD Cert.OutIdeal.τ).loc Cert.OutIdeal.main_arg5)) :
    Cert.OutRefIdeal.Read.outR X A B C W w = (Cert.OutIdeal.Gen.dats m 0 c).arrAt 8 Cert.OutIdeal.cfg0.N := by
  subst h0 h1 h2 h3 h4 h5
  funext j
  have hj : j = ix2 (j 0) (j 1) := by
    funext a
    match a with
    | 0 => rfl
    | 1 => rfl
  rw [hj]
  exact (Cert.OutRefIdeal.Read.outR_apply _ _ _ _ _ _ (j 0) (j 1)).trans (Cert.OutIdeal.Point.arr m c (j 0) (j 1)).symm

theorem algebraic : Cert.algebraic_OutIdeal_OutRefIdeal := by
  intro m ρ m' ρ' _ hagree
  refine ⟨fun c => (Cert.OutIdeal.Gen.dats m 0 c).arrAt 8 Cert.OutIdeal.cfg0.N, Cert.OutIdeal.Value.run_blocks (F := Ideal) m ρ, ?_⟩
  exact (θ_run Cert.OutRefIdeal.defs _ _).mono
    (fun r h c => ⟨(h c).1.trans (agree m c _ _ _ _ _ _ (hagree c).1 (hagree c).2.1 (hagree c).2.2.1 (hagree c).2.2.2.1 (hagree c).2.2.2.2.1 (hagree c).2.2.2.2.2), (h c).2⟩)
    (Cert.OutRefIdeal.Value.run (F := Ideal) m' ρ')

end Cert.OutClaims
-- ==== Proof.MlstmTrips.lean ====
module
public import proofs.«01_k».proof.Proof.Gen.MlstmRefIdeal.Run
public import proofs.«01_k».proof.Proof.Gen.MlstmRefIdeal.Step
/-! # The mLSTM reference's run as a step iterated

The run's loop holds a state at every trip; each trip is one `step` of it, so the result is read off the
hundred and twenty-eighth state. -/
@[expose] public section
noncomputable section
namespace Cert.MlstmRefIdeal.Trips
open Idealize.ShloMosaic Idealize.ShloMosaic.TcCoe Idealize.SL.Sem Idealize.ShloMosaic.StableHlo
open Cert.MlstmRefIdeal Cert.MlstmRefIdeal.Gen Cert.MlstmRefIdeal.Value
open Cert.MlstmRefIdeal.Step (State step init)
variable {F : FTy → Type} [FloatOps F]
variable (V0 : Valuation τ sig (Elt F)) (s : State F) (j : ℕ)

/-- The valuation holds the state, the set-up values and the trip's number. -/
structure Holds : Prop where
  f_7 : V0 (Proc.devRef .tc main_v58_7) = s.main_v58_7
  f_8 : V0 (Proc.devRef .tc main_v58_8) = s.main_v58_8
  f_9 : V0 (Proc.devRef .tc main_v58_9) = s.main_v58_9
  f_10 : V0 (Proc.devRef .tc main_v58_10) = s.main_v58_10
  f_0 : V0 (Proc.devRef .tc main_v58_0) = s.main_v58_0
  f_1 : V0 (Proc.devRef .tc main_v58_1) = s.main_v58_1
  f_2 : V0 (Proc.devRef .tc main_v58_2) = s.main_v58_2
  f_3 : V0 (Proc.devRef .tc main_v58_3) = s.main_v58_3
  f_4 : V0 (Proc.devRef .tc main_v58_4) = s.main_v58_4
  n_6 : V0 (Proc.devRef .tc main_v58_6) = constantI S_ 32 (BitVec.ofNat 32 j)
  k_5 : V0 (Proc.devRef .tc main_v58_5) = Cert.MlstmRefIdeal.Step.K_main_v53 (F := F)

variable {V0 s j}

/-! The values a trip names are those `step` names. -/

theorem res_105 (h : Holds V0 s j) : res_main_while0b_v105 V0 = Cert.MlstmRefIdeal.Step.b4 j s := by
  unfold res_main_while0b_v105
  rw [h.f_0, h.n_6]
  rfl
theorem res_106 (h : Holds V0 s j) : res_main_while0b_v106 V0 = Cert.MlstmRefIdeal.Step.b9 j s := by
  unfold res_main_while0b_v106
  rw [h.f_1, h.n_6]
  rfl
theorem res_107 (h : Holds V0 s j) : res_main_while0b_v107 V0 = Cert.MlstmRefIdeal.Step.b14 j s := by
  unfold res_main_while0b_v107
  rw [h.f_2, h.n_6]
  rfl
theorem res_108 (h : Holds V0 s j) : res_main_while0b_v108 V0 = Cert.MlstmRefIdeal.Step.b18 j s := by
  unfold res_main_while0b_v108
  rw [h.f_3, h.n_6]
  rfl
theorem res_109 (h : Holds V0 s j) : res_main_while0b_v109 V0 = Cert.MlstmRefIdeal.Step.b22 j s := by
  unfold res_main_while0b_v109
  rw [h.f_4, h.n_6]
  rfl
theorem res_118 (h : Holds V0 s j) : res_main_while0b_v118 V0 = Cert.MlstmRefIdeal.Step.b35 j s := by
  unfold res_main_while0b_v118
  rw [res_108 h, res_109 h, h.k_5]
  rfl
theorem res_121 (h : Holds V0 s j) : res_main_while0b_v121 V0 = Cert.MlstmRefIdeal.Step.b38 j s := by
  unfold res_main_while0b_v121
  rw [res_109 h, h.f_9]
  rfl
theorem res_123 (h : Holds V0 s j) : res_main_while0b_v123 V0 = Cert.MlstmRefIdeal.Step.b41 j s := by
  unfold res_main_while0b_v123
  rw [res_118 h, res_121 h]
  rfl
theorem res_129 (h : Holds V0 s j) : res_main_while0b_v129 V0 = Cert.MlstmRefIdeal.Step.b47 j s := by
  unfold res_main_while0b_v129
  rw [res_121 h, res_123 h]
  rfl
theorem res_131 (h : Holds V0 s j) : res_main_while0b_v131 V0 = Cert.MlstmRefIdeal.Step.b49 j s := by
  unfold res_main_while0b_v131
  rw [res_105 h, res_106 h, res_118 h, res_123 h]
  rfl
theorem res_150 (h : Holds V0 s j) : res_main_while0b_v150 V0 = Cert.MlstmRefIdeal.Step.b69 j s := by
  unfold res_main_while0b_v150
  rw [res_109 h]
  rfl
theorem res_154 (h : Holds V0 s j) : res_main_while0b_v154 V0 = Cert.MlstmRefIdeal.Step.b73 j s := by
  unfold res_main_while0b_v154
  rw [res_108 h, res_109 h, res_150 h]
  rfl
theorem res_157 (h : Holds V0 s j) : res_main_while0b_v157 V0 = Cert.MlstmRefIdeal.Step.b77 j s := by
  unfold res_main_while0b_v157
  rw [res_150 h, res_154 h, h.f_9]
  rfl
theorem res_160 (h : Holds V0 s j) : res_main_while0b_v160 V0 = Cert.MlstmRefIdeal.Step.b80 j s := by
  unfold res_main_while0b_v160
  rw [res_150 h, res_157 h, h.f_9]
  rfl
theorem res_164 (h : Holds V0 s j) : res_main_while0b_v164 V0 = Cert.MlstmRefIdeal.Step.b84 j s := by
  unfold res_main_while0b_v164
  rw [res_154 h, res_157 h]
  rfl

/-! One trip's step of the carried values is `step`, field by field; the counter steps to the next number. -/

set_option maxRecDepth 8192 in
theorem step_7 (h : Holds V0 s j) : step_main_v58_7 V0 = (step j s).main_v58_7 := by
  unfold step_main_v58_7
  rw [res_106 h, res_107 h, res_160 h, res_164 h, h.f_7]
  rfl
set_option maxRecDepth 8192 in
theorem step_8 (h : Holds V0 s j) : step_main_v58_8 V0 = (step j s).main_v58_8 := by
  unfold step_main_v58_8
  rw [res_106 h, res_160 h, res_164 h, h.f_8]
  rfl
set_option maxRecDepth 8192 in
theorem step_9 (h : Holds V0 s j) : step_main_v58_9 V0 = (step j s).main_v58_9 := by
  unfold step_main_v58_9
  rw [res_157 h]
  rfl
set_option maxRecDepth 8192 in
theorem step_10 (h : Holds V0 s j) : step_main_v58_10 V0 = (step j s).main_v58_10 := by
  unfold step_main_v58_10
  rw [res_105 h, res_107 h, res_123 h, res_129 h, res_131 h, h.n_6, h.f_7, h.f_8, h.f_10]
  rfl
theorem step_6 (h : Holds V0 s j) : step_main_v58_6 V0 = constantI S_ 32 (BitVec.ofNat 32 (j + 1)) := by
  unfold step_main_v58_6
  rw [h.n_6]
  funext i
  show BitVec.ofNat 32 j + 1#32 = BitVec.ofNat 32 (j + 1)
  simp only [BitVec.ofNat_add]

set_option maxRecDepth 8192 in
theorem out_main_v104_holds (h : Holds V0 s j) {x_main_arg0 : (⟨S16384x1280, .bf16⟩ : BufTy).Contents (Elt F)} (h_main_arg0 : V0 (Proc.devRef .tc main_arg0) = x_main_arg0) {x_main_arg3 : (⟨S256, .f32⟩ : BufTy).Contents (Elt F)} (h_main_arg3 : V0 (Proc.devRef .tc main_arg3) = x_main_arg3) : out_main_v104 V0 = Cert.MlstmRefIdeal.Step.R_main_v104 s x_main_arg0 x_main_arg3 := by
  unfold out_main_v104 Cert.MlstmRefIdeal.Step.R_main_v104
  simp only [h.f_10, h_main_arg0, h_main_arg3]
  try rfl

/-- One trip keeps the valuation holding: `step` of the state, the same set-up values, the next number. -/
theorem holds_step (h : Holds V0 s j) : Holds (STEP V0) (step j s) (j + 1) where
  f_7 := (STEP_main_v58_7 V0).trans (step_7 h)
  f_8 := (STEP_main_v58_8 V0).trans (step_8 h)
  f_9 := (STEP_main_v58_9 V0).trans (step_9 h)
  f_10 := (STEP_main_v58_10 V0).trans (step_10 h)
  f_0 := (STEP_main_v58_0 V0).trans h.f_0
  f_1 := (STEP_main_v58_1 V0).trans h.f_1
  f_2 := (STEP_main_v58_2 V0).trans h.f_2
  f_3 := (STEP_main_v58_3 V0).trans h.f_3
  f_4 := (STEP_main_v58_4 V0).trans h.f_4
  n_6 := (STEP_main_v58_6 V0).trans (step_6 h)
  k_5 := (STEP_main_v58_5 V0).trans h.k_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 1000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The result as `step` iterated: every weakly fair execution of `MlstmRefIdeal` terminates with the result read off state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v104) = Cert.MlstmRefIdeal.Step.R_main_v104 (it c 128) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v104_holds hk (iter_main_arg0 m c 128) (iter_main_arg3 m c 128)), (h c).2⟩) (Value.run m ρ)

end Cert.MlstmRefIdeal.Trips

end
-- ==== Proof.MlstmAlg.lean ====
module
public import Idealize.ShloMosaic.Lib.Pointwise
public import Idealize.ShloMosaic.Lib.ValueIdx
/-! # The mLSTM's recurrence over the reals

One head, one chunk of 128 rows: the gates' logarithms, the running maximum, the state and a row's output.
Besides, the one fact by which a sum scaled by its own maximum is scaled by a larger one, and the running sum
as a window reduction spells it. -/
@[expose] public section
noncomputable section
open Idealize.ShloMosaic
open Idealize.ShloMosaic.ValueIdx (ix1 ix2)
namespace Cert.MlstmAlg

/-! ## Scaling by a maximum -/

/-- The largest of finitely many values. -/
def top {n : ℕ} (f : Fin n → EReal) : EReal := Finset.univ.fold max ⊥ f

theorem le_top' {n : ℕ} (f : Fin n → EReal) (s : Fin n) : f s ≤ top f :=
  Finset.le_sup (f := f) (Finset.mem_univ s)

theorem exp_mul_exp {d M m : EReal} (hd : d ≤ M) (hM : M ≤ m) : Ideal.exp (M - m) * Ideal.exp (d - M) = Ideal.exp (d - m) := by
  induction M with
  | bot =>
    rw [le_bot_iff] at hd
    subst hd
    rw [EReal.bot_sub, EReal.bot_sub]
    exact mul_zero _
  | top =>
    rw [top_le_iff] at hM
    subst hM
    rw [EReal.sub_top, EReal.sub_top]
    exact mul_zero _
  | coe M =>
    induction m with
    | bot => exact absurd hM (by simp)
    | top =>
      rw [EReal.sub_top, EReal.sub_top]
      exact zero_mul _
    | coe m =>
      induction d with
      | top => exact absurd hd (by simp)
      | bot =>
        rw [EReal.bot_sub, EReal.bot_sub]
        exact mul_zero _
      | coe d =>
        show ((Real.exp (M - m) : ℝ) : EReal) * ((Real.exp (d - M) : ℝ) : EReal) = ((Real.exp (d - m) : ℝ) : EReal)
        rw [← EReal.coe_mul, ← Real.exp_add]
        congr 2
        ring

theorem exp_sub_nonneg_ne_top {M m : EReal} (h : M ≤ m) : 0 ≤ Ideal.exp (M - m) ∧ Ideal.exp (M - m) ≠ ⊤ := by
  induction M with
  | bot => rw [EReal.bot_sub]; exact ⟨le_refl _, EReal.zero_ne_top⟩
  | top =>
    rw [top_le_iff] at h
    subst h
    rw [EReal.sub_top]
    exact ⟨le_refl _, EReal.zero_ne_top⟩
  | coe M =>
    induction m with
    | bot => exact absurd h (by simp)
    | top => rw [EReal.sub_top]; exact ⟨le_refl _, EReal.zero_ne_top⟩
    | coe m => exact ⟨EReal.coe_nonneg.mpr (Real.exp_pos _).le, EReal.coe_ne_top _⟩

/-- A finite nonnegative factor goes into a sum. -/
theorem mul_sum' {n : ℕ} (x : EReal) (h0 : 0 ≤ x) (ht : x ≠ ⊤) (f : Fin n → EReal) : x * ∑ s, f s = ∑ s, x * f s := by
  classical
  refine Finset.induction_on (Finset.univ : Finset (Fin n)) ?_ fun a S ha ih => ?_
  · rw [Finset.sum_empty, Finset.sum_empty, mul_zero]
  · rw [Finset.sum_insert ha, Finset.sum_insert ha, EReal.left_distrib_of_nonneg_of_ne_top h0 ht, ih]

/-- A sum scaled by its own maximum, scaled by a larger one. -/
theorem rescale {n : ℕ} (d a c : Fin n → EReal) (m : EReal) (h : top d ≤ m) :
    Ideal.exp (top d - m) * ∑ s, (a s * Ideal.exp (d s - top d)) * c s = ∑ s, (a s * Ideal.exp (d s - m)) * c s := by
  have hx := exp_sub_nonneg_ne_top h
  rw [mul_sum' _ hx.1 hx.2]
  refine Finset.sum_congr rfl fun s _ => ?_
  rw [← exp_mul_exp (le_top' d s) h, ← mul_assoc, mul_left_comm]

/-! ## The gates -/

/-- The logarithm of the logistic function. -/
def logsig (p : EReal) : EReal := -(max (-p) 0 + Ideal.log1p (Ideal.exp (-max p (-p))))

theorem log1p_exp_ne_bot (x : EReal) : Ideal.log1p (Ideal.exp x) ≠ ⊥ := by
  unfold Ideal.log1p
  induction x with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (((1 : ℝ) : EReal) + ⊤) ≠ ⊥
    rw [EReal.coe_add_top]
    exact bot_lt_top.ne'
  | coe x =>
    show Ideal.log (((1 : ℝ) : EReal) + ((Real.exp x : ℝ) : EReal)) ≠ ⊥
    rw [← EReal.coe_add]
    show (if (1 + Real.exp x : ℝ) ≤ 0 then (⊥ : EReal) else (Real.log (1 + Real.exp x) : EReal)) ≠ ⊥
    rw [if_neg (by have := Real.exp_pos x; linarith)]
    exact EReal.coe_ne_bot _

theorem logsig_eq (p : EReal) : min p 0 - Ideal.log1p (Ideal.exp (0 - max p (-p))) = logsig p := by
  unfold logsig
  have hz : (0 : EReal) - max p (-p) = -max p (-p) := by rw [sub_eq_add_neg, zero_add]
  rw [hz]
  have hm : min p 0 = -max (-p) 0 := by
    rcases le_total p 0 with h | h
    · rw [min_eq_left h, max_eq_left (EReal.neg_nonneg.mpr h), neg_neg]
    · rw [min_eq_right h, max_eq_right (by rw [EReal.neg_le, neg_zero]; exact h), neg_zero]
  rw [hm, EReal.neg_add (.inl (ne_of_gt (lt_of_lt_of_le EReal.bot_lt_zero (le_max_right _ _)))) (.inr (log1p_exp_ne_bot _))]

/-- The running sum. -/
def cum (f : Fin 128 → EReal) (t : Fin 128) : EReal := ∑ s, if s ≤ t then f s else 0

theorem foldl_add {α : Type*} (f : α → EReal) : ∀ (l : List α) (z : EReal), l.foldl (fun r n => r + f n) z = z + (l.map f).sum
  | [], z => by simp
  | a :: l, z => by
    rw [List.foldl_cons, foldl_add f l, List.map_cons, List.sum_cons, add_assoc]

/-- A window of 128 padded low by 127 is the running sum. -/
theorem window_cum (x : FVec Ideal ⟨3, ![4, 128, 128]⟩ .f32) (init : FVec Ideal ⟨0, ![]⟩ .f32) (hi : ∀ j, init j = 0) (h) (hu)
    (a : Fin 4) (b t : Fin 128) :
    Host.reduceWindowAdd (t := ⟨3, ![4, 128, 128]⟩) ![1, 1, 128] ![1, 1, 1] ![0, 0, 127] ![0, 0, 0] x init h hu (ix3 a b t)
      = cum (fun s => x (ix3 a b s)) t := by
  have hn : (⟨3, ![1, 1, 128]⟩ : Shape).numel = 128 := by decide
  have hp : ∀ (n : Fin (⟨3, ![1, 1, 128]⟩ : Shape).numel), (((⟨3, ![1, 1, 128]⟩ : Shape).rowMajor.symm n) 0 : ℕ) = 0
      ∧ (((⟨3, ![1, 1, 128]⟩ : Shape).rowMajor.symm n) 1 : ℕ) = 0 ∧ (((⟨3, ![1, 1, 128]⟩ : Shape).rowMajor.symm n) 2 : ℕ) = n.val := by
    intro n
    have e := Shape.rowMajor_val_three ((⟨3, ![1, 1, 128]⟩ : Shape).rowMajor.symm n)
    rw [Equiv.apply_symm_apply] at e
    have h0 : (((⟨3, ![1, 1, 128]⟩ : Shape).rowMajor.symm n) 0 : ℕ) < 1 := (((⟨3, ![1, 1, 128]⟩ : Shape).rowMajor.symm n) 0).isLt
    have h1 : (((⟨3, ![1, 1, 128]⟩ : Shape).rowMajor.symm n) 1 : ℕ) < 1 := (((⟨3, ![1, 1, 128]⟩ : Shape).rowMajor.symm n) 1).isLt
    have h0' : (((⟨3, ![1, 1, 128]⟩ : Shape).rowMajor.symm n) 0 : ℕ) = 0 := by omega
    have h1' : (((⟨3, ![1, 1, 128]⟩ : Shape).rowMajor.symm n) 1 : ℕ) = 0 := by omega
    refine ⟨h0', h1', ?_⟩
    rw [h0', h1'] at e
    rw [e]
    simp
  show Ideal.hostReduceWindowAdd ![1, 1, 128] ![1, 1, 1] ![0, 0, 127] ![0, 0, 0] h x (init _) (ix3 a b t) = _
  unfold Ideal.hostReduceWindowAdd Host.reduceWindow
  dsimp only
  rw [hi]
  rw [foldl_add, zero_add, ← Fin.sum_univ_def]
  have hlt : ∀ n : Fin (⟨3, ![1, 1, 128]⟩ : Shape).numel, n.val < 128 := fun n => n.isLt.trans_eq hn
  refine (Finset.sum_congr rfl (g := fun n : Fin (⟨3, ![1, 1, 128]⟩ : Shape).numel =>
    if hle : 127 ≤ t.val + n.val then x (ix3 a b ⟨t.val + n.val - 127, by have := t.isLt; have := hlt n; omega⟩) else 0) fun n _ => ?_).trans ?_
  · obtain ⟨e0, e1, e2⟩ := hp n
    by_cases hle : 127 ≤ t.val + n.val
    · have hin : ∀ i : Fin 3, ![0, 0, 127] i ≤ (ix3 a b t (Fin.cast rfl i)).val * ![1, 1, 1] i + ((⟨3, ![1, 1, 128]⟩ : Shape).rowMajor.symm n i).val
          ∧ (ix3 a b t (Fin.cast rfl i)).val * ![1, 1, 1] i + ((⟨3, ![1, 1, 128]⟩ : Shape).rowMajor.symm n i).val - ![0, 0, 127] i < ![4, 128, 128] i := by
        intro i
        match i with
        | 0 =>
          show 0 ≤ a.val * 1 + ((⟨3, ![1, 1, 128]⟩ : Shape).rowMajor.symm n 0).val ∧ a.val * 1 + ((⟨3, ![1, 1, 128]⟩ : Shape).rowMajor.symm n 0).val - 0 < 4
          rw [e0]; have := a.isLt; omega
        | 1 =>
          show 0 ≤ b.val * 1 + ((⟨3, ![1, 1, 128]⟩ : Shape).rowMajor.symm n 1).val ∧ b.val * 1 + ((⟨3, ![1, 1, 128]⟩ : Shape).rowMajor.symm n 1).val - 0 < 128
          rw [e1]; have := b.isLt; omega
        | 2 =>
          show 127 ≤ t.val * 1 + ((⟨3, ![1, 1, 128]⟩ : Shape).rowMajor.symm n 2).val ∧ t.val * 1 + ((⟨3, ![1, 1, 128]⟩ : Shape).rowMajor.symm n 2).val - 127 < 128
          rw [e2]; have := t.isLt; have := hlt n; omega
      rw [dif_pos hle]
      refine (dif_pos hin).trans (congrArg x ?_)
      funext i
      match i with
      | 0 =>
        refine Fin.ext ?_
        show a.val * 1 + ((⟨3, ![1, 1, 128]⟩ : Shape).rowMajor.symm n 0).val - 0 = a.val
        rw [e0]; omega
      | 1 =>
        refine Fin.ext ?_
        show b.val * 1 + ((⟨3, ![1, 1, 128]⟩ : Shape).rowMajor.symm n 1).val - 0 = b.val
        rw [e1]; omega
      | 2 =>
        refine Fin.ext ?_
        show t.val * 1 + ((⟨3, ![1, 1, 128]⟩ : Shape).rowMajor.symm n 2).val - 127 = t.val + n.val - 127
        rw [e2]; omega
    · rw [dif_neg hle]
      refine dif_neg fun hin => hle ?_
      have h2 : 127 ≤ t.val * 1 + ((⟨3, ![1, 1, 128]⟩ : Shape).rowMajor.symm n 2).val := (hin 2).1
      rw [e2] at h2
      omega
  · unfold cum
    rw [← Finset.sum_filter_add_sum_filter_not Finset.univ (fun n : Fin (⟨3, ![1, 1, 128]⟩ : Shape).numel => 127 ≤ t.val + n.val),
      ← Finset.sum_filter]
    refine (congrArg₂ (· + ·) ?_ (Finset.sum_eq_zero fun n hn' => dif_neg (Finset.mem_filter.mp hn').2)).trans (add_zero _)
    · refine Finset.sum_bij' (fun n hn' => ⟨t.val + n.val - 127, by have := t.isLt; have := hlt n; omega⟩)
        (fun s hs => ⟨s.val + 127 - t.val, by rw [hn]; have : s ≤ t := (Finset.mem_filter.mp hs).2; have : s.val ≤ t.val := this; have := t.isLt; have := s.isLt; omega⟩) ?_ ?_ ?_ ?_ ?_
      · intro n hn'
        refine Finset.mem_filter.mpr ⟨Finset.mem_univ _, ?_⟩
        show t.val + n.val - 127 ≤ t.val
        have := hlt n; omega
      · intro s hs
        refine Finset.mem_filter.mpr ⟨Finset.mem_univ _, ?_⟩
        show 127 ≤ t.val + (s.val + 127 - t.val)
        have := t.isLt; omega
      · intro n hn'
        have h1 : 127 ≤ t.val + n.val := (Finset.mem_filter.mp hn').2
        refine Fin.ext ?_
        show t.val + n.val - 127 + 127 - t.val = n.val
        omega
      · intro s hs
        refine Fin.ext ?_
        show t.val + (s.val + 127 - t.val) - 127 = s.val
        have := t.isLt; omega
      · intro n hn'
        exact dif_pos (Finset.mem_filter.mp hn').2

/-! ## One chunk -/

section
variable (I B : Fin 128 → EReal) (m : EReal)

/-- How much row `s` weighs at row `t`, as a logarithm. -/
def dlog (t s : Fin 128) : EReal := if s ≤ t then (B t - B s) + I s else ⊥
/-- The same at the chunk's end. -/
def glog (s : Fin 128) : EReal := (B 127 - B s) + I s
/-- The running maximum at row `t`. -/
def rowMax (t : Fin 128) : EReal := max (B t + m) (top (dlog I B t))
/-- The running maximum after the chunk. -/
def nextMax : EReal := max (B 127 + m) (top (glog I B))

/-- The state's entry after the chunk; `k` and `v` are a column of the keys and one of the values. -/
def nextC (k v : Fin 128 → EReal) (C : EReal) : EReal :=
  Ideal.exp ((B 127 + m) - nextMax I B m) * C + ∑ s, (Ideal.exp (glog I B s - nextMax I B m) * k s) * v s
/-- The normaliser's entry after the chunk. -/
def nextN (k : Fin 128 → EReal) (n : EReal) : EReal :=
  Ideal.exp ((B 127 + m) - nextMax I B m) * n + ∑ s, Ideal.exp (glog I B s - nextMax I B m) * k s

/-- A query row against the chunk's keys, weighed. -/
def score (q : Fin 64 → EReal) (k : Fin 128 → Fin 64 → EReal) (t s : Fin 128) : EReal :=
  (∑ d, q d * k s d) * Ideal.exp (dlog I B t s - rowMax I B m t)
/-- One entry of a row's output. -/
def out (q : Fin 64 → EReal) (k : Fin 128 → Fin 64 → EReal) (v : Fin 128 → EReal) (C n : Fin 64 → EReal) (t : Fin 128) : EReal :=
  Ideal.div
    ((∑ s, score I B m q k t s * v s) + Ideal.exp ((B t + m) - rowMax I B m t) * ∑ d, q d * C d)
    (max (max ((∑ s, score I B m q k t s) + Ideal.exp ((B t + m) - rowMax I B m t) * ∑ d, q d * n d)
        (-((∑ s, score I B m q k t s) + Ideal.exp ((B t + m) - rowMax I B m t) * ∑ d, q d * n d)))
      (Ideal.exp (-rowMax I B m t)))
end

end Cert.MlstmAlg
-- ==== Proof.MlstmRef.lean ====
module
public import proofs.«01_k».proof.Proof.MlstmTrips
public import proofs.«01_k».proof.Proof.MlstmAlg
public import Idealize.ShloMosaic.Lib.DynamicIndex
/-! # One trip of the mLSTM reference

The reference's loop carries each head's matrix, normaliser and running maximum and keeps every chunk's
rows. Each is read here at an index, in terms of the chunk's input gates and running sums. -/
@[expose] public section
set_option maxRecDepth 16384
noncomputable section
open Idealize.ShloMosaic Idealize.ShloMosaic.TcCoe Idealize.SL.Sem
namespace Cert.MlstmRefIdeal.Trip
open Cert.MlstmRefIdeal Cert.MlstmRefIdeal.Gen Cert.MlstmRefIdeal.Step Cert.MlstmAlg

/-! ## A trip's slices -/

theorem s4_0 (ht : S1x4x128x64.rank = S128x4x128x64.rank) (n : Fin 128) (a b c : (⟨S_, .i32⟩ : BufTy).Contents (Elt Ideal)) :
    Host.clampedStart S128x4x128x64 S1x4x128x64 ht (fun k => (((![(constantI S_ 32 (BitVec.ofNat 32 n.val) : (⟨S_, .i32⟩ : BufTy).Contents (Elt Ideal)), a, b, c] : Fin 4 → (⟨S_, .i32⟩ : BufTy).Contents (Elt Ideal))) k (Shape.Idx.first h_S_)).toInt) 0 = n.val :=
  Host.clampedStart_of_le ht _ 0 n.val (toInt_ofNat_of_lt (by omega)) (show n.val + 1 ≤ 128 by omega)
theorem s4_1 (ht : S1x4x128x64.rank = S128x4x128x64.rank) (f : Fin 4 → Int) : Host.clampedStart S128x4x128x64 S1x4x128x64 ht f 1 = 0 := by
  show (min (max (f 1) 0) (0 : Int)).toNat = 0; omega
theorem s4_2 (ht : S1x4x128x64.rank = S128x4x128x64.rank) (f : Fin 4 → Int) : Host.clampedStart S128x4x128x64 S1x4x128x64 ht f 2 = 0 := by
  show (min (max (f 2) 0) (0 : Int)).toNat = 0; omega
theorem s4_3 (ht : S1x4x128x64.rank = S128x4x128x64.rank) (f : Fin 4 → Int) : Host.clampedStart S128x4x128x64 S1x4x128x64 ht f 3 = 0 := by
  show (min (max (f 3) 0) (0 : Int)).toNat = 0; omega
theorem s3_0 (ht : S1x4x128.rank = S128x4x128.rank) (n : Fin 128) (a b : (⟨S_, .i32⟩ : BufTy).Contents (Elt Ideal)) :
    Host.clampedStart S128x4x128 S1x4x128 ht (fun k => (((![(constantI S_ 32 (BitVec.ofNat 32 n.val) : (⟨S_, .i32⟩ : BufTy).Contents (Elt Ideal)), a, b] : Fin 3 → (⟨S_, .i32⟩ : BufTy).Contents (Elt Ideal))) k (Shape.Idx.first h_S_)).toInt) 0 = n.val :=
  Host.clampedStart_of_le ht _ 0 n.val (toInt_ofNat_of_lt (by omega)) (show n.val + 1 ≤ 128 by omega)
theorem s3_1 (ht : S1x4x128.rank = S128x4x128.rank) (f : Fin 3 → Int) : Host.clampedStart S128x4x128 S1x4x128 ht f 1 = 0 := by
  show (min (max (f 1) 0) (0 : Int)).toNat = 0; omega
theorem s3_2 (ht : S1x4x128.rank = S128x4x128.rank) (f : Fin 3 → Int) : Host.clampedStart S128x4x128 S1x4x128 ht f 2 = 0 := by
  show (min (max (f 2) 0) (0 : Int)).toNat = 0; omega

variable (s : State Ideal) (n : Fin 128) (h : Fin 4)

theorem q_apply (t : Fin 128) (d : Fin 64) : b4 n.val s (ix3 h t d) = s.main_v58_0 (ix4 n h t d) := by
  pointwise [b4, b3]
  simp only [s4_0, s4_1, s4_2, s4_3, Nat.zero_add]
theorem k_apply (t : Fin 128) (d : Fin 64) : b9 n.val s (ix3 h t d) = s.main_v58_1 (ix4 n h t d) := by
  pointwise [b9, b8]
  simp only [s4_0, s4_1, s4_2, s4_3, Nat.zero_add]
theorem v_apply (t : Fin 128) (d : Fin 64) : b14 n.val s (ix3 h t d) = s.main_v58_2 (ix4 n h t d) := by
  pointwise [b14, b13]
  simp only [s4_0, s4_1, s4_2, s4_3, Nat.zero_add]
theorem i_apply (t : Fin 128) : b18 n.val s (ix2 h t) = s.main_v58_3 (ix3 n h t) := by
  pointwise [b18, b17]
  simp only [s3_0, s3_1, s3_2, Nat.zero_add]
theorem b_apply (t : Fin 128) : b22 n.val s (ix2 h t) = s.main_v58_4 (ix3 n h t) := by
  pointwise [b22, b21]
  simp only [s3_0, s3_1, s3_2, Nat.zero_add]

/-- Head `h`'s input gates and running sums in a trip. -/
def I : Fin 128 → EReal := fun t => s.main_v58_3 (ix3 n h t)
def B : Fin 128 → EReal := fun t => s.main_v58_4 (ix3 n h t)

/-! ## The running maxima -/

theorem ninf : Ideal.ofBits .f32 0xFF800000#32 = ⊥ := by
  simp [Ideal.ofBits, Ideal.ieee]

theorem causal (t u : Fin 128) : K_main_v53 (F := Ideal) (ix2 t u) = if u ≤ t then 1#1 else 0#1 := by
  pointwise [K_main_v53, K_main_v52, K_main_v51, K_main_v50, K_main_v49, K_main_v48]
  have ht := toInt_ofNat_of_lt (show t.val < 2 ^ 31 by omega)
  have hu := toInt_ofNat_of_lt (show u.val < 2 ^ 31 by omega)
  show BitVec.ofBool ((BitVec.ofNat 32 u.val).sle (BitVec.ofNat 32 t.val)) = _
  unfold BitVec.sle
  rw [ht, hu]
  by_cases hc : u ≤ t
  · rw [if_pos hc, decide_eq_true (by exact_mod_cast hc)]; rfl
  · rw [if_neg hc, decide_eq_false (by exact_mod_cast hc)]; rfl

theorem dlog_apply (t u : Fin 128) : b35 n.val s (ix3 h t u) = dlog (I s n h) (B s n h) t u := by
  pointwise [b35, b34, b33, b32, b31, b30, b29, b28, b27, b26, b25, b24, b23]
  rw [causal, i_apply, b_apply, b_apply, ninf]
  unfold dlog I B
  split
  · rfl
  · rfl
theorem inter_apply (t : Fin 128) : b38 n.val s (ix2 h t) = B s n h t + s.main_v58_9 (ix1 h) := by
  pointwise [b38, b37, b36]
  rw [b_apply]; rfl
theorem rowMax_apply (t : Fin 128) : b41 n.val s (ix2 h t) = rowMax (I s n h) (B s n h) (s.main_v58_9 (ix1 h)) t := by
  pointwise [b41, b40, b39]
  rw [inter_apply, ninf]
  simp only [dlog_apply]
  rfl
theorem last_apply : b69 n.val s (ix1 h) = B s n h 127 := by
  pointwise [b69, b68]
  rw [b_apply]; rfl
theorem glog_apply (t : Fin 128) : b73 n.val s (ix2 h t) = glog (I s n h) (B s n h) t := by
  pointwise [b73, b72, b71, b70]
  rw [last_apply, i_apply, b_apply]; rfl
theorem nextMax_apply : b77 n.val s (ix1 h) = nextMax (I s n h) (B s n h) (s.main_v58_9 (ix1 h)) := by
  pointwise [b77, b76, b75, b74]
  rw [last_apply, ninf]
  simp only [glog_apply]
  rfl

/-! ## The matrix and the normaliser -/

theorem decay_apply : b80 n.val s (ix1 h) = Ideal.exp (B s n h 127 + s.main_v58_9 (ix1 h) - nextMax (I s n h) (B s n h) (s.main_v58_9 (ix1 h))) := by
  pointwise [b80, b79, b78]
  rw [nextMax_apply, last_apply]
theorem wgt_apply (t : Fin 128) : b84 n.val s (ix2 h t) = Ideal.exp (glog (I s n h) (B s n h) t - nextMax (I s n h) (B s n h) (s.main_v58_9 (ix1 h))) := by
  pointwise [b84, b83, b82, b81]
  rw [nextMax_apply, glog_apply]
theorem nextC_apply (d e : Fin 64) : b92 n.val s (ix3 h d e)
    = nextC (I s n h) (B s n h) (s.main_v58_9 (ix1 h)) (fun t => s.main_v58_1 (ix4 n h t d)) (fun t => s.main_v58_2 (ix4 n h t e)) (s.main_v58_7 (ix3 h d e)) := by
  pointwise [b92, b91, b90, b89, b88, b87, b86, b85]
  rw [decay_apply]
  simp only [wgt_apply, k_apply, v_apply]
  rfl
theorem nextN_apply (d : Fin 64) : b97 n.val s (ix2 h d)
    = nextN (I s n h) (B s n h) (s.main_v58_9 (ix1 h)) (fun t => s.main_v58_1 (ix4 n h t d)) (s.main_v58_8 (ix2 h d)) := by
  pointwise [b97, b96, b95, b94, b93]
  rw [decay_apply]
  simp only [wgt_apply, k_apply]
  rfl

/-! ## The rows -/

theorem score_apply (t u : Fin 128) : b49 n.val s (ix3 h t u)
    = score (I s n h) (B s n h) (s.main_v58_9 (ix1 h)) (fun d => s.main_v58_0 (ix4 n h t d)) (fun u d => s.main_v58_1 (ix4 n h u d)) t u := by
  pointwise [b49, b48, b45, b44, b43, b42]
  rw [dlog_apply, rowMax_apply]
  simp only [q_apply, k_apply]
  rfl
theorem inw_apply (t : Fin 128) : b47 n.val s (ix2 h t) = Ideal.exp (B s n h t + s.main_v58_9 (ix1 h) - rowMax (I s n h) (B s n h) (s.main_v58_9 (ix1 h)) t) := by
  pointwise [b47, b46]
  rw [inter_apply, rowMax_apply]
theorem num_apply (t : Fin 128) (e : Fin 64) : b55 n.val s (ix3 h t e)
    = (∑ u, score (I s n h) (B s n h) (s.main_v58_9 (ix1 h)) (fun d => s.main_v58_0 (ix4 n h t d)) (fun u d => s.main_v58_1 (ix4 n h u d)) t u * s.main_v58_2 (ix4 n h u e))
      + Ideal.exp (B s n h t + s.main_v58_9 (ix1 h) - rowMax (I s n h) (B s n h) (s.main_v58_9 (ix1 h)) t) * ∑ d, s.main_v58_0 (ix4 n h t d) * s.main_v58_7 (ix3 h d e) := by
  pointwise [b55, b54, b53, b52, b51, b50]
  rw [inw_apply]
  simp only [score_apply, q_apply, v_apply]
theorem den_apply (t : Fin 128) : b60 n.val s (ix2 h t)
    = (∑ u, score (I s n h) (B s n h) (s.main_v58_9 (ix1 h)) (fun d => s.main_v58_0 (ix4 n h t d)) (fun u d => s.main_v58_1 (ix4 n h u d)) t u)
      + Ideal.exp (B s n h t + s.main_v58_9 (ix1 h) - rowMax (I s n h) (B s n h) (s.main_v58_9 (ix1 h)) t) * ∑ d, s.main_v58_0 (ix4 n h t d) * s.main_v58_8 (ix2 h d) := by
  pointwise [b60, b59, b58, b57, b56]
  rw [inw_apply]
  simp only [score_apply, q_apply]
theorem out_apply (t : Fin 128) (e : Fin 64) : b67 n.val s (ix3 h t e)
    = out (I s n h) (B s n h) (s.main_v58_9 (ix1 h)) (fun d => s.main_v58_0 (ix4 n h t d)) (fun u d => s.main_v58_1 (ix4 n h u d)) (fun u => s.main_v58_2 (ix4 n h u e))
        (fun d => s.main_v58_7 (ix3 h d e)) (fun d => s.main_v58_8 (ix2 h d)) t := by
  pointwise [b67, b66, b65, b64, b63, b62, b61]
  rw [num_apply, den_apply, rowMax_apply]
  rfl

theorem kept_apply (j : Fin 128) (t : Fin 128) (e : Fin 64) :
    b102 n.val s (ix4 j h t e) = if j = n then b67 n.val s (ix3 h t e) else s.main_v58_10 (ix4 j h t e) := by
  pointwise [b102, b98]
  simp only [s4_0, s4_1, s4_2, s4_3]
  by_cases hj : j = n
  · subst hj
    rw [if_pos rfl, dif_pos ⟨⟨le_rfl, by omega⟩, by omega⟩]
    congr 1
  · rw [if_neg hj, dif_neg]
    rintro ⟨⟨h1, h2⟩, -⟩
    exact hj (Fin.ext (by omega))

end Cert.MlstmRefIdeal.Trip
-- ==== Proof.MlstmBody.lean ====
module
public import proofs.«01_k».proof.Proof.Gen.MlstmIdeal.Value
public import Idealize.ShloMosaic.Lib.Pipeline.ReadBack
public import Idealize.ShloMosaic.Lib.Pipeline.ValueKit.Tiles
public import Idealize.ShloMosaic.Lib.ValueIdx
public import Idealize.ShloMosaic.Lib.ValueLayout
public import Idealize.ShloMosaic.Lib.Tactic
/-! # What one grid point of the mLSTM kernel computes

A grid point takes four chunks of 128 rows, and in each the two pairs of heads (128 lanes each). What a chunk
contributes by itself does not depend on the carried state; then the state and its running maximum step from
chunk to chunk. Here the point's stores are written as functions of its blocks and of what is carried in. -/
@[expose] public section
set_option maxRecDepth 16384
noncomputable section
open Idealize.ShloMosaic Idealize.ShloMosaic.TcCoe Idealize.ShloMosaic.ValueIdx Idealize.SL.Sem
open Idealize.ShloMosaic.Pipeline (Dat)
namespace Cert.MlstmIdeal.Body
open Cert.MlstmIdeal Cert.MlstmIdeal.Gen
variable {F : FTy → Type} [FloatOps F]

/-! ## The scores buffer: a load meets the one store of its slot -/

theorem scores_skip (v : View sig .tc .vmem S16x128x128 .f32) (i j : ℕ) (hi hj) (w) (L) (h : i ≠ j) :
    v.readCov (Val := Elt F) (⟨Rect.unit ![i, 0, 0] ![1, 128, 128] hi, w⟩ :: L) (Rect.unit ![j, 0, 0] ![1, 128, 128] hj).toLoadRect
      = v.readCov L (Rect.unit ![j, 0, 0] ![1, 128, 128] hj).toLoadRect := by
  rw [View.readCov_eq_canon', View.readCov_eq_canon']
  funext x
  refine View.canon_cons_of_not_mem _ L fun hm => h ?_
  have h0 := (Rect.mem_set_unit (s := S16x128x128) (off := ![i, 0, 0]) (size := ![1, 128, 128]) (inb := hi).mp hm) 0
  have hx : (((Rect.unit (s := S16x128x128) ![j, 0, 0] ![1, 128, 128] hj).toLoadRect.idx x) 0 : ℕ) = j + 1 * (x 0 : ℕ) := rfl
  have h1 : (x 0 : ℕ) < 1 := (x 0).isLt
  have h2 : i ≤ j + 1 * (x 0 : ℕ) ∧ j + 1 * (x 0 : ℕ) < i + 1 := hx ▸ h0
  omega

theorem scores_hit (v : View sig .tc .vmem S16x128x128 .f32) (j : ℕ) (hi hj) (w) (L) :
    v.readCov (Val := Elt F) (⟨Rect.unit ![j, 0, 0] ![1, 128, 128] hi, w⟩ :: L) (Rect.unit ![j, 0, 0] ![1, 128, 128] hj).toLoadRect
      = w :=
  View.readCov_cons_toLoadRect v _ w L

/-! ## One chunk by itself -/

/-- A column of a square. -/
def col (x : FVec F S128x128 .f32) : ℕ → FVec F S128x1 .f32
  | 0 => extractStridedSlice S128x1 ![0, 0] x slices_S128x128_o0_0_S128x1
  | 1 => extractStridedSlice S128x1 ![0, 1] x slices_S128x128_o0_1_S128x1
  | 2 => extractStridedSlice S128x1 ![0, 2] x slices_S128x128_o0_2_S128x1
  | 3 => extractStridedSlice S128x1 ![0, 3] x slices_S128x128_o0_3_S128x1
  | 4 => extractStridedSlice S128x1 ![0, 4] x slices_S128x128_o0_4_S128x1
  | 5 => extractStridedSlice S128x1 ![0, 5] x slices_S128x128_o0_5_S128x1
  | 6 => extractStridedSlice S128x1 ![0, 6] x slices_S128x128_o0_6_S128x1
  | _ => extractStridedSlice S128x1 ![0, 7] x slices_S128x128_o0_7_S128x1
/-- A row of a square. -/
def row (x : FVec F S128x128 .f32) : ℕ → FVec F S1x128 .f32
  | 0 => extractStridedSlice S1x128 ![0, 0] x slices_S128x128_o0_0_S1x128
  | 1 => extractStridedSlice S1x128 ![1, 0] x slices_S128x128_o1_0_S1x128
  | 2 => extractStridedSlice S1x128 ![2, 0] x slices_S128x128_o2_0_S1x128
  | 3 => extractStridedSlice S1x128 ![3, 0] x slices_S128x128_o3_0_S1x128
  | 4 => extractStridedSlice S1x128 ![4, 0] x slices_S128x128_o4_0_S1x128
  | 5 => extractStridedSlice S1x128 ![5, 0] x slices_S128x128_o5_0_S1x128
  | 6 => extractStridedSlice S1x128 ![6, 0] x slices_S128x128_o6_0_S1x128
  | _ => extractStridedSlice S1x128 ![7, 0] x slices_S128x128_o7_0_S1x128

/-- Head `n`'s input gates down the chunk's rows. -/
def iC (n : ℕ) (G : Vec F S128x128 .f32) (B : Vec F S1x128 .f32) : FVec F S128x1 .f32 := col (k0_pay39 G B) n
/-- Head `n`'s forget gates' running sums down the chunk's rows. -/
def bC (n : ℕ) (G : Vec F S128x128 .f32) (B : Vec F S1x128 .f32) : FVec F S128x1 .f32 := col (k0_pay40 k0_pay17 G B) (4 + n)
/-- Between two rows, the difference of the running sums. -/
def dB (n : ℕ) (G : Vec F S128x128 .f32) (B : Vec F S1x128 .f32) : FVec F S128x128 .f32 :=
  subf (broadcastTo S128x128 (bC n G B) broadcasts_S128x1_S128x128) (broadcastTo S128x128 (row (k0_pay42 k0_pay17 G B) (4 + n)) broadcasts_S1x128_S128x128)
/-- The input gates along the columns. -/
def dI (n : ℕ) (G : Vec F S128x128 .f32) (B : Vec F S1x128 .f32) : FVec F S128x128 .f32 :=
  broadcastTo S128x128 (row (k0_pay41 G B) n) broadcasts_S1x128_S128x128
/-- The lanes of the pair's first and second head. -/
def in0 : IVec S128x128 1 := k0_pay51 k0_pay5
def in1 : IVec S128x128 1 := k0_pay70 k0_pay5
def ln0 : IVec S1x128 1 := k0_pay52 k0_pay6
def ln1 : IVec S1x128 1 := k0_pay71 k0_pay6

/-- The chunk's scaled scores against the values, lane by lane. -/
def numL (t : ℕ) (q k v : Vec F S128x128 .bf16) (G : Vec F S128x128 .f32) (B : Vec F S1x128 .f32) : FVec F S128x128 .f32 :=
  k0_pay60 k0_pay16 (k0_pay43 k0_pay18 v) (k0_pay60 k0_pay16 (k0_pay43 k0_pay18 v) k0_pay44 in0 (dB (2 * t) G B) (dI (2 * t) G B) (k0_pay19 k0_pay5 q k))
    in1 (dB (2 * t + 1) G B) (dI (2 * t + 1) G B) (k0_pay20 k0_pay5 q k)
/-- The chunk's scaled scores summed. -/
def denL (t : ℕ) (q k v : Vec F S128x128 .bf16) (G : Vec F S128x128 .f32) (B : Vec F S1x128 .f32) : FVec F S128x128 .f32 :=
  k0_pay61 k0_pay16 (k0_pay43 k0_pay18 v) (k0_pay61 k0_pay16 (k0_pay43 k0_pay18 v) k0_pay45 in0 (dB (2 * t) G B) (dI (2 * t) G B) (k0_pay19 k0_pay5 q k))
    in1 (dB (2 * t + 1) G B) (dI (2 * t + 1) G B) (k0_pay20 k0_pay5 q k)
/-- The chunk's own maximum at each row. -/
def maxL (t : ℕ) (G : Vec F S128x128 .f32) (B : Vec F S1x128 .f32) : FVec F S128x128 .f32 :=
  k0_pay62 k0_pay16 (k0_pay62 k0_pay16 k0_pay46 in0 (dB (2 * t) G B) (dI (2 * t) G B)) in1 (dB (2 * t + 1) G B) (dI (2 * t + 1) G B)
/-- The running sums, lane by lane. -/
def sumL (t : ℕ) (G : Vec F S128x128 .f32) (B : Vec F S1x128 .f32) : FVec F S128x128 .f32 :=
  k0_pay63 (k0_pay63 k0_pay47 in0 (bC (2 * t) G B)) in1 (bC (2 * t + 1) G B)
/-- How much each row adds to the state, lane by lane. -/
def wgtL (t : ℕ) (G : Vec F S128x128 .f32) (B : Vec F S1x128 .f32) : FVec F S128x128 .f32 :=
  k0_pay67 (k0_pay67 k0_pay48 in0 (iC (2 * t) G B) (bC (2 * t) G B)) in1 (iC (2 * t + 1) G B) (bC (2 * t + 1) G B)
/-- The largest of the rows' logarithms, lane by lane. -/
def topL (t : ℕ) (G : Vec F S128x128 .f32) (B : Vec F S1x128 .f32) : FVec F S1x128 .f32 :=
  k0_pay68 (k0_pay68 k0_pay49 ln0 (iC (2 * t) G B) (bC (2 * t) G B)) ln1 (iC (2 * t + 1) G B) (bC (2 * t + 1) G B)
/-- The whole chunk's forget sum, lane by lane. -/
def endL (t : ℕ) (G : Vec F S128x128 .f32) (B : Vec F S1x128 .f32) : FVec F S1x128 .f32 :=
  k0_pay69 (k0_pay69 k0_pay50 ln0 (bC (2 * t) G B)) ln1 (bC (2 * t + 1) G B)

/-- The row's head of a row and a lane of the state: whether they are the same. -/
def same : IVec S128x256 1 :=
  k0_pay15 (k0_pay9 (iota .tc S128x256 32 [0] iota_S128x256_d0_w32) 64#32 k0_pay7 k0_pay8
    (Scalar.subi (Scalar.extui (Scalar.cmpi .sgt 64#32 0#32)) (Scalar.extui (Scalar.cmpi .slt 64#32 0#32)))) k0_pay11 k0_pay12 k0_pay13 k0_pay14

/-- The weighted keys against the values and ones, inside each head. -/
def kvL (t : ℕ) (k v : Vec F S128x128 .bf16) (G : Vec F S128x128 .f32) (B : Vec F S1x128 .f32) : FVec F S128x256 .f32 :=
  select same (matmul dot_S128x128_S128x256_S128x256_0_0_1_1_n_n none (truncf .bf16 (mulf (extf .f32 k bitsLt_bf16_f32) (wgtL t G B)) bitsLt_bf16_f32)
    (k0_pay43 k0_pay18 v) (constant S128x256 .f32 0x00000000#32)) (broadcast S128x256 (Scalar.ofBits .f32 0x00000000#32))

/-! ## The carried state -/

/-- The running maximum after a chunk. -/
def nextM (t : ℕ) (G : Vec F S128x128 .f32) (B : Vec F S1x128 .f32) (M : FVec F S1x128 .f32) : FVec F S1x128 .f32 :=
  k0_pay409 (topL t G B) (endL t G B) M
/-- The state after a chunk. -/
def nextS (t : ℕ) (k v : Vec F S128x128 .bf16) (G : Vec F S128x128 .f32) (B : Vec F S1x128 .f32) (M : FVec F S1x128 .f32) (S : FVec F S128x256 .f32) :
    FVec F S128x256 .f32 :=
  k0_pay410 (topL t G B) (endL t G B) (kvL t k v G B) M S
/-- A chunk's rows: what it contributes itself with the state read through the queries, divided by its norm. -/
def mix (t : ℕ) (q k v : Vec F S128x128 .bf16) (G : Vec F S128x128 .f32) (B : Vec F S1x128 .f32) (M : FVec F S1x128 .f32) (S : FVec F S128x256 .f32) :
    FVec F S128x128 .f32 :=
  k0_pay408 (numL t q k v G B) (denL t q k v G B) (maxL t G B) (sumL t G B) M S q
/-- The output gate applied. -/
def gate (y : FVec F S128x128 .f32) (o : Vec F S128x128 .bf16) : FVec F S128x128 .f32 :=
  mulf y (logistic (extf .f32 o bitsLt_bf16_f32))
/-- What a chunk stores: its gated rows normalised head by head, weighted, and gated again. -/
def emit (y : FVec F S128x128 .f32) (g : Vec F S128x128 .bf16) (w : Vec F S1x128 .f32) : FVec F S128x128 .bf16 :=
  k0_pay407 g (k0_pay403 k0_pay5 y (Scalar.ofBits .f32 0x00000000#32)) (k0_pay404 k0_pay5 y (Scalar.ofBits .f32 0x00000000#32)) (k0_pay405 k0_pay5)
    (k0_pay406 k0_pay5 y (Scalar.ofBits .f32 0x00000000#32)) w

/-! ## The blocks a chunk reads -/

/-- Rows of chunk `c`, lanes from `l`. -/
def blk (x : Vec F S512x1280 .bf16) (c l : ℕ) : Vec F S128x128 .bf16 :=
  fun i => x (ix2 (Fin.ofNat 512 (128 * c + (i 0).val)) (Fin.ofNat 1280 (l + (i 1).val)))
/-- The gates of chunk `c`. -/
def gat (x : Vec F S512x128 .f32) (c : ℕ) : Vec F S128x128 .f32 :=
  fun i => x (ix2 (Fin.ofNat 512 (128 * c + (i 0).val)) (i 1))
/-- One pair's state. -/
def cell (x : Vec F S2x128x256 .f32) (t : ℕ) : Vec F S1x128x256 .f32 := fun i => x (ix3 (Fin.ofNat 2 t) (i 1) (i 2))
/-- One pair's running maximum. -/
def mcell (x : Vec F S2x1x128 .f32) (t : ℕ) : Vec F S1x1x128 .f32 := fun i => x (ix3 (Fin.ofNat 2 t) (i 1) (i 2))
/-- One pair's weights. -/
def part (x : Vec F S1x256 .f32) (l : ℕ) : Vec F S1x128 .f32 := fun i => x (ix2 0 (Fin.ofNat 256 (l + (i 1).val)))

theorem ld_blk (x : Vec F S512x1280 .bf16) (r c l : ℕ) (h) (hr : r = 128 * c) :
    View.ld x (Rect.unit ![r, l] ![128, 128] h) = blk x c l := by
  subst hr
  funext i
  refine View.ld_unit_apply_of x _ _ h i _ fun a => ?_
  have h0 : 128 * c + 128 ≤ 512 := h 0
  have h1 : l + 128 ≤ 1280 := h 1
  have i0 : (i 0 : ℕ) < 128 := (i 0).isLt
  have i1 : (i 1 : ℕ) < 128 := (i 1).isLt
  match a with
  | 0 => exact Nat.mod_eq_of_lt (by omega)
  | 1 => exact Nat.mod_eq_of_lt (by omega)

theorem ld_gat (x : Vec F S512x128 .f32) (r c : ℕ) (h) (hr : r = 128 * c) :
    View.ld x (Rect.unit ![r, 0] ![128, 128] h) = gat x c := by
  subst hr
  funext i
  refine View.ld_unit_apply_of x _ _ h i _ fun a => ?_
  have h0 : 128 * c + 128 ≤ 512 := h 0
  have i0 : (i 0 : ℕ) < 128 := (i 0).isLt
  match a with
  | 0 => exact Nat.mod_eq_of_lt (by omega)
  | 1 => exact (Nat.zero_add _).symm

theorem ld_bias (x : Vec F S1x128 .f32) (h) : View.ld x (Rect.unit ![0, 0] ![1, 128] h) = x := by
  funext i
  refine View.ld_unit_apply_of x _ _ h i _ fun a => ?_
  match a with
  | 0 => exact (Nat.zero_add _).symm
  | 1 => exact (Nat.zero_add _).symm

theorem ld_cell (x : Vec F S2x128x256 .f32) (t : ℕ) (h) :
    View.ld x (Rect.unit ![t, 0, 0] ![1, 128, 256] h) = cell x t := by
  funext i
  refine View.ld_unit_apply_of x _ _ h i _ fun a => ?_
  have h0 : t + 1 ≤ 2 := h 0
  have i0 : (i 0 : ℕ) < 1 := (i 0).isLt
  match a with
  | 0 => exact (Nat.mod_eq_of_lt (show t < 2 by omega)).trans (show t = t + (i 0).val by omega)
  | 1 => exact (Nat.zero_add _).symm
  | 2 => exact (Nat.zero_add _).symm

theorem ld_mcell (x : Vec F S2x1x128 .f32) (t : ℕ) (h) :
    View.ld x (Rect.unit ![t, 0, 0] ![1, 1, 128] h) = mcell x t := by
  funext i
  refine View.ld_unit_apply_of x _ _ h i _ fun a => ?_
  have h0 : t + 1 ≤ 2 := h 0
  have i0 : (i 0 : ℕ) < 1 := (i 0).isLt
  match a with
  | 0 => exact (Nat.mod_eq_of_lt (show t < 2 by omega)).trans (show t = t + (i 0).val by omega)
  | 1 => exact (Nat.zero_add _).symm
  | 2 => exact (Nat.zero_add _).symm

theorem ld_part (x : Vec F S1x256 .f32) (l : ℕ) (h) :
    View.ld x (Rect.unit ![0, l] ![1, 128] h) = part x l := by
  funext i
  refine View.ld_unit_apply_of x _ _ h i _ fun a => ?_
  have h1 : l + 128 ≤ 256 := h 1
  have i0 : (i 0 : ℕ) < 1 := (i 0).isLt
  have i1 : (i 1 : ℕ) < 128 := (i 1).isLt
  match a with
  | 0 => exact show 0 = 0 + (i 0).val by omega
  | 1 => exact Nat.mod_eq_of_lt (by omega)

attribute [local irreducible] blk gat cell mcell part

/-! ## The point -/

/-- The carried maximum of pair `t` after `c` of the point's chunks. -/
def mN (x1 : Vec F S512x128 .f32) (x2 : Vec F S1x128 .f32) (ms : Vec F S2x1x128 .f32) (t : ℕ) : ℕ → FVec F S1x128 .f32
  | 0 => k0_pay399 (mcell ms t)
  | c + 1 => nextM t (gat x1 c) x2 (mN x1 x2 ms t c)

/-- The carried state of pair `t` after `c` of the point's chunks. -/
def stN (x0 : Vec F S512x1280 .bf16) (x1 : Vec F S512x128 .f32) (x2 : Vec F S1x128 .f32) (xs : Vec F S2x128x256 .f32) (ms : Vec F S2x1x128 .f32) (t : ℕ) : ℕ → FVec F S128x256 .f32
  | 0 => k0_pay398 (cell xs t)
  | c + 1 => nextS t (blk x0 c (256 + 128 * t)) (blk x0 c (512 + 128 * t)) (gat x1 c) x2 (mN x1 x2 ms t c) (stN x0 x1 x2 xs ms t c)

/-- What is stored for pair `t` of chunk `c`. -/
def outN (x0 : Vec F S512x1280 .bf16) (x1 : Vec F S512x128 .f32) (x2 : Vec F S1x128 .f32) (x3 : Vec F S1x256 .f32) (xs : Vec F S2x128x256 .f32) (ms : Vec F S2x1x128 .f32) (t c : ℕ) : FVec F S128x128 .bf16 :=
  emit (gate (mix t (blk x0 c (128 * t)) (blk x0 c (256 + 128 * t)) (blk x0 c (512 + 128 * t)) (gat x1 c) x2 (mN x1 x2 ms t c) (stN x0 x1 x2 xs ms t c))
      (blk x0 c (768 + 128 * t)))
    (blk x0 c (1024 + 128 * t)) (part x3 (128 * t))

/-- The output block of a point. -/
def outB (x0 : Vec F S512x1280 .bf16) (x1 : Vec F S512x128 .f32) (x2 : Vec F S1x128 .f32) (x3 : Vec F S1x256 .f32) (xs : Vec F S2x128x256 .f32) (ms : Vec F S2x1x128 .f32) : Vec F S512x256 .bf16 :=
  fun y => outN x0 x1 x2 x3 xs ms ((y 1).val / 128) ((y 0).val / 128) (ix2 (Fin.ofNat 128 (y 0).val) (Fin.ofNat 128 (y 1).val))

/-- The state a point leaves. -/
def stB (x0 : Vec F S512x1280 .bf16) (x1 : Vec F S512x128 .f32) (x2 : Vec F S1x128 .f32) (xs : Vec F S2x128x256 .f32) (ms : Vec F S2x1x128 .f32) : Vec F S2x128x256 .f32 :=
  fun y => stN x0 x1 x2 xs ms (y 0).val 4 (ix2 (y 1) (y 2))

/-- The maximum a point leaves. -/
def mB (x1 : Vec F S512x128 .f32) (x2 : Vec F S1x128 .f32) (ms : Vec F S2x1x128 .f32) : Vec F S2x1x128 .f32 :=
  fun y => mN x1 x2 ms (y 0).val 4 (ix2 (y 1) (y 2))

/-- The stores a point makes into its output block, last first. -/
def outL (x0 : Vec F S512x1280 .bf16) (x1 : Vec F S512x128 .f32) (x2 : Vec F S1x128 .f32) (x3 : Vec F S1x256 .f32) (xs : Vec F S2x128x256 .f32) (ms : Vec F S2x1x128 .f32) : List (View.Piece (Elt F) S512x256 .bf16) := [
    ⟨Rect.unit ![384, 128] ![128, 128] inb_S512x256_S128x128_384_128, outN x0 x1 x2 x3 xs ms 1 3⟩,
    ⟨Rect.unit ![256, 128] ![128, 128] inb_S512x256_S128x128_256_128, outN x0 x1 x2 x3 xs ms 1 2⟩,
    ⟨Rect.unit ![128, 128] ![128, 128] inb_S512x256_S128x128_128_128, outN x0 x1 x2 x3 xs ms 1 1⟩,
    ⟨Rect.unit ![0, 128] ![128, 128] inb_S512x256_S128x128_0_128, outN x0 x1 x2 x3 xs ms 1 0⟩,
    ⟨Rect.unit ![384, 0] ![128, 128] inb_S512x256_S128x128_384_0, outN x0 x1 x2 x3 xs ms 0 3⟩,
    ⟨Rect.unit ![256, 0] ![128, 128] inb_S512x256_S128x128_256_0, outN x0 x1 x2 x3 xs ms 0 2⟩,
    ⟨Rect.unit ![128, 0] ![128, 128] inb_S512x256_S128x128_128_0, outN x0 x1 x2 x3 xs ms 0 1⟩,
    ⟨Rect.unit ![0, 0] ![128, 128] inb_S512x256_S128x128_0_0, outN x0 x1 x2 x3 xs ms 0 0⟩]

/-- The stores a point makes into the carried state, last first. -/
def stL (x0 : Vec F S512x1280 .bf16) (x1 : Vec F S512x128 .f32) (x2 : Vec F S1x128 .f32) (xs : Vec F S2x128x256 .f32) (ms : Vec F S2x1x128 .f32) : List (View.Piece (Elt F) S2x128x256 .f32) := [
    ⟨Rect.unit ![1, 0, 0] ![1, 128, 256] inb_S2x128x256_S1x128x256_1_0_0, k0_pay1 (stN x0 x1 x2 xs ms 1 4)⟩,
    ⟨Rect.unit ![0, 0, 0] ![1, 128, 256] inb_S2x128x256_S1x128x256_0_0_0, k0_pay1 (stN x0 x1 x2 xs ms 0 4)⟩]

/-- The stores a point makes into the carried maximum, last first. -/
def mL (x1 : Vec F S512x128 .f32) (x2 : Vec F S1x128 .f32) (ms : Vec F S2x1x128 .f32) : List (View.Piece (Elt F) S2x1x128 .f32) := [
    ⟨Rect.unit ![1, 0, 0] ![1, 1, 128] inb_S2x1x128_S1x1x128_1_0_0, k0_pay2 (mN x1 x2 ms 1 4)⟩,
    ⟨Rect.unit ![0, 0, 0] ![1, 1, 128] inb_S2x1x128_S1x1x128_0_0_0, k0_pay2 (mN x1 x2 ms 0 4)⟩]

theorem out_piece (x0 : Vec F S512x1280 .bf16) (x1 : Vec F S512x128 .f32) (x2 : Vec F S1x128 .f32) (x3 : Vec F S1x256 .f32) (xs : Vec F S2x128x256 .f32) (ms : Vec F S2x1x128 .f32) (r l t c : ℕ) (h) (hr : r = 128 * c) (hl : l = 128 * t) :
    ∀ x : S128x128.Idx, outN x0 x1 x2 x3 xs ms t c x
      = outB x0 x1 x2 x3 xs ms ((Rect.unit (s := S512x256) ![r, l] ![128, 128] h).emb x) := by
  subst hr hl
  intro x
  have e0 : (((Rect.unit (s := S512x256) ![128 * c, 128 * t] ![128, 128] h).emb x) 0 : ℕ) = 128 * c + 1 * (x 0).val := rfl
  have e1 : (((Rect.unit (s := S512x256) ![128 * c, 128 * t] ![128, 128] h).emb x) 1 : ℕ) = 128 * t + 1 * (x 1).val := rfl
  have i0 : (x 0).val < 128 := (x 0).isLt
  have i1 : (x 1).val < 128 := (x 1).isLt
  unfold outB
  rw [e0, e1]
  have ec : (128 * c + 1 * (x 0).val) / 128 = c := by omega
  have et : (128 * t + 1 * (x 1).val) / 128 = t := by omega
  have e2 : x = ix2 (Fin.ofNat 128 (128 * c + 1 * (x 0).val)) (Fin.ofNat 128 (128 * t + 1 * (x 1).val)) := by
    funext a
    match a with
    | 0 => exact Fin.ext (show (x 0).val = (128 * c + 1 * (x 0).val) % 128 by omega)
    | 1 => exact Fin.ext (show (x 1).val = (128 * t + 1 * (x 1).val) % 128 by omega)
  rw [ec, et]
  exact congrArg _ e2

theorem st_piece (x0 : Vec F S512x1280 .bf16) (x1 : Vec F S512x128 .f32) (x2 : Vec F S1x128 .f32) (xs : Vec F S2x128x256 .f32) (ms : Vec F S2x1x128 .f32) (t : ℕ) (h) :
    ∀ x : S1x128x256.Idx, k0_pay1 (stN x0 x1 x2 xs ms t 4) x
      = stB x0 x1 x2 xs ms ((Rect.unit (s := S2x128x256) ![t, 0, 0] ![1, 128, 256] h).emb x) := by
  intro x
  have i0 : (x 0).val < 1 := (x 0).isLt
  have e0 : (((Rect.unit (s := S2x128x256) ![t, 0, 0] ![1, 128, 256] h).emb x) 0 : ℕ) = t := by
    show t + 1 * (x 0).val = t
    omega
  unfold stB
  rw [e0]
  unfold k0_pay1
  rw [eq_ix3 x]
  refine (shapeCast_ab_1ab_apply _ _ _ _ _).trans ?_
  refine congrArg _ ?_
  funext a
  match a with
  | 0 => exact Fin.ext (show (x 1).val = 0 + 1 * (x 1).val by omega)
  | 1 => exact Fin.ext (show (x 2).val = 0 + 1 * (x 2).val by omega)

theorem m_piece (x1 : Vec F S512x128 .f32) (x2 : Vec F S1x128 .f32) (ms : Vec F S2x1x128 .f32) (t : ℕ) (h) :
    ∀ x : S1x1x128.Idx, k0_pay2 (mN x1 x2 ms t 4) x
      = mB x1 x2 ms ((Rect.unit (s := S2x1x128) ![t, 0, 0] ![1, 1, 128] h).emb x) := by
  intro x
  have i0 : (x 0).val < 1 := (x 0).isLt
  have e0 : (((Rect.unit (s := S2x1x128) ![t, 0, 0] ![1, 1, 128] h).emb x) 0 : ℕ) = t := by
    show t + 1 * (x 0).val = t
    omega
  unfold mB
  rw [e0]
  unfold k0_pay2
  rw [eq_ix3 x]
  refine (shapeCast_ab_1ab_apply _ _ _ _ _).trans ?_
  refine congrArg _ ?_
  funext a
  match a with
  | 0 => exact Fin.ext (show (x 1).val = 0 + 1 * (x 1).val by omega)
  | 1 => exact Fin.ext (show (x 2).val = 0 + 1 * (x 2).val by omega)

theorem outL_eq (x0 : Vec F S512x1280 .bf16) (x1 : Vec F S512x128 .f32) (x2 : Vec F S1x128 .f32) (x3 : Vec F S1x256 .f32) (xs : Vec F S2x128x256 .f32) (ms : Vec F S2x1x128 .f32) :
    View.canon (outL x0 x1 x2 x3 xs ms) = outB x0 x1 x2 x3 xs ms := by
  funext y
  refine View.canon_append_of_piecesOf _ [] _ ?_ y (View.cover_of_tiled (outL x0 x1 x2 x3 xs ms) S128x128.size rfl y)
  exact ⟨out_piece x0 x1 x2 x3 xs ms _ _ 1 3 inb_S512x256_S128x128_384_128 rfl rfl,
    out_piece x0 x1 x2 x3 xs ms _ _ 1 2 inb_S512x256_S128x128_256_128 rfl rfl,
    out_piece x0 x1 x2 x3 xs ms _ _ 1 1 inb_S512x256_S128x128_128_128 rfl rfl,
    out_piece x0 x1 x2 x3 xs ms _ _ 1 0 inb_S512x256_S128x128_0_128 rfl rfl,
    out_piece x0 x1 x2 x3 xs ms _ _ 0 3 inb_S512x256_S128x128_384_0 rfl rfl,
    out_piece x0 x1 x2 x3 xs ms _ _ 0 2 inb_S512x256_S128x128_256_0 rfl rfl,
    out_piece x0 x1 x2 x3 xs ms _ _ 0 1 inb_S512x256_S128x128_128_0 rfl rfl,
    out_piece x0 x1 x2 x3 xs ms _ _ 0 0 inb_S512x256_S128x128_0_0 rfl rfl, trivial⟩

theorem stL_eq (x0 : Vec F S512x1280 .bf16) (x1 : Vec F S512x128 .f32) (x2 : Vec F S1x128 .f32) (xs : Vec F S2x128x256 .f32) (ms : Vec F S2x1x128 .f32) (L : List (View.Piece (Elt F) S2x128x256 .f32)) :
    View.canon (stL x0 x1 x2 xs ms ++ L) = stB x0 x1 x2 xs ms := by
  funext y
  refine View.canon_append_of_piecesOf _ L _ ?_ y (View.cover_of_tiled (stL x0 x1 x2 xs ms) S1x128x256.size rfl y)
  exact ⟨st_piece x0 x1 x2 xs ms 1 inb_S2x128x256_S1x128x256_1_0_0, st_piece x0 x1 x2 xs ms 0 inb_S2x128x256_S1x128x256_0_0_0, trivial⟩

theorem mL_eq (x1 : Vec F S512x128 .f32) (x2 : Vec F S1x128 .f32) (ms : Vec F S2x1x128 .f32) (L : List (View.Piece (Elt F) S2x1x128 .f32)) :
    View.canon (mL x1 x2 ms ++ L) = mB x1 x2 ms := by
  funext y
  refine View.canon_append_of_piecesOf _ L _ ?_ y (View.cover_of_tiled (mL x1 x2 ms) S1x1x128.size rfl y)
  exact ⟨m_piece x1 x2 ms 1 inb_S2x1x128_S1x1x128_1_0_0, m_piece x1 x2 ms 0 inb_S2x1x128_S1x1x128_0_0_0, trivial⟩

/-- A load of one pair of the state passes over a store of the other. -/
theorem state_skip (v : View sig .tc .vmem S2x128x256 .f32) (h h') (w) (L) :
    v.readCov (Val := Elt F) (⟨Rect.unit ![0, 0, 0] ![1, 128, 256] h, w⟩ :: L) (Rect.unit ![1, 0, 0] ![1, 128, 256] h').toLoadRect
      = v.readCov L (Rect.unit ![1, 0, 0] ![1, 128, 256] h').toLoadRect := by
  rw [View.readCov_eq_canon', View.readCov_eq_canon']
  funext x
  refine View.canon_cons_of_not_mem _ L fun hm => ?_
  have h0 := (Rect.mem_set_unit (s := S2x128x256) (off := ![0, 0, 0]) (size := ![1, 128, 256]) (inb := h).mp hm) 0
  have hx : (((Rect.unit (s := S2x128x256) ![1, 0, 0] ![1, 128, 256] h').toLoadRect.idx x) 0 : ℕ) = 1 + 1 * (x 0 : ℕ) := rfl
  have h2 : 0 ≤ 1 + 1 * (x 0 : ℕ) ∧ 1 + 1 * (x 0 : ℕ) < 0 + 1 := hx ▸ h0
  omega

theorem max_skip (v : View sig .tc .vmem S2x1x128 .f32) (h h') (w) (L) :
    v.readCov (Val := Elt F) (⟨Rect.unit ![0, 0, 0] ![1, 1, 128] h, w⟩ :: L) (Rect.unit ![1, 0, 0] ![1, 1, 128] h').toLoadRect
      = v.readCov L (Rect.unit ![1, 0, 0] ![1, 1, 128] h').toLoadRect := by
  rw [View.readCov_eq_canon', View.readCov_eq_canon']
  funext x
  refine View.canon_cons_of_not_mem _ L fun hm => ?_
  have h0 := (Rect.mem_set_unit (s := S2x1x128) (off := ![0, 0, 0]) (size := ![1, 1, 128]) (inb := h).mp hm) 0
  have hx : (((Rect.unit (s := S2x1x128) ![1, 0, 0] ![1, 1, 128] h').toLoadRect.idx x) 0 : ℕ) = 1 + 1 * (x 0 : ℕ) := rfl
  have h2 : 0 ≤ 1 + 1 * (x 0 : ℕ) ∧ 1 + 1 * (x 0 : ℕ) < 0 + 1 := hx ▸ h0
  omega

/-- A load of one pair of the state right after the state was filled. -/
theorem fill_read (v : View sig .tc .vmem S2x128x256 .f32) (t : ℕ) (h h') (Z : Vec F S2x128x256 .f32) :
    v.readCov (Val := Elt F) [⟨Rect.unit ![0, 0, 0] ![2, 128, 256] h, Z⟩] (Rect.unit ![t, 0, 0] ![1, 128, 256] h').toLoadRect
      = cell Z t := by
  refine (View.readCov_fill v h Z [] _ fun a => ?_).trans (ld_cell Z t h')
  match a with
  | 0 => rfl
  | 1 => rfl
  | 2 => rfl

theorem fill_max (v : View sig .tc .vmem S2x1x128 .f32) (t : ℕ) (h h') (Z : Vec F S2x1x128 .f32) :
    v.readCov (Val := Elt F) [⟨Rect.unit ![0, 0, 0] ![2, 1, 128] h, Z⟩] (Rect.unit ![t, 0, 0] ![1, 1, 128] h').toLoadRect
      = mcell Z t := by
  refine (View.readCov_fill v h Z [] _ fun a => ?_).trans (ld_mcell Z t h')
  match a with
  | 0 => rfl
  | 1 => rfl
  | 2 => rfl

set_option maxHeartbeats 2000000 in
theorem max_B (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : ¬cond0_0 i)
    (x0 : Vec F S512x1280 .bf16) (x1 : Vec F S512x128 .f32) (x2 : Vec F S1x128 .f32) (x3 : Vec F S1x256 .f32) (xs0 : Vec F S2x128x256 .f32) (xs1 : Vec F S2x1x128 .f32) :
    sout0_B_1 c i arg1 harg1 arg2 harg2 arg3 harg3 arg4 harg4 arg5 harg5 arg6 harg6 arg7 harg7 arg8 harg8 hc0 x0 x1 x2 x3 xs0 xs1 = mB x1 x2 xs1 := by
  unfold sout0_B_1
  rw [View.read_writes_eq_canon _ _ _ (scover0_B_1 c i arg1 harg1 arg2 harg2 arg3 harg3 arg4 harg4 arg5 harg5 arg6 harg6 arg7 harg7 arg8 harg8 hc0 x0 x1 x2 x3 xs0 xs1), ← mL_eq x1 x2 xs1 []]
  simp only [mL, mN, List.cons_append, List.nil_append, Nat.mul_one, Nat.mul_zero, Nat.zero_add, Nat.add_zero, Nat.reduceAdd, Nat.reduceMul]
  unfold kernelRun0_B
  dsimp only
  sl_unfold_words
  simp only [View.readAt_eq_ld, harg1.read_unread, harg2.read_unread, harg3.read_unread, harg4.read_unread, harg6.read_unread, harg7.read_unread, shapeCast_self, ld_bias, ld_part, ld_cell, ld_mcell]
  simp only [ld_gat x1 0 0 _ rfl, ld_gat x1 128 1 _ rfl, ld_gat x1 256 2 _ rfl, ld_gat x1 384 3 _ rfl]
  rfl

set_option maxHeartbeats 2000000 in
theorem sout_B (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : ¬cond0_0 i)
    (x0 : Vec F S512x1280 .bf16) (x1 : Vec F S512x128 .f32) (x2 : Vec F S1x128 .f32) (x3 : Vec F S1x256 .f32) (xs0 : Vec F S2x128x256 .f32) (xs1 : Vec F S2x1x128 .f32) :
    sout0_B_0 c i arg1 harg1 arg2 harg2 arg3 harg3 arg4 harg4 arg5 harg5 arg6 harg6 arg7 harg7 arg8 harg8 hc0 x0 x1 x2 x3 xs0 xs1 = stB x0 x1 x2 xs0 xs1 := by
  unfold sout0_B_0
  rw [View.read_writes_eq_canon _ _ _ (scover0_B_0 c i arg1 harg1 arg2 harg2 arg3 harg3 arg4 harg4 arg5 harg5 arg6 harg6 arg7 harg7 arg8 harg8 hc0 x0 x1 x2 x3 xs0 xs1), ← stL_eq x0 x1 x2 xs0 xs1 []]
  simp only [stL, stN, mN, List.cons_append, List.nil_append, Nat.mul_one, Nat.mul_zero, Nat.zero_add, Nat.add_zero, Nat.reduceAdd, Nat.reduceMul]
  unfold kernelRun0_B
  dsimp only
  sl_unfold_words
  simp only [View.readAt_eq_ld, harg1.read_unread, harg2.read_unread, harg3.read_unread, harg4.read_unread, harg6.read_unread, harg7.read_unread, shapeCast_self, ld_bias, ld_part, ld_cell, ld_mcell]
  simp only [ld_blk x0 0 0 _ _ rfl, ld_blk x0 128 1 _ _ rfl, ld_blk x0 256 2 _ _ rfl, ld_blk x0 384 3 _ _ rfl, ld_gat x1 0 0 _ rfl, ld_gat x1 128 1 _ rfl, ld_gat x1 256 2 _ rfl, ld_gat x1 384 3 _ rfl]
  rfl

set_option maxHeartbeats 2000000 in
theorem out_B (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : ¬cond0_0 i)
    (x0 : Vec F S512x1280 .bf16) (x1 : Vec F S512x128 .f32) (x2 : Vec F S1x128 .f32) (x3 : Vec F S1x256 .f32) (xs0 : Vec F S2x128x256 .f32) (xs1 : Vec F S2x1x128 .f32) :
    out0_B_4 c i arg1 harg1 arg2 harg2 arg3 harg3 arg4 harg4 arg5 harg5 arg6 harg6 arg7 harg7 arg8 harg8 hc0 x0 x1 x2 x3 xs0 xs1 = outB x0 x1 x2 x3 xs0 xs1 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0 xs1), ← outL_eq]
  simp only [outL, outN, stN, mN, Nat.mul_one, Nat.mul_zero, Nat.zero_add, Nat.add_zero, Nat.reduceAdd, Nat.reduceMul]
  unfold kernelRun0_B
  dsimp only
  sl_unfold_words
  simp only [View.readAt_eq_ld, harg1.read_unread, harg2.read_unread, harg3.read_unread, harg4.read_unread, harg6.read_unread, harg7.read_unread, shapeCast_self, ld_bias, ld_part, ld_cell, ld_mcell]
  simp only [scores_hit, scores_skip, ne_eq, Nat.reduceEqDiff, not_false_eq_true, OfNat.ofNat_ne_zero, OfNat.zero_ne_ofNat, OfNat.ofNat_ne_one, OfNat.one_ne_ofNat, one_ne_zero, zero_ne_one]
  simp only [ld_blk x0 0 0 _ _ rfl, ld_blk x0 128 1 _ _ rfl, ld_blk x0 256 2 _ _ rfl, ld_blk x0 384 3 _ _ rfl, ld_gat x1 0 0 _ rfl, ld_gat x1 128 1 _ rfl, ld_gat x1 256 2 _ rfl, ld_gat x1 384 3 _ rfl]
  rfl

set_option maxHeartbeats 2000000 in
theorem max_A (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : cond0_0 i)
    (x0 : Vec F S512x1280 .bf16) (x1 : Vec F S512x128 .f32) (x2 : Vec F S1x128 .f32) (x3 : Vec F S1x256 .f32) :
    sout0_A_1 c i arg1 harg1 arg2 harg2 arg3 harg3 arg4 harg4 arg5 harg5 arg6 harg6 arg7 harg7 arg8 harg8 hc0 x0 x1 x2 x3 = mB x1 x2 k0_pay4 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3), ← mL_eq x1 x2 k0_pay4 [⟨Rect.unit ![0, 0, 0] ![2, 1, 128] inb_S2x1x128_S2x1x128_0_0_0, k0_pay4⟩]]
  simp only [mL, mN, List.cons_append, List.nil_append, Nat.mul_one, Nat.mul_zero, Nat.zero_add, Nat.add_zero, Nat.reduceAdd, Nat.reduceMul]
  unfold kernelRun0_A
  dsimp only
  sl_unfold_words
  simp only [View.readAt_eq_ld, harg1.read_unread, harg2.read_unread, harg3.read_unread, harg4.read_unread, shapeCast_self, ld_bias, ld_part, ld_cell, ld_mcell, state_skip, fill_read, max_skip, fill_max]
  simp only [ld_gat x1 0 0 _ rfl, ld_gat x1 128 1 _ rfl, ld_gat x1 256 2 _ rfl, ld_gat x1 384 3 _ rfl]
  rfl

set_option maxHeartbeats 2000000 in
theorem sout_A (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : cond0_0 i)
    (x0 : Vec F S512x1280 .bf16) (x1 : Vec F S512x128 .f32) (x2 : Vec F S1x128 .f32) (x3 : Vec F S1x256 .f32) :
    sout0_A_0 c i arg1 harg1 arg2 harg2 arg3 harg3 arg4 harg4 arg5 harg5 arg6 harg6 arg7 harg7 arg8 harg8 hc0 x0 x1 x2 x3 = stB x0 x1 x2 k0_pay3 k0_pay4 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3), ← stL_eq x0 x1 x2 k0_pay3 k0_pay4 [⟨Rect.unit ![0, 0, 0] ![2, 128, 256] inb_S2x128x256_S2x128x256_0_0_0, k0_pay3⟩]]
  simp only [stL, stN, mN, List.cons_append, List.nil_append, Nat.mul_one, Nat.mul_zero, Nat.zero_add, Nat.add_zero, Nat.reduceAdd, Nat.reduceMul]
  unfold kernelRun0_A
  dsimp only
  sl_unfold_words
  simp only [View.readAt_eq_ld, harg1.read_unread, harg2.read_unread, harg3.read_unread, harg4.read_unread, shapeCast_self, ld_bias, ld_part, ld_cell, ld_mcell, state_skip, fill_read, max_skip, fill_max]
  simp only [ld_blk x0 0 0 _ _ rfl, ld_blk x0 128 1 _ _ rfl, ld_blk x0 256 2 _ _ rfl, ld_blk x0 384 3 _ _ rfl, ld_gat x1 0 0 _ rfl, ld_gat x1 128 1 _ rfl, ld_gat x1 256 2 _ rfl, ld_gat x1 384 3 _ rfl]
  rfl

set_option maxHeartbeats 2000000 in
theorem out_A (c : Dev nD) (i : grid0.Coords) (arg1 : Memref sig .tc .vmem S512x1280 .bf16) (harg1 : arg1.IsWhole) (arg2 : Memref sig .tc .vmem S512x128 .f32) (harg2 : arg2.IsWhole) (arg3 : Memref sig .tc .vmem S1x128 .f32) (harg3 : arg3.IsWhole) (arg4 : Memref sig .tc .vmem S1x256 .f32) (harg4 : arg4.IsWhole) (arg5 : Memref sig .tc .vmem S512x256 .bf16) (harg5 : arg5.IsWhole) (arg6 : Memref sig .tc .vmem S2x128x256 .f32) (harg6 : arg6.IsWhole) (arg7 : Memref sig .tc .vmem S2x1x128 .f32) (harg7 : arg7.IsWhole) (arg8 : Memref sig .tc .vmem S16x128x128 .f32) (harg8 : arg8.IsWhole) (hc0 : cond0_0 i)
    (x0 : Vec F S512x1280 .bf16) (x1 : Vec F S512x128 .f32) (x2 : Vec F S1x128 .f32) (x3 : Vec F S1x256 .f32) :
    out0_A_4 c i arg1 harg1 arg2 harg2 arg3 harg3 arg4 harg4 arg5 harg5 arg6 harg6 arg7 harg7 arg8 harg8 hc0 x0 x1 x2 x3 = outB x0 x1 x2 x3 k0_pay3 k0_pay4 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3), ← outL_eq]
  simp only [outL, outN, stN, mN, Nat.mul_one, Nat.mul_zero, Nat.zero_add, Nat.add_zero, Nat.reduceAdd, Nat.reduceMul]
  unfold kernelRun0_A
  dsimp only
  sl_unfold_words
  simp only [View.readAt_eq_ld, harg1.read_unread, harg2.read_unread, harg3.read_unread, harg4.read_unread, shapeCast_self, ld_bias, ld_part, ld_cell, ld_mcell, state_skip, fill_read, max_skip, fill_max]
  simp only [scores_hit, scores_skip, ne_eq, Nat.reduceEqDiff, not_false_eq_true, OfNat.ofNat_ne_zero, OfNat.zero_ne_ofNat, OfNat.ofNat_ne_one, OfNat.one_ne_ofNat, one_ne_zero, zero_ne_one]
  simp only [ld_blk x0 0 0 _ _ rfl, ld_blk x0 128 1 _ _ rfl, ld_blk x0 256 2 _ _ rfl, ld_blk x0 384 3 _ _ rfl, ld_gat x1 0 0 _ rfl, ld_gat x1 128 1 _ rfl, ld_gat x1 256 2 _ rfl, ld_gat x1 384 3 _ rfl]
  rfl

end Cert.MlstmIdeal.Body
-- ==== Proof.MlstmPoint.lean ====
module
public import proofs.«01_k».proof.Proof.MlstmBody
public import proofs.«01_k».proof.Proof.MlstmAlg
public import proofs.«01_k».proof.Proof.RetPoint
public import Idealize.ShloMosaic.Lib.Pointwise
public import Idealize.ShloMosaic.Lib.DynamicIndex
/-! # One chunk of the mLSTM kernel, read at an index

Over the reals: a chunk's gates, its scores and its state, entry by entry, head by head. -/
@[expose] public section
set_option maxRecDepth 16384
noncomputable section
open Idealize.ShloMosaic Idealize.ShloMosaic.TcCoe Idealize.SL.Sem
namespace Cert.MlstmIdeal.Point
open Cert.MlstmIdeal Cert.MlstmIdeal.Gen Cert.MlstmIdeal.Body Cert.MlstmAlg
open Cert.RetIdeal.Point (hl hl_div sum_pair mean mean_eq)

/-! ## Which lanes are whose -/

theorem laneHead (r : Fin 128) (l : Fin 128) : k0_pay5 (ix2 r l) = BitVec.ofNat 32 (l.val / 64) := by
  have h : ∀ l : Fin 128, k0_pay5 (ix2 0 l) = BitVec.ofNat 32 (l.val / 64) := by decide +kernel
  exact h l

theorem in0_apply (r : Fin 128) (b : Fin 2) (d : Fin 64) : in0 (ix2 r (hl b d)) = if b = 0 then 1#1 else 0#1 := by
  show IntOp.cmpi CmpIPredicate.eq (k0_pay5 (ix2 r (hl b d))) 0#32 = _
  rw [laneHead, hl_div]; revert b; decide
theorem in1_apply (r : Fin 128) (b : Fin 2) (d : Fin 64) : in1 (ix2 r (hl b d)) = if b = 1 then 1#1 else 0#1 := by
  show IntOp.cmpi CmpIPredicate.eq (k0_pay5 (ix2 r (hl b d))) 1#32 = _
  rw [laneHead, hl_div]; revert b; decide
theorem ln0_apply (b : Fin 2) (d : Fin 64) : ln0 (ix2 0 (hl b d)) = if b = 0 then 1#1 else 0#1 := by
  have h : ∀ l : Fin 128, ln0 (ix2 0 l) = if l.val / 64 = 0 then 1#1 else 0#1 := by decide +kernel
  rw [h, hl_div]; revert b; decide
theorem ln1_apply (b : Fin 2) (d : Fin 64) : ln1 (ix2 0 (hl b d)) = if b = 1 then 1#1 else 0#1 := by
  have h : ∀ l : Fin 128, ln1 (ix2 0 l) = if l.val / 64 = 1 then 1#1 else 0#1 := by decide +kernel
  rw [h, hl_div]; revert b; decide

theorem cmp0 (r : Fin 128) (b : Fin 2) (d : Fin 64) : IntOp.cmpi CmpIPredicate.eq (k0_pay5 (ix2 r (hl b d))) 0#32 = if b = 0 then 1#1 else 0#1 := in0_apply r b d
theorem cmp1 (r : Fin 128) (b : Fin 2) (d : Fin 64) : IntOp.cmpi CmpIPredicate.eq (k0_pay5 (ix2 r (hl b d))) 1#32 = if b = 1 then 1#1 else 0#1 := in1_apply r b d

/-- Lane `e` of head `b` in half `c` of the state. -/
def sl (c b : Fin 2) (e : Fin 64) : Fin 256 := ⟨128 * c.val + 64 * b.val + e.val, by omega⟩

/-- A row's head and a lane's, as the kernel works them out. -/
def rowH : IVec S128x256 32 := k0_pay9 (iota .tc S128x256 32 [0] iota_S128x256_d0_w32) 64#32 k0_pay7 k0_pay8
  (Scalar.subi (Scalar.extui (Scalar.cmpi .sgt 64#32 0#32)) (Scalar.extui (Scalar.cmpi .slt 64#32 0#32)))
def colH : IVec S128x256 32 := select (andi k0_pay12 (cmpi .ne k0_pay13 k0_pay14)) (subi k0_pay11 (broadcast S128x256 1#32)) k0_pay11

theorem rowH_apply (r : Fin 128) (l : Fin 256) : rowH (ix2 r l) = BitVec.ofNat 32 (r.val / 64) := by
  have h : ∀ l : Fin 128, rowH (ix2 l 0) = BitVec.ofNat 32 (l.val / 64) := by decide +kernel
  exact h r
theorem colH_apply (r : Fin 128) (l : Fin 256) : colH (ix2 r l) = BitVec.ofNat 32 (l.val % 128 / 64) := by
  have h : ∀ l : Fin 256, colH (ix2 0 l) = BitVec.ofNat 32 (l.val % 128 / 64) := by decide +kernel
  exact h l

theorem same_apply (a c b : Fin 2) (d e : Fin 64) : same (ix2 (hl a d) (sl c b e)) = if a = b then 1#1 else 0#1 := by
  show IntOp.cmpi CmpIPredicate.eq (rowH (ix2 (hl a d) (sl c b e))) (colH (ix2 (hl a d) (sl c b e))) = _
  rw [rowH_apply, colH_apply, hl_div, show (sl c b e).val % 128 / 64 = b.val by show (128 * c.val + 64 * b.val + e.val) % 128 / 64 = b.val; omega]
  revert a b; decide

theorem causal (r s : Fin 128) : k0_pay16 (ix2 r s) = if s ≤ r then 1#1 else 0#1 := by
  pointwise [k0_pay16]
  have hr := toInt_ofNat_of_lt (show r.val < 2 ^ 31 by omega)
  have hs := toInt_ofNat_of_lt (show s.val < 2 ^ 31 by omega)
  show BitVec.ofBool ((BitVec.ofNat 32 s.val).sle (BitVec.ofNat 32 r.val)) = _
  unfold BitVec.sle
  rw [hr, hs]
  by_cases h : s ≤ r
  · rw [if_pos h, decide_eq_true (by exact_mod_cast h)]; rfl
  · rw [if_neg h, decide_eq_false (by exact_mod_cast h)]; rfl

/-! ## The gates -/

/-- Head `n` of pair `t`. -/
def hd (t b : Fin 2) : Fin 4 := ⟨2 * t.val + b.val, by omega⟩
/-- A head's input gates. -/
def ig (h : Fin 4) (G : Vec Ideal S128x128 .f32) (B : Vec Ideal S1x128 .f32) (s : Fin 128) : EReal :=
  G (ix2 s ⟨h.val, by omega⟩) + B (ix2 0 ⟨h.val, by omega⟩)
/-- A head's forget gates' running sums. -/
def bs (h : Fin 4) (G : Vec Ideal S128x128 .f32) (B : Vec Ideal S1x128 .f32) : Fin 128 → EReal :=
  cum (fun s => logsig (G (ix2 s ⟨4 + h.val, by omega⟩) + B (ix2 0 ⟨4 + h.val, by omega⟩)))

theorem logsig_eq' (p : EReal) : min p 0 - Ideal.log1p (Ideal.exp (0 - FloatOps.absf (F := Ideal) (φ := .f32) p)) = logsig p := logsig_eq p

theorem sums_apply (G : Vec Ideal S128x128 .f32) (B : Vec Ideal S1x128 .f32) (r c : Fin 128) :
    k0_pay40 k0_pay17 G B (ix2 r c) = cum (fun s => logsig (G (ix2 s c) + B (ix2 0 c))) r := by
  pointwise [k0_pay40, k0_pay39, k0_pay17]
  unfold cum
  refine Finset.sum_congr rfl fun s _ => ?_
  rw [causal, logsig_eq']
  by_cases h : s ≤ r
  · rw [if_pos h, if_pos h]
    refine (congrArg (· * _) (show FloatOps.sitofp (F := Ideal) FTy.f32 (BitVec.setWidth 32 1#1) = (1 : EReal) from ?_)).trans (one_mul _)
    show (((1 : ℤ) : ℝ) : EReal) = 1
    norm_num
  · rw [if_neg h, if_neg h]
    refine (congrArg (· * _) (show FloatOps.sitofp (F := Ideal) FTy.f32 (BitVec.setWidth 32 0#1) = (0 : EReal) from ?_)).trans (zero_mul _)
    show (((0 : ℤ) : ℝ) : EReal) = 0
    norm_num

theorem iC_apply (h : Fin 4) (G B) (r : Fin 128) : iC (F := Ideal) h.val G B (ix2 r 0) = ig h G B r := by
  match h with
  | 0 => pointwise [iC, col, k0_pay39]; rfl
  | 1 => pointwise [iC, col, k0_pay39]; rfl
  | 2 => pointwise [iC, col, k0_pay39]; rfl
  | 3 => pointwise [iC, col, k0_pay39]; rfl
theorem bC_apply (h : Fin 4) (G B) (r : Fin 128) : bC (F := Ideal) h.val G B (ix2 r 0) = bs h G B r := by
  match h with
  | 0 =>
    show col (k0_pay40 k0_pay17 G B) 4 (ix2 r 0) = _
    pointwise [col]
    exact sums_apply G B r 4
  | 1 =>
    show col (k0_pay40 k0_pay17 G B) 5 (ix2 r 0) = _
    pointwise [col]
    exact sums_apply G B r 5
  | 2 =>
    show col (k0_pay40 k0_pay17 G B) 6 (ix2 r 0) = _
    pointwise [col]
    exact sums_apply G B r 6
  | 3 =>
    show col (k0_pay40 k0_pay17 G B) 7 (ix2 r 0) = _
    pointwise [col]
    exact sums_apply G B r 7
theorem bR_apply (h : Fin 4) (G B) (s : Fin 128) : row (k0_pay42 (F := Ideal) k0_pay17 G B) (4 + h.val) (ix2 0 s) = bs h G B s := by
  match h with
  | 0 =>
    show row (k0_pay42 (F := Ideal) k0_pay17 G B) 4 (ix2 0 s) = _
    pointwise [row, k0_pay42]
    exact sums_apply G B s 4
  | 1 =>
    show row (k0_pay42 (F := Ideal) k0_pay17 G B) 5 (ix2 0 s) = _
    pointwise [row, k0_pay42]
    exact sums_apply G B s 5
  | 2 =>
    show row (k0_pay42 (F := Ideal) k0_pay17 G B) 6 (ix2 0 s) = _
    pointwise [row, k0_pay42]
    exact sums_apply G B s 6
  | 3 =>
    show row (k0_pay42 (F := Ideal) k0_pay17 G B) 7 (ix2 0 s) = _
    pointwise [row, k0_pay42]
    exact sums_apply G B s 7
theorem dB_apply (h : Fin 4) (G B) (r s : Fin 128) : dB (F := Ideal) h.val G B (ix2 r s) = bs h G B r - bs h G B s := by
  pointwise [dB]
  rw [bC_apply, bR_apply]
theorem dI_apply (h : Fin 4) (G B) (r s : Fin 128) : dI (F := Ideal) h.val G B (ix2 r s) = ig h G B s := by
  match h with
  | 0 => pointwise [dI, row, k0_pay41, k0_pay39]; rfl
  | 1 => pointwise [dI, row, k0_pay41, k0_pay39]; rfl
  | 2 => pointwise [dI, row, k0_pay41, k0_pay39]; rfl
  | 3 => pointwise [dI, row, k0_pay41, k0_pay39]; rfl

/-! ## What a chunk contributes by itself -/

theorem ninf : Ideal.ofBits .f32 0xFF800000#32 = ⊥ := by
  simp [Ideal.ofBits, Ideal.ieee]

section
variable (x y : FVec Ideal S128x128 .f32) (I Bs : Fin 128 → EReal) (hx : ∀ r s, x (ix2 r s) = Bs r - Bs s) (hy : ∀ r s, y (ix2 r s) = I s)
include hx hy

theorem log_apply (r s : Fin 128) : k0_pay57 k0_pay16 x y (ix2 r s) = dlog I Bs r s := by
  pointwise [k0_pay57]
  rw [causal, hx, hy, ninf]
  unfold dlog
  split
  · rfl
  · rfl
theorem own_apply (r : Fin 128) : k0_pay58 k0_pay16 x y (ix2 r 0) = top (dlog I Bs r) := by
  pointwise [k0_pay58]
  simp only [log_apply x y I Bs hx hy, ninf]
  rfl
theorem prod_apply (v : Vec Ideal S128x128 .bf16) (w : Vec Ideal S1x128x128 .f32) (r : Fin 128) (c : Fin 256) :
    k0_pay59 k0_pay16 (k0_pay43 k0_pay18 v) x y w (ix2 r c)
      = ∑ s, (w (ix3 0 r s) * Ideal.exp (dlog I Bs r s - top (dlog I Bs r))) * k0_pay43 k0_pay18 v (ix2 s c) := by
  pointwise [k0_pay59]
  simp only [log_apply x y I Bs hx hy, own_apply x y I Bs hx hy]
end

theorem vals_apply (v : Vec Ideal S128x128 .bf16) (s : Fin 128) (c b : Fin 2) (e : Fin 64) :
    k0_pay43 (F := Ideal) k0_pay18 v (ix2 s (sl c b e)) = if c = 0 then v (ix2 s (hl b e)) else 1 := by
  match c with
  | 0 =>
    pointwise [k0_pay43, k0_pay18]
    refine (dif_pos (show 128 * 0 + 64 * b.val + e.val < 128 by omega)).trans ?_
    exact congrArg v (congrArg (ix2 s) (Fin.ext (show 128 * 0 + 64 * b.val + e.val = 64 * b.val + e.val by omega)))
  | 1 =>
    pointwise [k0_pay43, k0_pay18]
    exact dif_neg (show ¬ 128 * 1 + 64 * b.val + e.val < 128 by omega)

theorem scores0 (q k : Vec Ideal S128x128 .bf16) (r s : Fin 128) :
    k0_pay19 (F := Ideal) k0_pay5 q k (ix3 0 r s) = ∑ d, q (ix2 r (hl 0 d)) * k (ix2 s (hl 0 d)) := by
  pointwise [k0_pay19]
  simp only [sum_pair, cmp0, ValueIdx.select_one, ValueIdx.select_zero, Finset.sum_const_zero, add_zero, zero_add, zero_mul, if_true, one_ne_zero, if_false]
theorem scores1 (q k : Vec Ideal S128x128 .bf16) (r s : Fin 128) :
    k0_pay20 (F := Ideal) k0_pay5 q k (ix3 0 r s) = ∑ d, q (ix2 r (hl 1 d)) * k (ix2 s (hl 1 d)) := by
  pointwise [k0_pay20]
  simp only [sum_pair, cmp1, ValueIdx.select_one, ValueIdx.select_zero, Finset.sum_const_zero, add_zero, zero_add, zero_mul, if_true, one_ne_zero, zero_ne_one, if_false]

theorem end_apply (I Bs : Fin 128 → EReal) (x y : FVec Ideal S128x1 .f32) (hx : ∀ s, x (ix2 s 0) = I s) (hy : ∀ s, y (ix2 s 0) = Bs s) (s : Fin 128) :
    k0_pay65 x y (ix2 s 0) = glog I Bs s := by
  pointwise [k0_pay65, k0_pay64]
  rw [hx, hy, hy]
  rfl
theorem endTop_apply (I Bs : Fin 128 → EReal) (x y : FVec Ideal S128x1 .f32) (hx : ∀ s, x (ix2 s 0) = I s) (hy : ∀ s, y (ix2 s 0) = Bs s) :
    k0_pay66 x y (ix2 0 0) = top (glog I Bs) := by
  pointwise [k0_pay66]
  simp only [end_apply I Bs x y hx hy, ninf]
  rfl

variable (t : Fin 2) (q k v : Vec Ideal S128x128 .bf16) (G : Vec Ideal S128x128 .f32) (B : Vec Ideal S1x128 .f32)

theorem maxL_apply (r : Fin 128) (b : Fin 2) (e : Fin 64) :
    maxL t.val G B (ix2 r (hl b e)) = top (dlog (ig (hd t b) G B) (bs (hd t b) G B) r) := by
  pointwise [maxL, k0_pay62]
  rw [in0_apply, in1_apply]
  match b with
  | 0 => exact own_apply _ _ (ig (hd t 0) G B) (bs (hd t 0) G B) (dB_apply (hd t 0) G B) (dI_apply (hd t 0) G B) r
  | 1 => exact own_apply _ _ (ig (hd t 1) G B) (bs (hd t 1) G B) (dB_apply (hd t 1) G B) (dI_apply (hd t 1) G B) r
theorem sumL_apply (r : Fin 128) (b : Fin 2) (e : Fin 64) : sumL t.val G B (ix2 r (hl b e)) = bs (hd t b) G B r := by
  pointwise [sumL, k0_pay63]
  rw [in0_apply, in1_apply]
  match b with
  | 0 => exact bC_apply (hd t 0) G B r
  | 1 => exact bC_apply (hd t 1) G B r
theorem topL_apply (b : Fin 2) (e : Fin 64) : topL t.val G B (ix2 0 (hl b e)) = top (glog (ig (hd t b) G B) (bs (hd t b) G B)) := by
  pointwise [topL, k0_pay68]
  rw [ln0_apply, ln1_apply]
  have e0 := endTop_apply (ig (hd t 0) G B) (bs (hd t 0) G B) _ _ (iC_apply (hd t 0) G B) (bC_apply (hd t 0) G B)
  have e1 := endTop_apply (ig (hd t 1) G B) (bs (hd t 1) G B) _ _ (iC_apply (hd t 1) G B) (bC_apply (hd t 1) G B)
  match b with
  | 0 =>
    simp only [eq_self, if_true, zero_ne_one, if_false, ValueIdx.select_one, ValueIdx.select_zero]
    exact e0
  | 1 =>
    simp only [eq_self, if_true, one_ne_zero, if_false, ValueIdx.select_one, ValueIdx.select_zero]
    exact e1
theorem endL_apply (b : Fin 2) (e : Fin 64) : endL t.val G B (ix2 0 (hl b e)) = bs (hd t b) G B 127 := by
  pointwise [endL, k0_pay69, k0_pay64]
  rw [ln0_apply, ln1_apply]
  match b with
  | 0 => exact bC_apply (hd t 0) G B 127
  | 1 => exact bC_apply (hd t 1) G B 127
theorem wgtL_apply (s : Fin 128) (b : Fin 2) (e : Fin 64) :
    wgtL t.val G B (ix2 s (hl b e)) = Ideal.exp (glog (ig (hd t b) G B) (bs (hd t b) G B) s - top (glog (ig (hd t b) G B) (bs (hd t b) G B))) := by
  pointwise [wgtL, k0_pay67]
  rw [in0_apply, in1_apply]
  match b with
  | 0 => exact congrArg Ideal.exp (congrArg₂ (· - ·) (end_apply (ig (hd t 0) G B) (bs (hd t 0) G B) _ _ (iC_apply (hd t 0) G B) (bC_apply (hd t 0) G B) s) (endTop_apply (ig (hd t 0) G B) (bs (hd t 0) G B) _ _ (iC_apply (hd t 0) G B) (bC_apply (hd t 0) G B)))
  | 1 => exact congrArg Ideal.exp (congrArg₂ (· - ·) (end_apply (ig (hd t 1) G B) (bs (hd t 1) G B) _ _ (iC_apply (hd t 1) G B) (bC_apply (hd t 1) G B) s) (endTop_apply (ig (hd t 1) G B) (bs (hd t 1) G B) _ _ (iC_apply (hd t 1) G B) (bC_apply (hd t 1) G B)))
theorem numL_apply (r : Fin 128) (b : Fin 2) (e : Fin 64) :
    numL t.val q k v G B (ix2 r (hl b e)) = ∑ s, ((∑ d, q (ix2 r (hl b d)) * k (ix2 s (hl b d)))
      * Ideal.exp (dlog (ig (hd t b) G B) (bs (hd t b) G B) r s - top (dlog (ig (hd t b) G B) (bs (hd t b) G B) r))) * v (ix2 s (hl b e)) := by
  pointwise [numL, k0_pay60]
  rw [in0_apply, in1_apply]
  have hc : ∀ b : Fin 2, (⟨(hl b e).val, (hl b e).isLt.trans (by decide)⟩ : Fin 256) = sl 0 b e :=
    fun b => Fin.ext (show 64 * b.val + e.val = 128 * 0 + 64 * b.val + e.val by omega)
  match b with
  | 0 =>
    refine (prod_apply _ _ (ig (hd t 0) G B) (bs (hd t 0) G B) (dB_apply (hd t 0) G B) (dI_apply (hd t 0) G B) v _ r ⟨(hl 0 e).val, (hl 0 e).isLt.trans (by decide)⟩).trans ?_
    refine Finset.sum_congr rfl fun s _ => ?_
    rw [scores0, hc, vals_apply]
    rfl
  | 1 =>
    refine (prod_apply _ _ (ig (hd t 1) G B) (bs (hd t 1) G B) (dB_apply (hd t 1) G B) (dI_apply (hd t 1) G B) v _ r ⟨(hl 1 e).val, (hl 1 e).isLt.trans (by decide)⟩).trans ?_
    refine Finset.sum_congr rfl fun s _ => ?_
    rw [scores1, hc, vals_apply]
    rfl
theorem denL_apply (r : Fin 128) (b : Fin 2) (e : Fin 64) :
    denL t.val q k v G B (ix2 r (hl b e)) = ∑ s, ((∑ d, q (ix2 r (hl b d)) * k (ix2 s (hl b d)))
      * Ideal.exp (dlog (ig (hd t b) G B) (bs (hd t b) G B) r s - top (dlog (ig (hd t b) G B) (bs (hd t b) G B) r))) * 1 := by
  pointwise [denL, k0_pay61]
  rw [in0_apply, in1_apply]
  have hc : ∀ (b : Fin 2) (h), (⟨128 + (hl b e).val, h⟩ : Fin 256) = sl 1 b e :=
    fun b h => Fin.ext (show 128 + (64 * b.val + e.val) = 128 * 1 + 64 * b.val + e.val by omega)
  match b with
  | 0 =>
    refine (prod_apply _ _ (ig (hd t 0) G B) (bs (hd t 0) G B) (dB_apply (hd t 0) G B) (dI_apply (hd t 0) G B) v _ r ⟨128 + (hl 0 e).val, by have := (hl 0 e).isLt; omega⟩).trans ?_
    refine Finset.sum_congr rfl fun s _ => ?_
    rw [scores0, hc, vals_apply]
    exact mul_one _
  | 1 =>
    refine (prod_apply _ _ (ig (hd t 1) G B) (bs (hd t 1) G B) (dB_apply (hd t 1) G B) (dI_apply (hd t 1) G B) v _ r ⟨128 + (hl 1 e).val, by have := (hl 1 e).isLt; omega⟩).trans ?_
    refine Finset.sum_congr rfl fun s _ => ?_
    rw [scores1, hc, vals_apply]
    exact mul_one _
theorem kvL_apply (a c b : Fin 2) (d e : Fin 64) :
    kvL t.val k v G B (ix2 (hl a d) (sl c b e)) = if a = b then ∑ s, (k (ix2 s (hl a d))
      * Ideal.exp (glog (ig (hd t a) G B) (bs (hd t a) G B) s - top (glog (ig (hd t a) G B) (bs (hd t a) G B)))) * (if c = 0 then v (ix2 s (hl b e)) else 1) else 0 := by
  pointwise [kvL]
  rw [same_apply]
  simp only [vals_apply, wgtL_apply]
  split
  · rfl
  · rfl

/-! ## The carried state -/

/-- The carried state keeps the heads apart: in its left half each head's matrix, in its right half each head's normaliser at every lane. -/
def Keeps (M : FVec Ideal S1x128 .f32) (S : FVec Ideal S128x256 .f32) (m : Fin 2 → EReal) (C : Fin 2 → Fin 64 → Fin 64 → EReal) (n : Fin 2 → Fin 64 → EReal) : Prop :=
  (∀ b e, M (ix2 0 (hl b e)) = m b) ∧ ∀ a c b d e, S (ix2 (hl a d) (sl c b e)) = if a = b then (if c = 0 then C a d e else n a d) else 0

theorem nextM_apply (M : FVec Ideal S1x128 .f32) (m : Fin 2 → EReal) (hM : ∀ b e, M (ix2 0 (hl b e)) = m b) (b : Fin 2) (e : Fin 64) :
    nextM t.val G B M (ix2 0 (hl b e)) = nextMax (ig (hd t b) G B) (bs (hd t b) G B) (m b) := by
  pointwise [nextM, k0_pay409]
  rw [endL_apply, topL_apply, hM]
  rfl

theorem nextS_apply (M : FVec Ideal S1x128 .f32) (S : FVec Ideal S128x256 .f32) (m C n) (h : Keeps M S m C n) (a c b : Fin 2) (d e : Fin 64) :
    nextS t.val k v G B M S (ix2 (hl a d) (sl c b e)) = if a = b then
      (if c = 0 then nextC (ig (hd t a) G B) (bs (hd t a) G B) (m a) (fun s => k (ix2 s (hl a d))) (fun s => v (ix2 s (hl a e))) (C a d e)
        else nextN (ig (hd t a) G B) (bs (hd t a) G B) (m a) (fun s => k (ix2 s (hl a d))) (n a d)) else 0 := by
  have hN : k0_pay409 (topL t.val G B) (endL t.val G B) M (ix2 0 (hl b e)) = nextMax (ig (hd t b) G B) (bs (hd t b) G B) (m b) :=
    nextM_apply t G B M m h.1 b e
  have hle : top (glog (ig (hd t b) G B) (bs (hd t b) G B)) ≤ nextMax (ig (hd t b) G B) (bs (hd t b) G B) (m b) := le_max_right _ _
  pointwise [nextS, k0_pay410]
  match c with
  | 0 =>
    have hc : ∀ h, (⟨(sl 0 b e).val, h⟩ : Fin 128) = hl b e := fun h => Fin.ext (show 128 * 0 + 64 * b.val + e.val = 64 * b.val + e.val by omega)
    have hlt : (sl 0 b e).val < 128 := show 128 * 0 + 64 * b.val + e.val < 128 by omega
    rw [dif_pos hlt, dif_pos hlt, hc, hN, endL_apply, topL_apply, h.1, h.2, kvL_apply]
    by_cases hab : a = b
    · subst hab
      simp only [eq_self, if_true, one_ne_zero, if_false]
      refine congrArg₂ (· + ·) rfl ((rescale (glog (ig (hd t a) G B) (bs (hd t a) G B)) _ _ _ hle).trans (Finset.sum_congr rfl fun s _ => ?_))
      exact congrArg (· * _) (mul_comm _ _)
    · rw [if_neg hab, if_neg hab, if_neg hab, mul_zero, mul_zero, add_zero]
  | 1 =>
    have hc : ∀ h, (⟨(sl 1 b e).val - 128, h⟩ : Fin 128) = hl b e := fun h => Fin.ext (show 128 * 1 + 64 * b.val + e.val - 128 = 64 * b.val + e.val by omega)
    have hlt : ¬ (sl 1 b e).val < 128 := show ¬ 128 * 1 + 64 * b.val + e.val < 128 by omega
    rw [dif_neg hlt, dif_neg hlt, hc, hN, endL_apply, topL_apply, h.1, h.2, kvL_apply]
    by_cases hab : a = b
    · subst hab
      simp only [eq_self, if_true, one_ne_zero, if_false]
      refine congrArg₂ (· + ·) rfl ((rescale (glog (ig (hd t a) G B) (bs (hd t a) G B)) _ (fun _ => 1) _ hle).trans (Finset.sum_congr rfl fun s _ => ?_))
      exact (mul_one _).trans (mul_comm _ _)
    · rw [if_neg hab, if_neg hab, if_neg hab, mul_zero, mul_zero, add_zero]

theorem mix_apply (M : FVec Ideal S1x128 .f32) (S : FVec Ideal S128x256 .f32) (m C n) (h : Keeps M S m C n) (r : Fin 128) (b : Fin 2) (e : Fin 64) :
    mix t.val q k v G B M S (ix2 r (hl b e)) = out (ig (hd t b) G B) (bs (hd t b) G B) (m b) (fun d => q (ix2 r (hl b d)))
      (fun s d => k (ix2 s (hl b d))) (fun s => v (ix2 s (hl b e))) (fun d => C b d e) (n b) r := by
  have hQ : ∀ c, ∑ x, q (ix2 r x) * S (ix2 x (sl c b e)) = ∑ d, q (ix2 r (hl b d)) * (if c = 0 then C b d e else n b d) := by
    intro c
    rw [sum_pair]
    simp only [h.2]
    match b with
    | 0 => simp only [if_true, one_ne_zero, if_false, mul_zero, Finset.sum_const_zero, add_zero]
    | 1 => simp only [if_true, zero_ne_one, if_false, mul_zero, Finset.sum_const_zero, zero_add]
  have h0 : ∀ h, (⟨(hl b e).val, h⟩ : Fin 256) = sl 0 b e := fun h => Fin.ext (show 64 * b.val + e.val = 128 * 0 + 64 * b.val + e.val by omega)
  have h1 : ∀ h, (⟨128 + (hl b e).val, h⟩ : Fin 256) = sl 1 b e := fun h => Fin.ext (show 128 + (64 * b.val + e.val) = 128 * 1 + 64 * b.val + e.val by omega)
  have hle : top (dlog (ig (hd t b) G B) (bs (hd t b) G B) r) ≤ rowMax (ig (hd t b) G B) (bs (hd t b) G B) (m b) r := le_max_right _ _
  have hz : (0 : EReal) - rowMax (ig (hd t b) G B) (bs (hd t b) G B) (m b) r = -rowMax (ig (hd t b) G B) (bs (hd t b) G B) (m b) r := by rw [sub_eq_add_neg, zero_add]
  pointwise [mix, k0_pay408]
  simp only [h0, h1, hQ]
  rw [maxL_apply, sumL_apply, numL_apply, denL_apply, h.1]
  refine congrArg₂ Ideal.div (congrArg₂ (· + ·) (rescale _ _ _ _ hle) rfl) (congrArg₂ max ?_ (congrArg Ideal.exp hz))
  refine congrArg (fun x : EReal => max x (-x)) (congrArg₂ (· + ·) ((rescale _ _ (fun _ => 1) _ hle).trans (Finset.sum_congr rfl fun s _ => ?_)) rfl)
  exact mul_one _

/-- What is stored at lane `e` of head `b`: the head's entries centred, divided by their spread, weighted and gated. -/
theorem emit_apply (y : FVec Ideal S128x128 .f32) (g : Vec Ideal S128x128 .bf16) (w : Vec Ideal S1x128 .f32) (r : Fin 128) (b : Fin 2) (e : Fin 64)
    (Y : Fin 64 → EReal) (hY : ∀ d, y (ix2 r (hl b d)) = Y d) :
    emit y g w (ix2 r (hl b e)) = (Y e - mean Y) * Ideal.rsqrt (mean (fun d => (Y d - mean Y) * (Y d - mean Y)) + Ideal.ofBits .f32 0x3727C5AC#32)
      * w (ix2 0 (hl b e)) * (g (ix2 r (hl b e)) * Ideal.logistic (g (ix2 r (hl b e)))) := by
  pointwise [emit, k0_pay407, k0_pay406, k0_pay405, k0_pay404, k0_pay403]
  match b with
  | 0 =>
    simp only [sum_pair, cmp0, cmp1, ValueIdx.select_one, ValueIdx.select_zero, Finset.sum_const_zero, add_zero, zero_add, hY, mean_eq,
      if_true, one_ne_zero, zero_ne_one, if_false]
  | 1 =>
    simp only [sum_pair, cmp0, cmp1, ValueIdx.select_one, ValueIdx.select_zero, Finset.sum_const_zero, add_zero, zero_add, hY, mean_eq,
      if_true, one_ne_zero, zero_ne_one, if_false]

end Cert.MlstmIdeal.Point
-- ==== Proof.MlstmFold.lean ====
module
public import proofs.«01_k».proof.Proof.MlstmBody
public import Idealize.ShloMosaic.Lib.StableHlo.RunRead
public import Idealize.ShloMosaic.Lib.ValueIdxCore
/-! # The whole array the mLSTM kernel leaves

The grid's points run one after another and hand each other the state and its running maximum. Here what
enters point `p` is a recursion over the arguments' rows, and the output array is read at an index through it. -/
@[expose] public section
set_option maxRecDepth 16384
noncomputable section
open Idealize.ShloMosaic Idealize.ShloMosaic.TcCoe Idealize.ShloMosaic.ValueIdx Idealize.SL.Sem Idealize.ShloMosaic.StableHlo
namespace Cert.MlstmIdeal.Fold
open Cert.MlstmIdeal Cert.MlstmIdeal.Gen Cert.MlstmIdeal.Body Cert.MlstmIdeal.Value
variable {F : FTy → Type} [FloatOps F]

/-- Rows `512 p …` of the first argument. -/
def rowsOf (X : Vec F S16384x1280 .bf16) (p : ℕ) : Vec F S512x1280 .bf16 :=
  fun j => X (ix2 (Fin.ofNat 16384 (512 * p + (j 0).val)) (j 1))
/-- Rows `512 p …` of the gates. -/
def gatesOf (X : Vec F S16384x128 .f32) (p : ℕ) : Vec F S512x128 .f32 :=
  fun j => X (ix2 (Fin.ofNat 16384 (512 * p + (j 0).val)) (j 1))

variable (m : (ℓ : Loc nD τ sig) → Buf (Elt F) ℓ) (c : Dev nD)

/-- The arguments. -/
abbrev arg : Vec F S16384x1280 .bf16 := m ((c : Thread nD τ).loc main_arg0)
abbrev gts : Vec F S16384x128 .f32 := m ((c : Thread nD τ).loc main_arg1)
/-- The gates' bias, padded. -/
abbrev bl : Vec F S1x128 .f32 := V m c main_v1
/-- The norm's weights. -/
abbrev wl : Vec F S1x256 .f32 := V m c main_v2

theorem V2 : V m c main_v2 = broadcastInDim S1x256 ![1] bcast_S256_S1x256_1 (m ((c : Thread nD τ).loc main_arg3)) := by
  show StableHlo.after _ _ _ = _
  simp only [hostOps0, hostOps0_1, hostOps0_2, List.flatten_cons, List.flatten_nil, List.append_nil, List.cons_append, List.nil_append]
  after_reads_simp

theorem V1 : V m c main_v1 = broadcastInDim S1x128 ![1] bcast_S128_S1x128_1 (pad S128 ![0] ![120] ![0] (m ((c : Thread nD τ).loc main_arg2) : Vec F S8 .f32)
    (sitofp (F := F) .f32 (constantI S_ 32 0#32)) pads_S8_S128_01200 h_S_) := by
  show StableHlo.after _ _ _ = _
  simp only [hostOps0, hostOps0_1, hostOps0_2, List.flatten_cons, List.flatten_nil, List.append_nil, List.cons_append, List.nil_append]
  after_reads_simp
  rfl

theorem ix0_0 : ∀ t : Fin cfg0.N, win0_0.index t 0 = t.val := (by decide +kernel : ∀ t : Fin grid0.N, win0_0.index t 0 = t.val)
theorem ix0_1 : ∀ t : Fin cfg0.N, win0_0.index t 1 = 0 := (by decide +kernel : ∀ t : Fin grid0.N, win0_0.index t 1 = 0)
theorem blk0 (t : Fin cfg0.N) : iblk m c 0 t = rowsOf (arg m c) t.val := by
  funext j
  have hN : t.val < 32 := lt_of_lt_of_eq t.isLt (show cfg0.N = 32 from N_0)
  have hj : (j 0).val < 512 := (j 0).isLt
  unfold iblk
  rw [View.read_apply]
  show V m c main_arg0 _ = _
  rw [V_main_arg0]
  unfold rowsOf
  congr 1
  funext a
  apply Fin.ext
  match a with
  | ⟨0, _⟩ =>
    refine Eq.trans ?_ (Nat.mod_eq_of_lt (show 512 * t.val + (j 0).val < 16384 by omega)).symm
    show win0_0.index t 0 * 512 + 1 * (j 0).val = 512 * t.val + (j 0).val
    rw [ix0_0 t]; omega
  | ⟨1, _⟩ =>
    show win0_0.index t 1 * 1280 + 1 * (j 1).val = (j 1).val
    rw [ix0_1 t]; omega

theorem ix1_0 : ∀ t : Fin cfg0.N, win0_1.index t 0 = t.val := (by decide +kernel : ∀ t : Fin grid0.N, win0_1.index t 0 = t.val)
theorem ix1_1 : ∀ t : Fin cfg0.N, win0_1.index t 1 = 0 := (by decide +kernel : ∀ t : Fin grid0.N, win0_1.index t 1 = 0)
theorem blk1 (t : Fin cfg0.N) : iblk m c 1 t = gatesOf (gts m c) t.val := by
  funext j
  have hN : t.val < 32 := lt_of_lt_of_eq t.isLt (show cfg0.N = 32 from N_0)
  have hj : (j 0).val < 512 := (j 0).isLt
  unfold iblk
  rw [View.read_apply]
  show V m c main_arg1 _ = _
  rw [V_main_arg1]
  unfold gatesOf
  congr 1
  funext a
  apply Fin.ext
  match a with
  | ⟨0, _⟩ =>
    refine Eq.trans ?_ (Nat.mod_eq_of_lt (show 512 * t.val + (j 0).val < 16384 by omega)).symm
    show win0_1.index t 0 * 512 + 1 * (j 0).val = 512 * t.val + (j 0).val
    rw [ix1_0 t]; omega
  | ⟨1, _⟩ =>
    show win0_1.index t 1 * 128 + 1 * (j 1).val = (j 1).val
    rw [ix1_1 t]; omega

theorem ix2_0 : ∀ t : Fin cfg0.N, win0_2.index t 0 = 0 := (by decide +kernel : ∀ t : Fin grid0.N, win0_2.index t 0 = 0)
theorem ix2_1 : ∀ t : Fin cfg0.N, win0_2.index t 1 = 0 := (by decide +kernel : ∀ t : Fin grid0.N, win0_2.index t 1 = 0)
theorem blk2 (t : Fin cfg0.N) : iblk m c 2 t = V m c main_v1 := by
  funext j
  unfold iblk
  rw [View.read_apply]
  show V m c main_v1 _ = V m c main_v1 j
  congr 1
  funext a
  apply Fin.ext
  match a with
  | ⟨0, _⟩ =>
    show win0_2.index t 0 * 1 + 1 * (j 0).val = (j 0).val
    rw [ix2_0 t]; omega
  | ⟨1, _⟩ =>
    show win0_2.index t 1 * 128 + 1 * (j 1).val = (j 1).val
    rw [ix2_1 t]; omega

theorem ix3_0 : ∀ t : Fin cfg0.N, win0_3.index t 0 = 0 := (by decide +kernel : ∀ t : Fin grid0.N, win0_3.index t 0 = 0)
theorem ix3_1 : ∀ t : Fin cfg0.N, win0_3.index t 1 = 0 := (by decide +kernel : ∀ t : Fin grid0.N, win0_3.index t 1 = 0)
theorem blk3 (t : Fin cfg0.N) : iblk m c 3 t = V m c main_v2 := by
  funext j
  unfold iblk
  rw [View.read_apply]
  show V m c main_v2 _ = V m c main_v2 j
  congr 1
  funext a
  apply Fin.ext
  match a with
  | ⟨0, _⟩ =>
    show win0_3.index t 0 * 1 + 1 * (j 0).val = (j 0).val
    rw [ix3_0 t]; omega
  | ⟨1, _⟩ =>
    show win0_3.index t 1 * 256 + 1 * (j 1).val = (j 1).val
    rw [ix3_1 t]; omega

/-- The state and the maximum that enter point `p`. -/
def entry : ℕ → Vec F S2x128x256 .f32 × Vec F S2x1x128 .f32
  | 0 => (k0_pay3, k0_pay4)
  | p + 1 => (stB (rowsOf (arg m c) p) (gatesOf (gts m c) p) (bl m c) (entry p).1 (entry p).2, mB (gatesOf (gts m c) p) (bl m c) (entry p).2)

theorem fold_eq (n : ℕ) (h : 0 + n < cfg0.N) :
    Pipeline.accAt (fun n h => stAt0 m c n h junk0) (stAt0 m c) 0 n h
      = (outB (rowsOf (arg m c) n) (gatesOf (gts m c) n) (bl m c) (wl m c) (entry m c n).1 (entry m c n).2, entry m c (n + 1)) := by
  have hN : (cfg0.N : ℕ) = 32 := N_0
  induction n with
  | zero =>
    rw [Pipeline.accAt_zero]
    show stAt0 m c 0 h junk0 = _
    rw [stAt0_A m c ⟨0, h⟩ _ (Nat.zero_mod _), out_A, sout_A, max_A, blk0, blk1, blk2, blk3]
    rfl
  | succ n ih =>
    rw [Pipeline.accAt_succ, ih (by omega)]
    have e : 0 + (n + 1) = n + 1 := Nat.zero_add _
    have key : ∀ (k : ℕ) (hk : k < cfg0.N) (acc), k = n + 1 → acc.2 = entry m c (n + 1) →
        stAt0 m c k hk acc = (outB (rowsOf (arg m c) (n + 1)) (gatesOf (gts m c) (n + 1)) (bl m c) (wl m c) (entry m c (n + 1)).1 (entry m c (n + 1)).2, entry m c (n + 1 + 1)) := by
      intro k hk acc e1 e2
      subst e1
      rw [stAt0_B m c ⟨n + 1, hk⟩ acc (show ¬(n + 1) % 32 = 0 by omega), out_B, sout_B, max_B, blk0, blk1, blk2, blk3, e2]
      rfl
    exact key _ _ _ e rfl

/-- The output at row `r`, lane `l`. -/
theorem G4_apply (r : Fin 16384) (l : Fin 256) :
    G4 m c (ix2 r l) = outB (rowsOf (arg m c) (r.val / 512)) (gatesOf (gts m c) (r.val / 512)) (bl m c) (wl m c) (entry m c (r.val / 512)).1 (entry m c (r.val / 512)).2
      (ix2 (⟨r.val % 512, Nat.mod_lt _ (by decide)⟩ : Fin 512) l) := by
  have hN : (cfg0.N : ℕ) = 32 := N_0
  have hp : pt4Of (ix2 r l) = r.val / 512 := by
    show 1 * (r.val / 512 - 0) + 1 * (l.val / 256 - 0) = r.val / 512
    omega
  have hl : loc4Of (ix2 r l) = ix2 (⟨r.val % 512, Nat.mod_lt _ (by decide)⟩ : Fin 512) l := by
    funext a
    match a with
    | ⟨0, _⟩ => rfl
    | ⟨1, _⟩ => exact Fin.ext (Nat.mod_eq_of_lt l.isLt)
  unfold G4
  rw [dif_pos (show pt4Of (ix2 r l) < cfg0.N by omega), fold_eq, hl, hp]

end Cert.MlstmIdeal.Fold
-- ==== Proof.MlstmSpec.lean ====
module
public import proofs.«01_k».proof.Proof.MlstmPoint
public import proofs.«01_k».proof.Proof.MlstmFold
public import Idealize.ShloMosaic.Lib.KernelVsHost
/-! # The mLSTM kernel's array in closed form

Over the reals: each head's running maximum, matrix and normaliser after `n` chunks, each row's output, and
the normalised, gated array, all by the arguments' entries. -/
@[expose] public section
set_option maxRecDepth 16384
noncomputable section
open Idealize.ShloMosaic Idealize.ShloMosaic.TcCoe Idealize.SL.Sem
namespace Cert.MlstmIdeal.Spec
open Cert.MlstmIdeal Cert.MlstmIdeal.Gen Cert.MlstmIdeal.Body Cert.MlstmIdeal.Point Cert.MlstmIdeal.Fold Cert.MlstmIdeal.Value Cert.MlstmAlg
open Cert.RetIdeal.Point (hl hl_div sum_pair mean mean_eq)

section
variable (X : Vec Ideal S16384x1280 .bf16) (A : Vec Ideal S16384x128 .f32) (B : Vec Ideal S8 .f32) (W : Vec Ideal S256 .f32)

/-- The first argument's entry at row `r`, lane `l`. -/
def el (r l : ℕ) : EReal := X (ix2 (Fin.ofNat 16384 r) (Fin.ofNat 1280 l))
/-- A gate with its bias. -/
def pre (r l : ℕ) : EReal := A (ix2 (Fin.ofNat 16384 r) (Fin.ofNat 128 l)) + B (ix1 (Fin.ofNat 8 l))
/-- Head `h`'s input gates in chunk `n`. -/
def inp (n : ℕ) (h : Fin 4) (s : Fin 128) : EReal := pre A B (128 * n + s.val) h.val
/-- Head `h`'s forget gates' running sums in chunk `n`. -/
def sums (n : ℕ) (h : Fin 4) : Fin 128 → EReal := cum (fun s => logsig (pre A B (128 * n + s.val) (4 + h.val)))

/-- Head `h`'s running maximum after `n` chunks. -/
def mx (h : Fin 4) : ℕ → EReal
  | 0 => 0
  | n + 1 => nextMax (inp A B n h) (sums A B n h) (mx h n)
/-- Head `h`'s matrix after `n` chunks. -/
def matr (h : Fin 4) (d e : Fin 64) : ℕ → EReal
  | 0 => 0
  | n + 1 => nextC (inp A B n h) (sums A B n h) (mx A B h n) (fun s => el X (128 * n + s.val) (256 + 64 * h.val + d.val))
      (fun s => el X (128 * n + s.val) (512 + 64 * h.val + e.val)) (matr h d e n)
/-- Head `h`'s normaliser after `n` chunks. -/
def norm (h : Fin 4) (d : Fin 64) : ℕ → EReal
  | 0 => 0
  | n + 1 => nextN (inp A B n h) (sums A B n h) (mx A B h n) (fun s => el X (128 * n + s.val) (256 + 64 * h.val + d.val)) (norm h d n)

/-- Row `r` of chunk `n`, lane `e` of head `h`. -/
def rowOut (n : ℕ) (r : Fin 128) (h : Fin 4) (e : Fin 64) : EReal :=
  out (inp A B n h) (sums A B n h) (mx A B h n) (fun d => el X (128 * n + r.val) (64 * h.val + d.val))
    (fun s d => el X (128 * n + s.val) (256 + 64 * h.val + d.val)) (fun s => el X (128 * n + s.val) (512 + 64 * h.val + e.val))
    (fun d => matr X A B h d e n) (fun d => norm X A B h d n) r
/-- The same with the output gate. -/
def opened (n : ℕ) (r : Fin 128) (h : Fin 4) (e : Fin 64) : EReal :=
  rowOut X A B n r h e * Ideal.logistic (el X (128 * n + r.val) (768 + 64 * h.val + e.val))
/-- The same centred, divided by its spread, weighted and gated. -/
def gated (n : ℕ) (r : Fin 128) (h : Fin 4) (e : Fin 64) : EReal :=
  (opened X A B n r h e - mean (opened X A B n r h))
      * Ideal.rsqrt (mean (fun d => (opened X A B n r h d - mean (opened X A B n r h)) * (opened X A B n r h d - mean (opened X A B n r h))) + Ideal.ofBits .f32 0x3727C5AC#32)
      * W (ix1 (Fin.ofNat 256 (64 * h.val + e.val)))
    * (el X (128 * n + r.val) (1024 + 64 * h.val + e.val) * Ideal.logistic (el X (128 * n + r.val) (1024 + 64 * h.val + e.val)))
end

variable (m : (ℓ : Loc nD τ sig) → Buf (Elt Ideal) ℓ) (c : Dev nD)

/-- The gates' bias and the norm's weights. -/
abbrev bias : Vec Ideal S8 .f32 := m ((c : Thread nD τ).loc main_arg2)
abbrev wts : Vec Ideal S256 .f32 := m ((c : Thread nD τ).loc main_arg3)

/-! ## The blocks -/

theorem blk_eq (p : ℕ) (k : Fin 4) (l : ℕ) (r : Fin 128) (j : Fin 128) (X : Vec Ideal S16384x1280 .bf16) :
    blk (rowsOf X p) k.val l (ix2 r j) = el X (128 * (4 * p + k.val) + r.val) (l + j.val) := by
  unfold blk rowsOf el
  refine congrArg X ?_
  funext a
  match a with
  | 0 =>
    refine Fin.ext ?_
    show (512 * p + (128 * k.val + r.val) % 512) % 16384 = (128 * (4 * p + k.val) + r.val) % 16384
    rw [Nat.mod_eq_of_lt (show 128 * k.val + r.val < 512 by omega)]
    congr 1; omega
  | 1 => rfl

theorem gat_eq (p : ℕ) (k : Fin 4) (r : Fin 128) (j : Fin 128) (A : Vec Ideal S16384x128 .f32) :
    gat (gatesOf A p) k.val (ix2 r j) = A (ix2 (Fin.ofNat 16384 (128 * (4 * p + k.val) + r.val)) j) := by
  unfold gat gatesOf
  refine congrArg A ?_
  funext a
  match a with
  | 0 =>
    refine Fin.ext ?_
    show (512 * p + (128 * k.val + r.val) % 512) % 16384 = (128 * (4 * p + k.val) + r.val) % 16384
    rw [Nat.mod_eq_of_lt (show 128 * k.val + r.val < 512 by omega)]
    congr 1; omega
  | 1 => rfl

theorem bl_eq (j : Fin 128) (h : j.val < 8) : bl m c (ix2 0 j) = bias m c (ix1 ⟨j.val, h⟩) := by
  unfold bl
  rw [V1]
  refine pad_apply_of_inside _ _ _ _ _ _ _ _ (ix1 (⟨j.val, h⟩ : Fin 8)) fun a => ?_
  match a with
  | 0 => exact show j.val = 0 + j.val * (0 + 1) by omega

theorem pre_eq (p : ℕ) (k : Fin 4) (s : Fin 128) (j : ℕ) (hj : j < 8) :
    gat (gatesOf (gts m c) p) k.val (ix2 s (⟨j, by omega⟩ : Fin 128)) + bl m c (ix2 0 (⟨j, by omega⟩ : Fin 128)) = pre (gts m c) (bias m c) (128 * (4 * p + k.val) + s.val) j := by
  rw [gat_eq, bl_eq m c ⟨j, by omega⟩ hj]
  unfold pre
  refine congrArg₂ (· + ·) (congrArg _ (congrArg _ (Fin.ext ?_))) (congrArg _ (congrArg _ (Fin.ext ?_)))
  · exact (Nat.mod_eq_of_lt (show j < 128 by omega)).symm
  · exact (Nat.mod_eq_of_lt hj).symm

theorem ig_eq (p : ℕ) (k : Fin 4) (h : Fin 4) : ig h (gat (gatesOf (gts m c) p) k.val) (bl m c) = inp (gts m c) (bias m c) (4 * p + k.val) h := by
  funext s
  exact pre_eq m c p k s h.val (by omega)
theorem bs_eq (p : ℕ) (k : Fin 4) (h : Fin 4) : bs h (gat (gatesOf (gts m c) p) k.val) (bl m c) = sums (gts m c) (bias m c) (4 * p + k.val) h := by
  unfold bs sums
  congr 1
  funext s
  exact congrArg logsig (pre_eq m c p k s (4 + h.val) (by omega))

theorem wl_eq (t b : Fin 2) (e : Fin 64) :
    part (wl m c) (128 * t.val) (ix2 0 (hl b e)) = wts m c (ix1 (Fin.ofNat 256 (64 * (hd t b).val + e.val))) := by
  unfold part wl
  rw [V2]
  pointwise
  refine congrArg _ ?_
  funext x
  match x with
  | 0 => exact Fin.ext (show (128 * t.val + (64 * b.val + e.val)) % 256 = (64 * (2 * t.val + b.val) + e.val) % 256 by omega)

theorem ln_eq (o : ℕ) (t b : Fin 2) (d : Fin 64) : o + 128 * t.val + (hl b d).val = o + 64 * (hd t b).val + d.val := by
  show o + 128 * t.val + (64 * b.val + d.val) = o + 64 * (2 * t.val + b.val) + d.val; omega
theorem ln0_eq (t b : Fin 2) (d : Fin 64) : 128 * t.val + (hl b d).val = 64 * (hd t b).val + d.val := by
  show 128 * t.val + (64 * b.val + d.val) = 64 * (2 * t.val + b.val) + d.val; omega

/-! ## The state -/

/-- The heads of pair `t` after `n` chunks. -/
def At (t : Fin 2) (n : ℕ) (M : FVec Ideal S1x128 .f32) (S : FVec Ideal S128x256 .f32) : Prop :=
  Keeps M S (fun b => mx (gts m c) (bias m c) (hd t b) n) (fun b d e => matr (arg m c) (gts m c) (bias m c) (hd t b) d e n)
    (fun b d => norm (arg m c) (gts m c) (bias m c) (hd t b) d n)

theorem stN_eq (t : Fin 2) (p : ℕ) (ms : Vec Ideal S2x1x128 .f32) (xs : Vec Ideal S2x128x256 .f32)
    (h0 : At m c t (4 * p) (k0_pay399 (mcell ms t.val)) (k0_pay398 (cell xs t.val))) :
    ∀ k : ℕ, k ≤ 4 → At m c t (4 * p + k) (mN (gatesOf (gts m c) p) (bl m c) ms t.val k) (stN (rowsOf (arg m c) p) (gatesOf (gts m c) p) (bl m c) xs ms t.val k)
  | 0, _ => h0
  | k + 1, hk => by
    have ih := stN_eq t p ms xs h0 k (by omega)
    have eI := fun h => ig_eq m c p ⟨k, by omega⟩ h
    have eB := fun h => bs_eq m c p ⟨k, by omega⟩ h
    refine ⟨fun b e => ?_, fun a x b d e => ?_⟩
    · rw [mN, nextM_apply _ _ _ _ _ ih.1]
      rw [eI, eB]
      rfl
    · rw [stN, nextS_apply _ _ _ _ _ _ _ _ _ _ ih]
      rw [eI, eB]
      simp only [blk_eq p ⟨k, by omega⟩, ln_eq]
      rfl

theorem cells (t : Fin 2) (n : ℕ) (ms : Vec Ideal S2x1x128 .f32) (xs : Vec Ideal S2x128x256 .f32)
    (h : At m c t n (fun i => ms (ix3 t 0 (i 1))) (fun i => xs (ix3 t (i 0) (i 1)))) :
    At m c t n (k0_pay399 (mcell ms t.val)) (k0_pay398 (cell xs t.val)) := by
  have ht : (Fin.ofNat 2 t.val) = t := Fin.ext (Nat.mod_eq_of_lt t.isLt)
  refine ⟨fun b e => Eq.trans ?_ (h.1 b e), fun a x b d e => Eq.trans ?_ (h.2 a x b d e)⟩
  · pointwise [k0_pay399, mcell]
    rw [ht]; rfl
  · pointwise [k0_pay398, cell]
    rw [ht]; rfl

theorem entry_eq (t : Fin 2) : ∀ p, At m c t (4 * p) (k0_pay399 (mcell (entry m c p).2 t.val)) (k0_pay398 (cell (entry m c p).1 t.val))
  | 0 => by
    refine cells m c t _ _ _ ⟨fun b e => ?_, fun a x b d e => ?_⟩
    · rw [entry]
      pointwise [k0_pay4]
      rfl
    · rw [entry]
      pointwise [k0_pay3]
      split
      · split <;> rfl
      · rfl
  | p + 1 => by
    have key := stN_eq m c t p _ _ (entry_eq t p) 4 (le_refl _)
    rw [show 4 * (p + 1) = 4 * p + 4 by omega]
    refine cells m c t _ _ _ ⟨fun b e => ?_, fun a x b d e => ?_⟩
    · show mN (gatesOf (gts m c) p) (bl m c) (entry m c p).2 t.val 4 (ix2 0 (hl b e)) = _
      exact key.1 b e
    · show stN (rowsOf (arg m c) p) (gatesOf (gts m c) p) (bl m c) (entry m c p).1 (entry m c p).2 t.val 4 (ix2 (hl a d) (sl x b e)) = _
      exact key.2 a x b d e

/-! ## The output -/

theorem outN_eq (t : Fin 2) (p : ℕ) (k : Fin 4) (r : Fin 128) (b : Fin 2) (e : Fin 64) :
    outN (rowsOf (arg m c) p) (gatesOf (gts m c) p) (bl m c) (wl m c) (entry m c p).1 (entry m c p).2 t.val k.val (ix2 r (hl b e))
      = gated (arg m c) (gts m c) (bias m c) (wts m c) (4 * p + k.val) r (hd t b) e := by
  have ih := stN_eq m c t p _ _ (entry_eq m c t p) k.val (by omega)
  unfold outN
  rw [emit_apply _ _ _ r b e (opened (arg m c) (gts m c) (bias m c) (4 * p + k.val) r (hd t b)), wl_eq, blk_eq, ln_eq]
  · rfl
  · intro d
    unfold gate
    pointwise
    rw [mix_apply _ _ _ _ _ _ _ _ _ _ _ ih, ig_eq, bs_eq]
    simp only [blk_eq, ln_eq, ln0_eq]
    rfl

/-- The array the kernel leaves, at row `128 n + r`, lane `64 h + e`. -/
theorem G4_eq (i : Fin 16384) (l : Fin 256) :
    G4 m c (ix2 i l) = gated (arg m c) (gts m c) (bias m c) (wts m c) (i.val / 128) ⟨i.val % 128, Nat.mod_lt _ (by decide)⟩
      ⟨l.val / 64, by omega⟩ ⟨l.val % 64, Nat.mod_lt _ (by decide)⟩ := by
  refine (congrArg (G4 m c) (ix2_eq_valueIdx i l)).trans ((G4_apply m c i l).trans ?_)
  unfold outB
  have key := outN_eq m c ⟨l.val / 128, by omega⟩ (i.val / 512) ⟨i.val % 512 / 128, by omega⟩ ⟨i.val % 128, Nat.mod_lt _ (by decide)⟩
    ⟨l.val % 128 / 64, by omega⟩ ⟨l.val % 64, Nat.mod_lt _ (by decide)⟩
  refine Eq.trans ?_ (key.trans ?_)
  · refine congrArg _ ?_
    funext a
    match a with
    | 0 => exact Fin.ext (show i.val % 512 % 128 = i.val % 128 by omega)
    | 1 => exact Fin.ext (show l.val % 128 = 64 * (l.val % 128 / 64) + l.val % 64 by omega)
  · have e1 : 4 * (i.val / 512) + i.val % 512 / 128 = i.val / 128 := by omega
    have e2 : hd ⟨l.val / 128, by omega⟩ ⟨l.val % 128 / 64, by omega⟩ = ⟨l.val / 64, by omega⟩ :=
      Fin.ext (show 2 * (l.val / 128) + l.val % 128 / 64 = l.val / 64 by omega)
    rw [e2]
    exact congrArg (fun n => gated (arg m c) (gts m c) (bias m c) (wts m c) n _ _ _) e1

end Cert.MlstmIdeal.Spec
-- ==== Proof.MlstmRead.lean ====
module
public import proofs.«01_k».proof.Proof.MlstmRef
public import proofs.«01_k».proof.Proof.MlstmSpec
/-! # The mLSTM reference's states

What the reference's loop is handed, read off the arguments, and the states it goes through, in the closed
form of the kernel's array. -/
@[expose] public section
set_option maxRecDepth 16384
noncomputable section
open Idealize.ShloMosaic Idealize.ShloMosaic.TcCoe Idealize.SL.Sem
namespace Cert.MlstmRefIdeal.Read
open Cert.MlstmRefIdeal Cert.MlstmRefIdeal.Gen Cert.MlstmRefIdeal.Step Cert.MlstmRefIdeal.Trip Cert.MlstmAlg
open Cert.MlstmIdeal.Spec (el pre inp sums mx matr norm rowOut)

variable (X : Vec Ideal S16384x1280 .bf16) (A : Vec Ideal S16384x128 .f32) (B : Vec Ideal S8 .f32)

/-! ## What the loop is handed -/

theorem q_arg (n : Fin 128) (h : Fin 4) (t : Fin 128) (d : Fin 64) :
    A_main_v29 (F := Ideal) X A B (ix4 n h t d) = el X (128 * n.val + t.val) (64 * h.val + d.val) := by
  pointwise [A_main_v29, A_main_v28, A_main_v21, A_main_v20, A_main_v19, A_main_v2, A_main_v1, A_main_v0]
  unfold el
  refine congrArg X ?_
  funext a
  match a with
  | 0 => exact Fin.ext (show n.val * 128 + t.val = (128 * n.val + t.val) % 16384 by omega)
  | 1 => exact Fin.ext (show h.val * 64 + d.val = (64 * h.val + d.val) % 1280 by omega)
theorem k_arg (n : Fin 128) (h : Fin 4) (t : Fin 128) (d : Fin 64) :
    A_main_v31 (F := Ideal) X A B (ix4 n h t d) = el X (128 * n.val + t.val) (256 + 64 * h.val + d.val) := by
  pointwise [A_main_v31, A_main_v30, A_main_v24, A_main_v23, A_main_v22, A_main_v3, A_main_v1, A_main_v0]
  unfold el
  refine congrArg X ?_
  funext a
  match a with
  | 0 => exact Fin.ext (show n.val * 128 + t.val = (128 * n.val + t.val) % 16384 by omega)
  | 1 => exact Fin.ext (show 256 + (h.val * 64 + d.val) = (256 + 64 * h.val + d.val) % 1280 by omega)
theorem v_arg (n : Fin 128) (h : Fin 4) (t : Fin 128) (d : Fin 64) :
    A_main_v33 (F := Ideal) X A B (ix4 n h t d) = el X (128 * n.val + t.val) (512 + 64 * h.val + d.val) := by
  pointwise [A_main_v33, A_main_v32, A_main_v27, A_main_v26, A_main_v25, A_main_v4, A_main_v1, A_main_v0]
  unfold el
  refine congrArg X ?_
  funext a
  match a with
  | 0 => exact Fin.ext (show n.val * 128 + t.val = (128 * n.val + t.val) % 16384 by omega)
  | 1 => exact Fin.ext (show 512 + (h.val * 64 + d.val) = (512 + 64 * h.val + d.val) % 1280 by omega)

theorem inp_arg (n : Fin 128) (h : Fin 4) (t : Fin 128) : A_main_v35 (F := Ideal) X A B (ix3 n h t) = inp A B n.val h t := by
  pointwise [A_main_v35, A_main_v34, A_main_v12, A_main_v11, A_main_v10, A_main_v9, A_main_v8, A_main_v7]
  unfold inp pre
  refine congrArg₂ (· + ·) (congrArg A ?_) (congrArg B ?_)
  · funext a
    match a with
    | 0 => exact Fin.ext (show n.val * 128 + t.val = (128 * n.val + t.val) % 16384 by omega)
    | 1 => exact Fin.ext (show h.val = h.val % 128 by omega)
  · funext a
    match a with
    | 0 => exact Fin.ext (show h.val = h.val % 8 by omega)

theorem forget_arg (h : Fin 4) (n t : Fin 128) : A_main_v45 (F := Ideal) X A B (ix3 h n t) = logsig (pre A B (128 * n.val + t.val) (4 + h.val)) := by
  have e : A_main_v18 (F := Ideal) X A B (ix2 h ⟨n.val * 128 + t.val, by omega⟩) = pre A B (128 * n.val + t.val) (4 + h.val) := by
    pointwise [A_main_v18, A_main_v17, A_main_v16, A_main_v15, A_main_v14, A_main_v13]
    unfold pre
    refine congrArg₂ (· + ·) (congrArg A ?_) (congrArg B ?_)
    · funext a
      match a with
      | 0 => exact Fin.ext (show n.val * 128 + t.val = (128 * n.val + t.val) % 16384 by omega)
      | 1 => exact Fin.ext (show 4 + h.val = (4 + h.val) % 128 by omega)
    · funext a
      match a with
      | 0 => exact Fin.ext (show 4 + h.val = (4 + h.val) % 8 by omega)
  pointwise [A_main_v45, A_main_v44, A_main_v43, A_main_v42, A_main_v41, A_main_v40, A_main_v39, A_main_v38, A_main_v36, K_main_v37, K_main_cst]
  rw [e]
  rfl

theorem zero_init (j) : K_main_call0_v0 (F := Ideal) j = 0 := by
  have hj : j = ix0 := funext fun a => a.elim0
  subst hj
  pointwise [K_main_call0_v0, K_main_call0_cst]

theorem sums_arg (n : Fin 128) (h : Fin 4) (t : Fin 128) : A_main_v47 (F := Ideal) X A B (ix3 n h t) = sums A B n.val h t := by
  pointwise [A_main_v47]
  unfold A_main_v46
  refine (window_cum _ _ zero_init _ _ h n t).trans ?_
  simp only [forget_arg]
  rfl

/-! ## All trips -/

/-- The state before each trip. -/
def sts : ℕ → State Ideal
  | 0 => init (F := Ideal) X A B
  | n + 1 => step n (sts n)

theorem sts_q (n : ℕ) : (sts X A B n).main_v58_0 = A_main_v29 (F := Ideal) X A B := by
  induction n with
  | zero => rfl
  | succ n ih => exact ih
theorem sts_k (n : ℕ) : (sts X A B n).main_v58_1 = A_main_v31 (F := Ideal) X A B := by
  induction n with
  | zero => rfl
  | succ n ih => exact ih
theorem sts_v (n : ℕ) : (sts X A B n).main_v58_2 = A_main_v33 (F := Ideal) X A B := by
  induction n with
  | zero => rfl
  | succ n ih => exact ih
theorem sts_i (n : ℕ) : (sts X A B n).main_v58_3 = A_main_v35 (F := Ideal) X A B := by
  induction n with
  | zero => rfl
  | succ n ih => exact ih
theorem sts_b (n : ℕ) : (sts X A B n).main_v58_4 = A_main_v47 (F := Ideal) X A B := by
  induction n with
  | zero => rfl
  | succ n ih => exact ih

theorem I_eq (k : ℕ) (n : Fin 128) (h : Fin 4) : Trip.I (sts X A B k) n h = inp A B n.val h := by
  funext t
  unfold Trip.I
  rw [sts_i, inp_arg]
theorem B_eq (k : ℕ) (n : Fin 128) (h : Fin 4) : Trip.B (sts X A B k) n h = sums A B n.val h := by
  funext t
  unfold Trip.B
  rw [sts_b, sums_arg]

theorem sts_mx (h : Fin 4) (n : ℕ) (hn : n ≤ 128) : (sts X A B n).main_v58_9 (ix1 h) = mx A B h n := by
  induction n with
  | zero =>
    show K_main_v56 (F := Ideal) (ix1 h) = 0
    pointwise [K_main_v56, K_main_cst_2]
  | succ n ih =>
    show b77 n (sts X A B n) (ix1 h) = _
    rw [nextMax_apply (sts X A B n) ⟨n, by omega⟩ h, ih (by omega), I_eq, B_eq]
    rfl

theorem sts_matr (h : Fin 4) (d e : Fin 64) (n : ℕ) (hn : n ≤ 128) : (sts X A B n).main_v58_7 (ix3 h d e) = matr X A B h d e n := by
  induction n with
  | zero =>
    show K_main_v54 (F := Ideal) (ix3 h d e) = 0
    pointwise [K_main_v54, K_main_cst_0]
  | succ n ih =>
    show b92 n (sts X A B n) (ix3 h d e) = _
    rw [nextC_apply (sts X A B n) ⟨n, by omega⟩ h d e, ih (by omega), I_eq, B_eq, sts_mx X A B h n (by omega), sts_k, sts_v]
    simp only [k_arg, v_arg]
    rfl

theorem sts_norm (h : Fin 4) (d : Fin 64) (n : ℕ) (hn : n ≤ 128) : (sts X A B n).main_v58_8 (ix2 h d) = norm X A B h d n := by
  induction n with
  | zero =>
    show K_main_v55 (F := Ideal) (ix2 h d) = 0
    pointwise [K_main_v55, K_main_cst_1]
  | succ n ih =>
    show b97 n (sts X A B n) (ix2 h d) = _
    rw [nextN_apply (sts X A B n) ⟨n, by omega⟩ h d, ih (by omega), I_eq, B_eq, sts_mx X A B h n (by omega), sts_k]
    simp only [k_arg]
    rfl

theorem sts_row (n : Fin 128) (h : Fin 4) (t : Fin 128) (e : Fin 64) : b67 n.val (sts X A B n.val) (ix3 h t e) = rowOut X A B n.val t h e := by
  rw [out_apply, I_eq, B_eq, sts_mx X A B h n.val (by omega), sts_q, sts_k, sts_v]
  simp only [q_arg, k_arg, v_arg, sts_matr X A B h _ _ n.val (by omega), sts_norm X A B h _ n.val (by omega)]
  rfl

theorem sts_kept (h : Fin 4) (t : Fin 128) (e : Fin 64) (j : Fin 128) (n : ℕ) (hn : n ≤ 128) (hj : j.val < n) :
    (sts X A B n).main_v58_10 (ix4 j h t e) = rowOut X A B j.val t h e := by
  induction n with
  | zero => omega
  | succ n ih =>
    show b102 n (sts X A B n) (ix4 j h t e) = _
    rw [kept_apply (sts X A B n) ⟨n, by omega⟩ h j t e]
    by_cases hjn : j.val = n
    · subst hjn
      rw [if_pos rfl]
      exact sts_row X A B j h t e
    · rw [if_neg (fun he => hjn (congrArg Fin.val he))]
      exact ih (by omega) (by omega)

end Cert.MlstmRefIdeal.Read
-- ==== Proof.MlstmTail.lean ====
module
public import proofs.«01_k».proof.Proof.MlstmRead
/-! # The mLSTM reference's result in closed form

What follows the loop, part by part: the rows put back in order under their output gates, centred, and the
normalised, gated output. -/
@[expose] public section
set_option maxRecDepth 16384
noncomputable section
open Idealize.ShloMosaic Idealize.ShloMosaic.TcCoe Idealize.SL.Sem
namespace Cert.MlstmRefIdeal.Tail
open Cert.MlstmRefIdeal Cert.MlstmRefIdeal.Gen Cert.MlstmRefIdeal.Step Cert.MlstmRefIdeal.Read
open Cert.MlstmIdeal.Spec (el rowOut opened gated)
open Cert.RetIdeal.Point (mean)

/-- The output gates and the last gates. -/
def oR (X : Vec Ideal S16384x1280 .bf16) : FVec Ideal S1x16384x256 .f32 :=
  extractStridedSlice S1x16384x256 ![0, 0, 768] (broadcastInDim S1x16384x1280 ![1, 2] bcast_S16384x1280_S1x16384x1280_1_2 (extf .f32 X bitsLt_bf16_f32)) slices_S1x16384x1280_S1x16384x256_0_0_768
def gR (X : Vec Ideal S16384x1280 .bf16) : FVec Ideal S1x16384x256 .f32 :=
  extractStridedSlice S1x16384x256 ![0, 0, 1024] (broadcastInDim S1x16384x1280 ![1, 2] bcast_S16384x1280_S1x16384x1280_1_2 (extf .f32 X bitsLt_bf16_f32)) slices_S1x16384x1280_S1x16384x256_0_0_1024

/-- The rows in order, each under its output gate. -/
def opn (X : Vec Ideal S16384x1280 .bf16) (Y : FVec Ideal S128x4x128x64 .f32) : FVec Ideal S1x4x16384x64 .f32 :=
  mulf (broadcastInDim S1x4x16384x64 ![1, 2, 3] bcast_S4x16384x64_S1x4x16384x64_1_2_3 (shapeCast _ (transpose S4x128x128x64 [1, 0, 2, 3] Y transposes_S128x4x128x64_S4x128x128x64_1_0_2_3) shapeCasts_S4x128x128x64_S4x16384x64)) (transpose S1x4x16384x64 [0, 2, 1, 3] (shapeCast _ (Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf (oR X))))) shapeCasts_S1x16384x256_S1x16384x4x64) transposes_S1x16384x4x64_S1x4x16384x64_0_2_1_3)

/-- The same centred, head by head. -/
def cen (X : Vec Ideal S16384x1280 .bf16) (Y : FVec Ideal S128x4x128x64 .f32) : FVec Ideal S1x4x16384x64 .f32 :=
  subf (opn X Y) (broadcastInDim S1x4x16384x64 ![0, 1, 2, 3] bcast_S1x4x16384x1_S1x4x16384x64_0_1_2_3 (Host.divf (broadcastInDim S1x4x16384x1 ![0, 1, 2] bcast_S1x4x16384_S1x4x16384x1_0_1_2 (Host.reduceAdd (opn X Y) (constant S_ .f32 0x00000000#32) reducesTo_S1x4x16384x64_S1x4x16384_d3 h_S_)) (broadcastInDim S1x4x16384x1 ![] bcast_S_S1x4x16384x1 (constant S_ .f32 0x42800000#32))))

/-- The same normalised, weighted and gated. -/
def finR (X : Vec Ideal S16384x1280 .bf16) (W : Vec Ideal S256 .f32) (Y : FVec Ideal S128x4x128x64 .f32) : Vec Ideal S16384x256 .bf16 :=
  truncf .bf16 (shapeCast _ (mulf (mulf (shapeCast _ (transpose S1x16384x4x64 [0, 2, 1, 3] (mulf (cen X Y) (broadcastInDim S1x4x16384x64 ![0, 1, 2, 3] bcast_S1x4x16384x1_S1x4x16384x64_0_1_2_3 (Host.rsqrt (addf (Host.divf (broadcastInDim S1x4x16384x1 ![0, 1, 2] bcast_S1x4x16384_S1x4x16384x1_0_1_2 (Host.reduceAdd (mulf (cen X Y) (cen X Y)) (constant S_ .f32 0x00000000#32) reducesTo_S1x4x16384x64_S1x4x16384_d3 h_S_)) (broadcastInDim S1x4x16384x1 ![] bcast_S_S1x4x16384x1 (constant S_ .f32 0x42800000#32))) (broadcastInDim S1x4x16384x1 ![] bcast_S_S1x4x16384x1 (constant S_ .f32 0x3727C5AC#32)))))) transposes_S1x4x16384x64_S1x16384x4x64_0_2_1_3) shapeCasts_S1x16384x4x64_S1x16384x256) (broadcastInDim S1x16384x256 ![0, 1, 2] bcast_S1x1x256_S1x16384x256_0_1_2 (broadcastInDim S1x1x256 ![2] bcast_S256_S1x1x256_2 W))) (mulf (gR X) (Host.divf (broadcastInDim S1x16384x256 ![] bcast_S_S1x16384x256 (constant S_ .f32 0x3F800000#32)) (addf (broadcastInDim S1x16384x256 ![] bcast_S_S1x16384x256 (constant S_ .f32 0x3F800000#32)) (Host.exp (Host.negf (gR X))))))) shapeCasts_S1x16384x256_S16384x256) bitsLt_bf16_f32

theorem R_eq (s : State Ideal) (X : Vec Ideal S16384x1280 .bf16) (W : Vec Ideal S256 .f32) :
    R_main_v104 (F := Ideal) s X W = finR X W s.main_v58_10 := by
  unfold R_main_v104 finR cen opn gR oR
  rfl

theorem o_apply (X : Vec Ideal S16384x1280 .bf16) (i : Fin 16384) (h : Fin 4) (e : Fin 64) :
    oR X (ix3 0 i ⟨h.val * 64 + e.val, by omega⟩) = el X (128 * (i.val / 128) + i.val % 128) (768 + 64 * h.val + e.val) := by
  pointwise [oR]
  unfold el
  refine congrArg X ?_
  funext a
  match a with
  | 0 => exact Fin.ext (show i.val = (128 * (i.val / 128) + i.val % 128) % 16384 by omega)
  | 1 => exact Fin.ext (show 768 + (h.val * 64 + e.val) = (768 + 64 * h.val + e.val) % 1280 by omega)

theorem g_apply (X : Vec Ideal S16384x1280 .bf16) (i : Fin 16384) (l : Fin 256) :
    gR X (ix3 0 i l) = el X (128 * (i.val / 128) + i.val % 128) (1024 + 64 * (l.val / 64) + l.val % 64) := by
  pointwise [gR]
  unfold el
  refine congrArg X ?_
  funext a
  match a with
  | 0 => exact Fin.ext (show i.val = (128 * (i.val / 128) + i.val % 128) % 16384 by omega)
  | 1 => exact Fin.ext (show 1024 + l.val = (1024 + 64 * (l.val / 64) + l.val % 64) % 1280 by omega)

theorem opn_apply (X : Vec Ideal S16384x1280 .bf16) (A : Vec Ideal S16384x128 .f32) (B : Vec Ideal S8 .f32) (Y : FVec Ideal S128x4x128x64 .f32) (i : Fin 16384) (h : Fin 4)
    (hY : ∀ d, Y (ix4 ⟨i.val / 128, by omega⟩ h ⟨i.val % 128, by omega⟩ d) = rowOut X A B (i.val / 128) ⟨i.val % 128, by omega⟩ h d) (e : Fin 64) :
    opn X Y (ix4 0 h i e) = opened X A B (i.val / 128) ⟨i.val % 128, by omega⟩ h e := by
  pointwise [opn]
  rw [hY, o_apply]
  rfl

theorem cen_apply (X : Vec Ideal S16384x1280 .bf16) (A : Vec Ideal S16384x128 .f32) (B : Vec Ideal S8 .f32) (Y : FVec Ideal S128x4x128x64 .f32) (i : Fin 16384) (h : Fin 4)
    (hY : ∀ d, Y (ix4 ⟨i.val / 128, by omega⟩ h ⟨i.val % 128, by omega⟩ d) = rowOut X A B (i.val / 128) ⟨i.val % 128, by omega⟩ h d) (e : Fin 64) :
    cen X Y (ix4 0 h i e)
    = opened X A B (i.val / 128) ⟨i.val % 128, by omega⟩ h e - mean (opened X A B (i.val / 128) ⟨i.val % 128, by omega⟩ h) := by
  pointwise [cen]
  simp only [opn_apply X A B Y i h hY]
  rfl

theorem fin_apply (X : Vec Ideal S16384x1280 .bf16) (A : Vec Ideal S16384x128 .f32) (B : Vec Ideal S8 .f32) (W : Vec Ideal S256 .f32)
    (Y : FVec Ideal S128x4x128x64 .f32) (i : Fin 16384) (l : Fin 256)
    (hY : ∀ d, Y (ix4 ⟨i.val / 128, by omega⟩ ⟨l.val / 64, by omega⟩ ⟨i.val % 128, by omega⟩ d)
      = rowOut X A B (i.val / 128) ⟨i.val % 128, by omega⟩ ⟨l.val / 64, by omega⟩ d) :
    finR X W Y (ix2 i l) = gated X A B W (i.val / 128) ⟨i.val % 128, by omega⟩ ⟨l.val / 64, by omega⟩ ⟨l.val % 64, by omega⟩ := by
  have hW : W (ix1 l) = W (ix1 (Fin.ofNat 256 (64 * (l.val / 64) + l.val % 64))) := by
    refine congrArg W (congrArg ix1 (Fin.ext ?_))
    show l.val = (64 * (l.val / 64) + l.val % 64) % 256
    omega
  pointwise [finR]
  simp only [cen_apply X A B Y i ⟨l.val / 64, by omega⟩ hY, g_apply, hW]
  rfl

/-- The reference's result, of its arguments. -/
theorem result (X : Vec Ideal S16384x1280 .bf16) (A : Vec Ideal S16384x128 .f32) (B : Vec Ideal S8 .f32) (W : Vec Ideal S256 .f32) (i : Fin 16384) (l : Fin 256) :
    R_main_v104 (F := Ideal) (sts X A B 128) X W (ix2 i l)
      = gated X A B W (i.val / 128) ⟨i.val % 128, by omega⟩ ⟨l.val / 64, by omega⟩ ⟨l.val % 64, by omega⟩ := by
  rw [R_eq]
  exact fin_apply X A B W _ i l fun d => sts_kept X A B _ _ d ⟨i.val / 128, by omega⟩ 128 le_rfl (by show i.val / 128 < 128; omega)

end Cert.MlstmRefIdeal.Tail
-- ==== Proof.MlstmEq.lean ====
module
public import proofs.«01_k».proof.Proof.MlstmTail
/-! # The mLSTM kernel and its reference agree

Both arrays are the same closed form of the arguments, entry by entry. -/
@[expose] public section
noncomputable section
open Idealize.ShloMosaic Idealize.ShloMosaic.TcCoe Idealize.SL.Sem
namespace Cert.MlstmEq

theorem agree (m : (ℓ : Loc Cert.MlstmIdeal.nD Cert.MlstmIdeal.τ Cert.MlstmIdeal.sig) → Buf (Elt Ideal) ℓ) (c : Dev Cert.MlstmIdeal.nD)
    (X : Vec Ideal Cert.MlstmIdeal.S16384x1280 .bf16) (A : Vec Ideal Cert.MlstmIdeal.S16384x128 .f32) (B : Vec Ideal Cert.MlstmIdeal.S8 .f32) (W : Vec Ideal Cert.MlstmIdeal.S256 .f32)
    (hX : X = m ((c.tc : Thread Cert.MlstmIdeal.nD Cert.MlstmIdeal.τ).loc Cert.MlstmIdeal.main_arg0))
    (hA : A = m ((c.tc : Thread Cert.MlstmIdeal.nD Cert.MlstmIdeal.τ).loc Cert.MlstmIdeal.main_arg1))
    (hB : B = m ((c.tc : Thread Cert.MlstmIdeal.nD Cert.MlstmIdeal.τ).loc Cert.MlstmIdeal.main_arg2))
    (hW : W = m ((c.tc : Thread Cert.MlstmIdeal.nD Cert.MlstmIdeal.τ).loc Cert.MlstmIdeal.main_arg3)) :
    Cert.MlstmRefIdeal.Step.R_main_v104 (F := Ideal) (Cert.MlstmRefIdeal.Read.sts X A B 128) X W = Cert.MlstmIdeal.Value.G4 m c := by
  subst hX hA hB hW
  funext j
  have hj : j = ix2 (j 0) (j 1) := by
    funext a
    match a with
    | 0 => rfl
    | 1 => rfl
  rw [hj]
  exact (Cert.MlstmRefIdeal.Tail.result _ _ _ _ (j 0) (j 1)).trans (Cert.MlstmIdeal.Spec.G4_eq m c (j 0) (j 1)).symm

end Cert.MlstmEq
-- ==== Proof.MlstmClaims.lean ====
module
public import proofs.«01_k».proof.Defs
public import proofs.«01_k».proof.Proof.Gen.Mlstm.Frame
public import proofs.«01_k».proof.Proof.Gen.MlstmIdeal.Frame
public import proofs.«01_k».proof.Proof.MlstmEq
/-! # The claims about the mLSTM call

The kernel's frames are the generated ones; the reference's run gives its frame and, beside the kernel's run,
the equality of the results. -/
@[expose] public section
noncomputable section
open Idealize.ShloMosaic Idealize.ShloMosaic.TcCoe Idealize.SL.Sem
namespace Cert.MlstmClaims

/-- The state before each trip of the reference's loop, of the memory it starts from. -/
abbrev seq (m : (ℓ : Loc Cert.MlstmRefIdeal.nD Cert.MlstmRefIdeal.τ Cert.MlstmRefIdeal.sig) → Buf (Elt Ideal) ℓ) (c : Dev Cert.MlstmRefIdeal.nD) :
    ℕ → Cert.MlstmRefIdeal.Step.State Ideal :=
  Cert.MlstmRefIdeal.Read.sts (m ((c.tc : Thread Cert.MlstmRefIdeal.nD Cert.MlstmRefIdeal.τ).loc Cert.MlstmRefIdeal.main_arg0))
    (m ((c.tc : Thread Cert.MlstmRefIdeal.nD Cert.MlstmRefIdeal.τ).loc Cert.MlstmRefIdeal.main_arg1))
    (m ((c.tc : Thread Cert.MlstmRefIdeal.nD Cert.MlstmRefIdeal.τ).loc Cert.MlstmRefIdeal.main_arg2))

theorem frame_r : Cert.quiescent_MlstmRefIdeal := fun m ρ _ =>
  (θ_run Cert.MlstmRefIdeal.defs _ _).mono (fun r h => ⟨fun c => (h c).2, sem_eq_zero_of_no_sems (by decide) r.2⟩)
    (Cert.MlstmRefIdeal.Trips.run_iter (F := Ideal) m ρ (seq m) (fun _ => rfl) (fun _ _ => rfl))

theorem algebraic : Cert.algebraic_MlstmIdeal_MlstmRefIdeal := by
  intro m ρ m' ρ' _ hagree
  refine ⟨fun c => Cert.MlstmIdeal.Value.G4 m c, Cert.MlstmIdeal.Value.run (F := Ideal) m ρ, ?_⟩
  exact (θ_run Cert.MlstmRefIdeal.defs _ _).mono
    (fun r h c => ⟨(h c).1.trans (Cert.MlstmEq.agree m c _ _ _ _ (hagree c).1 (hagree c).2.1 (hagree c).2.2.1 (hagree c).2.2.2), (h c).2⟩)
    (Cert.MlstmRefIdeal.Trips.run_iter (F := Ideal) m' ρ' (seq m') (fun _ => rfl) (fun _ _ => rfl))

end Cert.MlstmClaims
-- ==== Proof.lean ====
module

public import proofs.«01_k».proof.Defs
public import proofs.«01_k».proof.Proof.RetClaims
public import proofs.«01_k».proof.Proof.ProjClaims
public import proofs.«01_k».proof.Proof.OutClaims
public import proofs.«01_k».proof.Proof.MlstmClaims
public import Idealize.ShloMosaic.Adequacy
public import Idealize.ShloMosaic.Init

@[expose] public section

noncomputable section

namespace Cert.Proof

open Idealize.ShloMosaic Idealize.SL.Sem

theorem claim : Cert.Claim := ⟨Cert.Ret.Gen.facts, Cert.RetIdeal.Gen.facts, Cert.RetRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  Cert.Mlstm.Gen.facts, Cert.MlstmIdeal.Gen.facts, Cert.MlstmRefIdeal.Gen.facts,
  fun m ρ _ => Cert.Ret.Gen.frame m ρ, fun m ρ _ => Cert.RetIdeal.Gen.frame m ρ, Cert.RetClaims.frame_r,
  fun m ρ _ => Cert.Out.Gen.frame m ρ, fun m ρ _ => Cert.OutIdeal.Gen.frame m ρ, Cert.OutClaims.frame_r,
  fun m ρ _ => Cert.Proj.Gen.frame m ρ, fun m ρ _ => Cert.ProjIdeal.Gen.frame m ρ, Cert.ProjClaims.frame_r,
  fun m ρ _ => Cert.Mlstm.Gen.frame m ρ, fun m ρ _ => Cert.MlstmIdeal.Gen.frame m ρ, Cert.MlstmClaims.frame_r,
  trivial, Cert.RetClaims.algebraic, trivial, Cert.OutClaims.algebraic, trivial, Cert.ProjClaims.algebraic,
  trivial, Cert.MlstmClaims.algebraic⟩

end Cert.Proof

end
